-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_scores7 [hPre_finite_scores7 : Cert.Pre_finite_scores7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_scores7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).1 = (fun _ => 1#1)
    ∧ (Cert.Pre_finite_scores7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_scores7 [hPre_finite_scores7 : Cert.Pre_finite_scores7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_scores7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).1 = (fun _ => 1#1)
    ∧ (Cert.Pre_finite_scores7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite_scores7 [hKernel7Ideal : Cert.Kernel7Ideal.Facts] [hPre_finite_scores7 : Cert.Pre_finite_scores7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_scores7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite_scores7 [hReference7Ideal : Cert.Reference7Ideal.Facts] [hPre_finite_scores7 : Cert.Pre_finite_scores7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_scores7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  IdealRules.named_const.Statement Cert.Kernel2Ideal.κ "log2e" .f32 0x3FB8AA3B#32 (((Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "log2e" .f32 0x3FB8AA3B#32 (((Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v45_0)) (v1 : (c : Dev Cert.Kernel3Ideal.nD) → Buf (Elt Ideal) ((c.tc : Thread Cert.Kernel3Ideal.nD Cert.Kernel3Ideal.τ).loc Cert.Kernel3Ideal.main_v45_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v45_0) = v0 c
          ∧ r.2.mem ((c.tc : Thread Cert.Kernel3Ideal.nD Cert.Kernel3Ideal.τ).loc Cert.Kernel3Ideal.main_v45_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_v90) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "log2e" .f32 0x3FB8AA3B#32 (((Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "log2e" .f32 0x3FB8AA3B#32 (((Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_0) = v0 c
          ∧ r.2.mem ((c.tc : Thread Cert.Kernel6Ideal.nD Cert.Kernel6Ideal.τ).loc Cert.Kernel6Ideal.main_v27_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite_scores7 [hKernel7Ideal : Cert.Kernel7Ideal.Facts] [hReference7Ideal : Cert.Reference7Ideal.Facts] [hPre_finite_scores7 : Cert.Pre_finite_scores7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_scores7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v13)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v56) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_finite_scores7 : Cert.Pre_finite_scores7.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_scores7 (hKernel7Ideal := hKernel7Ideal) (hPre_finite_scores7 := hPre_finite_scores7)
    ∧ quiescent_Reference7Ideal (hReference7Ideal := hReference7Ideal)
    ∧ quiescent_Reference7Ideal_pre_finite_scores7 (hReference7Ideal := hReference7Ideal) (hPre_finite_scores7 := hPre_finite_scores7)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_scores7 (hKernel7Ideal := hKernel7Ideal) (hReference7Ideal := hReference7Ideal) (hPre_finite_scores7 := hPre_finite_scores7)
-- ==== Pre_finite_scores.lean ====
abbrev S32x2048x1024 : Shape := ⟨3, ![32, 2048, 1024]⟩
abbrev S32x2048x256 : Shape := ⟨3, ![32, 2048, 256]⟩
abbrev S32x256x256 : Shape := ⟨3, ![32, 256, 256]⟩
abbrev S32x1024 : Shape := ⟨2, ![32, 1024]⟩
abbrev S1024x1024 : Shape := ⟨2, ![1024, 1024]⟩
abbrev S16 : Shape := ⟨1, ![16]⟩
abbrev S4x1024 : Shape := ⟨2, ![4, 1024]⟩
abbrev S_ : Shape := ⟨0, ![]⟩

class Facts : Prop where
  bcast_S_S32x2048x1024 : S_.BroadcastsInDim S32x2048x1024 (![] : Fin 0 → Fin S32x2048x1024.rank)
  bcast_S_S32x2048x256 : S_.BroadcastsInDim S32x2048x256 (![] : Fin 0 → Fin S32x2048x256.rank)
  bcast_S_S32x256x256 : S_.BroadcastsInDim S32x256x256 (![] : Fin 0 → Fin S32x256x256.rank)
  bcast_S_S16 : S_.BroadcastsInDim S16 (![] : Fin 0 → Fin S16.rank)

variable [Facts]

def fn {F : FTy → Type} [FloatOps F] (main_arg0 : FVec F S32x2048x1024 .f32) (main_arg1 : FVec F S32x2048x256 .f32) (main_arg2 : FVec F S32x2048x256 .f32) (main_arg3 : FVec F S32x2048x1024 .f32) (main_arg4 : FVec F S32x256x256 .f32) (main_arg5 : FVec F S32x256x256 .f32) (main_arg6 : FVec F S32x2048x1024 .f32) (main_arg7 : FVec F S32x1024 .f32) (main_arg8 : FVec F S1024x1024 .f32) (main_arg9 : FVec F S16 .f32) (main_arg10 : FVec F S4x1024 .f32) (main_arg11 : FVec F S4x1024 .f32) : IVec S32x2048x1024 1 × IVec S32x2048x256 1 × IVec S32x256x256 1 × IVec S16 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_v3 : FVec F S32x2048x256 .f32 := Host.absf main_arg1
  let main_cst_0 : FVec F S_ .f32 := constant S_ .f32 0x7F800000#32
  let main_v4 : FVec F S32x2048x256 .f32 := broadcastInDim S32x2048x256 ![] bcast_S_S32x2048x256 main_cst_0
  let main_v5 : IVec S32x2048x256 1 := cmpf .olt main_v3 main_v4
  let main_v6 : FVec F S32x256x256 .f32 := Host.absf main_arg4
  let main_cst_1 : FVec F S_ .f32 := constant S_ .f32 0x7F800000#32
  let main_v7 : FVec F S32x256x256 .f32 := broadcastInDim S32x256x256 ![] bcast_S_S32x256x256 main_cst_1
  let main_v8 : IVec S32x256x256 1 := cmpf .olt main_v6 main_v7
  let main_v9 : FVec F S16 .f32 := Host.absf main_arg9
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Pre_finite_scores7.lean ====
abbrev S32x256x1024 : Shape := ⟨3, ![32, 256, 1024]⟩
abbrev S1024 : Shape := ⟨1, ![1024]⟩
abbrev S1024x1024 : Shape := ⟨2, ![1024, 1024]⟩
abbrev S4x1024 : Shape := ⟨2, ![4, 1024]⟩
abbrev S_ : Shape := ⟨0, ![]⟩

class Facts : Prop where
  bcast_S_S32x256x1024 : S_.BroadcastsInDim S32x256x1024 (![] : Fin 0 → Fin S32x256x1024.rank)

variable [Facts]

def fn {F : FTy → Type} [FloatOps F] (main_arg0 : FVec F S32x256x1024 .f32) (main_arg1 : FVec F S32x256x1024 .f32) (main_arg2 : FVec F S32x256x1024 .f32) (main_arg3 : FVec F S32x256x1024 .f32) (main_arg4 : FVec F S32x256x1024 .f32) (main_arg5 : FVec F S1024 .f32) (main_arg6 : FVec F S1024x1024 .f32) (main_arg7 : FVec F S4x1024 .f32) (main_arg8 : FVec F S4x1024 .f32) : IVec S32x256x1024 1 × IVec S32x256x1024 1 :=
  let main_v0 : FVec F S32x256x1024 .f32 := Host.absf main_arg0
  let main_cst : FVec F S_ .f32 := constant S_ .f32 0x7F800000#32
  let main_v1 : FVec F S32x256x1024 .f32 := broadcastInDim S32x256x1024 ![] bcast_S_S32x256x1024 main_cst
  let main_v2 : IVec S32x256x1024 1 := cmpf .olt main_v0 main_v1
  let main_v3 : FVec F S32x256x1024 .f32 := Host.absf main_arg1
  let main_cst_0 : FVec F S_ .f32 := constant S_ .f32 0x7F800000#32
  let main_v4 : FVec F S32x256x1024 .f32 := broadcastInDim S32x256x1024 ![] bcast_S_S32x256x1024 main_cst_0
  let main_v5 : IVec S32x256x1024 1 := cmpf .olt main_v3 main_v4
  (main_v2, main_v5)
-- ==== Kernel.lean ====
abbrev S32x2048x1024 : Shape := ⟨3, ![32, 2048, 1024]⟩
abbrev S32x2048x256 : Shape := ⟨3, ![32, 2048, 256]⟩
abbrev S32x256x256 : Shape := ⟨3, ![32, 256, 256]⟩
abbrev S32x1024 : Shape := ⟨2, ![32, 1024]⟩
abbrev S1024x1024 : Shape := ⟨2, ![1024, 1024]⟩
abbrev S16 : Shape := ⟨1, ![16]⟩
abbrev S4x1024 : Shape := ⟨2, ![4, 1024]⟩
abbrev S32x2048x4x4x64 : Shape := ⟨5, ![32, 2048, 4, 4, 64]⟩
abbrev S32x2048x1280 : Shape := ⟨3, ![32, 2048, 1280]⟩
abbrev S_ : Shape := ⟨0, ![]⟩
abbrev S32x1280x2048 : Shape := ⟨3, ![32, 1280, 2048]⟩
abbrev S32x256x1024 : Shape := ⟨3, ![32, 256, 1024]⟩
abbrev S32x256x1280 : Shape := ⟨3, ![32, 256, 1280]⟩
abbrev S32x1280x256 : Shape := ⟨3, ![32, 1280, 256]⟩
abbrev S1x1x32x1x1024 : Shape := ⟨5, ![1, 1, 32, 1, 1024]⟩
abbrev S4x3x40x1x1024 : Shape := ⟨5, ![4, 3, 40, 1, 1024]⟩
abbrev S4x1x1024 : Shape := ⟨3, ![4, 1, 1024]⟩
abbrev S4x4x64x1024 : Shape := ⟨4, ![4, 4, 64, 1024]⟩
abbrev S1x1024x512 : Shape := ⟨3, ![1, 1024, 512]⟩
abbrev S1x512x1024 : Shape := ⟨3, ![1, 512, 1024]⟩
abbrev S1x128x256 : Shape := ⟨3, ![1, 128, 256]⟩
abbrev S1x512x256 : Shape := ⟨3, ![1, 512, 256]⟩
abbrev S1x256x128 : Shape := ⟨3, ![1, 256, 128]⟩
abbrev S1x256x512 : Shape := ⟨3, ![1, 256, 512]⟩
abbrev S1x256x256 : Shape := ⟨3, ![1, 256, 256]⟩
abbrev S1x1x1x1x1024 : Shape := ⟨5, ![1, 1, 1, 1, 1024]⟩
abbrev S1x1x1024 : Shape := ⟨3, ![1, 1, 1024]⟩
abbrev S16x640x512 : Shape := ⟨3, ![16, 640, 512]⟩
abbrev S128x256 : Shape := ⟨2, ![128, 256]⟩
abbrev S512x256 : Shape := ⟨2, ![512, 256]⟩
abbrev S768x256 : Shape := ⟨2, ![768, 256]⟩
abbrev S256x128 : Shape := ⟨2, ![256, 128]⟩
abbrev S256x512 : Shape := ⟨2, ![256, 512]⟩
abbrev S256x768 : Shape := ⟨2, ![256, 768]⟩
abbrev S256x256 : Shape := ⟨2, ![256, 256]⟩
abbrev S1 : Shape := ⟨1, ![1]⟩
abbrev S128x128 : Shape := ⟨2, ![128, 128]⟩
abbrev S128x512 : Shape := ⟨2, ![128, 512]⟩
abbrev S384x256 : Shape := ⟨2, ![384, 256]⟩
abbrev S640x256 : Shape := ⟨2, ![640, 256]⟩
abbrev S1x1024x128 : Shape := ⟨3, ![1, 1024, 128]⟩
abbrev S1024x128 : Shape := ⟨2, ![1024, 128]⟩
abbrev S64x128 : Shape := ⟨2, ![64, 128]⟩
abbrev S64x512 : Shape := ⟨2, ![64, 512]⟩
abbrev S192x512 : Shape := ⟨2, ![192, 512]⟩
abbrev S640x512 : Shape := ⟨2, ![640, 512]⟩
abbrev S1x128x512 : Shape := ⟨3, ![1, 128, 512]⟩
abbrev S256x384 : Shape := ⟨2, ![256, 384]⟩
abbrev S256x640 : Shape := ⟨2, ![256, 640]⟩
abbrev S1x512 : Shape := ⟨2, ![1, 512]⟩
abbrev S512 : Shape := ⟨1, ![512]⟩
abbrev S16x640 : Shape := ⟨2, ![16, 640]⟩
abbrev S64x640 : Shape := ⟨2, ![64, 640]⟩
abbrev S80x640 : Shape := ⟨2, ![80, 640]⟩
abbrev S1x640x512 : Shape := ⟨3, ![1, 640, 512]⟩
abbrev S80x512 : Shape := ⟨2, ![80, 512]⟩
abbrev S128x1024 : Shape := ⟨2, ![128, 1024]⟩
abbrev S512x1024 : Shape := ⟨2, ![512, 1024]⟩
abbrev S1x1024 : Shape := ⟨2, ![1, 1024]⟩
abbrev S512x1 : Shape := ⟨2, ![512, 1]⟩

abbrev nBuf : Space → Nat
  | .hbm => 49
  | .vmem => 31
  | .smem => 1
  | _ => 0

abbrev bufTy : (tb : Table) → Fin (tcTables nBuf tb) → BufTy
  | .hbm, ⟨0, _⟩ => ⟨S32x2048x1024, .f32⟩
  | .hbm, ⟨1, _⟩ => ⟨S32x2048x256, .f32⟩
  | .hbm, ⟨2, _⟩ => ⟨S32x2048x256, .f32⟩
  | .hbm, ⟨3, _⟩ => ⟨S32x2048x1024, .f32⟩
  | .hbm, ⟨4, _⟩ => ⟨S32x256x256, .f32⟩
  | .hbm, ⟨5, _⟩ => ⟨S32x256x256, .f32⟩
  | .hbm, ⟨6, _⟩ => ⟨S32x2048x1024, .f32⟩
  | .hbm, ⟨7, _⟩ => ⟨S32x1024, .f32⟩
  | .hbm, ⟨8, _⟩ => ⟨S1024x1024, .f32⟩
  | .hbm, ⟨9, _⟩ => ⟨S16, .f32⟩
  | .hbm, ⟨10, _⟩ => ⟨S4x1024, .f32⟩
  | .hbm, ⟨11, _⟩ => ⟨S4x1024, .f32⟩
  | .hbm, ⟨12, _⟩ => ⟨S32x2048x4x4x64, .f32⟩
  | .hbm, ⟨13, _⟩ => ⟨S32x2048x4x4x64, .f32⟩
  | .hbm, ⟨14, _⟩ => ⟨S32x2048x1024, .f32⟩
  | .hbm, ⟨15, _⟩ => ⟨S32x2048x1280, .f32⟩
  | .hbm, ⟨16, _⟩ => ⟨S32x2048x1280, .bf16⟩
  | .hbm, ⟨17, _⟩ => ⟨S_, .f32⟩
  | .hbm, ⟨18, _⟩ => ⟨S32x2048x1024, .f32⟩
  | .hbm, ⟨19, _⟩ => ⟨S32x2048x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S32x2048x1024, .f32⟩
  | .hbm, ⟨24, _⟩ => ⟨S32x2048x1024, .f32⟩
  | .hbm, ⟨25, _⟩ => ⟨S32x2048x4x4x64, .f32⟩
  | .hbm, ⟨26, _⟩ => ⟨S32x2048x4x4x64, .f32⟩
  | .hbm, ⟨27, _⟩ => ⟨S32x2048x1024, .f32⟩
  | .hbm, ⟨28, _⟩ => ⟨S32x2048x1280, .f32⟩
  | .hbm, ⟨29, _⟩ => ⟨S32x1280x2048, .f32⟩
  | .hbm, ⟨30, _⟩ => ⟨S32x1280x2048, .bf16⟩
  | .hbm, ⟨31, _⟩ => ⟨S_, .f32⟩
  | .hbm, ⟨32, _⟩ => ⟨S32x256x1024, .f32⟩
  | .hbm, ⟨33, _⟩ => ⟨S32x256x1280, .f32⟩
  | .hbm, ⟨34, _⟩ => ⟨S32x256x1280, .bf16⟩
  | .hbm, ⟨35, _⟩ => ⟨S32x256x1280, .f32⟩
  | .hbm, ⟨36, _⟩ => ⟨S32x1280x256, .f32⟩
  | .hbm, ⟨37, _⟩ => ⟨S32x1280x256, .bf16⟩
  | .hbm, ⟨38, _⟩ => ⟨S1x1x32x1x1024, .f32⟩
  | .hbm, ⟨39, _⟩ => ⟨S_, .i32⟩
  | .hbm, ⟨40, _⟩ => ⟨S_, .f32⟩
  | .hbm, ⟨41, _⟩ => ⟨S4x3x40x1x1024, .f32⟩
  | .hbm, ⟨42, _⟩ => ⟨S4x1x1024, .f32⟩
  | .hbm, ⟨43, _⟩ => ⟨S4x1x1024, .f32⟩
  | .hbm, ⟨44, _⟩ => ⟨S4x4x64x1024, .f32⟩
  | .hbm, ⟨45, _⟩ => ⟨S4x4x64x1024, .f32⟩
  | .hbm, ⟨46, _⟩ => ⟨S1024x1024, .f32⟩
  | .hbm, ⟨47, _⟩ => ⟨S1024x1024, .bf16⟩
  | .hbm, ⟨48, _⟩ => ⟨S32x2048x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x128x256, .bf16⟩
  | .local _ .vmem, ⟨5, _⟩ => ⟨S1x128x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x512x1024, .f32⟩
  | .local _ .vmem, ⟨21, _⟩ => ⟨S1x512x1024, .f32⟩
  | .local _ .vmem, ⟨22, _⟩ => ⟨S1x1x1x1x1024, .f32⟩
  | .local _ .vmem, ⟨23, _⟩ => ⟨S1x1x1x1x1024, .f32⟩
  | .local _ .vmem, ⟨24, _⟩ => ⟨S1024x1024, .bf16⟩
  | .local _ .vmem, ⟨25, _⟩ => ⟨S1x1x1024, .f32⟩
  | .local _ .vmem, ⟨26, _⟩ => ⟨S1x1x1024, .f32⟩
  | .local _ .vmem, ⟨27, _⟩ => ⟨S1x512x1024, .f32⟩
  | .local _ .vmem, ⟨28, _⟩ => ⟨S1x512x1024, .f32⟩
  | .local _ .vmem, ⟨29, _⟩ => ⟨S16x640x512, .f32⟩
  | .local _ .vmem, ⟨30, _⟩ => ⟨S16x640x512, .bf16⟩
  | .local _ .smem, ⟨0, _⟩ => ⟨S16, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_scratch1 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![32, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c4_i32_0 : BitVec 32 := 4#32
  let c0_i32_1 : BitVec 32 := 0#32
  ![arg0.toNat, v2.toNat, c4_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c4_i32_0 : BitVec 32 := 4#32
  let c0_i32 : BitVec 32 := 0#32
  ![arg0.toNat, v2.toNat, c4_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c4_i32_0 : BitVec 32 := 4#32
  let c0_i32_1 : BitVec 32 := 0#32
  ![arg0.toNat, c4_i32_0.toNat, v2.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c4_i32_0 : BitVec 32 := 4#32
  let c0_i32 : BitVec 32 := 0#32
  ![arg0.toNat, c4_i32_0.toNat, v2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg0.toNat, c4_i32.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, arg0.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S32x2048x1024 : Shape := ⟨3, ![32, 2048, 1024]⟩
abbrev S32x2048x256 : Shape := ⟨3, ![32, 2048, 256]⟩
abbrev S32x256x256 : Shape := ⟨3, ![32, 256, 256]⟩
abbrev S32x1024 : Shape := ⟨2, ![32, 1024]⟩
abbrev S1024x1024 : Shape := ⟨2, ![1024, 1024]⟩
abbrev S16 : Shape := ⟨1, ![16]⟩
abbrev S4x1024 : Shape := ⟨2, ![4, 1024]⟩
abbrev S32x2048x4x4x64 : Shape := ⟨5, ![32, 2048, 4, 4, 64]⟩
abbrev S32x2048x4x64 : Shape := ⟨4, ![32, 2048, 4, 64]⟩
abbrev S32x256x4x64 : Shape := ⟨4, ![32, 256, 4, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S32x4x2048x2048x4 : Shape := ⟨5, ![32, 4, 2048, 2048, 4]⟩
abbrev S32x4x4x2048x2048 : Shape := ⟨5, ![32, 4, 4, 2048, 2048]⟩
abbrev S32x4x256x2048x4 : Shape := ⟨5, ![32, 4, 256, 2048, 4]⟩
abbrev S32x4x4x2048x256 : Shape := ⟨5, ![32, 4, 4, 2048, 256]⟩
abbrev S4x4 : Shape := ⟨2, ![4, 4]⟩
abbrev S1x4x4x1x1 : Shape := ⟨5, ![1, 4, 4, 1, 1]⟩
abbrev S32x4x4x2048x1 : Shape := ⟨5, ![32, 4, 4, 2048, 1]⟩
abbrev S32x4x4x2048x2305 : Shape := ⟨5, ![32, 4, 4, 2048, 2305]⟩
abbrev S32x4x4x2048 : Shape := ⟨4, ![32, 4, 4, 2048]⟩
abbrev S32x4x64x4x2048 : Shape := ⟨5, ![32, 4, 64, 4, 2048]⟩
abbrev S32x1x1024 : Shape := ⟨3, ![32, 1, 1024]⟩
abbrev S1x1024 : Shape := ⟨2, ![1, 1024]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 119
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .f32⟩
  | .hbm, ⟨2, _⟩ => ⟨S32x2048x256, .f32⟩
  | .hbm, ⟨3, _⟩ => ⟨S32x2048x1024, .f32⟩
  | .hbm, ⟨4, _⟩ => ⟨S32x256x256, .f32⟩
  | .hbm, ⟨5, _⟩ => ⟨S32x256x256, .f32⟩
  | .hbm, ⟨6, _⟩ => ⟨S32x2048x1024, .f32⟩
  | .hbm, ⟨7, _⟩ => ⟨S32x1024, .f32⟩
  | .hbm, ⟨8, _⟩ => ⟨S1024x1024, .f32⟩
  | .hbm, ⟨9, _⟩ => ⟨S16, .f32⟩
  | .hbm, ⟨10, _⟩ => ⟨S4x1024, .f32⟩
  | .hbm, ⟨11, _⟩ => ⟨S4x1024, .f32⟩
  | .hbm, ⟨12, _⟩ => ⟨S32x2048x4x4x64, .f32⟩
  | .hbm, ⟨13, _⟩ => ⟨S32x2048x4x64, .f32⟩
  | .hbm, ⟨14, _⟩ => ⟨S32x2048x4x64, .f32⟩
  | .hbm, ⟨15, _⟩ => ⟨S32x256x4x64, .f32⟩
  | .hbm, ⟨16, _⟩ => ⟨S32x256x4x64, .f32⟩
  | .hbm, ⟨17, _⟩ => ⟨S2048, .i32⟩
  | .hbm, ⟨18, _⟩ => ⟨S2048x1, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S32x4x2048x2048x4, .f32⟩
  | .hbm, ⟨28, _⟩ => ⟨S32x4x4x2048x2048, .f32⟩
  | .hbm, ⟨29, _⟩ => ⟨S_, .f32⟩
  | .hbm, ⟨30, _⟩ => ⟨S32x4x4x2048x2048, .f32⟩
  | .hbm, ⟨31, _⟩ => ⟨S32x4x4x2048x2048, .f32⟩
  | .hbm, ⟨32, _⟩ => ⟨S_, .f32⟩
  | .hbm, ⟨33, _⟩ => ⟨S_, .f32⟩
  | .hbm, ⟨34, _⟩ => ⟨S32x4x4x2048x2048, .i1⟩
  | .hbm, ⟨35, _⟩ => ⟨S32x4x4x2048x2048, .f32⟩
  | .hbm, ⟨36, _⟩ => ⟨S32x4x4x2048x2048, .f32⟩
  | .hbm, ⟨37, _⟩ => ⟨S32x4x256x2048x4, .f32⟩
  | .hbm, ⟨38, _⟩ => ⟨S32x4x4x2048x256, .f32⟩
  | .hbm, ⟨39, _⟩ => ⟨S_, .f32⟩
  | .hbm, ⟨40, _⟩ => ⟨S32x4x4x2048x256, .f32⟩
  | .hbm, ⟨41, _⟩ => ⟨S32x4x4x2048x256, .f32⟩
  | .hbm, ⟨42, _⟩ => ⟨S4x4, .f32⟩
  | .hbm, ⟨43, _⟩ => ⟨S1x4x4x1x1, .f32⟩
  | .hbm, ⟨44, _⟩ => ⟨S32x4x4x2048x1, .f32⟩
  | .hbm, ⟨45, _⟩ => ⟨S32x4x4x2048x2305, .f32⟩
  | .hbm, ⟨46, _⟩ => ⟨S_, .f32⟩
  | .hbm, ⟨47, _⟩ => ⟨S32x4x4x2048, .f32⟩
  | .hbm, ⟨48, _⟩ => ⟨S_, .f32⟩
  | .hbm, ⟨49, _⟩ => ⟨S32x4x4x2048, .f32⟩
  | .hbm, ⟨50, _⟩ => ⟨S32x4x4x2048, .f32⟩
  | .hbm, ⟨51, _⟩ => ⟨S32x4x4x2048x1, .f32⟩
  | .hbm, ⟨52, _⟩ => ⟨S32x4x4x2048x2305, .f32⟩
  | .hbm, ⟨53, _⟩ => ⟨S32x4x4x2048x2305, .f32⟩
  | .hbm, ⟨54, _⟩ => ⟨S32x4x4x2048x2305, .f32⟩
  | .hbm, ⟨55, _⟩ => ⟨S_, .f32⟩
  | .hbm, ⟨56, _⟩ => ⟨S32x4x4x2048, .f32⟩
  | .hbm, ⟨57, _⟩ => ⟨S32x4x4x2048x1, .f32⟩
  | .hbm, ⟨58, _⟩ => ⟨S32x4x4x2048x2305, .f32⟩
  | .hbm, ⟨59, _⟩ => ⟨S32x4x4x2048x2305, .f32⟩
  | .hbm, ⟨60, _⟩ => ⟨S32x4x4x2048x2048, .f32⟩
  | .hbm, ⟨61, _⟩ => ⟨S32x4x64x4x2048, .f32⟩
  | .hbm, ⟨62, _⟩ => ⟨S32x2048x4x4x64, .f32⟩
  | .hbm, ⟨63, _⟩ => ⟨S32x4x4x2048x256, .f32⟩
  | .hbm, ⟨64, _⟩ => ⟨S32x4x64x4x2048, .f32⟩
  | .hbm, ⟨65, _⟩ => ⟨S32x2048x4x4x64, .f32⟩
  | .hbm, ⟨66, _⟩ => ⟨S32x2048x4x4x64, .f32⟩
  | .hbm, ⟨67, _⟩ => ⟨S32x2048x1024, .f32⟩
  | .hbm, ⟨68, _⟩ => ⟨S32x2048x1024, .f32⟩
  | .hbm, ⟨69, _⟩ => ⟨S32x2048x1024, .f32⟩
  | .hbm, ⟨70, _⟩ => ⟨S_, .f32⟩
  | .hbm, ⟨71, _⟩ => ⟨S32x2048x1024, .f32⟩
  | .hbm, ⟨72, _⟩ => ⟨S32x2048x1024, .f32⟩
  | .hbm, ⟨73, _⟩ => ⟨S_, .f32⟩
  | .hbm, ⟨74, _⟩ => ⟨S32x2048x1024, .f32⟩
  | .hbm, ⟨75, _⟩ => ⟨S32x2048x1024, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S_, .f32⟩
  | .hbm, ⟨80, _⟩ => ⟨S32x2048x1024, .f32⟩
  | .hbm, ⟨81, _⟩ => ⟨S32x2048x1024, .f32⟩
  | .hbm, ⟨82, _⟩ => ⟨S32x1x1024, .f32⟩
  | .hbm, ⟨83, _⟩ => ⟨S32x2048x1024, .f32⟩
  | .hbm, ⟨84, _⟩ => ⟨S32x2048x1024, .f32⟩
  | .hbm, ⟨85, _⟩ => ⟨S32x2048x1024, .f32⟩
  | .hbm, ⟨86, _⟩ => ⟨S1x1024, .f32⟩
  | .hbm, ⟨87, _⟩ => ⟨S1024, .f32⟩
  | .hbm, ⟨88, _⟩ => ⟨S1x1024, .f32⟩
  | .hbm, ⟨89, _⟩ => ⟨S1024, .f32⟩
  | .hbm, ⟨90, _⟩ => ⟨S_, .f32⟩
  | .hbm, ⟨91, _⟩ => ⟨S32x2048, .f32⟩
  | .hbm, ⟨92, _⟩ => ⟨S32x2048x1, .f32⟩
  | .hbm, ⟨93, _⟩ => ⟨S_, .f32⟩
  | .hbm, ⟨94, _⟩ => ⟨S32x2048x1, .f32⟩
  | .hbm, ⟨95, _⟩ => ⟨S32x2048x1, .f32⟩
  | .hbm, ⟨96, _⟩ => ⟨S32x2048x1024, .f32⟩
  | .hbm, ⟨97, _⟩ => ⟨S32x2048x1024, .f32⟩
  | .hbm, ⟨98, _⟩ => ⟨S32x2048x1024, .f32⟩
  | .hbm, ⟨99, _⟩ => ⟨S_, .f32⟩
  | .hbm, ⟨100, _⟩ => ⟨S32x2048, .f32⟩
  | .hbm, ⟨101, _⟩ => ⟨S32x2048x1, .f32⟩
  | .hbm, ⟨102, _⟩ => ⟨S_, .f32⟩
  | .hbm, ⟨103, _⟩ => ⟨S32x2048x1, .f32⟩
  | .hbm, ⟨104, _⟩ => ⟨S32x2048x1, .f32⟩
  | .hbm, ⟨105, _⟩ => ⟨S32x2048x1024, .f32⟩
  | .hbm, ⟨106, _⟩ => ⟨S32x2048x1024, .f32⟩
  | .hbm, ⟨107, _⟩ => ⟨S_, .f32⟩
  | .hbm, ⟨108, _⟩ => ⟨S32x2048x1, .f32⟩
  | .hbm, ⟨109, _⟩ => ⟨S32x2048x1, .f32⟩
  | .hbm, ⟨110, _⟩ => ⟨S32x2048x1, .f32⟩
  | .hbm, ⟨111, _⟩ => ⟨S32x2048x1024, .f32⟩
  | .hbm, ⟨112, _⟩ => ⟨S32x2048x1024, .f32⟩
  | .hbm, ⟨113, _⟩ => ⟨S1x1x1024, .f32⟩
  | .hbm, ⟨114, _⟩ => ⟨S32x2048x1024, .f32⟩
  | .hbm, ⟨115, _⟩ => ⟨S32x2048x1024, .f32⟩
  | .hbm, ⟨116, _⟩ => ⟨S1x1x1024, .f32⟩
  | .hbm, ⟨117, _⟩ => ⟨S32x2048x1024, .f32⟩
  | .hbm, ⟨118, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_5 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_6 : Ref sig .tc := ⟨.hbm, 90, rfl⟩
abbrev main_v59 : Ref sig .tc := ⟨.hbm, 91, rfl⟩
abbrev main_v60 : Ref sig .tc := ⟨.hbm, 92, rfl⟩
abbrev main_cst_7 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_8 : Ref sig .tc := ⟨.hbm, 99, rfl⟩
abbrev main_v66 : Ref sig .tc := ⟨.hbm, 100, rfl⟩
abbrev main_v67 : Ref sig .tc := ⟨.hbm, 101, rfl⟩
abbrev main_cst_9 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_10 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x1024 : Shape := ⟨2, ![32, 1024]⟩
abbrev S1024x4096 : Shape := ⟨2, ![1024, 4096]⟩
abbrev S1024x1024 : Shape := ⟨2, ![1024, 1024]⟩
abbrev S_ : Shape := ⟨0, ![]⟩
abbrev S1024x3072 : Shape := ⟨2, ![1024, 3072]⟩
abbrev S1x32x1024 : Shape := ⟨3, ![1, 32, 1024]⟩
abbrev S2x32x1024 : Shape := ⟨3, ![2, 32, 1024]⟩
abbrev S1x2x32x1x1024 : Shape := ⟨5, ![1, 2, 32, 1, 1024]⟩
abbrev S4x3x40x1x1024 : Shape := ⟨5, ![4, 3, 40, 1, 1024]⟩
abbrev S32x2048x4096 : Shape := ⟨3, ![32, 2048, 4096]⟩
abbrev S1x1024x1024 : Shape := ⟨3, ![1, 1024, 1024]⟩
abbrev S1x1x1x1x1024 : Shape := ⟨5, ![1, 1, 1, 1, 1024]⟩
abbrev S1x1024x4096 : Shape := ⟨3, ![1, 1024, 4096]⟩
abbrev S1x1024 : Shape := ⟨2, ![1, 1024]⟩
abbrev S1024x256 : Shape := ⟨2, ![1024, 256]⟩
abbrev S1x1024x256 : Shape := ⟨3, ![1, 1024, 256]⟩

abbrev nBuf : Space → Nat
  | .hbm => 20
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x1024, .f32⟩
  | .hbm, ⟨3, _⟩ => ⟨S1024x4096, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x3072, .f32⟩
  | .hbm, ⟨9, _⟩ => ⟨S1024x4096, .f32⟩
  | .hbm, ⟨10, _⟩ => ⟨S1024x4096, .bf16⟩
  | .hbm, ⟨11, _⟩ => ⟨S1024x4096, .bf16⟩
  | .hbm, ⟨12, _⟩ => ⟨S1x32x1024, .f32⟩
  | .hbm, ⟨13, _⟩ => ⟨S1x32x1024, .f32⟩
  | .hbm, ⟨14, _⟩ => ⟨S2x32x1024, .f32⟩
  | .hbm, ⟨15, _⟩ => ⟨S1x2x32x1x1024, .f32⟩
  | .hbm, ⟨16, _⟩ => ⟨S_, .i32⟩
  | .hbm, ⟨17, _⟩ => ⟨S_, .f32⟩
  | .hbm, ⟨18, _⟩ => ⟨S4x3x40x1x1024, .f32⟩
  | .hbm, ⟨19, _⟩ => ⟨S32x2048x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1024x4096, .bf16⟩
  | .local _ .vmem, ⟨7, _⟩ => ⟨S1x1024x4096, .bf16⟩
  | .local _ .vmem, ⟨8, _⟩ => ⟨S1x1024x4096, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, arg0.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, arg0.toNat, c0_i32.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "log2e" => some (((Real.log 2)⁻¹ : ℝ) : EReal)
  | _ => none
-- ==== Reference2Ideal.lean ====
abbrev S32x2048x1024 : Shape := ⟨3, ![32, 2048, 1024]⟩
abbrev S32x1024 : Shape := ⟨2, ![32, 1024]⟩
abbrev S1024x4096 : Shape := ⟨2, ![1024, 4096]⟩
abbrev S32x1x1024 : Shape := ⟨3, ![32, 1, 1024]⟩
abbrev S_ : Shape := ⟨0, ![]⟩
abbrev S32x2048x4096 : Shape := ⟨3, ![32, 2048, 4096]⟩

abbrev nBuf : Space → Nat
  | .hbm => 28
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x1024, .f32⟩
  | .hbm, ⟨3, _⟩ => ⟨S1024x4096, .f32⟩
  | .hbm, ⟨4, _⟩ => ⟨S32x1x1024, .f32⟩
  | .hbm, ⟨5, _⟩ => ⟨S_, .f32⟩
  | .hbm, ⟨6, _⟩ => ⟨S32x1x1024, .f32⟩
  | .hbm, ⟨7, _⟩ => ⟨S32x1x1024, .f32⟩
  | .hbm, ⟨8, _⟩ => ⟨S32x2048x1024, .f32⟩
  | .hbm, ⟨9, _⟩ => ⟨S32x2048x1024, .f32⟩
  | .hbm, ⟨10, _⟩ => ⟨S32x1x1024, .f32⟩
  | .hbm, ⟨11, _⟩ => ⟨S32x2048x1024, .f32⟩
  | .hbm, ⟨12, _⟩ => ⟨S32x2048x1024, .f32⟩
  | .hbm, ⟨13, _⟩ => ⟨S32x2048x4096, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S_, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S32x2048x1024, .f32⟩
  | .hbm, ⟨25, _⟩ => ⟨S32x2048x1024, .f32⟩
  | .hbm, ⟨26, _⟩ => ⟨S32x2048x4096, .f32⟩
  | .hbm, ⟨27, _⟩ => ⟨S32x2048x4096, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x1024 : Shape := ⟨2, ![32, 1024]⟩
abbrev S1024x2560 : Shape := ⟨2, ![1024, 2560]⟩
abbrev S2048x16 : Shape := ⟨2, ![2048, 16]⟩
abbrev S1024x1024 : Shape := ⟨2, ![1024, 1024]⟩
abbrev S1024x4x4x64 : Shape := ⟨4, ![1024, 4, 4, 64]⟩
abbrev S_ : Shape := ⟨0, ![]⟩
abbrev S1024x256 : Shape := ⟨2, ![1024, 256]⟩
abbrev S1024x1280 : Shape := ⟨2, ![1024, 1280]⟩
abbrev S1280x1024 : Shape := ⟨2, ![1280, 1024]⟩
abbrev S4x4x64x1024 : Shape := ⟨4, ![4, 4, 64, 1024]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S64x2048 : Shape := ⟨2, ![64, 2048]⟩
abbrev S1x32x1024 : Shape := ⟨3, ![1, 32, 1024]⟩
abbrev S2x32x1024 : Shape := ⟨3, ![2, 32, 1024]⟩
abbrev S1x2x32x1x1024 : Shape := ⟨5, ![1, 2, 32, 1, 1024]⟩
abbrev S4x3x40x1x1024 : Shape := ⟨5, ![4, 3, 40, 1, 1024]⟩
abbrev S32x2048x1280 : Shape := ⟨3, ![32, 2048, 1280]⟩
abbrev S32x1280x2048 : Shape := ⟨3, ![32, 1280, 2048]⟩
abbrev S1x1024x1024 : Shape := ⟨3, ![1, 1024, 1024]⟩
abbrev S1x1x1x1x1024 : Shape := ⟨5, ![1, 1, 1, 1, 1024]⟩
abbrev S1024x128 : Shape := ⟨2, ![1024, 128]⟩
abbrev S64x1024 : Shape := ⟨2, ![64, 1024]⟩
abbrev S1x1024x1280 : Shape := ⟨3, ![1, 1024, 1280]⟩
abbrev S1x1280x1024 : Shape := ⟨3, ![1, 1280, 1024]⟩
abbrev S1x1024 : Shape := ⟨2, ![1, 1024]⟩
abbrev S1x1024x256 : Shape := ⟨3, ![1, 1024, 256]⟩
abbrev S256x1024 : Shape := ⟨2, ![256, 1024]⟩
abbrev S16x1024 : Shape := ⟨2, ![16, 1024]⟩
abbrev S1x256x1024 : Shape := ⟨3, ![1, 256, 1024]⟩

abbrev nBuf : Space → Nat
  | .hbm => 59
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x1024, .f32⟩
  | .hbm, ⟨3, _⟩ => ⟨S1024x2560, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S2048x16, .f32⟩
  | .hbm, ⟨8, _⟩ => ⟨S1024x1024, .f32⟩
  | .hbm, ⟨9, _⟩ => ⟨S1024x1024, .f32⟩
  | .hbm, ⟨10, _⟩ => ⟨S1024x4x4x64, .f32⟩
  | .hbm, ⟨11, _⟩ => ⟨S1024x4x4x64, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x256, .f32⟩
  | .hbm, ⟨17, _⟩ => ⟨S1024x256, .f32⟩
  | .hbm, ⟨18, _⟩ => ⟨S1024x1024, .f32⟩
  | .hbm, ⟨19, _⟩ => ⟨S1024x4x4x64, .f32⟩
  | .hbm, ⟨20, _⟩ => ⟨S1024x4x4x64, .f32⟩
  | .hbm, ⟨21, _⟩ => ⟨S1024x1024, .f32⟩
  | .hbm, ⟨22, _⟩ => ⟨S1024x1280, .f32⟩
  | .hbm, ⟨23, _⟩ => ⟨S1024x1280, .bf16⟩
  | .hbm, ⟨24, _⟩ => ⟨S1024x1280, .f32⟩
  | .hbm, ⟨25, _⟩ => ⟨S1280x1024, .f32⟩
  | .hbm, ⟨26, _⟩ => ⟨S1280x1024, .bf16⟩
  | .hbm, ⟨27, _⟩ => ⟨S4x4x64x1024, .f32⟩
  | .hbm, ⟨28, _⟩ => ⟨S4x4x64x1024, .f32⟩
  | .hbm, ⟨29, _⟩ => ⟨S1024x1024, .f32⟩
  | .hbm, ⟨30, _⟩ => ⟨S1024x1024, .bf16⟩
  | .hbm, ⟨31, _⟩ => ⟨S_, .f32⟩
  | .hbm, ⟨32, _⟩ => ⟨S2048x16, .f32⟩
  | .hbm, ⟨33, _⟩ => ⟨S2048x64, .f32⟩
  | .hbm, ⟨34, _⟩ => ⟨S2048x16, .f32⟩
  | .hbm, ⟨35, _⟩ => ⟨S2048x16, .f32⟩
  | .hbm, ⟨36, _⟩ => ⟨S2048x64, .f32⟩
  | .hbm, ⟨37, _⟩ => ⟨S2048x64, .f32⟩
  | .hbm, ⟨38, _⟩ => ⟨S1x2048x1x64, .f32⟩
  | .hbm, ⟨39, _⟩ => ⟨S1x2048x2x64, .f32⟩
  | .hbm, ⟨40, _⟩ => ⟨S2048x128, .f32⟩
  | .hbm, ⟨41, _⟩ => ⟨S1x2048x1x64, .f32⟩
  | .hbm, ⟨42, _⟩ => ⟨S1x2048x2x64, .f32⟩
  | .hbm, ⟨43, _⟩ => ⟨S2048x128, .f32⟩
  | .hbm, ⟨44, _⟩ => ⟨S1x2048x1x64, .f32⟩
  | .hbm, ⟨45, _⟩ => ⟨S1x2048x2x64, .f32⟩
  | .hbm, ⟨46, _⟩ => ⟨S2048x128, .f32⟩
  | .hbm, ⟨47, _⟩ => ⟨S64x2048, .f32⟩
  | .hbm, ⟨48, _⟩ => ⟨S2048x64, .f32⟩
  | .hbm, ⟨49, _⟩ => ⟨S64x2048, .f32⟩
  | .hbm, ⟨50, _⟩ => ⟨S1x32x1024, .f32⟩
  | .hbm, ⟨51, _⟩ => ⟨S1x32x1024, .f32⟩
  | .hbm, ⟨52, _⟩ => ⟨S2x32x1024, .f32⟩
  | .hbm, ⟨53, _⟩ => ⟨S1x2x32x1x1024, .f32⟩
  | .hbm, ⟨54, _⟩ => ⟨S_, .i32⟩
  | .hbm, ⟨55, _⟩ => ⟨S_, .f32⟩
  | .hbm, ⟨56, _⟩ => ⟨S4x3x40x1x1024, .f32⟩
  | .hbm, ⟨57, _⟩ => ⟨S32x2048x1280, .bf16⟩
  | .hbm, ⟨58, _⟩ => ⟨S32x1280x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1024x1280, .bf16⟩
  | .local _ .vmem, ⟨7, _⟩ => ⟨S1280x1024, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S1x1024x1280, .bf16⟩
  | .local _ .vmem, ⟨19, _⟩ => ⟨S1x1024x1280, .bf16⟩
  | .local _ .vmem, ⟨20, _⟩ => ⟨S1x1280x1024, .bf16⟩
  | .local _ .vmem, ⟨21, _⟩ => ⟨S1x1280x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c : Ref sig .tc := ⟨.hbm, 54, rfl⟩
abbrev main_call0_v0 : Ref sig .tc := ⟨.hbm, 55, rfl⟩
abbrev main_v44 : Ref sig .tc := ⟨.hbm, 56, rfl⟩
abbrev main_v45_0 : Ref sig .tc := ⟨.hbm, 57, rfl⟩
abbrev main_v45_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1280x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel3Ideal.lean ====
variable {F : FTy → Type} [FloatOps F] [Named F]
def κ : String → Option EReal := fun
  | "log2e" => some (((Real.log 2)⁻¹ : ℝ) : EReal)
  | _ => none
-- ==== Reference3Ideal.lean ====
abbrev S32x2048x1024 : Shape := ⟨3, ![32, 2048, 1024]⟩
abbrev S32x1024 : Shape := ⟨2, ![32, 1024]⟩
abbrev S1024x2560 : Shape := ⟨2, ![1024, 2560]⟩
abbrev S2048x16 : Shape := ⟨2, ![2048, 16]⟩
abbrev S32x1x1024 : Shape := ⟨3, ![32, 1, 1024]⟩
abbrev S_ : Shape := ⟨0, ![]⟩
abbrev S32x2048x2560 : Shape := ⟨3, ![32, 2048, 2560]⟩
abbrev S32x2048x256 : Shape := ⟨3, ![32, 2048, 256]⟩
abbrev S32x2048x16x64 : Shape := ⟨4, ![32, 2048, 16, 64]⟩
abbrev S32x2048x16x16 : Shape := ⟨4, ![32, 2048, 16, 16]⟩
abbrev S1x2048x1x16 : Shape := ⟨4, ![1, 2048, 1, 16]⟩
abbrev S32x2048x4x64 : Shape := ⟨4, ![32, 2048, 4, 64]⟩
abbrev S32x2048x4x16 : Shape := ⟨4, ![32, 2048, 4, 16]⟩
abbrev S32x2048x4x4x64 : Shape := ⟨5, ![32, 2048, 4, 4, 64]⟩
abbrev S32x2048x1280 : Shape := ⟨3, ![32, 2048, 1280]⟩
abbrev S32x1280x2048 : Shape := ⟨3, ![32, 1280, 2048]⟩

abbrev nBuf : Space → Nat
  | .hbm => 102
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x1024, .f32⟩
  | .hbm, ⟨3, _⟩ => ⟨S1024x2560, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S2048x16, .f32⟩
  | .hbm, ⟨8, _⟩ => ⟨S32x1x1024, .f32⟩
  | .hbm, ⟨9, _⟩ => ⟨S_, .f32⟩
  | .hbm, ⟨10, _⟩ => ⟨S32x1x1024, .f32⟩
  | .hbm, ⟨11, _⟩ => ⟨S32x1x1024, .f32⟩
  | .hbm, ⟨12, _⟩ => ⟨S32x2048x1024, .f32⟩
  | .hbm, ⟨13, _⟩ => ⟨S32x2048x1024, .f32⟩
  | .hbm, ⟨14, _⟩ => ⟨S32x1x1024, .f32⟩
  | .hbm, ⟨15, _⟩ => ⟨S32x2048x1024, .f32⟩
  | .hbm, ⟨16, _⟩ => ⟨S32x2048x1024, .f32⟩
  | .hbm, ⟨17, _⟩ => ⟨S32x2048x2560, .f32⟩
  | .hbm, ⟨18, _⟩ => ⟨S32x2048x1024, .f32⟩
  | .hbm, ⟨19, _⟩ => ⟨S32x2048x256, .f32⟩
  | .hbm, ⟨20, _⟩ => ⟨S32x2048x256, .f32⟩
  | .hbm, ⟨21, _⟩ => ⟨S32x2048x1024, .f32⟩
  | .hbm, ⟨22, _⟩ => ⟨S32x2048x16x64, .f32⟩
  | .hbm, ⟨23, _⟩ => ⟨S32x2048x16x16, .f32⟩
  | .hbm, ⟨24, _⟩ => ⟨S32x2048x16x16, .f32⟩
  | .hbm, ⟨25, _⟩ => ⟨S32x2048x16x16, .f32⟩
  | .hbm, ⟨26, _⟩ => ⟨S32x2048x16x16, .f32⟩
  | .hbm, ⟨27, _⟩ => ⟨S1x2048x1x16, .f32⟩
  | .hbm, ⟨28, _⟩ => ⟨S1x2048x1x16, .f32⟩
  | .hbm, ⟨29, _⟩ => ⟨S32x2048x16x16, .f32⟩
  | .hbm, ⟨30, _⟩ => ⟨S32x2048x16x16, .f32⟩
  | .hbm, ⟨31, _⟩ => ⟨S32x2048x16x16, .f32⟩
  | .hbm, ⟨32, _⟩ => ⟨S32x2048x16x16, .f32⟩
  | .hbm, ⟨33, _⟩ => ⟨S32x2048x16x16, .f32⟩
  | .hbm, ⟨34, _⟩ => ⟨S32x2048x16x16, .f32⟩
  | .hbm, ⟨35, _⟩ => ⟨S32x2048x16x16, .f32⟩
  | .hbm, ⟨36, _⟩ => ⟨S32x2048x16x16, .f32⟩
  | .hbm, ⟨37, _⟩ => ⟨S32x2048x16x16, .f32⟩
  | .hbm, ⟨38, _⟩ => ⟨S32x2048x16x16, .f32⟩
  | .hbm, ⟨39, _⟩ => ⟨S1x2048x1x16, .f32⟩
  | .hbm, ⟨40, _⟩ => ⟨S1x2048x1x16, .f32⟩
  | .hbm, ⟨41, _⟩ => ⟨S32x2048x16x16, .f32⟩
  | .hbm, ⟨42, _⟩ => ⟨S32x2048x16x16, .f32⟩
  | .hbm, ⟨43, _⟩ => ⟨S32x2048x16x16, .f32⟩
  | .hbm, ⟨44, _⟩ => ⟨S32x2048x16x16, .f32⟩
  | .hbm, ⟨45, _⟩ => ⟨S32x2048x16x16, .f32⟩
  | .hbm, ⟨46, _⟩ => ⟨S32x2048x16x16, .f32⟩
  | .hbm, ⟨47, _⟩ => ⟨S32x2048x16x16, .f32⟩
  | .hbm, ⟨48, _⟩ => ⟨S32x2048x16x16, .f32⟩
  | .hbm, ⟨49, _⟩ => ⟨S32x2048x16x16, .f32⟩
  | .hbm, ⟨50, _⟩ => ⟨S32x2048x16x16, .f32⟩
  | .hbm, ⟨51, _⟩ => ⟨S32x2048x16x64, .f32⟩
  | .hbm, ⟨52, _⟩ => ⟨S_, .f32⟩
  | .hbm, ⟨53, _⟩ => ⟨S32x2048x16x64, .f32⟩
  | .hbm, ⟨54, _⟩ => ⟨S32x2048x16x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S32x2048x16x64, .f32⟩
  | .hbm, ⟨59, _⟩ => ⟨S32x2048x16x64, .f32⟩
  | .hbm, ⟨60, _⟩ => ⟨S32x2048x4x64, .f32⟩
  | .hbm, ⟨61, _⟩ => ⟨S32x2048x4x16, .f32⟩
  | .hbm, ⟨62, _⟩ => ⟨S32x2048x4x16, .f32⟩
  | .hbm, ⟨63, _⟩ => ⟨S32x2048x4x16, .f32⟩
  | .hbm, ⟨64, _⟩ => ⟨S32x2048x4x16, .f32⟩
  | .hbm, ⟨65, _⟩ => ⟨S1x2048x1x16, .f32⟩
  | .hbm, ⟨66, _⟩ => ⟨S1x2048x1x16, .f32⟩
  | .hbm, ⟨67, _⟩ => ⟨S32x2048x4x16, .f32⟩
  | .hbm, ⟨68, _⟩ => ⟨S32x2048x4x16, .f32⟩
  | .hbm, ⟨69, _⟩ => ⟨S32x2048x4x16, .f32⟩
  | .hbm, ⟨70, _⟩ => ⟨S32x2048x4x16, .f32⟩
  | .hbm, ⟨71, _⟩ => ⟨S32x2048x4x16, .f32⟩
  | .hbm, ⟨72, _⟩ => ⟨S32x2048x4x16, .f32⟩
  | .hbm, ⟨73, _⟩ => ⟨S32x2048x4x16, .f32⟩
  | .hbm, ⟨74, _⟩ => ⟨S32x2048x4x16, .f32⟩
  | .hbm, ⟨75, _⟩ => ⟨S32x2048x4x16, .f32⟩
  | .hbm, ⟨76, _⟩ => ⟨S32x2048x4x16, .f32⟩
  | .hbm, ⟨77, _⟩ => ⟨S1x2048x1x16, .f32⟩
  | .hbm, ⟨78, _⟩ => ⟨S1x2048x1x16, .f32⟩
  | .hbm, ⟨79, _⟩ => ⟨S32x2048x4x16, .f32⟩
  | .hbm, ⟨80, _⟩ => ⟨S32x2048x4x16, .f32⟩
  | .hbm, ⟨81, _⟩ => ⟨S32x2048x4x16, .f32⟩
  | .hbm, ⟨82, _⟩ => ⟨S32x2048x4x16, .f32⟩
  | .hbm, ⟨83, _⟩ => ⟨S32x2048x4x16, .f32⟩
  | .hbm, ⟨84, _⟩ => ⟨S32x2048x4x16, .f32⟩
  | .hbm, ⟨85, _⟩ => ⟨S32x2048x4x16, .f32⟩
  | .hbm, ⟨86, _⟩ => ⟨S32x2048x4x16, .f32⟩
  | .hbm, ⟨87, _⟩ => ⟨S32x2048x4x16, .f32⟩
  | .hbm, ⟨88, _⟩ => ⟨S32x2048x4x16, .f32⟩
  | .hbm, ⟨89, _⟩ => ⟨S32x2048x4x64, .f32⟩
  | .hbm, ⟨90, _⟩ => ⟨S32x2048x256, .f32⟩
  | .hbm, ⟨91, _⟩ => ⟨S32x2048x4x4x64, .f32⟩
  | .hbm, ⟨92, _⟩ => ⟨S32x2048x4x4x64, .f32⟩
  | .hbm, ⟨93, _⟩ => ⟨S32x2048x1024, .f32⟩
  | .hbm, ⟨94, _⟩ => ⟨S32x2048x1280, .f32⟩
  | .hbm, ⟨95, _⟩ => ⟨S32x2048x4x4x64, .f32⟩
  | .hbm, ⟨96, _⟩ => ⟨S32x2048x4x4x64, .f32⟩
  | .hbm, ⟨97, _⟩ => ⟨S32x2048x1024, .f32⟩
  | .hbm, ⟨98, _⟩ => ⟨S32x2048x1280, .f32⟩
  | .hbm, ⟨99, _⟩ => ⟨S32x1280x2048, .f32⟩
  | .hbm, ⟨100, _⟩ => ⟨S32x2048x1280, .bf16⟩
  | .hbm, ⟨101, _⟩ => ⟨S32x1280x2048, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_0 : Ref sig .tc := ⟨.hbm, 52, rfl⟩
abbrev main_v43 : Ref sig .tc := ⟨.hbm, 53, rfl⟩
abbrev main_v44 : Ref sig .tc := ⟨.hbm, 54, rfl⟩
abbrev main_cst_1 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩

abbrev nD : Nat := 1
abbrev τ : Topo := Topo.v7x

variable {F : FTy → Type} [FloatOps F]
-- ==== Kernel4.lean ====
abbrev S32x256x1024 : Shape := ⟨3, ![32, 256, 1024]⟩
abbrev S1024 : Shape := ⟨1, ![1024]⟩
abbrev S1024x4096 : Shape := ⟨2, ![1024, 4096]⟩
abbrev S1024x1024 : Shape := ⟨2, ![1024, 1024]⟩
abbrev S_ : Shape := ⟨0, ![]⟩
abbrev S1024x3072 : Shape := ⟨2, ![1024, 3072]⟩
abbrev S1x1024 : Shape := ⟨2, ![1, 1024]⟩
abbrev S2x1024 : Shape := ⟨2, ![2, 1024]⟩
abbrev S1x2x1x1x1024 : Shape := ⟨5, ![1, 2, 1, 1, 1024]⟩
abbrev S4x3x40x1x1024 : Shape := ⟨5, ![4, 3, 40, 1, 1024]⟩
abbrev S32x256x4096 : Shape := ⟨3, ![32, 256, 4096]⟩
abbrev S1x256x1024 : Shape := ⟨3, ![1, 256, 1024]⟩
abbrev S1x1x1x1x1024 : Shape := ⟨5, ![1, 1, 1, 1, 1024]⟩
abbrev S1x256x4096 : Shape := ⟨3, ![1, 256, 4096]⟩
abbrev S256x1024 : Shape := ⟨2, ![256, 1024]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 20
  | .vmem => 7
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x3072, .f32⟩
  | .hbm, ⟨9, _⟩ => ⟨S1024x4096, .f32⟩
  | .hbm, ⟨10, _⟩ => ⟨S1024x4096, .bf16⟩
  | .hbm, ⟨11, _⟩ => ⟨S1024x4096, .bf16⟩
  | .hbm, ⟨12, _⟩ => ⟨S1x1024, .f32⟩
  | .hbm, ⟨13, _⟩ => ⟨S1x1024, .f32⟩
  | .hbm, ⟨14, _⟩ => ⟨S2x1024, .f32⟩
  | .hbm, ⟨15, _⟩ => ⟨S1x2x1x1x1024, .f32⟩
  | .hbm, ⟨16, _⟩ => ⟨S_, .i32⟩
  | .hbm, ⟨17, _⟩ => ⟨S_, .f32⟩
  | .hbm, ⟨18, _⟩ => ⟨S4x3x40x1x1024, .f32⟩
  | .hbm, ⟨19, _⟩ => ⟨S32x256x4096, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1024x4096, .bf16⟩
  | .local _ .vmem, ⟨5, _⟩ => ⟨S1x256x4096, .bf16⟩
  | .local _ .vmem, ⟨6, _⟩ => ⟨S1x256x4096, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c32_i32 : BitVec 32 := 32#32
  let c0_i32_0 : BitVec 32 := 0#32
  let c0_i32_1 : BitVec 32 := 0#32
  let c0_i32_2 : BitVec 32 := 0#32
  ![c1_i32.toNat, c0_i32.toNat, c32_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c32_i32 : BitVec 32 := 32#32
  let c0_i32 : BitVec 32 := 0#32
  let c0_i32_1 : BitVec 32 := 0#32
  let c0_i32_2 : BitVec 32 := 0#32
  ![c1_i32.toNat, c1_i32_0.toNat, c32_i32.toNat, c0_i32.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel4Ideal.lean ====
variable {F : FTy → Type} [FloatOps F] [Named F]
def κ : String → Option EReal := fun
  | "log2e" => some (((Real.log 2)⁻¹ : ℝ) : EReal)
  | _ => none
-- ==== Reference4Ideal.lean ====
abbrev S32x256x1024 : Shape := ⟨3, ![32, 256, 1024]⟩
abbrev S1024 : Shape := ⟨1, ![1024]⟩
abbrev S1024x4096 : Shape := ⟨2, ![1024, 4096]⟩
abbrev S_ : Shape := ⟨0, ![]⟩
abbrev S1x1x1024 : Shape := ⟨3, ![1, 1, 1024]⟩
abbrev S32x256x4096 : Shape := ⟨3, ![32, 256, 4096]⟩

abbrev nBuf : Space → Nat
  | .hbm => 28
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1x1x1024, .f32⟩
  | .hbm, ⟨8, _⟩ => ⟨S32x256x1024, .f32⟩
  | .hbm, ⟨9, _⟩ => ⟨S32x256x1024, .f32⟩
  | .hbm, ⟨10, _⟩ => ⟨S1x1x1024, .f32⟩
  | .hbm, ⟨11, _⟩ => ⟨S32x256x1024, .f32⟩
  | .hbm, ⟨12, _⟩ => ⟨S32x256x1024, .f32⟩
  | .hbm, ⟨13, _⟩ => ⟨S32x256x4096, .f32⟩
  | .hbm, ⟨14, _⟩ => ⟨S32x256x1024, .f32⟩
  | .hbm, ⟨15, _⟩ => ⟨S32x256x1024, .f32⟩
  | .hbm, ⟨16, _⟩ => ⟨S32x256x1024, .f32⟩
  | .hbm, ⟨17, _⟩ => ⟨S32x256x1024, .f32⟩
  | .hbm, ⟨18, _⟩ => ⟨S_, .f32⟩
  | .hbm, ⟨19, _⟩ => ⟨S32x256x1024, .f32⟩
  | .hbm, ⟨20, _⟩ => ⟨S32x256x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S32x256x1024, .f32⟩
  | .hbm, ⟨25, _⟩ => ⟨S32x256x1024, .f32⟩
  | .hbm, ⟨26, _⟩ => ⟨S32x256x4096, .f32⟩
  | .hbm, ⟨27, _⟩ => ⟨S32x256x4096, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel5.lean ====
abbrev S32x256x1024 : Shape := ⟨3, ![32, 256, 1024]⟩
abbrev S1024 : Shape := ⟨1, ![1024]⟩
abbrev S1024x4096 : Shape := ⟨2, ![1024, 4096]⟩
abbrev S1024x1024 : Shape := ⟨2, ![1024, 1024]⟩
abbrev S_ : Shape := ⟨0, ![]⟩
abbrev S1024x3072 : Shape := ⟨2, ![1024, 3072]⟩
abbrev S1x1024 : Shape := ⟨2, ![1, 1024]⟩
abbrev S2x1024 : Shape := ⟨2, ![2, 1024]⟩
abbrev S1x2x1x1x1024 : Shape := ⟨5, ![1, 2, 1, 1, 1024]⟩
abbrev S4x3x40x1x1024 : Shape := ⟨5, ![4, 3, 40, 1, 1024]⟩
abbrev S1024x2048 : Shape := ⟨2, ![1024, 2048]⟩
abbrev S32x256x2048 : Shape := ⟨3, ![32, 256, 2048]⟩
abbrev S1x256x1024 : Shape := ⟨3, ![1, 256, 1024]⟩
abbrev S1x1x1x1x1024 : Shape := ⟨5, ![1, 1, 1, 1, 1024]⟩
abbrev S1x256x2048 : Shape := ⟨3, ![1, 256, 2048]⟩
abbrev S256x1024 : Shape := ⟨2, ![256, 1024]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 21
  | .vmem => 7
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x3072, .f32⟩
  | .hbm, ⟨9, _⟩ => ⟨S1024x4096, .f32⟩
  | .hbm, ⟨10, _⟩ => ⟨S1024x4096, .bf16⟩
  | .hbm, ⟨11, _⟩ => ⟨S1024x4096, .bf16⟩
  | .hbm, ⟨12, _⟩ => ⟨S1x1024, .f32⟩
  | .hbm, ⟨13, _⟩ => ⟨S1x1024, .f32⟩
  | .hbm, ⟨14, _⟩ => ⟨S2x1024, .f32⟩
  | .hbm, ⟨15, _⟩ => ⟨S1x2x1x1x1024, .f32⟩
  | .hbm, ⟨16, _⟩ => ⟨S_, .i32⟩
  | .hbm, ⟨17, _⟩ => ⟨S_, .f32⟩
  | .hbm, ⟨18, _⟩ => ⟨S4x3x40x1x1024, .f32⟩
  | .hbm, ⟨19, _⟩ => ⟨S1024x2048, .bf16⟩
  | .hbm, ⟨20, _⟩ => ⟨S32x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1024x2048, .bf16⟩
  | .local _ .vmem, ⟨5, _⟩ => ⟨S1x256x2048, .bf16⟩
  | .local _ .vmem, ⟨6, _⟩ => ⟨S1x256x2048, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c3_i32 : BitVec 32 := 3#32
  let c0_i32 : BitVec 32 := 0#32
  let c32_i32 : BitVec 32 := 32#32
  let c0_i32_0 : BitVec 32 := 0#32
  let c0_i32_1 : BitVec 32 := 0#32
  let c0_i32_2 : BitVec 32 := 0#32
  ![c3_i32.toNat, c0_i32.toNat, c32_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c3_i32 : BitVec 32 := 3#32
  let c1_i32 : BitVec 32 := 1#32
  let c32_i32 : BitVec 32 := 32#32
  let c0_i32 : BitVec 32 := 0#32
  let c0_i32_0 : BitVec 32 := 0#32
  let c0_i32_1 : BitVec 32 := 0#32
  ![c3_i32.toNat, c1_i32.toNat, c32_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S32x256x1024 : Shape := ⟨3, ![32, 256, 1024]⟩
abbrev S1024 : Shape := ⟨1, ![1024]⟩
abbrev S1024x4096 : Shape := ⟨2, ![1024, 4096]⟩
abbrev S_ : Shape := ⟨0, ![]⟩
abbrev S1x1x1024 : Shape := ⟨3, ![1, 1, 1024]⟩
abbrev S32x256x4096 : Shape := ⟨3, ![32, 256, 4096]⟩
abbrev S32x256x2048 : Shape := ⟨3, ![32, 256, 2048]⟩

abbrev nBuf : Space → Nat
  | .hbm => 20
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1x1x1024, .f32⟩
  | .hbm, ⟨8, _⟩ => ⟨S32x256x1024, .f32⟩
  | .hbm, ⟨9, _⟩ => ⟨S32x256x1024, .f32⟩
  | .hbm, ⟨10, _⟩ => ⟨S1x1x1024, .f32⟩
  | .hbm, ⟨11, _⟩ => ⟨S32x256x1024, .f32⟩
  | .hbm, ⟨12, _⟩ => ⟨S32x256x1024, .f32⟩
  | .hbm, ⟨13, _⟩ => ⟨S32x256x4096, .f32⟩
  | .hbm, ⟨14, _⟩ => ⟨S32x256x1024, .f32⟩
  | .hbm, ⟨15, _⟩ => ⟨S32x256x1024, .f32⟩
  | .hbm, ⟨16, _⟩ => ⟨S32x256x1024, .f32⟩
  | .hbm, ⟨17, _⟩ => ⟨S32x256x1024, .f32⟩
  | .hbm, ⟨18, _⟩ => ⟨S32x256x2048, .f32⟩
  | .hbm, ⟨19, _⟩ => ⟨S32x256x2048, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel6.lean ====
abbrev S32x256x1024 : Shape := ⟨3, ![32, 256, 1024]⟩
abbrev S1024 : Shape := ⟨1, ![1024]⟩
abbrev S1024x2560 : Shape := ⟨2, ![1024, 2560]⟩
abbrev S1024x1024 : Shape := ⟨2, ![1024, 1024]⟩
abbrev S1024x4x4x64 : Shape := ⟨4, ![1024, 4, 4, 64]⟩
abbrev S_ : Shape := ⟨0, ![]⟩
abbrev S1024x256 : Shape := ⟨2, ![1024, 256]⟩
abbrev S1024x1280 : Shape := ⟨2, ![1024, 1280]⟩
abbrev S1280x1024 : Shape := ⟨2, ![1280, 1024]⟩
abbrev S4x4x64x1024 : Shape := ⟨4, ![4, 4, 64, 1024]⟩
abbrev S1x1024 : Shape := ⟨2, ![1, 1024]⟩
abbrev S2x1024 : Shape := ⟨2, ![2, 1024]⟩
abbrev S1x2x1x1x1024 : Shape := ⟨5, ![1, 2, 1, 1, 1024]⟩
abbrev S4x3x40x1x1024 : Shape := ⟨5, ![4, 3, 40, 1, 1024]⟩
abbrev S32x256x1280 : Shape := ⟨3, ![32, 256, 1280]⟩
abbrev S32x1280x256 : Shape := ⟨3, ![32, 1280, 256]⟩
abbrev S1x256x1024 : Shape := ⟨3, ![1, 256, 1024]⟩
abbrev S1x1x1x1x1024 : Shape := ⟨5, ![1, 1, 1, 1, 1024]⟩
abbrev S1x256x1280 : Shape := ⟨3, ![1, 256, 1280]⟩
abbrev S1x1280x256 : Shape := ⟨3, ![1, 1280, 256]⟩
abbrev S256x1024 : Shape := ⟨2, ![256, 1024]⟩
abbrev S256x256 : Shape := ⟨2, ![256, 256]⟩
abbrev S1x256x256 : Shape := ⟨3, ![1, 256, 256]⟩

abbrev nBuf : Space → Nat
  | .hbm => 36
  | .vmem => 10
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024x2560, .f32⟩
  | .hbm, ⟨4, _⟩ => ⟨S1024x1024, .f32⟩
  | .hbm, ⟨5, _⟩ => ⟨S1024x1024, .f32⟩
  | .hbm, ⟨6, _⟩ => ⟨S1024x4x4x64, .f32⟩
  | .hbm, ⟨7, _⟩ => ⟨S1024x4x4x64, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x256, .f32⟩
  | .hbm, ⟨13, _⟩ => ⟨S1024x256, .f32⟩
  | .hbm, ⟨14, _⟩ => ⟨S1024x1024, .f32⟩
  | .hbm, ⟨15, _⟩ => ⟨S1024x4x4x64, .f32⟩
  | .hbm, ⟨16, _⟩ => ⟨S1024x4x4x64, .f32⟩
  | .hbm, ⟨17, _⟩ => ⟨S1024x1024, .f32⟩
  | .hbm, ⟨18, _⟩ => ⟨S1024x1280, .f32⟩
  | .hbm, ⟨19, _⟩ => ⟨S1024x1280, .bf16⟩
  | .hbm, ⟨20, _⟩ => ⟨S1024x1280, .f32⟩
  | .hbm, ⟨21, _⟩ => ⟨S1280x1024, .f32⟩
  | .hbm, ⟨22, _⟩ => ⟨S1280x1024, .bf16⟩
  | .hbm, ⟨23, _⟩ => ⟨S4x4x64x1024, .f32⟩
  | .hbm, ⟨24, _⟩ => ⟨S4x4x64x1024, .f32⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S1x1024, .f32⟩
  | .hbm, ⟨29, _⟩ => ⟨S2x1024, .f32⟩
  | .hbm, ⟨30, _⟩ => ⟨S1x2x1x1x1024, .f32⟩
  | .hbm, ⟨31, _⟩ => ⟨S_, .i32⟩
  | .hbm, ⟨32, _⟩ => ⟨S_, .f32⟩
  | .hbm, ⟨33, _⟩ => ⟨S4x3x40x1x1024, .f32⟩
  | .hbm, ⟨34, _⟩ => ⟨S32x256x1280, .bf16⟩
  | .hbm, ⟨35, _⟩ => ⟨S32x1280x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1024x1280, .bf16⟩
  | .local _ .vmem, ⟨5, _⟩ => ⟨S1280x1024, .bf16⟩
  | .local _ .vmem, ⟨6, _⟩ => ⟨S1x256x1280, .bf16⟩
  | .local _ .vmem, ⟨7, _⟩ => ⟨S1x256x1280, .bf16⟩
  | .local _ .vmem, ⟨8, _⟩ => ⟨S1x1280x256, .bf16⟩
  | .local _ .vmem, ⟨9, _⟩ => ⟨S1x1280x256, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c : Ref sig .tc := ⟨.hbm, 31, rfl⟩
abbrev main_call0_v0 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c32_i32 : BitVec 32 := 32#32
  let c0_i32_1 : BitVec 32 := 0#32
  let c0_i32_2 : BitVec 32 := 0#32
  let c0_i32_3 : BitVec 32 := 0#32
  ![c0_i32.toNat, c0_i32_0.toNat, c32_i32.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c32_i32 : BitVec 32 := 32#32
  let c0_i32_0 : BitVec 32 := 0#32
  let c0_i32_1 : BitVec 32 := 0#32
  let c0_i32_2 : BitVec 32 := 0#32
  ![c0_i32.toNat, c1_i32.toNat, c32_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1280x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel6Ideal.lean ====
variable {F : FTy → Type} [FloatOps F] [Named F]
def κ : String → Option EReal := fun
  | "log2e" => some (((Real.log 2)⁻¹ : ℝ) : EReal)
  | _ => none
-- ==== Reference6Ideal.lean ====
abbrev S32x256x1024 : Shape := ⟨3, ![32, 256, 1024]⟩
abbrev S1024 : Shape := ⟨1, ![1024]⟩
abbrev S1024x2560 : Shape := ⟨2, ![1024, 2560]⟩
abbrev S_ : Shape := ⟨0, ![]⟩
abbrev S1x1x1024 : Shape := ⟨3, ![1, 1, 1024]⟩
abbrev S32x256x2560 : Shape := ⟨3, ![32, 256, 2560]⟩
abbrev S32x256x256 : Shape := ⟨3, ![32, 256, 256]⟩
abbrev S32x256x4x4x64 : Shape := ⟨5, ![32, 256, 4, 4, 64]⟩
abbrev S32x256x1280 : Shape := ⟨3, ![32, 256, 1280]⟩
abbrev S32x1280x256 : Shape := ⟨3, ![32, 1280, 256]⟩

abbrev nBuf : Space → Nat
  | .hbm => 37
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024x2560, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1x1x1024, .f32⟩
  | .hbm, ⟨8, _⟩ => ⟨S32x256x1024, .f32⟩
  | .hbm, ⟨9, _⟩ => ⟨S32x256x1024, .f32⟩
  | .hbm, ⟨10, _⟩ => ⟨S1x1x1024, .f32⟩
  | .hbm, ⟨11, _⟩ => ⟨S32x256x1024, .f32⟩
  | .hbm, ⟨12, _⟩ => ⟨S32x256x1024, .f32⟩
  | .hbm, ⟨13, _⟩ => ⟨S32x256x2560, .f32⟩
  | .hbm, ⟨14, _⟩ => ⟨S32x256x1024, .f32⟩
  | .hbm, ⟨15, _⟩ => ⟨S32x256x256, .f32⟩
  | .hbm, ⟨16, _⟩ => ⟨S32x256x256, .f32⟩
  | .hbm, ⟨17, _⟩ => ⟨S32x256x1024, .f32⟩
  | .hbm, ⟨18, _⟩ => ⟨S_, .f32⟩
  | .hbm, ⟨19, _⟩ => ⟨S32x256x1024, .f32⟩
  | .hbm, ⟨20, _⟩ => ⟨S32x256x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S32x256x1024, .f32⟩
  | .hbm, ⟨25, _⟩ => ⟨S32x256x1024, .f32⟩
  | .hbm, ⟨26, _⟩ => ⟨S32x256x4x4x64, .f32⟩
  | .hbm, ⟨27, _⟩ => ⟨S32x256x4x4x64, .f32⟩
  | .hbm, ⟨28, _⟩ => ⟨S32x256x1024, .f32⟩
  | .hbm, ⟨29, _⟩ => ⟨S32x256x1280, .f32⟩
  | .hbm, ⟨30, _⟩ => ⟨S32x256x4x4x64, .f32⟩
  | .hbm, ⟨31, _⟩ => ⟨S32x256x4x4x64, .f32⟩
  | .hbm, ⟨32, _⟩ => ⟨S32x256x1024, .f32⟩
  | .hbm, ⟨33, _⟩ => ⟨S32x256x1280, .f32⟩
  | .hbm, ⟨34, _⟩ => ⟨S32x1280x256, .f32⟩
  | .hbm, ⟨35, _⟩ => ⟨S32x256x1280, .bf16⟩
  | .hbm, ⟨36, _⟩ => ⟨S32x1280x256, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel7.lean ====
abbrev S32x256x1024 : Shape := ⟨3, ![32, 256, 1024]⟩
abbrev S1024 : Shape := ⟨1, ![1024]⟩
abbrev S1024x1024 : Shape := ⟨2, ![1024, 1024]⟩
abbrev S4x1024 : Shape := ⟨2, ![4, 1024]⟩
abbrev S_ : Shape := ⟨0, ![]⟩
abbrev S32x256x4096 : Shape := ⟨3, ![32, 256, 4096]⟩
abbrev S1x1x1x1x1024 : Shape := ⟨5, ![1, 1, 1, 1, 1024]⟩
abbrev S4x3x40x1x1024 : Shape := ⟨5, ![4, 3, 40, 1, 1024]⟩
abbrev S4x1x1024 : Shape := ⟨3, ![4, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256x256 : Shape := ⟨2, ![256, 256]⟩
abbrev S1x256 : Shape := ⟨2, ![1, 256]⟩
abbrev S1024x256 : Shape := ⟨2, ![1024, 256]⟩
abbrev S1x256x256 : Shape := ⟨3, ![1, 256, 256]⟩
abbrev S256 : Shape := ⟨1, ![256]⟩
abbrev S256x1 : Shape := ⟨2, ![256, 1]⟩
abbrev S1x1024 : Shape := ⟨2, ![1, 1024]⟩

abbrev nBuf : Space → Nat
  | .hbm => 27
  | .vmem => 16
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S32x256x1024, .f32⟩
  | .hbm, ⟨3, _⟩ => ⟨S32x256x1024, .f32⟩
  | .hbm, ⟨4, _⟩ => ⟨S32x256x1024, .f32⟩
  | .hbm, ⟨5, _⟩ => ⟨S1024, .f32⟩
  | .hbm, ⟨6, _⟩ => ⟨S1024x1024, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S32x256x1024, .f32⟩
  | .hbm, ⟨11, _⟩ => ⟨S32x256x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32x256x1024, .f32⟩
  | .hbm, ⟨16, _⟩ => ⟨S32x256x1024, .f32⟩
  | .hbm, ⟨17, _⟩ => ⟨S32x256x4096, .f32⟩
  | .hbm, ⟨18, _⟩ => ⟨S32x256x4096, .bf16⟩
  | .hbm, ⟨19, _⟩ => ⟨S1x1x1x1x1024, .f32⟩
  | .hbm, ⟨20, _⟩ => ⟨S_, .i32⟩
  | .hbm, ⟨21, _⟩ => ⟨S_, .f32⟩
  | .hbm, ⟨22, _⟩ => ⟨S4x3x40x1x1024, .f32⟩
  | .hbm, ⟨23, _⟩ => ⟨S4x1x1024, .f32⟩
  | .hbm, ⟨24, _⟩ => ⟨S4x1x1024, .f32⟩
  | .hbm, ⟨25, _⟩ => ⟨S1024x1024, .bf16⟩
  | .hbm, ⟨26, _⟩ => ⟨S32x256x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x1x1x1x1024, .f32⟩
  | .local _ .vmem, ⟨11, _⟩ => ⟨S1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x256x1024, .f32⟩
  | .local _ .vmem, ⟨15, _⟩ => ⟨S1x256x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 5 → Nat :=
  let arg0 : BitVec 32 := BitVec.ofNat 32 (i 0).val
  let c1_i32 : BitVec 32 := 1#32
  let c2_i32 : BitVec 32 := 2#32
  let c32_i32 : BitVec 32 := 32#32
  let c0_i32 : BitVec 32 := 0#32
  let c0_i32_0 : BitVec 32 := 0#32
  let c0_i32_1 : BitVec 32 := 0#32
  ![c1_i32.toNat, c2_i32.toNat, c32_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S32x256x1024 : Shape := ⟨3, ![32, 256, 1024]⟩
abbrev S1024 : Shape := ⟨1, ![1024]⟩
abbrev S1024x1024 : Shape := ⟨2, ![1024, 1024]⟩
abbrev S4x1024 : Shape := ⟨2, ![4, 1024]⟩
abbrev S32x256x16x64 : Shape := ⟨4, ![32, 256, 16, 64]⟩
abbrev S32x16x256x256 : Shape := ⟨4, ![32, 16, 256, 256]⟩
abbrev S_ : Shape := ⟨0, ![]⟩
abbrev S32x16x256 : Shape := ⟨3, ![32, 16, 256]⟩
abbrev S32x16x256x1 : Shape := ⟨4, ![32, 16, 256, 1]⟩
abbrev S32x16x64x256 : Shape := ⟨4, ![32, 16, 64, 256]⟩
abbrev S1x1x1024 : Shape := ⟨3, ![1, 1, 1024]⟩
abbrev S1x1024 : Shape := ⟨2, ![1, 1024]⟩
abbrev S32x256 : Shape := ⟨2, ![32, 256]⟩
abbrev S32x256x1 : Shape := ⟨3, ![32, 256, 1]⟩

abbrev nBuf : Space → Nat
  | .hbm => 84
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .f32⟩
  | .hbm, ⟨2, _⟩ => ⟨S32x256x1024, .f32⟩
  | .hbm, ⟨3, _⟩ => ⟨S32x256x1024, .f32⟩
  | .hbm, ⟨4, _⟩ => ⟨S32x256x1024, .f32⟩
  | .hbm, ⟨5, _⟩ => ⟨S1024, .f32⟩
  | .hbm, ⟨6, _⟩ => ⟨S1024x1024, .f32⟩
  | .hbm, ⟨7, _⟩ => ⟨S4x1024, .f32⟩
  | .hbm, ⟨8, _⟩ => ⟨S4x1024, .f32⟩
  | .hbm, ⟨9, _⟩ => ⟨S32x256x16x64, .f32⟩
  | .hbm, ⟨10, _⟩ => ⟨S32x256x16x64, .f32⟩
  | .hbm, ⟨11, _⟩ => ⟨S32x256x16x64, .f32⟩
  | .hbm, ⟨12, _⟩ => ⟨S32x16x256x256, .f32⟩
  | .hbm, ⟨13, _⟩ => ⟨S_, .f32⟩
  | .hbm, ⟨14, _⟩ => ⟨S32x16x256x256, .f32⟩
  | .hbm, ⟨15, _⟩ => ⟨S32x16x256x256, .f32⟩
  | .hbm, ⟨16, _⟩ => ⟨S_, .f32⟩
  | .hbm, ⟨17, _⟩ => ⟨S32x16x256, .f32⟩
  | .hbm, ⟨18, _⟩ => ⟨S_, .f32⟩
  | .hbm, ⟨19, _⟩ => ⟨S32x16x256, .f32⟩
  | .hbm, ⟨20, _⟩ => ⟨S32x16x256, .f32⟩
  | .hbm, ⟨21, _⟩ => ⟨S32x16x256x1, .f32⟩
  | .hbm, ⟨22, _⟩ => ⟨S32x16x256x256, .f32⟩
  | .hbm, ⟨23, _⟩ => ⟨S32x16x256x256, .f32⟩
  | .hbm, ⟨24, _⟩ => ⟨S32x16x256x256, .f32⟩
  | .hbm, ⟨25, _⟩ => ⟨S_, .f32⟩
  | .hbm, ⟨26, _⟩ => ⟨S32x16x256, .f32⟩
  | .hbm, ⟨27, _⟩ => ⟨S32x16x256x1, .f32⟩
  | .hbm, ⟨28, _⟩ => ⟨S32x16x256x256, .f32⟩
  | .hbm, ⟨29, _⟩ => ⟨S32x16x256x256, .f32⟩
  | .hbm, ⟨30, _⟩ => ⟨S32x16x64x256, .f32⟩
  | .hbm, ⟨31, _⟩ => ⟨S32x256x16x64, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S_, .f32⟩
  | .hbm, ⟨36, _⟩ => ⟨S32x256x1024, .f32⟩
  | .hbm, ⟨37, _⟩ => ⟨S32x256x1024, .f32⟩
  | .hbm, ⟨38, _⟩ => ⟨S_, .f32⟩
  | .hbm, ⟨39, _⟩ => ⟨S32x256x1024, .f32⟩
  | .hbm, ⟨40, _⟩ => ⟨S32x256x1024, .f32⟩
  | .hbm, ⟨41, _⟩ => ⟨S32x256x1024, .f32⟩
  | .hbm, ⟨42, _⟩ => ⟨S32x256x1024, .f32⟩
  | .hbm, ⟨43, _⟩ => ⟨S32x256x1024, .f32⟩
  | .hbm, ⟨44, _⟩ => ⟨S_, .f32⟩
  | .hbm, ⟨45, _⟩ => ⟨S32x256x1024, .f32⟩
  | .hbm, ⟨46, _⟩ => ⟨S32x256x1024, .f32⟩
  | .hbm, ⟨47, _⟩ => ⟨S1x1x1024, .f32⟩
  | .hbm, ⟨48, _⟩ => ⟨S32x256x1024, .f32⟩
  | .hbm, ⟨49, _⟩ => ⟨S32x256x1024, .f32⟩
  | .hbm, ⟨50, _⟩ => ⟨S32x256x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S1024, .f32⟩
  | .hbm, ⟨55, _⟩ => ⟨S_, .f32⟩
  | .hbm, ⟨56, _⟩ => ⟨S32x256, .f32⟩
  | .hbm, ⟨57, _⟩ => ⟨S32x256x1, .f32⟩
  | .hbm, ⟨58, _⟩ => ⟨S_, .f32⟩
  | .hbm, ⟨59, _⟩ => ⟨S32x256x1, .f32⟩
  | .hbm, ⟨60, _⟩ => ⟨S32x256x1, .f32⟩
  | .hbm, ⟨61, _⟩ => ⟨S32x256x1024, .f32⟩
  | .hbm, ⟨62, _⟩ => ⟨S32x256x1024, .f32⟩
  | .hbm, ⟨63, _⟩ => ⟨S32x256x1024, .f32⟩
  | .hbm, ⟨64, _⟩ => ⟨S_, .f32⟩
  | .hbm, ⟨65, _⟩ => ⟨S32x256, .f32⟩
  | .hbm, ⟨66, _⟩ => ⟨S32x256x1, .f32⟩
  | .hbm, ⟨67, _⟩ => ⟨S_, .f32⟩
  | .hbm, ⟨68, _⟩ => ⟨S32x256x1, .f32⟩
  | .hbm, ⟨69, _⟩ => ⟨S32x256x1, .f32⟩
  | .hbm, ⟨70, _⟩ => ⟨S32x256x1024, .f32⟩
  | .hbm, ⟨71, _⟩ => ⟨S32x256x1024, .f32⟩
  | .hbm, ⟨72, _⟩ => ⟨S_, .f32⟩
  | .hbm, ⟨73, _⟩ => ⟨S32x256x1, .f32⟩
  | .hbm, ⟨74, _⟩ => ⟨S32x256x1, .f32⟩
  | .hbm, ⟨75, _⟩ => ⟨S32x256x1, .f32⟩
  | .hbm, ⟨76, _⟩ => ⟨S32x256x1024, .f32⟩
  | .hbm, ⟨77, _⟩ => ⟨S32x256x1024, .f32⟩
  | .hbm, ⟨78, _⟩ => ⟨S1x1x1024, .f32⟩
  | .hbm, ⟨79, _⟩ => ⟨S32x256x1024, .f32⟩
  | .hbm, ⟨80, _⟩ => ⟨S32x256x1024, .f32⟩
  | .hbm, ⟨81, _⟩ => ⟨S1x1x1024, .f32⟩
  | .hbm, ⟨82, _⟩ => ⟨S32x256x1024, .f32⟩
  | .hbm, ⟨83, _⟩ => ⟨S32x256x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Proof.Norm.lean ====
/- The last steps of the layer on one row: the gated unit and the normalization. -/
module

public import Idealize.ShloMosaic.Lib.Pointwise

@[expose] public section

noncomputable section

namespace Cert.Softmax
open Idealize.ShloMosaic

/-- The column of the reference that the kernel's column `n` holds: the kernel orders the columns of the heads by head first, the reference by
    group first. -/
def swap (n : Fin 1024) : Fin 1024 := ⟨n.val / 64 % 4 * 256 + n.val / 256 * 64 + n.val % 64, by omega⟩

theorem swap_parts {t j d : ℕ} (ht : t < 4) (hj : j < 4) (hd : d < 64) :
    (t * 256 + j * 64 + d) / 64 % 4 = j ∧ (t * 256 + j * 64 + d) / 256 = t ∧ (t * 256 + j * 64 + d) % 64 = d := by
  refine ⟨?_, ?_, ?_⟩ <;> omega

theorem swap_swap (n : Fin 1024) : swap (swap n) = n := by
  obtain ⟨h1, h2, h3⟩ := swap_parts (Nat.mod_lt (n.val / 64) (by norm_num : 0 < 4)) (show n.val / 256 < 4 by omega) (Nat.mod_lt n.val (by norm_num : 0 < 64))
  apply Fin.ext
  show (n.val / 64 % 4 * 256 + n.val / 256 * 64 + n.val % 64) / 64 % 4 * 256 + (n.val / 64 % 4 * 256 + n.val / 256 * 64 + n.val % 64) / 256 * 64
    + (n.val / 64 % 4 * 256 + n.val / 256 * 64 + n.val % 64) % 64 = n.val
  rw [h1, h2, h3]
  omega

/-- A sum over the columns in either order. -/
theorem sum_swap (f : Fin 1024 → EReal) : ∑ n, f (swap n) = ∑ n, f n :=
  Equiv.sum_comp (Function.Involutive.toPerm swap swap_swap) f

/-- The gate `x / (1 + exp (-x))`. -/
def silu (x : EReal) : EReal := Ideal.div x (1 + Ideal.exp (-x))

theorem exp_nonneg (x : EReal) : 0 ≤ Ideal.exp x := by
  induction x with
  | bot => exact le_rfl
  | top => exact le_top
  | coe r => exact EReal.coe_nonneg.2 (Real.exp_pos r).le

/-- The gate written with the logistic function. -/
theorem silu_eq (x : EReal) : x * Ideal.div 1 (1 + Ideal.exp (-x)) = silu x := by
  have h : 1 + Ideal.exp (-x) ≠ 0 := ne_of_gt (lt_of_lt_of_le zero_lt_one (le_add_of_nonneg_right (exp_nonneg _)))
  unfold silu Ideal.div
  rw [if_neg h, if_neg h, one_mul]

/-- The mean of a row. -/
def mean (z : Fin 1024 → EReal) : EReal := Ideal.div (∑ i, z i) (Ideal.ofBits .f32 0x44800000#32)

/-- A row after the layer normalization. -/
def normed (z g b : Fin 1024 → EReal) (n : Fin 1024) : EReal :=
  (z n - mean z) * Ideal.rsqrt (mean (fun i => (z i - mean z) * (z i - mean z)) + Ideal.ofBits .f32 0x3727C5AC#32) * g n + b n

end Cert.Softmax
end
-- ==== Proof.Softmax.lean ====
/- The mathematics of one query: softmax in base two over the 640 keys a tile reads, and softmax in base e over the whole
   sequence with a mask, are the same weighted mean. Nothing here speaks of the programs. -/
module

public import Idealize.ShloMosaic.PureOps.Ideal
public import Mathlib.Analysis.SpecialFunctions.Pow.Real

@[expose] public section

noncomputable section

namespace Cert.Softmax
open Idealize.ShloMosaic

/-- The factor between natural and binary exponents. -/
def lg : ℝ := (Real.log 2)⁻¹

theorem lg_pos : 0 < lg := inv_pos.2 (Real.log_pos one_lt_two)

theorem exp2_lg (t : ℝ) : Ideal.exp2 ((lg * t : ℝ) : EReal) = (Real.exp t : EReal) := by
  show ((Real.rpow 2 (lg * t) : ℝ) : EReal) = _
  congr 1
  rw [show Real.rpow 2 (lg * t) = (2 : ℝ) ^ (lg * t) from rfl, Real.rpow_def_of_pos two_pos, ← mul_assoc, lg,
    mul_inv_cancel₀ (Real.log_pos one_lt_two).ne', one_mul]

theorem sum_mul_coe {ι : Type} [Fintype ι] (f : ι → EReal) (c : ℝ) (hc : 0 ≤ c) : (∑ i, f i) * (c : EReal) = ∑ i, f i * (c : EReal) := by
  classical
  induction (Finset.univ : Finset ι) using Finset.induction_on with
  | empty => simp
  | insert a s ha ih =>
    rw [Finset.sum_insert ha, Finset.sum_insert ha, EReal.right_distrib_of_nonneg_of_ne_top (by exact_mod_cast hc) (EReal.coe_ne_top c), ih]

theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- Key row `r` of query `x` of tile `b` is inside the window and inside the sequence. -/
def Inside (b : Fin 16) (x : Fin 128) (r : ℕ) : Prop :=
  x.val ≤ r ∧ r ≤ x.val + 256 ∧ 128 ≤ 128 * b.val + r ∧ 128 * b.val + r < 2176

instance (b : Fin 16) (x : Fin 128) (r : ℕ) : Decidable (Inside b x r) := by unfold Inside; infer_instance

/-- Key `n` is within the window of query `i`. -/
def Near (i n : ℕ) : Prop := i ≤ n + 128 ∧ n ≤ i + 128

instance (i n : ℕ) : Decidable (Near i n) := by unfold Near; infer_instance

/-- The key of the sequence that a row inside the window holds. -/
def keyAt (b : Fin 16) (x : Fin 128) (r : ℕ) (h : Inside b x r) : Fin 2048 := ⟨128 * b.val + r - 128, by have := h.2.2; omega⟩

/-- A sum over a tile's rows is a sum over the sequence. -/
theorem window_sum (b : Fin 16) (x : Fin 128) (f : Fin 2048 → EReal) (g : Fin 384 → EReal)
    (hg : ∀ r (h : Inside b x r.val), g r = f (keyAt b x r.val h)) (hg0 : ∀ r : Fin 384, ¬ Inside b x r.val → g r = 0)
    (hf0 : ∀ n : Fin 2048, ¬ Near (128 * b.val + x.val) n.val → f n = 0) : ∑ r, g r = ∑ n, f n := by
  classical
  rw [← Finset.sum_filter_of_ne (p := fun r : Fin 384 => Inside b x r.val) (fun r _ hr => by by_contra h; exact hr (hg0 r h)),
    ← Finset.sum_filter_of_ne (p := fun n : Fin 2048 => Near (128 * b.val + x.val) n.val) (fun n _ hn => by by_contra h; exact hn (hf0 n h))]
  refine Finset.sum_bij' (fun r hr => keyAt b x r.val (Finset.mem_filter.1 hr).2)
    (fun n hn => ⟨n.val + 128 - 128 * b.val, by
      have := (Finset.mem_filter.1 hn).2; unfold Near at this; have := x.isLt; omega⟩) ?_ ?_ ?_ ?_ ?_
  · intro r hr
    have h := (Finset.mem_filter.1 hr).2
    refine Finset.mem_filter.2 ⟨Finset.mem_univ _, ?_⟩
    unfold Inside at h
    show Near _ (128 * b.val + r.val - 128)
    unfold Near
    omega
  · intro n hn
    have h := (Finset.mem_filter.1 hn).2
    refine Finset.mem_filter.2 ⟨Finset.mem_univ _, ?_⟩
    unfold Near at h
    show Inside b x (n.val + 128 - 128 * b.val)
    unfold Inside
    have := n.isLt; have := x.isLt
    omega
  · intro r hr
    have h := (Finset.mem_filter.1 hr).2
    unfold Inside at h
    apply Fin.ext
    show 128 * b.val + r.val - 128 + 128 - 128 * b.val = r.val
    omega
  · intro n hn
    have h := (Finset.mem_filter.1 hn).2
    unfold Near at h
    apply Fin.ext
    show 128 * b.val + (n.val + 128 - 128 * b.val) - 128 = n.val
    have := x.isLt
    omega
  · intro r hr
    exact hg r _

theorem sum_2305 (f : Fin 2305 → EReal) :
    ∑ j, f j = (∑ n : Fin 2048, f ⟨n.val, by omega⟩) + ((∑ c : Fin 256, f ⟨2048 + c.val, by omega⟩) + f ⟨2304, by omega⟩) := by
  refine (@Fin.sum_univ_add EReal _ 2048 257 f).trans ?_
  congr 1
  refine (@Fin.sum_univ_add EReal _ 256 1 _).trans ?_
  congr 1
  simp only [Finset.univ_unique, Finset.sum_singleton]
  rfl

theorem sum_640 (f : Fin 640 → EReal) :
    ∑ j, f j = (∑ r : Fin 384, f ⟨r.val, by omega⟩) + ∑ c : Fin 256, f ⟨384 + c.val, by omega⟩ :=
  @Fin.sum_univ_add EReal _ 384 256 f

/-- One query's scores, as both sides know them: `t` to the sequence, `u` to the context, `z` the sink; `K`, `zK` are a tile's, `S` the
    whole sequence's. -/
structure Scores (b : Fin 16) (x : Fin 128) (t : Fin 2048 → ℝ) (u : Fin 256 → ℝ) (z : ℝ) (K : Fin 640 → EReal) (zK : EReal) (S : Fin 2305 → EReal) : Prop where
  inside : ∀ (r : Fin 384) (h : Inside b x r.val), K ⟨r.val, by omega⟩ = ((lg * t (keyAt b x r.val h) : ℝ) : EReal)
  outside : ∀ r : Fin 384, ¬ Inside b x r.val → K ⟨r.val, by omega⟩ = ⊥
  context : ∀ c : Fin 256, K ⟨384 + c.val, by omega⟩ = ((lg * u c : ℝ) : EReal)
  sink : zK = ((lg * z : ℝ) : EReal)
  near : ∀ n : Fin 2048, Near (128 * b.val + x.val) n.val → S ⟨n.val, by omega⟩ = (t n : EReal)
  far : ∀ n : Fin 2048, ¬ Near (128 * b.val + x.val) n.val → S ⟨n.val, by omega⟩ = ⊥
  context' : ∀ c : Fin 256, S ⟨2048 + c.val, by omega⟩ = (u c : EReal)
  sink' : S ⟨2304, by omega⟩ = (z : EReal)

namespace Scores
variable {b : Fin 16} {x : Fin 128} {t : Fin 2048 → ℝ} {u : Fin 256 → ℝ} {z : ℝ} {K : Fin 640 → EReal} {zK : EReal} {S : Fin 2305 → EReal}
variable (h : Scores b x t u z K zK S)
include h

theorem near_keyAt (r : Fin 384) (hr : Inside b x r.val) : Near (128 * b.val + x.val) (keyAt b x r.val hr).val := by
  have hr' := hr
  unfold Inside at hr'
  show Near _ (128 * b.val + r.val - 128)
  unfold Near
  omega

/-- A bound of the tile's scores is the factor times a bound of the sequence's. -/
theorem bound (y : ℝ) : (zK ≤ ((lg * y : ℝ) : EReal) ∧ ∀ r, K r ≤ ((lg * y : ℝ) : EReal)) ↔ ∀ j, S j ≤ (y : EReal) := by
  have hl (a : ℝ) : ((lg * a : ℝ) : EReal) ≤ ((lg * y : ℝ) : EReal) ↔ (a : EReal) ≤ (y : EReal) := by
    rw [EReal.coe_le_coe_iff, EReal.coe_le_coe_iff, mul_le_mul_iff_right₀ lg_pos]
  constructor
  · rintro ⟨hz, hK⟩ j
    have hj := j.isLt
    rcases lt_or_ge j.val 2048 with h1 | h1
    · by_cases hn : Near (128 * b.val + x.val) j.val
      · have e := h.near ⟨j.val, h1⟩ hn
        have hin : Inside b x (j.val + 128 - 128 * b.val) := by
          unfold Near at hn; unfold Inside; have := x.isLt; omega
        have h2 : j.val + 128 - 128 * b.val < 384 := by
          unfold Near at hn; have := x.isLt; omega
        have e2 := h.inside ⟨j.val + 128 - 128 * b.val, h2⟩ hin
        have e3 := hK ⟨j.val + 128 - 128 * b.val, by omega⟩
        rw [e2, hl] at e3
        have e4 : keyAt b x (j.val + 128 - 128 * b.val) hin = ⟨j.val, h1⟩ := by
          apply Fin.ext
          show 128 * b.val + (j.val + 128 - 128 * b.val) - 128 = j.val
          unfold Near at hn
          omega
        rw [e4] at e3
        rw [show j = ⟨j.val, hj⟩ from rfl, e]
        exact e3
      · have e := h.far ⟨j.val, h1⟩ hn
        rw [show j = ⟨j.val, hj⟩ from rfl, e]
        exact bot_le
    · rcases lt_or_ge j.val 2304 with h2 | h2
      · have e := h.context' ⟨j.val - 2048, by omega⟩
        have e3 := hK ⟨384 + (⟨j.val - 2048, by omega⟩ : Fin 256).val, by simp only; omega⟩
        rw [h.context, hl] at e3
        rw [show j = ⟨2048 + (⟨j.val - 2048, by omega⟩ : Fin 256).val, by simp only; omega⟩ from Fin.ext (by simp only; omega), e]
        exact e3
      · rw [show j = ⟨2304, by omega⟩ from Fin.ext (by simp only; omega), h.sink']
        rw [h.sink, hl] at hz
        exact hz
  · intro hS
    refine ⟨?_, fun r => ?_⟩
    · rw [h.sink, hl, ← h.sink']
      exact hS _
    · have hr := r.isLt
      rcases lt_or_ge r.val 384 with h1 | h1
      · by_cases hn : Inside b x r.val
        · have e := h.inside ⟨r.val, h1⟩ hn
          rw [show r = ⟨r.val, hr⟩ from rfl, e, hl, ← h.near _ (h.near_keyAt ⟨r.val, h1⟩ hn)]
          exact hS _
        · have e := h.outside ⟨r.val, h1⟩ hn
          rw [show r = ⟨r.val, hr⟩ from rfl, e]
          exact bot_le
      · have e := h.context ⟨r.val - 384, by omega⟩
        rw [show r = ⟨384 + (⟨r.val - 384, by omega⟩ : Fin 256).val, by simp only; omega⟩ from Fin.ext (by simp only; omega), e, hl, ← h.context']
        exact hS _

/-- The largest score is a number, and the tile's is the factor times it. -/
theorem top : ∃ y : ℝ, Finset.univ.fold max ⊥ S = (y : EReal) ∧ Finset.univ.fold max zK K = ((lg * y : ℝ) : EReal) := by
  have hlt : Finset.univ.fold max ⊥ S < ⊤ := by
    rw [Finset.fold_max_lt]
    refine ⟨bot_lt_top, fun j _ => ?_⟩
    have hj := j.isLt
    rcases lt_or_ge j.val 2048 with h1 | h1
    · by_cases hn : Near (128 * b.val + x.val) j.val
      · exact (h.near ⟨j.val, h1⟩ hn) ▸ EReal.coe_lt_top _
      · exact (h.far ⟨j.val, h1⟩ hn) ▸ bot_lt_top
    · rcases lt_or_ge j.val 2304 with h2 | h2
      · rw [show j = ⟨2048 + (⟨j.val - 2048, by omega⟩ : Fin 256).val, by simp only; omega⟩ from Fin.ext (by simp only; omega), h.context']
        exact EReal.coe_lt_top _
      · rw [show j = ⟨2304, by omega⟩ from Fin.ext (by simp only; omega), h.sink']
        exact EReal.coe_lt_top _
  have hgt : (z : EReal) ≤ Finset.univ.fold max ⊥ S := by
    rw [Finset.le_fold_max]
    exact .inr ⟨⟨2304, by omega⟩, Finset.mem_univ _, h.sink'.ge⟩
  obtain ⟨y, hy⟩ : ∃ y : ℝ, Finset.univ.fold max ⊥ S = (y : EReal) :=
    ⟨_, (EReal.coe_toReal hlt.ne ((EReal.bot_lt_coe z).trans_le hgt).ne').symm⟩
  have hub := fun w : ℝ => Finset.fold_max_le (s := (Finset.univ : Finset (Fin 2305))) (b := (⊥ : EReal)) (f := S) (w : EReal)
  have hK (w : ℝ) : Finset.univ.fold max zK K ≤ ((lg * w : ℝ) : EReal) ↔ (y : EReal) ≤ (w : EReal) := by
    rw [Finset.fold_max_le, ← hy, hub]
    simpa using h.bound w
  refine ⟨y, hy, le_antisymm ((hK y).2 le_rfl) ?_⟩
  have hzK : zK ≤ Finset.univ.fold max zK K := by
    rw [Finset.le_fold_max]
    exact .inl le_rfl
  rw [h.sink] at hzK
  have hlt' : Finset.univ.fold max zK K < ⊤ := ((hK y).2 le_rfl).trans_lt (EReal.coe_lt_top _)
  rw [← h.sink] at hzK
  obtain ⟨w, hw⟩ : ∃ w : ℝ, Finset.univ.fold max zK K = (w : EReal) :=
    ⟨_, (EReal.coe_toReal hlt'.ne ((EReal.bot_lt_coe (lg * z)).trans_le (h.sink ▸ hzK)).ne').symm⟩
  have hw' : (lg * (w / lg) : ℝ) = w := by rw [mul_comm, div_mul_cancel₀ _ lg_pos.ne']
  have := (hK (w / lg)).1 (by rw [hw, hw'])
  rw [hw, EReal.coe_le_coe_iff]
  rw [EReal.coe_le_coe_iff] at this
  calc lg * y ≤ lg * (w / lg) := mul_le_mul_of_nonneg_left this lg_pos.le
    _ = w := hw'

/-- The weighted means agree. -/
theorem mean (V : Fin 640 → EReal) (v : Fin 2048 → EReal) (w : Fin 256 → EReal)
    (hV : ∀ (r : Fin 384) (hr : Inside b x r.val), V ⟨r.val, by omega⟩ = v (keyAt b x r.val hr)) (hw : ∀ c : Fin 256, V ⟨384 + c.val, by omega⟩ = w c)
    (M : EReal) (hM : M = Finset.univ.fold max ⊥ S) (D : EReal) (hD : D = ∑ j, Ideal.exp (S j - M)) :
    (∑ r, V r * Ideal.exp2 (K r - Finset.univ.fold max zK K))
        * Ideal.div 1 ((∑ r, Ideal.exp2 (K r - Finset.univ.fold max zK K)) + Ideal.exp2 (zK - Finset.univ.fold max zK K))
      = (∑ n : Fin 2048, v n * Ideal.div (Ideal.exp (S ⟨n.val, by omega⟩ - M)) D)
        + ∑ c : Fin 256, w c * Ideal.div (Ideal.exp (S ⟨2048 + c.val, by omega⟩ - M)) D := by
  obtain ⟨y, hy, hy'⟩ := h.top
  rw [hy] at hM
  subst hM
  rw [hy']
  have he2 (a : ℝ) : Ideal.exp2 (((lg * a : ℝ) : EReal) - ((lg * y : ℝ) : EReal)) = (Real.exp (a - y) : EReal) := by
    rw [← EReal.coe_sub, ← mul_sub, exp2_lg]
  have he (a : ℝ) : Ideal.exp ((a : EReal) - (y : EReal)) = (Real.exp (a - y) : EReal) := by
    rw [← EReal.coe_sub]; rfl
  have hb2 : Ideal.exp2 ((⊥ : EReal) - ((lg * y : ℝ) : EReal)) = 0 := by rw [EReal.bot_sub]; rfl
  have hb : Ideal.exp ((⊥ : EReal) - (y : EReal)) = 0 := by rw [EReal.bot_sub]; rfl
  have hden : (∑ r, Ideal.exp2 (K r - ((lg * y : ℝ) : EReal))) + Ideal.exp2 (zK - ((lg * y : ℝ) : EReal)) = D := by
    rw [hD, sum_640, sum_2305, add_assoc]
    congr 1
    · refine window_sum b x (fun n => Ideal.exp (S ⟨n.val, by omega⟩ - (y : EReal))) _ (fun r hr => ?_) (fun r hr => ?_) (fun n hn => ?_)
      · rw [h.inside r hr, he2, h.near _ (h.near_keyAt r hr), he]
      · rw [h.outside r hr, hb2]
      · rw [h.far n hn, hb]
    · congr 1
      · refine Finset.sum_congr rfl fun c _ => ?_
        rw [h.context, he2, h.context', he]
      · rw [h.sink, he2, h.sink', he]
  obtain ⟨d, hd, hd0⟩ : ∃ d : ℝ, D = (d : EReal) ∧ 0 < d := by
    refine ⟨(∑ n : Fin 2048, if Near (128 * b.val + x.val) n.val then Real.exp (t n - y) else 0) + ((∑ c : Fin 256, Real.exp (u c - y)) + Real.exp (z - y)), ?_, ?_⟩
    · rw [hD, sum_2305, EReal.coe_add, EReal.coe_add, coe_sum, coe_sum, h.sink', he]
      refine congrArg₂ (· + ·) (Finset.sum_congr rfl fun n _ => ?_) (congrArg (· + _) (Finset.sum_congr rfl fun c _ => ?_))
      · split_ifs with hn
        · rw [h.near n hn, he]
        · rw [h.far n hn, hb]; rfl
      · rw [h.context', he]
    · have h1 : 0 ≤ ∑ n : Fin 2048, (if Near (128 * b.val + x.val) n.val then Real.exp (t n - y) else 0) :=
        Finset.sum_nonneg fun n _ => by split_ifs; exacts [(Real.exp_pos _).le, le_rfl]
      have h2 : 0 ≤ ∑ c : Fin 256, Real.exp (u c - y) := Finset.sum_nonneg fun c _ => (Real.exp_pos _).le
      have h3 := Real.exp_pos (z - y)
      linarith
  have hdiv (a : EReal) : Ideal.div a D = a * ((d⁻¹ : ℝ) : EReal) := by
    rw [Ideal.div, hd, if_neg (by exact_mod_cast hd0.ne'), EReal.coe_inv]
  rw [hden, hdiv 1, one_mul, sum_mul_coe _ _ (inv_pos.2 hd0).le, sum_640]
  congr 1
  · refine window_sum b x (fun n => v n * Ideal.div (Ideal.exp (S ⟨n.val, by omega⟩ - (y : EReal))) D) _ (fun r hr => ?_) (fun r hr => ?_) (fun n hn => ?_)
    · rw [h.inside r hr, he2, h.near _ (h.near_keyAt r hr), he, hV r hr, hdiv, mul_assoc]
    · rw [h.outside r hr, hb2, mul_zero, zero_mul]
    · rw [h.far n hn, hb, hdiv, zero_mul, mul_zero]
  · refine Finset.sum_congr rfl fun c _ => ?_
    rw [h.context, he2, h.context', he, hw, hdiv, mul_assoc]

end Scores
end Cert.Softmax
end
-- ==== Proof.Host.lean ====
/- The arrays the launch's blocks are cut from, read at an index in terms of the arguments. -/
module

public import proofs.«01_k».proof.Proof.Gen.KernelIdeal.Value
public import proofs.«01_k».proof.Proof.Norm
public import proofs.«01_k».proof.Proof.Softmax
public import Idealize.ShloMosaic.Lib.Pointwise
public import Idealize.ShloMosaic.Lib.StableHlo.RunRead

@[expose] public section

set_option maxRecDepth 16384
noncomputable section

namespace Cert.KernelIdeal.Attn
open Idealize.ShloMosaic Idealize.ShloMosaic.TcCoe
open Idealize.SL Idealize.SL.Sem
open Cert.KernelIdeal Cert.KernelIdeal.Gen Idealize.ShloMosaic.StableHlo

variable (m : (ℓ : Loc nD τ sig) → Buf (Elt Ideal) ℓ) (c : Dev nD)

/-! The arguments' contents. -/
abbrev a0 : FVec Ideal S32x2048x1024 .f32 := m ((c : Thread nD τ).loc main_arg0)
abbrev a1 : FVec Ideal S32x2048x256 .f32 := m ((c : Thread nD τ).loc main_arg1)
abbrev a2 : FVec Ideal S32x2048x256 .f32 := m ((c : Thread nD τ).loc main_arg2)
abbrev a3 : FVec Ideal S32x2048x1024 .f32 := m ((c : Thread nD τ).loc main_arg3)
abbrev a4 : FVec Ideal S32x256x256 .f32 := m ((c : Thread nD τ).loc main_arg4)
abbrev a5 : FVec Ideal S32x256x256 .f32 := m ((c : Thread nD τ).loc main_arg5)
abbrev a6 : FVec Ideal S32x2048x1024 .f32 := m ((c : Thread nD τ).loc main_arg6)
abbrev a7 : FVec Ideal S32x1024 .f32 := m ((c : Thread nD τ).loc main_arg7)
abbrev a8 : FVec Ideal S1024x1024 .f32 := m ((c : Thread nD τ).loc main_arg8)
abbrev a9 : FVec Ideal S16 .f32 := m ((c : Thread nD τ).loc main_arg9)
abbrev a10 : FVec Ideal S4x1024 .f32 := m ((c : Thread nD τ).loc main_arg10)
abbrev a11 : FVec Ideal S4x1024 .f32 := m ((c : Thread nD τ).loc main_arg11)

theorem v4_keys (b : Fin 32) (i : Fin 2048) (n : Fin 256) :
    (V m c main_v4 : FVec Ideal S32x2048x1280 .bf16) (ix3 b i ⟨1024 + n.val, by omega⟩) = a1 m c (ix3 b i n) := by
  unfold_abbrev_sides
  after_reads_simp
  pointwise []
  after_reads_simp

theorem v4_gates (b : Fin 32) (i : Fin 2048) (n : Fin 1024) :
    (V m c main_v4 : FVec Ideal S32x2048x1280 .bf16) (ix3 b i ⟨n.val, by omega⟩)
      = a3 m c (ix3 b i (Softmax.swap n)) := by
  unfold_abbrev_sides
  after_reads_simp
  pointwise []
  after_reads_simp
  pointwise []
  rfl

theorem two_word : Ideal.ofBits .f32 0x40000000#32 = ((2 : ℝ) : EReal) := by
  simp [Ideal.ofBits, Ideal.ieee]
  rw [← EReal.coe_mul]
  norm_num

theorem log_two : Ideal.log ((2 : ℝ) : EReal) = ((Real.log 2 : ℝ) : EReal) := by
  show (if (2 : ℝ) ≤ 0 then ⊥ else ((Real.log 2 : ℝ) : EReal)) = _
  rw [if_neg (by norm_num)]

theorem log_read : id (Host.log (constant (F := Ideal) S_ .f32 1073741824#32)) ix0 = ((Real.log 2 : ℝ) : EReal) := by
  have h : id (Host.log (constant (F := Ideal) S_ .f32 1073741824#32)) ix0 = Ideal.log (Ideal.ofBits .f32 0x40000000#32) := rfl
  rw [h, two_word, log_two]

theorem div_log_two (x : EReal) : Ideal.div x ((Real.log 2 : ℝ) : EReal) = x * ((Softmax.lg : ℝ) : EReal) := by
  have h : ((Real.log 2 : ℝ) : EReal) ≠ 0 := EReal.coe_ne_zero.2 (Real.log_pos (by norm_num)).ne'
  unfold Ideal.div Softmax.lg
  rw [if_neg h, EReal.coe_inv]

theorem v16_queries (b : Fin 32) (i : Fin 2048) (n : Fin 1024) :
    (V m c main_v16 : FVec Ideal S32x1280x2048 .bf16) (ix3 b ⟨n.val, by omega⟩ i)
      = a0 m c (ix3 b i (Softmax.swap n)) * Ideal.ofBits .f32 0x3E000000#32 * ((Softmax.lg : ℝ) : EReal) := by
  unfold_abbrev_sides
  after_reads_simp
  pointwise []
  after_reads_simp
  pointwise []
  exact (congrArg (Ideal.div _) log_read).trans (div_log_two _)

theorem v16_values (b : Fin 32) (i : Fin 2048) (n : Fin 256) :
    (V m c main_v16 : FVec Ideal S32x1280x2048 .bf16) (ix3 b ⟨1024 + n.val, by omega⟩ i) = a2 m c (ix3 b i n) := by
  unfold_abbrev_sides
  after_reads_simp
  pointwise []
  after_reads_simp

theorem v19_keys (b : Fin 32) (i : Fin 256) (n : Fin 256) :
    (V m c main_v19 : FVec Ideal S32x256x1280 .bf16) (ix3 b i ⟨1024 + n.val, by omega⟩) = a4 m c (ix3 b i n) := by
  unfold_abbrev_sides
  after_reads_simp
  pointwise []
  after_reads_simp

theorem v22_values (b : Fin 32) (i : Fin 256) (n : Fin 256) :
    (V m c main_v22 : FVec Ideal S32x1280x256 .bf16) (ix3 b ⟨1024 + n.val, by omega⟩ i) = a5 m c (ix3 b i n) := by
  unfold_abbrev_sides
  after_reads_simp
  pointwise []
  after_reads_simp

theorem v30_apply (k n : Fin 1024) :
    (V m c main_v30 : FVec Ideal S1024x1024 .bf16) (ix2 k n) = a8 m c (ix2 (Softmax.swap k) n) := by
  unfold_abbrev_sides
  after_reads_simp
  pointwise []
  rfl

theorem v25_apply (n : Fin 1024) : (V m c main_v25 : FVec Ideal S4x1x1024 .f32) (ix3 0 0 n) = a10 m c (ix2 0 n) := by
  unfold_abbrev_sides
  after_reads_simp
  pointwise []

theorem v26_apply (n : Fin 1024) : (V m c main_v26 : FVec Ideal S4x1x1024 .f32) (ix3 0 0 n) = a11 m c (ix2 0 n) := by
  unfold_abbrev_sides
  after_reads_simp
  pointwise []

theorem v24_apply (b : Fin 32) (n : Fin 1024) : (V m c main_v24 : FVec Ideal S4x3x40x1x1024 .f32) (ix5 0 2 ⟨b.val, by omega⟩ 0 n) = a7 m c (ix2 b n) := by
  unfold_abbrev_sides
  after_reads_simp
  show pad S4x3x40x1x1024 ![0, 2, 0, 0, 0] ![3, 0, 8, 0, 0] ![0, 0, 0, 0, 0] (broadcastInDim S1x1x32x1x1024 ![2, 4] bcast_S32x1024_S1x1x32x1x1024_2_4 (m (c, Proc.tc.devRef main_arg7))) _ pads_S1x1x32x1x1024_S4x3x40x1x1024_030_200_080_000_000 h_S_ _ = _
  pointwise []

end Cert.KernelIdeal.Attn
end
-- ==== Proof.Windows.lean ====
/- The blocks a grid step works on, read at an index in terms of the arguments. -/
module

public import proofs.«01_k».proof.Proof.Host
public import Idealize.ShloMosaic.Lib.Pipeline.ValueKit

@[expose] public section

set_option maxRecDepth 16384
noncomputable section

namespace Cert.KernelIdeal.Attn
open Idealize.ShloMosaic Idealize.ShloMosaic.TcCoe
open Idealize.SL Idealize.SL.Sem
open Cert.KernelIdeal Cert.KernelIdeal.Gen

variable (m : (ℓ : Loc nD τ sig) → Buf (Elt Ideal) ℓ) (c : Dev nD) (t : Fin cfg0.N)

/-- The batch a grid step works on. -/
def batch (t : Fin cfg0.N) : Fin 32 := grid0.coords t 0
/-- The four query tiles of the batch it works on. -/
def part (t : Fin cfg0.N) : Fin 4 := grid0.coords t 1

theorem index0 (t : Fin cfg0.N) : win0_0.index t = ![0] := (by decide +kernel : ∀ t : Fin grid0.N, win0_0.index t = ![0]) t
theorem index1 (t : Fin cfg0.N) : win0_1.index t = ![(batch t).val, 0, (part t).val] := (by decide +kernel : ∀ t : Fin grid0.N, win0_1.index t = ![(batch t).val, 0, (part t).val]) t
theorem index2 (t : Fin cfg0.N) : win0_2.index t = ![(batch t).val, (part t).val, 0] := (by decide +kernel : ∀ t : Fin grid0.N, win0_2.index t = ![(batch t).val, (part t).val, 0]) t
theorem index3 (t : Fin cfg0.N) : win0_3.index t = ![(batch t).val, 4 * (part t).val - 1, 4] := (by decide +kernel : ∀ t : Fin grid0.N, win0_3.index t = ![(batch t).val, 4 * (part t).val - 1, 4]) t
theorem index4 (t : Fin cfg0.N) : win0_4.index t = ![(batch t).val, (part t).val, 4] := (by decide +kernel : ∀ t : Fin grid0.N, win0_4.index t = ![(batch t).val, (part t).val, 4]) t
theorem index5 (t : Fin cfg0.N) : win0_5.index t = ![(batch t).val, min (4 * (part t).val + 4) 15, 4] := (by decide +kernel : ∀ t : Fin grid0.N, win0_5.index t = ![(batch t).val, min (4 * (part t).val + 4) 15, 4]) t
theorem index6 (t : Fin cfg0.N) : win0_6.index t = ![(batch t).val, 4, 4 * (part t).val - 1] := (by decide +kernel : ∀ t : Fin grid0.N, win0_6.index t = ![(batch t).val, 4, 4 * (part t).val - 1]) t
theorem index7 (t : Fin cfg0.N) : win0_7.index t = ![(batch t).val, 4, (part t).val] := (by decide +kernel : ∀ t : Fin grid0.N, win0_7.index t = ![(batch t).val, 4, (part t).val]) t
theorem index8 (t : Fin cfg0.N) : win0_8.index t = ![(batch t).val, 4, min (4 * (part t).val + 4) 15] := (by decide +kernel : ∀ t : Fin grid0.N, win0_8.index t = ![(batch t).val, 4, min (4 * (part t).val + 4) 15]) t
theorem index9 (t : Fin cfg0.N) : win0_9.index t = ![(batch t).val, 0, 4] := (by decide +kernel : ∀ t : Fin grid0.N, win0_9.index t = ![(batch t).val, 0, 4]) t
theorem index10 (t : Fin cfg0.N) : win0_10.index t = ![(batch t).val, 4, 0] := (by decide +kernel : ∀ t : Fin grid0.N, win0_10.index t = ![(batch t).val, 4, 0]) t
theorem index11 (t : Fin cfg0.N) : win0_11.index t = ![(batch t).val, (part t).val, 0] := (by decide +kernel : ∀ t : Fin grid0.N, win0_11.index t = ![(batch t).val, (part t).val, 0]) t
theorem index12 (t : Fin cfg0.N) : win0_12.index t = ![0, 2, (batch t).val, 0, 0] := (by decide +kernel : ∀ t : Fin grid0.N, win0_12.index t = ![0, 2, (batch t).val, 0, 0]) t
theorem index13 (t : Fin cfg0.N) : win0_13.index t = ![0, 0] := (by decide +kernel : ∀ t : Fin grid0.N, win0_13.index t = ![0, 0]) t
theorem index14 (t : Fin cfg0.N) : win0_14.index t = ![0, 0, 0] := (by decide +kernel : ∀ t : Fin grid0.N, win0_14.index t = ![0, 0, 0]) t
theorem index15 (t : Fin cfg0.N) : win0_15.index t = ![0, 0, 0] := (by decide +kernel : ∀ t : Fin grid0.N, win0_15.index t = ![0, 0, 0]) t
theorem index16 (t : Fin cfg0.N) : win0_16.index t = ![(batch t).val, (part t).val, 0] := (by decide +kernel : ∀ t : Fin grid0.N, win0_16.index t = ![(batch t).val, (part t).val, 0]) t

theorem block0 (x : Fin 16) : (iblk m c 0 t : FVec Ideal S16 .f32) (ix1 x) = a9 m c (ix1 x) := by
  blk_simp [iblk]
  refine Eq.trans (congrArg (V m c main_arg9) ?_) (congrFun (V_main_arg9 m c) (ix1 x))
  blk_ext [index0]

theorem block1 (r : Fin 1024) (x : Fin 512) : (X0_1 m c t : FVec Ideal S1x1024x512 .bf16) (ix3 0 r x) = a0 m c (ix3 (batch t) ⟨512 * (part t).val + x.val, by have := (part t).isLt; omega⟩ (Softmax.swap r)) * Ideal.ofBits .f32 0x3E000000#32 * ((Softmax.lg : ℝ) : EReal) := by
  unfold X0_1 Pipeline.Window.fill
  rw [dif_pos (moved0_1 t _)]
  blk_simp [iblk]
  refine Eq.trans (congrArg (V m c main_v16) ?_) (v16_queries m c (batch t) ⟨512 * (part t).val + x.val, by have := (part t).isLt; omega⟩ r)
  blk_ext [index1]

theorem block2 (x : Fin 512) (n : Fin 1024) : (X0_2 m c t : FVec Ideal S1x512x1024 .bf16) (ix3 0 x n) = a3 m c (ix3 (batch t) ⟨512 * (part t).val + x.val, by have := (part t).isLt; omega⟩ (Softmax.swap n)) := by
  unfold X0_2 Pipeline.Window.fill
  rw [dif_pos (moved0_2 t _)]
  blk_simp [iblk]
  refine Eq.trans (congrArg (V m c main_v4) ?_) (v4_gates m c (batch t) ⟨512 * (part t).val + x.val, by have := (part t).isLt; omega⟩ n)
  blk_ext [index2]

theorem block3 (r : Fin 128) (x : Fin 256) : (iblk m c 3 t : FVec Ideal S1x128x256 .bf16) (ix3 0 r x) = a1 m c (ix3 (batch t) ⟨128 * (4 * (part t).val - 1) + r.val, by have := (part t).isLt; omega⟩ x) := by
  blk_simp [iblk]
  refine Eq.trans (congrArg (V m c main_v4) ?_) (v4_keys m c (batch t) ⟨128 * (4 * (part t).val - 1) + r.val, by have := (part t).isLt; omega⟩ x)
  blk_ext [index3]

theorem block4 (r : Fin 512) (x : Fin 256) : (iblk m c 4 t : FVec Ideal S1x512x256 .bf16) (ix3 0 r x) = a1 m c (ix3 (batch t) ⟨512 * (part t).val + r.val, by have := (part t).isLt; omega⟩ x) := by
  blk_simp [iblk]
  refine Eq.trans (congrArg (V m c main_v4) ?_) (v4_keys m c (batch t) ⟨512 * (part t).val + r.val, by have := (part t).isLt; omega⟩ x)
  blk_ext [index4]

theorem block5 (r : Fin 128) (x : Fin 256) : (iblk m c 5 t : FVec Ideal S1x128x256 .bf16) (ix3 0 r x) = a1 m c (ix3 (batch t) ⟨128 * min (4 * (part t).val + 4) 15 + r.val, by have := (part t).isLt; omega⟩ x) := by
  blk_simp [iblk]
  refine Eq.trans (congrArg (V m c main_v4) ?_) (v4_keys m c (batch t) ⟨128 * min (4 * (part t).val + 4) 15 + r.val, by have := (part t).isLt; omega⟩ x)
  blk_ext [index5]

theorem block6 (x : Fin 256) (r : Fin 128) : (iblk m c 6 t : FVec Ideal S1x256x128 .bf16) (ix3 0 x r) = a2 m c (ix3 (batch t) ⟨128 * (4 * (part t).val - 1) + r.val, by have := (part t).isLt; omega⟩ x) := by
  blk_simp [iblk]
  refine Eq.trans (congrArg (V m c main_v16) ?_) (v16_values m c (batch t) ⟨128 * (4 * (part t).val - 1) + r.val, by have := (part t).isLt; omega⟩ x)
  blk_ext [index6]

theorem block7 (x : Fin 256) (r : Fin 512) : (iblk m c 7 t : FVec Ideal S1x256x512 .bf16) (ix3 0 x r) = a2 m c (ix3 (batch t) ⟨512 * (part t).val + r.val, by have := (part t).isLt; omega⟩ x) := by
  blk_simp [iblk]
  refine Eq.trans (congrArg (V m c main_v16) ?_) (v16_values m c (batch t) ⟨512 * (part t).val + r.val, by have := (part t).isLt; omega⟩ x)
  blk_ext [index7]

theorem block8 (x : Fin 256) (r : Fin 128) : (iblk m c 8 t : FVec Ideal S1x256x128 .bf16) (ix3 0 x r) = a2 m c (ix3 (batch t) ⟨128 * min (4 * (part t).val + 4) 15 + r.val, by have := (part t).isLt; omega⟩ x) := by
  blk_simp [iblk]
  refine Eq.trans (congrArg (V m c main_v16) ?_) (v16_values m c (batch t) ⟨128 * min (4 * (part t).val + 4) 15 + r.val, by have := (part t).isLt; omega⟩ x)
  blk_ext [index8]

theorem block9 (r x : Fin 256) : (iblk m c 9 t : FVec Ideal S1x256x256 .bf16) (ix3 0 r x) = a4 m c (ix3 (batch t) r x) := by
  blk_simp [iblk]
  refine Eq.trans (congrArg (V m c main_v19) ?_) (v19_keys m c (batch t) r x)
  blk_ext [index9]

theorem block10 (x r : Fin 256) : (iblk m c 10 t : FVec Ideal S1x256x256 .bf16) (ix3 0 x r) = a5 m c (ix3 (batch t) r x) := by
  blk_simp [iblk]
  refine Eq.trans (congrArg (V m c main_v22) ?_) (v22_values m c (batch t) r x)
  blk_ext [index10]

theorem block11 (x : Fin 512) (n : Fin 1024) : (iblk m c 11 t : FVec Ideal S1x512x1024 .f32) (ix3 0 x n) = a6 m c (ix3 (batch t) ⟨512 * (part t).val + x.val, by have := (part t).isLt; omega⟩ n) := by
  blk_simp [iblk]
  refine Eq.trans (congrArg (V m c main_arg6) ?_) (congrFun (V_main_arg6 m c) (ix3 (batch t) ⟨512 * (part t).val + x.val, by have := (part t).isLt; omega⟩ n))
  blk_ext [index11]

theorem block12 (n : Fin 1024) : (iblk m c 12 t : FVec Ideal S1x1x1x1x1024 .f32) (ix5 0 0 0 0 n) = a7 m c (ix2 (batch t) n) := by
  blk_simp [iblk]
  refine Eq.trans (congrArg (V m c main_v24) ?_) (v24_apply m c (batch t) n)
  blk_ext [index12]

theorem block13 (k n : Fin 1024) : (iblk m c 13 t : FVec Ideal S1024x1024 .bf16) (ix2 k n) = a8 m c (ix2 (Softmax.swap k) n) := by
  blk_simp [iblk]
  refine Eq.trans (congrArg (V m c main_v30) ?_) (v30_apply m c k n)
  blk_ext [index13]

theorem block14 (n : Fin 1024) : (iblk m c 14 t : FVec Ideal S1x1x1024 .f32) (ix3 0 0 n) = a10 m c (ix2 0 n) := by
  blk_simp [iblk]
  refine Eq.trans (congrArg (V m c main_v25) ?_) (v25_apply m c n)
  blk_ext [index14]

theorem block15 (n : Fin 1024) : (iblk m c 15 t : FVec Ideal S1x1x1024 .f32) (ix3 0 0 n) = a11 m c (ix2 0 n) := by
  blk_simp [iblk]
  refine Eq.trans (congrArg (V m c main_v26) ?_) (v26_apply m c n)
  blk_ext [index15]

end Cert.KernelIdeal.Attn
end
-- ==== Proof.Block.lean ====
/- What one grid step of the attention kernel computes, written as vectors: the score tiles it stores, the probability tiles it stores
   after them, the attention of each group of four heads, and the block it writes. Nothing is evaluated here: the definitions repeat the
   operations of the kernel with the sixteen (tile of queries, group of heads) pairs as an index. -/
module

public import proofs.«01_k».proof.Proof.Gen.KernelIdeal.Value

@[expose] public section

set_option maxRecDepth 16384

noncomputable section

namespace Cert.KernelIdeal.Attn
open Idealize.ShloMosaic Idealize.ShloMosaic.TcCoe
open Idealize.SL Idealize.SL.Sem
open Cert.KernelIdeal Cert.KernelIdeal.Gen
variable {F : FTy → Type} [FloatOps F] [Named F]

/-- What a grid step reads before it computes attention: the keys and the values of its 512 positions and of the 128 on either side, the
    keys and values of the context, the queries of its four tiles, the sinks of each group of heads, and the number of the step in its row. -/
structure Loads (F : FTy → Type) where
  keys : FVec F S768x256 .bf16
  ctxKeys : FVec F S256x256 .bf16
  vals : FVec F S256x768 .bf16
  ctxVals : FVec F S256x256 .bf16
  queries : Fin 4 → FVec F S1024x128 .bf16
  sinks : Fin 4 → FVec F S1x512 .f32
  step : BitVec 32

theorem slices_keys (s : Fin 4) : S768x256.Slices ![128 * s.val, 0] S384x256 := by fin_cases s <;> decide
theorem slices_vals (s : Fin 4) : S256x768.Slices ![0, 128 * s.val] S256x384 := by fin_cases s <;> decide
theorem slices_head (t j : Fin 4) : S1024x128.Slices ![256 * j.val + 64 * t.val, 0] S64x128 := by
  fin_cases t <;> fin_cases j <;> decide
theorem slices_group (t : Fin 4) : S256x640.Slices ![64 * t.val, 0] S64x640 := by fin_cases t <;> decide
theorem slices_query (j : Fin 4) : S64x512.Slices ![0, 128 * j.val] S64x128 := by fin_cases j <;> decide
theorem slices_tile (k : Fin 3) : S640x512.Slices ![128 * k.val, 0] S128x512 := by fin_cases k <;> decide
theorem inb_tile (c : Fin 16) (k : Fin 5) : ∀ a, ![c.val, 128 * k.val, 0] a + S1x128x512.size a ≤ S16x640x512.size a := by
  fin_cases c <;> fin_cases k <;> decide
theorem inb_last (c : Fin 16) : ∀ a, ![c.val, 384, 0] a + S1x256x512.size a ≤ S16x640x512.size a := by
  fin_cases c <;> decide
theorem inb_slab (c : Fin 16) : ∀ a, ![c.val, 0, 0] a + S1x640x512.size a ≤ S16x640x512.size a := by
  fin_cases c <;> decide

/-- The tile of queries a pair belongs to. -/
def tileOf (c : Fin 16) : Fin 4 := ⟨c.val / 4, by omega⟩
/-- The group of heads a pair belongs to. -/
def groupOf (c : Fin 16) : Fin 4 := ⟨c.val % 4, by omega⟩

/-- The keys a tile of queries looks at: three tiles of positions, then the context. -/
def keysOf (X : Loads F) (s : Fin 4) : FVec F S640x256 .bf16 :=
  concatenate S640x256 0 [⟨S384x256, extractStridedSlice S384x256 ![128 * s.val, 0] X.keys (slices_keys s)⟩, ⟨S256x256, X.ctxKeys⟩]
    concatenates_S384x256_S256x256_S640x256_d0

/-- The queries of the four heads that share a group of keys, side by side. -/
def headRows (Q : FVec F S1024x128 .bf16) (t : Fin 4) : FVec F S64x512 .bf16 :=
  concatenate S64x512 1
    [⟨S64x128, extractStridedSlice S64x128 ![256 * (0 : Fin 4).val + 64 * t.val, 0] Q (slices_head t 0)⟩,
     ⟨S64x128, extractStridedSlice S64x128 ![256 * (1 : Fin 4).val + 64 * t.val, 0] Q (slices_head t 1)⟩,
     ⟨S64x128, extractStridedSlice S64x128 ![256 * (2 : Fin 4).val + 64 * t.val, 0] Q (slices_head t 2)⟩,
     ⟨S64x128, extractStridedSlice S64x128 ![256 * (3 : Fin 4).val + 64 * t.val, 0] Q (slices_head t 3)⟩]
    concatenates_S64x128_S64x128_S64x128_S64x128_S64x512_d1

/-- Those queries at the rows of their group, zeros at the rows of the other groups. -/
def padded (Q : FVec F S1024x128 .bf16) : Fin 4 → FVec F S256x512 .bf16
  | 0 => concatenate S256x512 0 [⟨S64x512, headRows Q 0⟩, ⟨S192x512, broadcast S192x512 (Scalar.ofBits .bf16 0x0000#16)⟩]
      concatenates_S64x512_S192x512_S256x512_d0
  | 1 => concatenate S256x512 0 [⟨S64x512, broadcast S64x512 (Scalar.ofBits .bf16 0x0000#16)⟩, ⟨S64x512, headRows Q 1⟩,
      ⟨S128x512, broadcast S128x512 (Scalar.ofBits .bf16 0x0000#16)⟩] concatenates_S64x512_S64x512_S128x512_S256x512_d0
  | 2 => concatenate S256x512 0 [⟨S128x512, broadcast S128x512 (Scalar.ofBits .bf16 0x0000#16)⟩, ⟨S64x512, headRows Q 2⟩,
      ⟨S64x512, broadcast S64x512 (Scalar.ofBits .bf16 0x0000#16)⟩] concatenates_S128x512_S64x512_S64x512_S256x512_d0
  | 3 => concatenate S256x512 0 [⟨S192x512, broadcast S192x512 (Scalar.ofBits .bf16 0x0000#16)⟩, ⟨S64x512, headRows Q 3⟩]
      concatenates_S192x512_S64x512_S256x512_d0

/-- The scores of a pair before the mask: 640 keys against 128 queries of each of the four heads. -/
def scoreOf (X : Loads F) (c : Fin 16) : FVec F S640x512 .f32 :=
  matmul dot_S640x256_S256x512_S640x512_1_0_0_1_n_n none (keysOf X (tileOf c)) (padded (X.queries (tileOf c)) (groupOf c))
    (constant S640x512 .f32 0x00000000#32)

/-- The number of a tile of queries in the whole sequence. -/
def tileNo (X : Loads F) (s : Fin 4) : BitVec 32 := Scalar.addi (Scalar.muli X.step 4#32) (BitVec.ofNat 32 s.val)

/-- A mask over one tile of keys and one of queries, repeated for the four heads. -/
def fourMasks (b : IVec S128x128 1) : FVec F S128x512 .f32 :=
  let m : FVec F S128x128 .f32 := select b (broadcast S128x128 (Scalar.ofBits .f32 0x00000000#32)) (broadcast S128x128 (Named.named κ "mask" 0xF149F2CA#32))
  concatenate S128x512 1 [⟨S128x128, m⟩, ⟨S128x128, m⟩, ⟨S128x128, m⟩, ⟨S128x128, m⟩]
    concatenates_S128x128_S128x128_S128x128_S128x128_S128x512_d1

def rowNo : IVec S128x128 32 := iota .tc S128x128 32 [0] iota_S128x128_d0_w32
def colNo : IVec S128x128 32 := iota .tc S128x128 32 [1] iota_S128x128_d1_w32

/-- The mask of the tile of keys before the queries' own. -/
def maskPrev (g : BitVec 32) : FVec F S128x512 .f32 :=
  fourMasks (andi (cmpi .sge rowNo colNo) (broadcast S128x128 (Scalar.cmpi .sgt g 0#32)))
/-- The mask of the tile of keys after the queries' own. -/
def maskNext (g : BitVec 32) : FVec F S128x512 .f32 :=
  fourMasks (andi (cmpi .sle rowNo colNo) (broadcast S128x128 (Scalar.cmpi .slt g 15#32)))

/-- The stores of a pair's scores, last made first. -/
def scorePieces (X : Loads F) (c : Fin 16) : List (View.Piece (Elt F) S16x640x512 .f32) :=
  [⟨Rect.unit ![c.val, 384, 0] S1x256x512.size (inb_last c),
      shapeCast S1x256x512 (extractStridedSlice S256x512 ![384, 0] (scoreOf X c) slices_S640x512_o384_0_S256x512) shapeCasts_S256x512_S1x256x512⟩,
   ⟨Rect.unit ![c.val, 128 * (2 : Fin 5).val, 0] S1x128x512.size (inb_tile c 2),
      shapeCast S1x128x512 (addf (extractStridedSlice S128x512 ![128 * (2 : Fin 3).val, 0] (scoreOf X c) (slices_tile 2)) (maskNext (tileNo X (tileOf c))))
        shapeCasts_S128x512_S1x128x512⟩,
   ⟨Rect.unit ![c.val, 128 * (1 : Fin 5).val, 0] S1x128x512.size (inb_tile c 1),
      shapeCast S1x128x512 (extractStridedSlice S128x512 ![128 * (1 : Fin 3).val, 0] (scoreOf X c) (slices_tile 1)) shapeCasts_S128x512_S1x128x512⟩,
   ⟨Rect.unit ![c.val, 128 * (0 : Fin 5).val, 0] S1x128x512.size (inb_tile c 0),
      shapeCast S1x128x512 (addf (extractStridedSlice S128x512 ![128 * (0 : Fin 3).val, 0] (scoreOf X c) (slices_tile 0)) (maskPrev (tileNo X (tileOf c))))
        shapeCasts_S128x512_S1x128x512⟩]

/-- Pair number `n`, the numbers past fifteen wrapped round. -/
def pairNo (n : ℕ) : Fin 16 := ⟨n % 16, Nat.mod_lt _ (by decide)⟩

/-- The stores of the scores of the first `n` pairs. -/
def scoreStores (X : Loads F) : ℕ → List (View.Piece (Elt F) S16x640x512 .f32)
  | 0 => []
  | n + 1 => scorePieces X (pairNo n) ++ scoreStores X n

/-- A score tile read back from the stores `L`. -/
def scoreTile (v : View sig .tc .vmem S16x640x512 .f32) (L : List (View.Piece (Elt F) S16x640x512 .f32)) (c : Fin 16) (k : Fin 5) : FVec F S128x512 .f32 :=
  shapeCast S128x512 (v.readCov L (Rect.unit (s := S16x640x512) ![c.val, 128 * k.val, 0] S1x128x512.size (inb_tile c k)).toLoadRect)
    shapeCasts_S1x128x512_S128x512

/-- The largest entry of each column of a tile. -/
def tileMax (T : FVec F S128x512 .f32) : FVec F S1x512 .f32 :=
  shapeCast S1x512 (multiReduction .maximumf [0] S512 T 0xFF800000#32 reduces_S128x512_S512 (.inl rfl) rfl) shapeCasts_S512_S1x512

/-- The largest of a sink and five tiles of scores, column by column. -/
def maxOf (z : FVec F S1x512 .f32) (T : Fin 5 → FVec F S128x512 .f32) : FVec F S1x512 .f32 :=
  maximumf (maximumf (maximumf (maximumf (maximumf z (tileMax (T 0))) (tileMax (T 1))) (tileMax (T 2))) (tileMax (T 3))) (tileMax (T 4))

/-- The probabilities of a tile before they are divided by their sum. -/
def expTile (T : FVec F S128x512 .f32) (m : FVec F S1x512 .f32) : FVec F S1x128x512 .bf16 :=
  shapeCast S1x128x512 (truncf .bf16 (exp2 (subf T (broadcastTo S128x512 m broadcasts_S1x512_S128x512))) bitsLt_bf16_f32)
    shapeCasts_S128x512_S1x128x512

/-- The store of one tile of a pair's probabilities. -/
def probPiece (c : Fin 16) (z : FVec F S1x512 .f32) (T : Fin 5 → FVec F S128x512 .f32) (k : Fin 5) : View.Piece (Elt F) S16x640x512 .bf16 :=
  ⟨Rect.unit ![c.val, 128 * k.val, 0] S1x128x512.size (inb_tile c k), expTile (T k) (maxOf z T)⟩

/-- The stores of a pair's probabilities, last made first. -/
def probPieces (c : Fin 16) (z : FVec F S1x512 .f32) (T : Fin 5 → FVec F S128x512 .f32) : List (View.Piece (Elt F) S16x640x512 .bf16) :=
  [probPiece c z T 4, probPiece c z T 3, probPiece c z T 2, probPiece c z T 1, probPiece c z T 0]

/-- A pair's probabilities read back from the stores `P`. -/
def probOf (w : View sig .tc .vmem S16x640x512 .bf16) (P : List (View.Piece (Elt F) S16x640x512 .bf16)) (c : Fin 16) : FVec F S640x512 .bf16 :=
  shapeCast S640x512 (w.readCov P (Rect.unit (s := S16x640x512) ![c.val, 0, 0] S1x640x512.size (inb_slab c)).toLoadRect)
    shapeCasts_S1x640x512_S640x512

/-- The values a tile of queries looks at. -/
def valsOf (X : Loads F) (s : Fin 4) : FVec F S256x640 .bf16 :=
  concatenate S256x640 1 [⟨S256x384, extractStridedSlice S256x384 ![0, 128 * s.val] X.vals (slices_vals s)⟩, ⟨S256x256, X.ctxVals⟩]
    concatenates_S256x384_S256x256_S256x640_d1

/-- The values of a group over rows of ones. -/
def valsOnes (X : Loads F) (c : Fin 16) : FVec F S80x640 .bf16 :=
  concatenate S80x640 0 [⟨S64x640, extractStridedSlice S64x640 ![64 * (groupOf c).val, 0] (valsOf X (tileOf c)) (slices_group (groupOf c))⟩,
    ⟨S16x640, broadcast S16x640 (Scalar.ofBits .bf16 0x3F80#16)⟩] concatenates_S64x640_S16x640_S80x640_d0

/-- The values, and the ones, against the probabilities. -/
def prodOf (V : FVec F S80x640 .bf16) (p : FVec F S640x512 .bf16) : FVec F S80x512 .f32 :=
  matmul dot_S80x640_S640x512_S80x512_1_0_0_1_n_n none V p (constant S80x512 .f32 0x00000000#32)

/-- The sum of the probabilities, the sink's among them. -/
def sumOf (V : FVec F S80x640 .bf16) (p : FVec F S640x512 .bf16) (z m : FVec F S1x512 .f32) : FVec F S1x512 .f32 :=
  addf (extractStridedSlice S1x512 ![64, 0] (prodOf V p) slices_S80x512_o64_0_S1x512) (exp2 (subf z m))

/-- The attention of a pair, transposed: the group's 64 numbers against its four heads' queries. -/
def outOf (V : FVec F S80x640 .bf16) (p : FVec F S640x512 .bf16) (z m : FVec F S1x512 .f32) : FVec F S64x512 .f32 :=
  mulf (extractStridedSlice S64x512 ![0, 0] (prodOf V p) slices_S80x512_o0_0_S64x512)
    (broadcastTo S64x512 (divf (broadcast S1x512 (Scalar.ofBits .f32 0x3F800000#32)) (sumOf V p z m)) broadcasts_S1x512_S64x512)

/-- Head `j` of every group, for one tile of queries. -/
def headOut (O : Fin 4 → FVec F S64x512 .f32) (j : Fin 4) : FVec F S128x256 .f32 :=
  transpose S128x256 [1, 0]
    (concatenate S256x128 0
      [⟨S64x128, extractStridedSlice S64x128 ![0, 128 * j.val] (O 0) (slices_query j)⟩,
       ⟨S64x128, extractStridedSlice S64x128 ![0, 128 * j.val] (O 1) (slices_query j)⟩,
       ⟨S64x128, extractStridedSlice S64x128 ![0, 128 * j.val] (O 2) (slices_query j)⟩,
       ⟨S64x128, extractStridedSlice S64x128 ![0, 128 * j.val] (O 3) (slices_query j)⟩]
      concatenates_S64x128_S64x128_S64x128_S64x128_S256x128_d0) transposes_S256x128_p1_0_S128x256

/-- The attention of one tile of queries. -/
def tileOut (O : Fin 4 → FVec F S64x512 .f32) : FVec F S128x1024 .f32 :=
  concatenate S128x1024 1 [⟨S128x256, headOut O 0⟩, ⟨S128x256, headOut O 1⟩, ⟨S128x256, headOut O 2⟩, ⟨S128x256, headOut O 3⟩]
    concatenates_S128x256_S128x256_S128x256_S128x256_S128x1024_d1

/-- The pair of a tile of queries and a group of heads. -/
def pair (s t : Fin 4) : Fin 16 := ⟨4 * s.val + t.val, by omega⟩

/-- The attention of a block, its scores read back from the stores `L` and its probabilities from the stores `P`. -/
def blockOut (v : View sig .tc .vmem S16x640x512 .f32) (w : View sig .tc .vmem S16x640x512 .bf16) (X : Loads F)
    (L : List (View.Piece (Elt F) S16x640x512 .f32)) (P : Fin 16 → List (View.Piece (Elt F) S16x640x512 .bf16)) : FVec F S512x1024 .f32 :=
  let O (s t : Fin 4) : FVec F S64x512 .f32 :=
    outOf (valsOnes X (pair s t)) (probOf w (P (pair s t)) (pair s t)) (X.sinks t) (maxOf (X.sinks t) (scoreTile v L (pair s t)))
  concatenate S512x1024 0
    [⟨S128x1024, tileOut (O 0)⟩, ⟨S128x1024, tileOut (O 1)⟩, ⟨S128x1024, tileOut (O 2)⟩, ⟨S128x1024, tileOut (O 3)⟩]
    concatenates_S128x1024_S128x1024_S128x1024_S128x1024_S512x1024_d0

/-- A row of the four sinks of a group, each over the 128 queries of its head. -/
def sinkRow (a b c d : F .f32) : FVec F S1x512 .f32 := k0_pay148 a b c d

/-- What a grid step reads, from the blocks it loads. -/
def loads (n : BitVec 32) (s : Fin 16 → F .f32) (q : Fin 4 → Vec F S1x1024x128 .bf16)
    (x3 : Vec F S1x128x256 .bf16) (x4 : Vec F S1x512x256 .bf16) (x5 : Vec F S1x128x256 .bf16)
    (x6 : Vec F S1x256x128 .bf16) (x7 : Vec F S1x256x512 .bf16) (x8 : Vec F S1x256x128 .bf16)
    (x9 x10 : Vec F S1x256x256 .bf16) : Loads F where
  keys := k0_pay2 x3 x4 x5
  ctxKeys := k0_pay4 x9
  vals := k0_pay3 x6 x7 x8
  ctxVals := k0_pay5 x10
  queries := fun t => shapeCast S1024x128 (q t) shapeCasts_S1x1024x128_S1024x128
  sinks := fun t => sinkRow (Scalar.mulf (s ⟨4 * t.val + 0, by omega⟩) (Named.named κ "log2e" 0x3FB8AA3B#32))
    (Scalar.mulf (s ⟨4 * t.val + 1, by omega⟩) (Named.named κ "log2e" 0x3FB8AA3B#32))
    (Scalar.mulf (s ⟨4 * t.val + 2, by omega⟩) (Named.named κ "log2e" 0x3FB8AA3B#32))
    (Scalar.mulf (s ⟨4 * t.val + 3, by omega⟩) (Named.named κ "log2e" 0x3FB8AA3B#32))
  step := n

theorem inb_sink (j : Fin 16) : ∀ a, ![j.val] a + S1.size a ≤ S16.size a := by fin_cases j <;> decide
theorem sink_pos (j : Fin 16) : 0 < (Rect.unit (s := S16) ![j.val] S1.size (inb_sink j)).shape.numel := by
  fin_cases j <;> decide
theorem inb_queries (s : Fin 4) : ∀ a, ![0, 0, 128 * s.val] a + S1x1024x128.size a ≤ S1x1024x512.size a := by
  fin_cases s <;> decide

end Cert.KernelIdeal.Attn

end
-- ==== Proof.Scores.lean ====
/- The scores and the probabilities a grid step computes, read at an index: a product of a key and a query over the 64 numbers of a head, the
   masks, the sinks, and what a load reads back from the stores of the scores and of the probabilities. -/
module

public import proofs.«01_k».proof.Proof.Block
public import Idealize.ShloMosaic.Lib.Pointwise
public import Idealize.ShloMosaic.Lib.WordCmp
public import Idealize.ShloMosaic.Lib.Pipeline.CanonAppend

@[expose] public section

set_option maxRecDepth 16384
noncomputable section

namespace Cert.KernelIdeal.Attn
open Idealize.ShloMosaic Idealize.ShloMosaic.TcCoe
open Idealize.SL Idealize.SL.Sem
open Cert.KernelIdeal Cert.KernelIdeal.Gen

/-- An index of a query among 512 is one of four heads and one of 128 queries. -/
theorem four_cases (x : Fin 512) {α : Type} (f : ℕ → ℕ → α) :
    (if x.val < 128 then f 0 x.val else if x.val - 128 < 128 then f 1 (x.val - 128)
      else if x.val - 128 - 128 < 128 then f 2 (x.val - 128 - 128) else f 3 (x.val - 128 - 128 - 128)) = f (x.val / 128) (x.val % 128) := by
  have hx := x.isLt
  split_ifs with h1 h2 h3
  · rw [show x.val / 128 = 0 by omega, show x.val % 128 = x.val by omega]
  · rw [show x.val / 128 = 1 by omega, show x.val % 128 = x.val - 128 by omega]
  · rw [show x.val / 128 = 2 by omega, show x.val % 128 = x.val - 128 - 128 by omega]
  · rw [show x.val / 128 = 3 by omega, show x.val % 128 = x.val - 128 - 128 - 128 by omega]

/-- The queries of the four heads of a group, at an index. -/
theorem headRows_apply (Q : FVec Ideal S1024x128 .bf16) (t : Fin 4) (d : Fin 64) (x : Fin 512) :
    headRows Q t (ix2 d x) = Q (ix2 ⟨256 * (x.val / 128) + 64 * t.val + d.val, by omega⟩ ⟨x.val % 128, by omega⟩) := by
  pointwise [headRows]
  have hx := x.isLt
  split_ifs with h1 h2 h3 <;> congr 1 <;> apply congrArg₂ <;> apply Fin.ext <;> simp only <;> omega

/-- The padded queries: zero off the rows of the group. -/
theorem padded_apply (Q : FVec Ideal S1024x128 .bf16) (t : Fin 4) (e : Fin 256) (x : Fin 512) :
    padded Q t (ix2 e x) = if h : 64 * t.val ≤ e.val ∧ e.val < 64 * t.val + 64 then headRows Q t (ix2 ⟨e.val - 64 * t.val, by omega⟩ x) else 0 := by
  have he := e.isLt
  fin_cases t <;> pointwise [padded] <;> split_ifs <;> first | rfl | (exfalso; omega) | (rw [dif_pos (by omega)])

/-- A sum over 256 rows of which all but the 64 of a group are zero. -/
theorem sum_group (t : Fin 4) (A : Fin 256 → EReal) (f : Fin 64 → EReal) :
    (∑ e : Fin 256, A e * (if h : 64 * t.val ≤ e.val ∧ e.val < 64 * t.val + 64 then f ⟨e.val - 64 * t.val, by omega⟩ else 0))
      = ∑ d : Fin 64, A ⟨64 * t.val + d.val, by omega⟩ * f d := by
  symm
  refine Finset.sum_of_injOn (fun d => ⟨64 * t.val + d.val, by omega⟩) ?_ (fun _ _ => Finset.mem_coe.2 (Finset.mem_univ _)) ?_ ?_
  · intro a _ b _ h
    exact Fin.ext (by simpa using h)
  · intro e _ he
    rw [dif_neg, mul_zero]
    rintro ⟨h1, h2⟩
    exact he ⟨⟨e.val - 64 * t.val, by omega⟩, Finset.mem_coe.2 (Finset.mem_univ _), Fin.ext (by simp only; omega)⟩
  · intro d _
    rw [dif_pos ⟨by simp only; omega, by simp only; omega⟩]
    congr 2
    exact Fin.ext (by simp)

/-- The keys a tile of queries looks at, at an index. -/
theorem keysOf_apply (X : Loads Ideal) (s : Fin 4) (r : Fin 640) (d : Fin 256) :
    keysOf X s (ix2 r d) = if h : r.val < 384 then X.keys (ix2 ⟨128 * s.val + r.val, by omega⟩ d)
      else X.ctxKeys (ix2 ⟨r.val - 384, by omega⟩ d) := by
  pointwise [keysOf]

/-- The values a tile of queries looks at, at an index. -/
theorem valsOf_apply (X : Loads Ideal) (s : Fin 4) (d : Fin 256) (r : Fin 640) :
    valsOf X s (ix2 d r) = if h : r.val < 384 then X.vals (ix2 d ⟨128 * s.val + r.val, by omega⟩)
      else X.ctxVals (ix2 d ⟨r.val - 384, by omega⟩) := by
  pointwise [valsOf]

/-- A score before the mask. -/
theorem scoreOf_apply (X : Loads Ideal) (c : Fin 16) (r : Fin 640) (x : Fin 512) :
    scoreOf X c (ix2 r x) = ∑ d : Fin 64, keysOf X (tileOf c) (ix2 r ⟨64 * (groupOf c).val + d.val, by omega⟩)
      * X.queries (tileOf c) (ix2 ⟨256 * (x.val / 128) + 64 * (groupOf c).val + d.val, by omega⟩ ⟨x.val % 128, by omega⟩) := by
  pointwise [scoreOf, dot_S640x256_S256x512_S640x512_1_0_0_1_n_n]
  simp only [padded_apply]
  rw [sum_group (groupOf c) (fun e => keysOf X (tileOf c) (ix2 r e)) (fun d => headRows (X.queries (tileOf c)) (groupOf c) (ix2 d x))]
  simp only [headRows_apply]

theorem mask_named : (Named.named κ "mask" 0xF149F2CA#32 : Ideal .f32) = ⊥ := IdealRules.named_const.ideal_named_scalar _ _ _ _ rfl
theorem log2e_named : (Named.named κ "log2e" 0x3FB8AA3B#32 : Ideal .f32) = (((Real.log 2)⁻¹ : ℝ) : EReal) :=
  IdealRules.named_const.ideal_named_scalar _ _ _ _ rfl

/-- A mask of a tile, at an index. -/
theorem fourMasks_apply (b : IVec S128x128 1) (r : Fin 128) (x : Fin 512) :
    (fourMasks b : FVec Ideal S128x512 .f32) (ix2 r x) = if b (ix2 r ⟨x.val % 128, by omega⟩) = 1#1 then 0 else ⊥ := by
  pointwise [fourMasks]
  rw [mask_named]
  have hx := x.isLt
  have key (n : ℕ) (hn : n < 128) (e : x.val % 128 = n) :
      Scalar.select (b (ix2 r ⟨n, hn⟩)) (0 : EReal) ⊥ = if b (ix2 r ⟨x.val % 128, by omega⟩) = 1#1 then 0 else ⊥ := by
    subst e; rfl
  split_ifs with h1 h2 h3 <;> refine (key _ _ ?_).trans ?_ <;> first | omega | (simp only [*, if_true, if_false])

/-- The mask of the tile before: a key is seen that is at most 128 positions before the query, unless the tile is the first. -/
theorem maskPrev_apply (n : Fin 4) (s : Fin 4) (r : Fin 128) (x : Fin 512) :
    (maskPrev (Scalar.addi (Scalar.muli (BitVec.ofNat 32 n.val) 4#32) (BitVec.ofNat 32 s.val)) : FVec Ideal S128x512 .f32) (ix2 r x)
      = if x.val % 128 ≤ r.val ∧ 0 < 4 * n.val + s.val then 0 else ⊥ := by
  rw [maskPrev, fourMasks_apply]
  have hg : Scalar.cmpi .sgt (Scalar.addi (Scalar.muli (BitVec.ofNat 32 n.val) 4#32) (BitVec.ofNat 32 s.val)) 0#32
      = BitVec.ofBool (decide (0 < 4 * n.val + s.val)) := by revert n s; decide
  pointwise [rowNo, colNo]
  rw [hg, WordCmp.cmpi_sge_ofNat (by omega) (by omega)]
  by_cases h1 : x.val % 128 ≤ r.val <;> by_cases h2 : 0 < 4 * n.val + s.val <;> simp [h1, h2, IntOp.andi]

/-- The mask of the tile after. -/
theorem maskNext_apply (n : Fin 4) (s : Fin 4) (r : Fin 128) (x : Fin 512) :
    (maskNext (Scalar.addi (Scalar.muli (BitVec.ofNat 32 n.val) 4#32) (BitVec.ofNat 32 s.val)) : FVec Ideal S128x512 .f32) (ix2 r x)
      = if r.val ≤ x.val % 128 ∧ 4 * n.val + s.val < 15 then 0 else ⊥ := by
  rw [maskNext, fourMasks_apply]
  have hg : Scalar.cmpi .slt (Scalar.addi (Scalar.muli (BitVec.ofNat 32 n.val) 4#32) (BitVec.ofNat 32 s.val)) 15#32
      = BitVec.ofBool (decide (4 * n.val + s.val < 15)) := by revert n s; decide
  pointwise [rowNo, colNo]
  rw [hg, WordCmp.cmpi_sle_ofNat (by omega) (by omega)]
  by_cases h1 : r.val ≤ x.val % 128 <;> by_cases h2 : 4 * n.val + s.val < 15 <;> simp [h1, h2, IntOp.andi]

/-- The head a column belongs to, as the kernel finds it from the column's number. -/
theorem head_word (q : ℕ) (hq : q < 512) :
    (Scalar.select
      (IntOp.andi
        (IntOp.cmpi .ne
          (IntOp.subi (BitVec.setWidth 32 (IntOp.cmpi .sgt (BitVec.ofNat 32 q) 0#32)) (BitVec.setWidth 32 (IntOp.cmpi .slt (BitVec.ofNat 32 q) 0#32)))
          (Scalar.subi (Scalar.extui (Scalar.cmpi .sgt 128#32 0#32)) (Scalar.extui (Scalar.cmpi .slt 128#32 0#32))))
        (IntOp.cmpi .ne (IntOp.remsi .vector (BitVec.ofNat 32 q) 128#32) 0#32))
      (IntOp.subi (IntOp.divsi .vector (BitVec.ofNat 32 q) 128#32) 1#32)
      (IntOp.divsi .vector (BitVec.ofNat 32 q) 128#32)) = BitVec.ofNat 32 (q / 128) := by
  have h : ∀ q : Fin 512, (Scalar.select
      (IntOp.andi
        (IntOp.cmpi .ne
          (IntOp.subi (BitVec.setWidth 32 (IntOp.cmpi .sgt (BitVec.ofNat 32 q.val) 0#32)) (BitVec.setWidth 32 (IntOp.cmpi .slt (BitVec.ofNat 32 q.val) 0#32)))
          (Scalar.subi (Scalar.extui (Scalar.cmpi .sgt 128#32 0#32)) (Scalar.extui (Scalar.cmpi .slt 128#32 0#32))))
        (IntOp.cmpi .ne (IntOp.remsi .vector (BitVec.ofNat 32 q.val) 128#32) 0#32))
      (IntOp.subi (IntOp.divsi .vector (BitVec.ofNat 32 q.val) 128#32) 1#32)
      (IntOp.divsi .vector (BitVec.ofNat 32 q.val) 128#32)) = BitVec.ofNat 32 (q.val / 128) := by decide +kernel
  exact h ⟨q, hq⟩

/-- The row of sinks of a group, at a column. -/
theorem sinkRow_apply (f : ℕ → EReal) (x : Fin 512) :
    (sinkRow (F := Ideal) (f 0) (f 1) (f 2) (f 3) : FVec Ideal S1x512 .f32) (ix2 0 x) = f (x.val / 128) := by
  pointwise [sinkRow, k0_pay148]
  rw [head_word x.val x.isLt]
  have hx := x.isLt
  have : x.val / 128 = 0 ∨ x.val / 128 = 1 ∨ x.val / 128 = 2 ∨ x.val / 128 = 3 := by omega
  rcases this with h | h | h | h <;> rw [h] <;> rfl

/-- A pair's score with its mask. -/
def masked (X : Loads Ideal) (c : Fin 16) (r : Fin 640) (x : Fin 512) : EReal :=
  if h0 : r.val < 128 then scoreOf X c (ix2 r x) + maskPrev (F := Ideal) (tileNo X (tileOf c)) (ix2 ⟨r.val, h0⟩ x)
  else if h1 : 256 ≤ r.val ∧ r.val < 384 then scoreOf X c (ix2 r x) + maskNext (F := Ideal) (tileNo X (tileOf c)) (ix2 ⟨r.val - 256, by omega⟩ x)
  else scoreOf X c (ix2 r x)

/-- The masked scores of all the pairs, as the contents of the buffer of scores. -/
def maskedAll (X : Loads Ideal) : S16x640x512.Idx → Elt Ideal .f32 := fun y => masked X (y 0) (y 1) (y 2)

/-- Where an entry of a store of rows of a pair lies in the buffer. -/
theorem emb_rows (c : Fin 16) (o : ℕ) (S : Shape) (n : ℕ) (hS : S = ⟨3, ![1, n, 512]⟩) (inb : ∀ a, ![c.val, o, 0] a + (⟨3, ![1, n, 512]⟩ : Shape).size a ≤ S16x640x512.size a)
    (a : Fin n) (ha : o + a.val < 640) (z : Fin 1) (b : Fin 512) :
    (Rect.unit (s := S16x640x512) ![c.val, o, 0] (⟨3, ![1, n, 512]⟩ : Shape).size inb).emb (ix3 z a b) = ix3 c ⟨o + a.val, ha⟩ b := by
  have hz := z.isLt
  funext k
  apply Fin.ext
  fin_cases k <;> simp [Rect.emb_apply]

/-- A store of a tile whose entries are those of a function of the buffer's index. -/
theorem piece_agrees {e : EltTy} (G : S16x640x512.Idx → Elt Ideal e) (c : Fin 16) (o : ℕ) (inb : ∀ a, ![c.val, o, 0] a + S1x128x512.size a ≤ S16x640x512.size a)
    (ho : ∀ a : Fin 128, o + a.val < 640) (T : S128x512.Idx → Elt Ideal e) (h : ∀ (a : Fin 128) (b : Fin 512), T (ix2 a b) = G (ix3 c ⟨o + a.val, ho a⟩ b))
    (x : S1x128x512.Idx) : shapeCast S1x128x512 T shapeCasts_S128x512_S1x128x512 x = G ((Rect.unit (s := S16x640x512) ![c.val, o, 0] S1x128x512.size inb).emb x) := by
  idx_vars x
  pointwise
  rw [h]
  congr 1
  exact (emb_rows c o _ 128 rfl inb x1 (ho x1) x0 x2).symm

/-- The same for the store of the two tiles of the context. -/
theorem last_agrees {e : EltTy} (G : S16x640x512.Idx → Elt Ideal e) (c : Fin 16) (T : S256x512.Idx → Elt Ideal e)
    (h : ∀ (a : Fin 256) (b : Fin 512), T (ix2 a b) = G (ix3 c ⟨384 + a.val, by omega⟩ b))
    (x : S1x256x512.Idx) : shapeCast S1x256x512 T shapeCasts_S256x512_S1x256x512 x = G ((Rect.unit (s := S16x640x512) ![c.val, 384, 0] S1x256x512.size (inb_last c)).emb x) := by
  idx_vars x
  pointwise
  rw [h]
  congr 1
  exact (emb_rows c 384 _ 256 rfl (inb_last c) x1 (by omega) x0 x2).symm

/-- Which places a store of rows of a pair covers. -/
theorem mem_rows (c : Fin 16) (o n : ℕ) (inb : ∀ a, ![c.val, o, 0] a + (⟨3, ![1, n, 512]⟩ : Shape).size a ≤ S16x640x512.size a) (r : Fin 640) (x : Fin 512)
    (h1 : o ≤ r.val) (h2 : r.val < o + n) : (ix3 c r x : S16x640x512.Idx) ∈ (Rect.unit (s := S16x640x512) ![c.val, o, 0] (⟨3, ![1, n, 512]⟩ : Shape).size inb).set := by
  have hx := x.isLt
  refine Rect.mem_set_unit.2 fun a => ?_
  fin_cases a
  · exact ⟨le_rfl, Nat.lt_succ_self _⟩
  · exact ⟨h1, h2⟩
  · exact ⟨Nat.zero_le _, by simpa using hx⟩

/-- What a load of rows of a pair reads back from stores that agree with one function and cover the pair, whatever was stored before. -/
theorem readCov_rows {e : EltTy} (w : View sig .tc .vmem S16x640x512 e) (G : S16x640x512.Idx → Elt Ideal e) (L rest : List (View.Piece (Elt Ideal) S16x640x512 e))
    (hL : ∀ p ∈ L, ∀ x : p.1.shape.Idx, p.2 x = G (p.1.emb x)) (c : Fin 16) (cover : ∀ r x, ∃ p ∈ L, (ix3 c r x : S16x640x512.Idx) ∈ p.1.set)
    (o n : ℕ) (inb : ∀ a, ![c.val, o, 0] a + (⟨3, ![1, n, 512]⟩ : Shape).size a ≤ S16x640x512.size a) (ho : o + n ≤ 640) (z : Fin 1) (a : Fin n) (b : Fin 512) :
    w.readCov (L ++ rest) (Rect.unit (s := S16x640x512) ![c.val, o, 0] (⟨3, ![1, n, 512]⟩ : Shape).size inb).toLoadRect (ix3 z a b)
      = G (ix3 c ⟨o + a.val, by omega⟩ b) := by
  have hidx (z : Fin 1) (a : Fin n) (b : Fin 512) : (Rect.unit (s := S16x640x512) ![c.val, o, 0] (⟨3, ![1, n, 512]⟩ : Shape).size inb).toLoadRect.idx (ix3 z a b)
      = ix3 c ⟨o + a.val, by omega⟩ b := emb_rows c o _ n rfl inb a (by omega) z b
  have hcov (j : (⟨3, ![1, n, 512]⟩ : Shape).Idx) : ∃ p ∈ L ++ rest,
      (Rect.unit (s := S16x640x512) ![c.val, o, 0] (⟨3, ![1, n, 512]⟩ : Shape).size inb).toLoadRect.idx j ∈ p.1.set := by
    obtain ⟨z', a', b', rfl⟩ : ∃ (z' : Fin 1) (a' : Fin n) (b' : Fin 512), j = ix3 z' a' b' :=
      ⟨j 0, j 1, j 2, by funext k; fin_cases k <;> rfl⟩
    obtain ⟨p, hp, hy⟩ := cover ⟨o + a'.val, by omega⟩ b'
    exact ⟨p, List.mem_append_left _ hp, (hidx z' a' b').symm ▸ hy⟩
  rw [View.readCov_eq_canon w (L ++ rest) _ hcov]
  show View.canon (L ++ rest) _ = _
  rw [hidx]
  exact View.canon_append_of_pieces G rest L hL _ (cover _ _)

theorem scorePieces_agree (X : Loads Ideal) (c : Fin 16) :
    ∀ p ∈ scorePieces X c, ∀ x : p.1.shape.Idx, p.2 x = maskedAll X (p.1.emb x) := by
  have h3 := last_agrees (maskedAll X) c (extractStridedSlice S256x512 ![384, 0] (scoreOf X c) slices_S640x512_o384_0_S256x512) fun a b => by
    pointwise [maskedAll, masked]
    split_ifs <;> first | rfl | (exfalso; omega) | (rename_i h; exact absurd h.2 id)
  have h2 := piece_agrees (maskedAll X) c 256 (inb_tile c 2) (fun a => by omega)
    (addf (extractStridedSlice S128x512 ![128 * (2 : Fin 3).val, 0] (scoreOf X c) (slices_tile 2)) (maskNext (tileNo X (tileOf c)))) fun a b => by
    pointwise [maskedAll, masked]
    rw [dif_neg (by omega), dif_pos (by omega)]
  have h1 := piece_agrees (maskedAll X) c 128 (inb_tile c 1) (fun a => by omega)
    (extractStridedSlice S128x512 ![128 * (1 : Fin 3).val, 0] (scoreOf X c) (slices_tile 1)) fun a b => by
    pointwise [maskedAll, masked]
    rw [dif_neg (by omega)]
  have h0 := piece_agrees (maskedAll X) c 0 (inb_tile c 0) (fun a => by omega)
    (addf (extractStridedSlice S128x512 ![128 * (0 : Fin 3).val, 0] (scoreOf X c) (slices_tile 0)) (maskPrev (tileNo X (tileOf c)))) fun a b => by
    pointwise [maskedAll, masked]
  exact List.forall_mem_cons.2 ⟨h3, List.forall_mem_cons.2 ⟨h2, List.forall_mem_cons.2 ⟨h1, List.forall_mem_cons.2
    ⟨h0, fun _ h => absurd h List.not_mem_nil⟩⟩⟩⟩

theorem scoreStores_agree (X : Loads Ideal) (n : ℕ) :
    ∀ p ∈ scoreStores X n, ∀ x : p.1.shape.Idx, p.2 x = maskedAll X (p.1.emb x) := by
  induction n with
  | zero => exact fun _ h => absurd h List.not_mem_nil
  | succ n ih =>
    intro p hp
    rcases List.mem_append.1 hp with h | h
    · exact scorePieces_agree X _ p h
    · exact ih p h

theorem mem_scoreStores (X : Loads Ideal) (c : Fin 16) (n : ℕ) (h : c.val < n) (hn : n ≤ 16) : ∀ p ∈ scorePieces X c, p ∈ scoreStores X n := by
  induction n with
  | zero => omega
  | succ n ih =>
    intro p hp
    by_cases hc : c.val = n
    · have : pairNo n = c := Fin.ext (by simp only [pairNo]; omega)
      exact List.mem_append_left _ (this ▸ hp)
    · exact List.mem_append_right _ (ih (by omega) (by omega) p hp)

/-- Every place of a pair is in one of its stores. -/
theorem scores_cover (X : Loads Ideal) (c : Fin 16) (r : Fin 640) (x : Fin 512) : ∃ p ∈ scoreStores X 16, (ix3 c r x : S16x640x512.Idx) ∈ p.1.set := by
  have key : ∃ p ∈ scorePieces X c, (ix3 c r x : S16x640x512.Idx) ∈ p.1.set := by
    have hr := r.isLt
    have hx := x.isLt
    have hcase : (384 ≤ r.val ∧ r.val < 640) ∨ (256 ≤ r.val ∧ r.val < 384) ∨ (128 ≤ r.val ∧ r.val < 256) ∨ r.val < 128 := by omega
    rcases hcase with h | h | h | h
    · exact ⟨_, List.mem_cons_self, mem_rows c 384 256 (inb_last c) r x h.1 h.2⟩
    · exact ⟨_, List.mem_cons_of_mem _ List.mem_cons_self, mem_rows c 256 128 (inb_tile c 2) r x h.1 h.2⟩
    · exact ⟨_, List.mem_cons_of_mem _ (List.mem_cons_of_mem _ List.mem_cons_self), mem_rows c 128 128 (inb_tile c 1) r x h.1 h.2⟩
    · exact ⟨_, List.mem_cons_of_mem _ (List.mem_cons_of_mem _ (List.mem_cons_of_mem _ List.mem_cons_self)),
        mem_rows c 0 128 (inb_tile c 0) r x (Nat.zero_le _) (by omega)⟩
  obtain ⟨p, hp, hy⟩ := key
  exact ⟨p, mem_scoreStores X c 16 c.isLt le_rfl p hp, hy⟩

theorem cast_tile {α : Type} (f : S1x128x512.Idx → α) (a : Fin 128) (b : Fin 512) :
    shapeCast S128x512 f shapeCasts_S1x128x512_S128x512 (ix2 a b) = f (ix3 0 a b) := by
  pointwise

theorem cast_slab {α : Type} (f : S1x640x512.Idx → α) (a : Fin 640) (b : Fin 512) :
    shapeCast S640x512 f shapeCasts_S1x640x512_S640x512 (ix2 a b) = f (ix3 0 a b) := by
  pointwise

/-- A score tile read back from stores that agree with one function and cover the pair. -/
theorem scoreTile_of (v : View sig .tc .vmem S16x640x512 .f32) (G : S16x640x512.Idx → Elt Ideal .f32) (L : List (View.Piece (Elt Ideal) S16x640x512 .f32))
    (hL : ∀ p ∈ L, ∀ x : p.1.shape.Idx, p.2 x = G (p.1.emb x)) (c : Fin 16) (hc : ∀ r x, ∃ p ∈ L, (ix3 c r x : S16x640x512.Idx) ∈ p.1.set)
    (k : Fin 5) (a : Fin 128) (b : Fin 512) : scoreTile v L c k (ix2 a b) = G (ix3 c ⟨128 * k.val + a.val, by omega⟩ b) := by
  have h := readCov_rows v G L [] hL c hc (128 * k.val) 128 (inb_tile c k) (by omega) 0 a b
  rw [List.append_nil] at h
  exact (cast_tile _ a b).trans h

/-- A score tile read back holds the masked scores. -/
theorem scoreTile_apply (v : View sig .tc .vmem S16x640x512 .f32) (X : Loads Ideal) (c : Fin 16) (k : Fin 5) (a : Fin 128) (b : Fin 512) :
    scoreTile v (scoreStores X 16) c k (ix2 a b) = masked X c ⟨128 * k.val + a.val, by omega⟩ b :=
  scoreTile_of v (maskedAll X) (scoreStores X 16) (scoreStores_agree X 16) c (scores_cover X c) k a b

/-- The exponential of a masked score less `m`, as the contents of a buffer of probabilities. -/
def expAll (X : Loads Ideal) (c : Fin 16) (m : FVec Ideal S1x512 .f32) : S16x640x512.Idx → Elt Ideal .bf16 :=
  fun y => Ideal.exp2 (masked X c (y 1) (y 2) - m (ix2 0 (y 2)))

theorem probPieces_agree (X : Loads Ideal) (c : Fin 16) (z : FVec Ideal S1x512 .f32) (T : Fin 5 → FVec Ideal S128x512 .f32)
    (hT : ∀ (k : Fin 5) (a : Fin 128) (b : Fin 512), T k (ix2 a b) = masked X c ⟨128 * k.val + a.val, by omega⟩ b) :
    ∀ p ∈ probPieces c z T, ∀ x : p.1.shape.Idx, p.2 x = expAll X c (maxOf z T) (p.1.emb x) := by
  have key (k : Fin 5) := piece_agrees (expAll X c (maxOf z T)) c (128 * k.val) (inb_tile c k) (fun a => by omega)
    (truncf .bf16 (exp2 (subf (T k) (broadcastTo S128x512 (maxOf z T) broadcasts_S1x512_S128x512))) bitsLt_bf16_f32) fun a b => by
      pointwise [expAll]
      rw [hT]
      rfl
  exact List.forall_mem_cons.2 ⟨key 4, List.forall_mem_cons.2 ⟨key 3, List.forall_mem_cons.2 ⟨key 2, List.forall_mem_cons.2
    ⟨key 1, List.forall_mem_cons.2 ⟨key 0, fun _ h => absurd h List.not_mem_nil⟩⟩⟩⟩⟩

theorem mem_probPieces (c : Fin 16) (z : FVec Ideal S1x512 .f32) (T : Fin 5 → FVec Ideal S128x512 .f32) (k : Fin 5) : probPiece c z T k ∈ probPieces c z T := by
  unfold probPieces
  fin_cases k <;> simp

/-- A pair's probabilities read back from stores that agree with one function and cover the pair. -/
theorem probOf_of (w : View sig .tc .vmem S16x640x512 .bf16) (G : S16x640x512.Idx → Elt Ideal .bf16) (L rest : List (View.Piece (Elt Ideal) S16x640x512 .bf16))
    (hL : ∀ p ∈ L, ∀ x : p.1.shape.Idx, p.2 x = G (p.1.emb x)) (c : Fin 16) (hc : ∀ r x, ∃ p ∈ L, (ix3 c r x : S16x640x512.Idx) ∈ p.1.set)
    (r : Fin 640) (x : Fin 512) : probOf w (L ++ rest) c (ix2 r x) = G (ix3 c r x) := by
  have h := readCov_rows w G L rest hL c hc 0 640 (inb_slab c) le_rfl 0 r x
  refine ((cast_slab _ r x).trans h).trans (congrArg G ?_)
  congr 1
  exact Fin.ext (Nat.zero_add _)

/-- A pair's probabilities read back, whatever was stored before them. -/
theorem probOf_apply (w : View sig .tc .vmem S16x640x512 .bf16) (X : Loads Ideal) (c : Fin 16) (z : FVec Ideal S1x512 .f32) (T : Fin 5 → FVec Ideal S128x512 .f32)
    (hT : ∀ (k : Fin 5) (a : Fin 128) (b : Fin 512), T k (ix2 a b) = masked X c ⟨128 * k.val + a.val, by omega⟩ b)
    (rest : List (View.Piece (Elt Ideal) S16x640x512 .bf16)) (r : Fin 640) (x : Fin 512) :
    probOf w (probPieces c z T ++ rest) c (ix2 r x) = Ideal.exp2 (masked X c r x - maxOf z T (ix2 0 x)) :=
  probOf_of w (expAll X c (maxOf z T)) (probPieces c z T) rest (probPieces_agree X c z T hT) c
    (fun r x => ⟨probPiece c z T ⟨r.val / 128, by omega⟩, mem_probPieces c z T _,
      mem_rows c (128 * (r.val / 128)) 128 (inb_tile c ⟨r.val / 128, by omega⟩) r x (by omega) (by omega)⟩) r x

end Cert.KernelIdeal.Attn
end
-- ==== Proof.Out.lean ====
/- The attention a grid step computes, read at an index: one query of one head against its 640 keys and its sink. -/
module

public import proofs.«01_k».proof.Proof.Scores

@[expose] public section

set_option maxRecDepth 16384
noncomputable section

namespace Cert.KernelIdeal.Attn
open Idealize.ShloMosaic Idealize.ShloMosaic.TcCoe
open Idealize.SL Idealize.SL.Sem
open Cert.KernelIdeal Cert.KernelIdeal.Gen

/-- The largest of a query's masked scores and its sink. -/
def topScore (X : Loads Ideal) (c : Fin 16) (x : Fin 512) : EReal :=
  Finset.univ.fold max (X.sinks (groupOf c) (ix2 0 x)) fun r : Fin 640 => masked X c r x

theorem neg_inf_word : Ideal.ofBits .f32 0xFF800000#32 = ⊥ := by
  simp [Ideal.ofBits, Ideal.ieee]

theorem tileMax_le (T : FVec Ideal S128x512 .f32) (x : Fin 512) (y : EReal) : tileMax T (ix2 0 x) ≤ y ↔ ∀ a : Fin 128, T (ix2 a x) ≤ y := by
  pointwise [tileMax]
  rw [neg_inf_word, Finset.fold_max_le]
  simp

theorem maxOf_apply (X : Loads Ideal) (c : Fin 16) (T : Fin 5 → FVec Ideal S128x512 .f32)
    (hT : ∀ (k : Fin 5) (a : Fin 128) (b : Fin 512), T k (ix2 a b) = masked X c ⟨128 * k.val + a.val, by omega⟩ b) (x : Fin 512) :
    maxOf (X.sinks (groupOf c)) T (ix2 0 x) = topScore X c x := by
  refine eq_of_forall_ge_iff fun y => ?_
  rw [topScore, Finset.fold_max_le]
  pointwise [maxOf]
  simp only [max_le_iff, tileMax_le, hT]
  constructor
  · rintro ⟨⟨⟨⟨⟨h, h0⟩, h1⟩, h2⟩, h3⟩, h4⟩
    refine ⟨h, fun r _ => ?_⟩
    have hr := r.isLt
    have key (k : Fin 5) (hk : ∀ a : Fin 128, masked X c ⟨128 * k.val + a.val, by omega⟩ x ≤ y) (h1 : 128 * k.val ≤ r.val) (h2 : r.val < 128 * k.val + 128) :
        masked X c r x ≤ y := by
      have := hk ⟨r.val - 128 * k.val, by omega⟩
      rwa [show (⟨128 * k.val + (⟨r.val - 128 * k.val, by omega⟩ : Fin 128).val, by simp only; omega⟩ : Fin 640) = r from Fin.ext (by simp only; omega)] at this
    have hcase : r.val < 128 ∨ (128 ≤ r.val ∧ r.val < 256) ∨ (256 ≤ r.val ∧ r.val < 384) ∨ (384 ≤ r.val ∧ r.val < 512) ∨ 512 ≤ r.val := by omega
    rcases hcase with h | h | h | h | h
    · exact key 0 h0 (Nat.zero_le _) (by simpa using h)
    · exact key 1 h1 h.1 h.2
    · exact key 2 h2 h.1 h.2
    · exact key 3 h3 h.1 h.2
    · exact key 4 h4 h (by simpa using hr)
  · rintro ⟨h, hr⟩
    exact ⟨⟨⟨⟨⟨h, fun a => hr _ (Finset.mem_univ _)⟩, fun a => hr _ (Finset.mem_univ _)⟩, fun a => hr _ (Finset.mem_univ _)⟩,
      fun a => hr _ (Finset.mem_univ _)⟩, fun a => hr _ (Finset.mem_univ _)⟩

theorem outOf_apply (V : FVec Ideal S256x640 .bf16) (t : Fin 4) (hs) (p : FVec Ideal S640x512 .bf16) (z m : FVec Ideal S1x512 .f32) (d : Fin 64) (x : Fin 512) :
    outOf (concatenate S80x640 0 [⟨S64x640, extractStridedSlice S64x640 ![64 * t.val, 0] V hs⟩,
      ⟨S16x640, broadcast S16x640 (Scalar.ofBits .bf16 0x3F80#16)⟩] concatenates_S64x640_S16x640_S80x640_d0) p z m (ix2 d x)
      = (∑ r : Fin 640, V (ix2 ⟨64 * t.val + d.val, by omega⟩ r) * p (ix2 r x))
        * Ideal.div 1 ((∑ r : Fin 640, p (ix2 r x)) + Ideal.exp2 (z (ix2 0 x) - m (ix2 0 x))) := by
  pointwise [outOf, sumOf, prodOf, dot_S80x640_S640x512_S80x512_1_0_0_1_n_n]
  rfl

theorem headOut_apply (O : Fin 4 → FVec Ideal S64x512 .f32) (j : Fin 4) (q : Fin 128) (e : Fin 256) :
    headOut O j (ix2 q e) = O ⟨e.val / 64, by omega⟩ (ix2 ⟨e.val % 64, by omega⟩ ⟨128 * j.val + q.val, by omega⟩) := by
  have he := e.isLt
  pointwise [headOut]
  have key (t : Fin 4) (d : ℕ) (hd : d < 64) (h : e.val = 64 * t.val + d) :
      O t (ix2 ⟨d, hd⟩ ⟨128 * j.val + q.val, by omega⟩) = O ⟨e.val / 64, by omega⟩ (ix2 ⟨e.val % 64, by omega⟩ ⟨128 * j.val + q.val, by omega⟩) := by
    rw [show (⟨e.val / 64, by omega⟩ : Fin 4) = t from Fin.ext (by simp only; omega)]
    congr 2
    exact Fin.ext (by simp only; omega)
  split_ifs <;> first
    | exact key 0 _ _ (by simp) | exact key 1 _ _ (by simp; omega) | exact key 2 _ _ (by simp; omega) | exact key 3 _ _ (by simp; omega)
    | (exfalso; omega)

theorem columns_apply (T : Fin 4 → FVec Ideal S128x256 .f32) (q : Fin 128) (n : Fin 1024) :
    concatenate S128x1024 1 [⟨S128x256, T 0⟩, ⟨S128x256, T 1⟩, ⟨S128x256, T 2⟩, ⟨S128x256, T 3⟩]
      concatenates_S128x256_S128x256_S128x256_S128x256_S128x1024_d1 (ix2 q n)
      = T ⟨n.val / 256, by omega⟩ (ix2 q ⟨n.val % 256, by omega⟩) := by
  have hn := n.isLt
  pointwise
  have key (j : Fin 4) (e : ℕ) (he : e < 256) (h : n.val = 256 * j.val + e) :
      T j (ix2 q ⟨e, he⟩) = T ⟨n.val / 256, by omega⟩ (ix2 q ⟨n.val % 256, by omega⟩) := by
    rw [show (⟨n.val / 256, by omega⟩ : Fin 4) = j from Fin.ext (by simp only; omega)]
    congr 2
    exact Fin.ext (by simp only; omega)
  split_ifs <;> first
    | exact key 0 _ _ (by simp) | exact key 1 _ _ (by simp; omega) | exact key 2 _ _ (by simp; omega) | exact key 3 _ _ (by simp; omega)
    | (exfalso; omega)

theorem tileOut_apply (O : Fin 4 → FVec Ideal S64x512 .f32) (q : Fin 128) (n : Fin 1024) :
    tileOut O (ix2 q n) = headOut O ⟨n.val / 256, by omega⟩ (ix2 q ⟨n.val % 256, by omega⟩) :=
  columns_apply (headOut O) q n

theorem tiles_apply (T : Fin 4 → FVec Ideal S128x1024 .f32) (i : Fin 512) (n : Fin 1024) :
    concatenate S512x1024 0 [⟨S128x1024, T 0⟩, ⟨S128x1024, T 1⟩, ⟨S128x1024, T 2⟩, ⟨S128x1024, T 3⟩]
      concatenates_S128x1024_S128x1024_S128x1024_S128x1024_S512x1024_d0 (ix2 i n)
      = T ⟨i.val / 128, by omega⟩ (ix2 ⟨i.val % 128, by omega⟩ n) := by
  have hi := i.isLt
  pointwise
  have key (s : Fin 4) (e : ℕ) (he : e < 128) (h : i.val = 128 * s.val + e) :
      T s (ix2 ⟨e, he⟩ n) = T ⟨i.val / 128, by omega⟩ (ix2 ⟨i.val % 128, by omega⟩ n) := by
    rw [show (⟨i.val / 128, by omega⟩ : Fin 4) = s from Fin.ext (by simp only; omega)]
    congr 2
    exact Fin.ext (by simp only; omega)
  split_ifs <;> first
    | exact key 0 _ _ (by simp) | exact key 1 _ _ (by simp; omega) | exact key 2 _ _ (by simp; omega) | exact key 3 _ _ (by simp; omega)
    | (exfalso; omega)

/-- An exponential of a masked score less the query's top score. -/
def expScore (X : Loads Ideal) (c : Fin 16) (r : Fin 640) (x : Fin 512) : EReal := Ideal.exp2 (masked X c r x - topScore X c x)

/-- The attention of one query of one head of a pair. -/
def attended (X : Loads Ideal) (c : Fin 16) (d : Fin 64) (x : Fin 512) : EReal :=
  (∑ r : Fin 640, valsOf X (tileOf c) (ix2 ⟨64 * (groupOf c).val + d.val, by omega⟩ r) * expScore X c r x)
    * Ideal.div 1 ((∑ r : Fin 640, expScore X c r x) + Ideal.exp2 (X.sinks (groupOf c) (ix2 0 x) - topScore X c x))

theorem pairOut_apply (v : View sig .tc .vmem S16x640x512 .f32) (w : View sig .tc .vmem S16x640x512 .bf16) (X : Loads Ideal) (c : Fin 16)
    (rest : List (View.Piece (Elt Ideal) S16x640x512 .bf16)) (d : Fin 64) (x : Fin 512) :
    outOf (valsOnes X c) (probOf w (probPieces c (X.sinks (groupOf c)) (scoreTile v (scoreStores X 16) c) ++ rest) c) (X.sinks (groupOf c))
      (maxOf (X.sinks (groupOf c)) (scoreTile v (scoreStores X 16) c)) (ix2 d x) = attended X c d x := by
  have hT := scoreTile_apply v X c
  rw [valsOnes, outOf_apply]
  simp only [probOf_apply w X c (X.sinks (groupOf c)) _ hT rest, maxOf_apply X c _ hT x]
  rfl

/-- The attention of the block, at an index. -/
theorem blockOut_apply (v : View sig .tc .vmem S16x640x512 .f32) (w : View sig .tc .vmem S16x640x512 .bf16) (X : Loads Ideal)
    (P rest : Fin 16 → List (View.Piece (Elt Ideal) S16x640x512 .bf16))
    (hP : ∀ k, P k = probPieces k (X.sinks (groupOf k)) (scoreTile v (scoreStores X 16) k) ++ rest k) (i : Fin 512) (n : Fin 1024) :
    blockOut v w X (scoreStores X 16) P (ix2 i n)
      = attended X (pair ⟨i.val / 128, by omega⟩ ⟨n.val % 256 / 64, by omega⟩) ⟨n.val % 64, by omega⟩ ⟨128 * (n.val / 256) + i.val % 128, by omega⟩ := by
  have hO (s t : Fin 4) (d : Fin 64) (x : Fin 512) :
      outOf (valsOnes X (pair s t)) (probOf w (P (pair s t)) (pair s t)) (X.sinks t) (maxOf (X.sinks t) (scoreTile v (scoreStores X 16) (pair s t))) (ix2 d x)
        = attended X (pair s t) d x := by
    have ht : groupOf (pair s t) = t := Fin.ext (by simp only [groupOf, pair]; omega)
    have h := pairOut_apply v w X (pair s t) (rest (pair s t)) d x
    rw [← hP, ht] at h
    exact h
  refine (tiles_apply (fun s => tileOut fun t => outOf (valsOnes X (pair s t)) (probOf w (P (pair s t)) (pair s t)) (X.sinks t)
    (maxOf (X.sinks t) (scoreTile v (scoreStores X 16) (pair s t)))) i n).trans ?_
  refine (tileOut_apply _ _ n).trans ((headOut_apply _ _ _ _).trans
    ((hO ⟨i.val / 128, by omega⟩ ⟨n.val % 256 / 64, by omega⟩ ⟨n.val % 256 % 64, by omega⟩ ⟨128 * (n.val / 256) + i.val % 128, by omega⟩).trans ?_))
  congr 2
  omega

end Cert.KernelIdeal.Attn
end
-- ==== Proof.Body.lean ====
/- The body of the attention kernel stores what Proof/Block.lean writes out: its stores of scores and of probabilities are those lists,
   and the block it stores is `blockOut` followed by the gate, the output projection and the layer norm. -/
module

public import proofs.«01_k».proof.Proof.Block

@[expose] public section

set_option maxRecDepth 100000
noncomputable section

namespace Cert.KernelIdeal.Attn
open Idealize.ShloMosaic Idealize.ShloMosaic.TcCoe Idealize.ShloMosaic.Tactic
open Idealize.SL Idealize.SL.Sem
open Cert.KernelIdeal Cert.KernelIdeal.Gen
variable {F : FTy → Type} [FloatOps F] [Named F]

/-- What the body reads, from the contents of its windows. -/
def windowLoads (i : grid0.Coords) (x0 : Vec F S16 .f32) (x1 : Vec F S1x1024x512 .bf16)
    (x3 : Vec F S1x128x256 .bf16) (x4 : Vec F S1x512x256 .bf16) (x5 : Vec F S1x128x256 .bf16)
    (x6 : Vec F S1x256x128 .bf16) (x7 : Vec F S1x256x512 .bf16) (x8 : Vec F S1x256x128 .bf16) (x9 x10 : Vec F S1x256x256 .bf16) : Loads F :=
  loads (BitVec.ofNat 32 (i 1).val) (fun j => View.ld x0 (Rect.unit (s := S16) ![j.val] S1.size (inb_sink j)) (Shape.Idx.first (sink_pos j)))
      (fun s => View.ld x1 (Rect.unit (s := S1x1024x512) ![0, 0, 128 * s.val] S1x1024x128.size (inb_queries s)))
      x3 x4 x5 x6 x7 x8 x9 x10

/-- The same, as the body's loads are written. -/
abbrev X0  (c : Dev nD) (i : grid0.Coords) (arg2 : Memref sig .tc .smem S16 .f32) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x128x256 .bf16) (harg5 : arg5.IsWhole) (arg6 : Memref sig .tc .vmem S1x512x256 .bf16) (harg6 : arg6.IsWhole) (arg7 : Memref sig .tc .vmem S1x128x256 .bf16) (harg7 : arg7.IsWhole) (arg8 : Memref sig .tc .vmem S1x256x128 .bf16) (harg8 : arg8.IsWhole) (arg9 : Memref sig .tc .vmem S1x256x512 .bf16) (harg9 : arg9.IsWhole) (arg10 : Memref sig .tc .vmem S1x256x128 .bf16) (harg10 : arg10.IsWhole) (arg11 : Memref sig .tc .vmem S1x256x256 .bf16) (harg11 : arg11.IsWhole) (arg12 : Memref sig .tc .vmem S1x256x256 .bf16) (harg12 : arg12.IsWhole) (arg13 : Memref sig .tc .vmem S1x512x1024 .f32) (harg13 : arg13.IsWhole) (arg14 : Memref sig .tc .vmem S1x1x1x1x1024 .f32) (harg14 : arg14.IsWhole) (arg15 : Memref sig .tc .vmem S1024x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x512x1024 .f32) (harg18 : arg18.IsWhole) (arg19 : Memref sig .tc .vmem S16x640x512 .f32) (harg19 : arg19.IsWhole) (arg20 : Memref sig .tc .vmem S16x640x512 .bf16) (harg20 : arg20.IsWhole)
    (x0 : Vec F S16 .f32) (x1 : Vec F S1x1024x512 .bf16) (x2 : Vec F S1x512x1024 .bf16) (x3 : Vec F S1x128x256 .bf16) (x4 : Vec F S1x512x256 .bf16) (x5 : Vec F S1x128x256 .bf16) (x6 : Vec F S1x256x128 .bf16) (x7 : Vec F S1x256x512 .bf16) (x8 : Vec F S1x256x128 .bf16) (x9 : Vec F S1x256x256 .bf16) (x10 : Vec F S1x256x256 .bf16) (x11 : Vec F S1x512x1024 .f32) (x12 : Vec F S1x1x1x1x1024 .f32) (x13 : Vec F S1024x1024 .bf16) (x14 : Vec F S1x1x1024 .f32) (x15 : Vec F S1x1x1024 .f32)  : Loads F := (loads (BitVec.ofNat 32 (i 1).val)
      (fun j => View.readAt (Elt F) arg2.view (Rect.unit (s := S16) ![j.val] S1.size (inb_sink j)).toLoadRect (harg2.unread x0) (Shape.Idx.first (sink_pos j)))
      (fun s => View.readAt (Elt F) arg3.view (Rect.unit (s := S1x1024x512) ![0, 0, 128 * s.val] S1x1024x128.size (inb_queries s)).toLoadRect (harg3.unread x1))
      (View.readAt (Elt F) arg5.view (Rect.unit (s := S1x128x256) ![0, 0, 0] S1x128x256.size inb_S1x128x256_S1x128x256_0_0_0).toLoadRect (harg5.unread x3)) (View.readAt (Elt F) arg6.view (Rect.unit (s := S1x512x256) ![0, 0, 0] S1x512x256.size inb_S1x512x256_S1x512x256_0_0_0).toLoadRect (harg6.unread x4)) (View.readAt (Elt F) arg7.view (Rect.unit (s := S1x128x256) ![0, 0, 0] S1x128x256.size inb_S1x128x256_S1x128x256_0_0_0).toLoadRect (harg7.unread x5))
      (View.readAt (Elt F) arg8.view (Rect.unit (s := S1x256x128) ![0, 0, 0] S1x256x128.size inb_S1x256x128_S1x256x128_0_0_0).toLoadRect (harg8.unread x6)) (View.readAt (Elt F) arg9.view (Rect.unit (s := S1x256x512) ![0, 0, 0] S1x256x512.size inb_S1x256x512_S1x256x512_0_0_0).toLoadRect (harg9.unread x7)) (View.readAt (Elt F) arg10.view (Rect.unit (s := S1x256x128) ![0, 0, 0] S1x256x128.size inb_S1x256x128_S1x256x128_0_0_0).toLoadRect (harg10.unread x8))
      (View.readAt (Elt F) arg11.view (Rect.unit (s := S1x256x256) ![0, 0, 0] S1x256x256.size inb_S1x256x256_S1x256x256_0_0_0).toLoadRect (harg11.unread x9)) (View.readAt (Elt F) arg12.view (Rect.unit (s := S1x256x256) ![0, 0, 0] S1x256x256.size inb_S1x256x256_S1x256x256_0_0_0).toLoadRect (harg12.unread x10)))

/-- The stores of the probabilities made when a pair's are read back. -/
abbrev P0  (c : Dev nD) (i : grid0.Coords) (arg2 : Memref sig .tc .smem S16 .f32) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x128x256 .bf16) (harg5 : arg5.IsWhole) (arg6 : Memref sig .tc .vmem S1x512x256 .bf16) (harg6 : arg6.IsWhole) (arg7 : Memref sig .tc .vmem S1x128x256 .bf16) (harg7 : arg7.IsWhole) (arg8 : Memref sig .tc .vmem S1x256x128 .bf16) (harg8 : arg8.IsWhole) (arg9 : Memref sig .tc .vmem S1x256x512 .bf16) (harg9 : arg9.IsWhole) (arg10 : Memref sig .tc .vmem S1x256x128 .bf16) (harg10 : arg10.IsWhole) (arg11 : Memref sig .tc .vmem S1x256x256 .bf16) (harg11 : arg11.IsWhole) (arg12 : Memref sig .tc .vmem S1x256x256 .bf16) (harg12 : arg12.IsWhole) (arg13 : Memref sig .tc .vmem S1x512x1024 .f32) (harg13 : arg13.IsWhole) (arg14 : Memref sig .tc .vmem S1x1x1x1x1024 .f32) (harg14 : arg14.IsWhole) (arg15 : Memref sig .tc .vmem S1024x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x512x1024 .f32) (harg18 : arg18.IsWhole) (arg19 : Memref sig .tc .vmem S16x640x512 .f32) (harg19 : arg19.IsWhole) (arg20 : Memref sig .tc .vmem S16x640x512 .bf16) (harg20 : arg20.IsWhole)
    (x0 : Vec F S16 .f32) (x1 : Vec F S1x1024x512 .bf16) (x2 : Vec F S1x512x1024 .bf16) (x3 : Vec F S1x128x256 .bf16) (x4 : Vec F S1x512x256 .bf16) (x5 : Vec F S1x128x256 .bf16) (x6 : Vec F S1x256x128 .bf16) (x7 : Vec F S1x256x512 .bf16) (x8 : Vec F S1x256x128 .bf16) (x9 : Vec F S1x256x256 .bf16) (x10 : Vec F S1x256x256 .bf16) (x11 : Vec F S1x512x1024 .f32) (x12 : Vec F S1x1x1x1x1024 .f32) (x13 : Vec F S1024x1024 .bf16) (x14 : Vec F S1x1x1024 .f32) (x15 : Vec F S1x1x1024 .f32)  : Fin 16 → List (View.Piece (Elt F) S16x640x512 .bf16) :=
  ![kernelRun0_A.sl.HS1_5 c i arg2 harg2 arg3 harg3 arg5 harg5 arg6 harg6 arg7 harg7 arg11 harg11 arg19 x0 x1 x3 x4 x5 x9,
    kernelRun0_A.sl.HS1_10 c i arg2 harg2 arg3 harg3 arg5 harg5 arg6 harg6 arg7 harg7 arg11 harg11 arg19 x0 x1 x3 x4 x5 x9,
    kernelRun0_A.sl.HS1_15 c i arg2 harg2 arg3 harg3 arg5 harg5 arg6 harg6 arg7 harg7 arg11 harg11 arg19 x0 x1 x3 x4 x5 x9,
    kernelRun0_A.sl.HS1_20 c i arg2 harg2 arg3 harg3 arg5 harg5 arg6 harg6 arg7 harg7 arg11 harg11 arg19 x0 x1 x3 x4 x5 x9,
    kernelRun0_A.sl.HS1_25 c i arg2 harg2 arg3 harg3 arg5 harg5 arg6 harg6 arg7 harg7 arg11 harg11 arg19 x0 x1 x3 x4 x5 x9,
    kernelRun0_A.sl.HS1_30 c i arg2 harg2 arg3 harg3 arg5 harg5 arg6 harg6 arg7 harg7 arg11 harg11 arg19 x0 x1 x3 x4 x5 x9,
    kernelRun0_A.sl.HS1_35 c i arg2 harg2 arg3 harg3 arg5 harg5 arg6 harg6 arg7 harg7 arg11 harg11 arg19 x0 x1 x3 x4 x5 x9,
    kernelRun0_A.sl.HS1_40 c i arg2 harg2 arg3 harg3 arg5 harg5 arg6 harg6 arg7 harg7 arg11 harg11 arg19 x0 x1 x3 x4 x5 x9,
    kernelRun0_A.sl.HS1_45 c i arg2 harg2 arg3 harg3 arg5 harg5 arg6 harg6 arg7 harg7 arg11 harg11 arg19 x0 x1 x3 x4 x5 x9,
    kernelRun0_A.sl.HS1_50 c i arg2 harg2 arg3 harg3 arg5 harg5 arg6 harg6 arg7 harg7 arg11 harg11 arg19 x0 x1 x3 x4 x5 x9,
    kernelRun0_A.sl.HS1_55 c i arg2 harg2 arg3 harg3 arg5 harg5 arg6 harg6 arg7 harg7 arg11 harg11 arg19 x0 x1 x3 x4 x5 x9,
    kernelRun0_A.sl.HS1_60 c i arg2 harg2 arg3 harg3 arg5 harg5 arg6 harg6 arg7 harg7 arg11 harg11 arg19 x0 x1 x3 x4 x5 x9,
    kernelRun0_A.sl.HS1_65 c i arg2 harg2 arg3 harg3 arg5 harg5 arg6 harg6 arg7 harg7 arg11 harg11 arg19 x0 x1 x3 x4 x5 x9,
    kernelRun0_A.sl.HS1_70 c i arg2 harg2 arg3 harg3 arg5 harg5 arg6 harg6 arg7 harg7 arg11 harg11 arg19 x0 x1 x3 x4 x5 x9,
    kernelRun0_A.sl.HS1_75 c i arg2 harg2 arg3 harg3 arg5 harg5 arg6 harg6 arg7 harg7 arg11 harg11 arg19 x0 x1 x3 x4 x5 x9,
    kernelRun0_A.sl.HS1_80 c i arg2 harg2 arg3 harg3 arg5 harg5 arg6 harg6 arg7 harg7 arg11 harg11 arg19 x0 x1 x3 x4 x5 x9]

theorem zero2 : (![0, 0] : Fin 2 → ℕ) = fun _ => 0 := by decide
theorem zero3 : (![0, 0, 0] : Fin 3 → ℕ) = fun _ => 0 := by decide
theorem zero5 : (![0, 0, 0, 0, 0] : Fin 5 → ℕ) = fun _ => 0 := by decide

/-- A load of a whole window reads its contents. -/
theorem read_whole {κ : Kind} {sp : Space} {S : Shape} {e : EltTy} {m : Memref sig κ sp S e} (h : m.IsWhole) (x : Vec F S e)
    {off : Fin S.rank → ℕ} (ho : off = fun _ => 0) (inb : ∀ a, off a + S.size a ≤ S.size a) :
    View.readAt (Elt F) m.view (Rect.unit off S.size inb).toLoadRect (h.unread x) = x := by
  rw [View.readAt_eq_ld, h.read_unread, View.ld_unit_zero ho]

theorem X0_eq  (c : Dev nD) (i : grid0.Coords) (arg2 : Memref sig .tc .smem S16 .f32) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x128x256 .bf16) (harg5 : arg5.IsWhole) (arg6 : Memref sig .tc .vmem S1x512x256 .bf16) (harg6 : arg6.IsWhole) (arg7 : Memref sig .tc .vmem S1x128x256 .bf16) (harg7 : arg7.IsWhole) (arg8 : Memref sig .tc .vmem S1x256x128 .bf16) (harg8 : arg8.IsWhole) (arg9 : Memref sig .tc .vmem S1x256x512 .bf16) (harg9 : arg9.IsWhole) (arg10 : Memref sig .tc .vmem S1x256x128 .bf16) (harg10 : arg10.IsWhole) (arg11 : Memref sig .tc .vmem S1x256x256 .bf16) (harg11 : arg11.IsWhole) (arg12 : Memref sig .tc .vmem S1x256x256 .bf16) (harg12 : arg12.IsWhole) (arg13 : Memref sig .tc .vmem S1x512x1024 .f32) (harg13 : arg13.IsWhole) (arg14 : Memref sig .tc .vmem S1x1x1x1x1024 .f32) (harg14 : arg14.IsWhole) (arg15 : Memref sig .tc .vmem S1024x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x512x1024 .f32) (harg18 : arg18.IsWhole) (arg19 : Memref sig .tc .vmem S16x640x512 .f32) (harg19 : arg19.IsWhole) (arg20 : Memref sig .tc .vmem S16x640x512 .bf16) (harg20 : arg20.IsWhole)
    (x0 : Vec F S16 .f32) (x1 : Vec F S1x1024x512 .bf16) (x2 : Vec F S1x512x1024 .bf16) (x3 : Vec F S1x128x256 .bf16) (x4 : Vec F S1x512x256 .bf16) (x5 : Vec F S1x128x256 .bf16) (x6 : Vec F S1x256x128 .bf16) (x7 : Vec F S1x256x512 .bf16) (x8 : Vec F S1x256x128 .bf16) (x9 : Vec F S1x256x256 .bf16) (x10 : Vec F S1x256x256 .bf16) (x11 : Vec F S1x512x1024 .f32) (x12 : Vec F S1x1x1x1x1024 .f32) (x13 : Vec F S1024x1024 .bf16) (x14 : Vec F S1x1x1024 .f32) (x15 : Vec F S1x1x1024 .f32)  : X0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 = windowLoads i x0 x1 x3 x4 x5 x6 x7 x8 x9 x10 := by
  unfold X0 windowLoads
  rw [read_whole harg5 x3 zero3, read_whole harg6 x4 zero3, read_whole harg7 x5 zero3, read_whole harg8 x6 zero3, read_whole harg9 x7 zero3,
    read_whole harg10 x8 zero3, read_whole harg11 x9 zero3, read_whole harg12 x10 zero3]
  simp only [View.readAt_eq_ld, harg2.read_unread, harg3.read_unread]

set_option maxHeartbeats 4000000 in
/-- The scores the body stores. -/
theorem scores_eq  (c : Dev nD) (i : grid0.Coords) (arg2 : Memref sig .tc .smem S16 .f32) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x128x256 .bf16) (harg5 : arg5.IsWhole) (arg6 : Memref sig .tc .vmem S1x512x256 .bf16) (harg6 : arg6.IsWhole) (arg7 : Memref sig .tc .vmem S1x128x256 .bf16) (harg7 : arg7.IsWhole) (arg8 : Memref sig .tc .vmem S1x256x128 .bf16) (harg8 : arg8.IsWhole) (arg9 : Memref sig .tc .vmem S1x256x512 .bf16) (harg9 : arg9.IsWhole) (arg10 : Memref sig .tc .vmem S1x256x128 .bf16) (harg10 : arg10.IsWhole) (arg11 : Memref sig .tc .vmem S1x256x256 .bf16) (harg11 : arg11.IsWhole) (arg12 : Memref sig .tc .vmem S1x256x256 .bf16) (harg12 : arg12.IsWhole) (arg13 : Memref sig .tc .vmem S1x512x1024 .f32) (harg13 : arg13.IsWhole) (arg14 : Memref sig .tc .vmem S1x1x1x1x1024 .f32) (harg14 : arg14.IsWhole) (arg15 : Memref sig .tc .vmem S1024x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x512x1024 .f32) (harg18 : arg18.IsWhole) (arg19 : Memref sig .tc .vmem S16x640x512 .f32) (harg19 : arg19.IsWhole) (arg20 : Memref sig .tc .vmem S16x640x512 .bf16) (harg20 : arg20.IsWhole)
    (x0 : Vec F S16 .f32) (x1 : Vec F S1x1024x512 .bf16) (x2 : Vec F S1x512x1024 .bf16) (x3 : Vec F S1x128x256 .bf16) (x4 : Vec F S1x512x256 .bf16) (x5 : Vec F S1x128x256 .bf16) (x6 : Vec F S1x256x128 .bf16) (x7 : Vec F S1x256x512 .bf16) (x8 : Vec F S1x256x128 .bf16) (x9 : Vec F S1x256x256 .bf16) (x10 : Vec F S1x256x256 .bf16) (x11 : Vec F S1x512x1024 .f32) (x12 : Vec F S1x1x1x1x1024 .f32) (x13 : Vec F S1024x1024 .bf16) (x14 : Vec F S1x1x1024 .f32) (x15 : Vec F S1x1x1024 .f32)  : kernelRun0_A.sl.HS0_64 c i arg3 harg3 arg5 harg5 arg6 harg6 arg7 harg7 arg11 harg11 x1 x3 x4 x5 x9 = scoreStores (X0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15) 16 := by
  rfl

/-- The probabilities the body stores. -/
theorem probs_eq  (c : Dev nD) (i : grid0.Coords) (arg2 : Memref sig .tc .smem S16 .f32) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x128x256 .bf16) (harg5 : arg5.IsWhole) (arg6 : Memref sig .tc .vmem S1x512x256 .bf16) (harg6 : arg6.IsWhole) (arg7 : Memref sig .tc .vmem S1x128x256 .bf16) (harg7 : arg7.IsWhole) (arg8 : Memref sig .tc .vmem S1x256x128 .bf16) (harg8 : arg8.IsWhole) (arg9 : Memref sig .tc .vmem S1x256x512 .bf16) (harg9 : arg9.IsWhole) (arg10 : Memref sig .tc .vmem S1x256x128 .bf16) (harg10 : arg10.IsWhole) (arg11 : Memref sig .tc .vmem S1x256x256 .bf16) (harg11 : arg11.IsWhole) (arg12 : Memref sig .tc .vmem S1x256x256 .bf16) (harg12 : arg12.IsWhole) (arg13 : Memref sig .tc .vmem S1x512x1024 .f32) (harg13 : arg13.IsWhole) (arg14 : Memref sig .tc .vmem S1x1x1x1x1024 .f32) (harg14 : arg14.IsWhole) (arg15 : Memref sig .tc .vmem S1024x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x512x1024 .f32) (harg18 : arg18.IsWhole) (arg19 : Memref sig .tc .vmem S16x640x512 .f32) (harg19 : arg19.IsWhole) (arg20 : Memref sig .tc .vmem S16x640x512 .bf16) (harg20 : arg20.IsWhole)
    (x0 : Vec F S16 .f32) (x1 : Vec F S1x1024x512 .bf16) (x2 : Vec F S1x512x1024 .bf16) (x3 : Vec F S1x128x256 .bf16) (x4 : Vec F S1x512x256 .bf16) (x5 : Vec F S1x128x256 .bf16) (x6 : Vec F S1x256x128 .bf16) (x7 : Vec F S1x256x512 .bf16) (x8 : Vec F S1x256x128 .bf16) (x9 : Vec F S1x256x256 .bf16) (x10 : Vec F S1x256x256 .bf16) (x11 : Vec F S1x512x1024 .f32) (x12 : Vec F S1x1x1x1x1024 .f32) (x13 : Vec F S1024x1024 .bf16) (x14 : Vec F S1x1x1024 .f32) (x15 : Vec F S1x1x1024 .f32)  : ∀ k : Fin 16, P0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 k = probPieces k ((X0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15).sinks (groupOf k)) (scoreTile arg19.view (kernelRun0_A.sl.HS0_64 c i arg3 harg3 arg5 harg5 arg6 harg6 arg7 harg7 arg11 harg11 x1 x3 x4 x5 x9) k) ++
    (if k.val = 0 then [] else P0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 ⟨k.val - 1, by omega⟩) := by
  intro k; fin_cases k <;> rfl

set_option maxHeartbeats 4000000 in
/-- The attention the body computes. -/
theorem attention_eq  (c : Dev nD) (i : grid0.Coords) (arg2 : Memref sig .tc .smem S16 .f32) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x128x256 .bf16) (harg5 : arg5.IsWhole) (arg6 : Memref sig .tc .vmem S1x512x256 .bf16) (harg6 : arg6.IsWhole) (arg7 : Memref sig .tc .vmem S1x128x256 .bf16) (harg7 : arg7.IsWhole) (arg8 : Memref sig .tc .vmem S1x256x128 .bf16) (harg8 : arg8.IsWhole) (arg9 : Memref sig .tc .vmem S1x256x512 .bf16) (harg9 : arg9.IsWhole) (arg10 : Memref sig .tc .vmem S1x256x128 .bf16) (harg10 : arg10.IsWhole) (arg11 : Memref sig .tc .vmem S1x256x256 .bf16) (harg11 : arg11.IsWhole) (arg12 : Memref sig .tc .vmem S1x256x256 .bf16) (harg12 : arg12.IsWhole) (arg13 : Memref sig .tc .vmem S1x512x1024 .f32) (harg13 : arg13.IsWhole) (arg14 : Memref sig .tc .vmem S1x1x1x1x1024 .f32) (harg14 : arg14.IsWhole) (arg15 : Memref sig .tc .vmem S1024x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x512x1024 .f32) (harg18 : arg18.IsWhole) (arg19 : Memref sig .tc .vmem S16x640x512 .f32) (harg19 : arg19.IsWhole) (arg20 : Memref sig .tc .vmem S16x640x512 .bf16) (harg20 : arg20.IsWhole)
    (x0 : Vec F S16 .f32) (x1 : Vec F S1x1024x512 .bf16) (x2 : Vec F S1x512x1024 .bf16) (x3 : Vec F S1x128x256 .bf16) (x4 : Vec F S1x512x256 .bf16) (x5 : Vec F S1x128x256 .bf16) (x6 : Vec F S1x256x128 .bf16) (x7 : Vec F S1x256x512 .bf16) (x8 : Vec F S1x256x128 .bf16) (x9 : Vec F S1x256x256 .bf16) (x10 : Vec F S1x256x256 .bf16) (x11 : Vec F S1x512x1024 .f32) (x12 : Vec F S1x1x1x1x1024 .f32) (x13 : Vec F S1024x1024 .bf16) (x14 : Vec F S1x1x1024 .f32) (x15 : Vec F S1x1x1024 .f32)  :
    kernelRun0_A.sl.v2640 c i arg2 harg2 arg3 harg3 arg5 harg5 arg6 harg6 arg7 harg7 arg8 harg8 arg9 harg9 arg10 harg10 arg11 harg11 arg12 harg12 arg19 arg20 x0 x1 x3 x4 x5 x6 x7 x8 x9 x10 = blockOut arg19.view arg20.view (X0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15) (kernelRun0_A.sl.HS0_64 c i arg3 harg3 arg5 harg5 arg6 harg6 arg7 harg7 arg11 harg11 x1 x3 x4 x5 x9) (P0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15) := by
  rfl

/-- The one store of the body's result. -/
theorem result_eq  (c : Dev nD) (i : grid0.Coords) (arg2 : Memref sig .tc .smem S16 .f32) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x128x256 .bf16) (harg5 : arg5.IsWhole) (arg6 : Memref sig .tc .vmem S1x512x256 .bf16) (harg6 : arg6.IsWhole) (arg7 : Memref sig .tc .vmem S1x128x256 .bf16) (harg7 : arg7.IsWhole) (arg8 : Memref sig .tc .vmem S1x256x128 .bf16) (harg8 : arg8.IsWhole) (arg9 : Memref sig .tc .vmem S1x256x512 .bf16) (harg9 : arg9.IsWhole) (arg10 : Memref sig .tc .vmem S1x256x128 .bf16) (harg10 : arg10.IsWhole) (arg11 : Memref sig .tc .vmem S1x256x256 .bf16) (harg11 : arg11.IsWhole) (arg12 : Memref sig .tc .vmem S1x256x256 .bf16) (harg12 : arg12.IsWhole) (arg13 : Memref sig .tc .vmem S1x512x1024 .f32) (harg13 : arg13.IsWhole) (arg14 : Memref sig .tc .vmem S1x1x1x1x1024 .f32) (harg14 : arg14.IsWhole) (arg15 : Memref sig .tc .vmem S1024x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x512x1024 .f32) (harg18 : arg18.IsWhole) (arg19 : Memref sig .tc .vmem S16x640x512 .f32) (harg19 : arg19.IsWhole) (arg20 : Memref sig .tc .vmem S16x640x512 .bf16) (harg20 : arg20.IsWhole)
    (x0 : Vec F S16 .f32) (x1 : Vec F S1x1024x512 .bf16) (x2 : Vec F S1x512x1024 .bf16) (x3 : Vec F S1x128x256 .bf16) (x4 : Vec F S1x512x256 .bf16) (x5 : Vec F S1x128x256 .bf16) (x6 : Vec F S1x256x128 .bf16) (x7 : Vec F S1x256x512 .bf16) (x8 : Vec F S1x256x128 .bf16) (x9 : Vec F S1x256x256 .bf16) (x10 : Vec F S1x256x256 .bf16) (x11 : Vec F S1x512x1024 .f32) (x12 : Vec F S1x1x1x1x1024 .f32) (x13 : Vec F S1024x1024 .bf16) (x14 : Vec F S1x1x1024 .f32) (x15 : Vec F S1x1x1024 .f32)  :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15).1 = [(⟨Rect.unit (s := S1x512x1024) ![0, 0, 0] S1x512x1024.size inb_S1x512x1024_S1x512x1024_0_0_0,
      k0_pay1 (k0_pay363 (kernelRun0_A.sl.v2640 c i arg2 harg2 arg3 harg3 arg5 harg5 arg6 harg6 arg7 harg7 arg8 harg8 arg9 harg9 arg10 harg10 arg11 harg11 arg12 harg12 arg19 arg20 x0 x1 x3 x4 x5 x6 x7 x8 x9 x10)
        (k0_pay359 (View.readAt (Elt F) arg4.view (Rect.unit (s := S1x512x1024) ![0, 0, 0] S1x512x1024.size inb_S1x512x1024_S1x512x1024_0_0_0).toLoadRect (harg4.unread x2))) (k0_pay360 (View.readAt (Elt F) arg13.view (Rect.unit (s := S1x512x1024) ![0, 0, 0] S1x512x1024.size inb_S1x512x1024_S1x512x1024_0_0_0).toLoadRect (harg13.unread x11)))
        (k0_pay361 (View.readAt (Elt F) arg14.view (Rect.unit (s := S1x1x1x1x1024) ![0, 0, 0, 0, 0] S1x1x1x1x1024.size inb_S1x1x1x1x1024_S1x1x1x1x1024_0_0_0_0_0).toLoadRect (harg14.unread x12))) (k0_pay362 (View.readAt (Elt F) arg16.view (Rect.unit (s := S1x1x1024) ![0, 0, 0] S1x1x1024.size inb_S1x1x1024_S1x1x1024_0_0_0).toLoadRect (harg16.unread x14)))
        (View.readAt (Elt F) arg17.view (Rect.unit (s := S1x1x1024) ![0, 0, 0] S1x1x1024.size inb_S1x1x1024_S1x1x1024_0_0_0).toLoadRect (harg17.unread x15)) (View.readAt (Elt F) arg15.view (Rect.unit (s := S1024x1024) ![0, 0] S1024x1024.size inb_S1024x1024_S1024x1024_0_0).toLoadRect (harg15.unread x13)))⟩ : View.Piece (Elt F) S1x512x1024 .f32)] := by
  rfl

/-- What the body leaves in its result window: the attention, for SOME earlier stores of probabilities, then the gate, the projection and the norm. -/
theorem canon_result  (c : Dev nD) (i : grid0.Coords) (arg2 : Memref sig .tc .smem S16 .f32) (harg2 : arg2.IsWhole) (arg3 : Memref sig .tc .vmem S1x1024x512 .bf16) (harg3 : arg3.IsWhole) (arg4 : Memref sig .tc .vmem S1x512x1024 .bf16) (harg4 : arg4.IsWhole) (arg5 : Memref sig .tc .vmem S1x128x256 .bf16) (harg5 : arg5.IsWhole) (arg6 : Memref sig .tc .vmem S1x512x256 .bf16) (harg6 : arg6.IsWhole) (arg7 : Memref sig .tc .vmem S1x128x256 .bf16) (harg7 : arg7.IsWhole) (arg8 : Memref sig .tc .vmem S1x256x128 .bf16) (harg8 : arg8.IsWhole) (arg9 : Memref sig .tc .vmem S1x256x512 .bf16) (harg9 : arg9.IsWhole) (arg10 : Memref sig .tc .vmem S1x256x128 .bf16) (harg10 : arg10.IsWhole) (arg11 : Memref sig .tc .vmem S1x256x256 .bf16) (harg11 : arg11.IsWhole) (arg12 : Memref sig .tc .vmem S1x256x256 .bf16) (harg12 : arg12.IsWhole) (arg13 : Memref sig .tc .vmem S1x512x1024 .f32) (harg13 : arg13.IsWhole) (arg14 : Memref sig .tc .vmem S1x1x1x1x1024 .f32) (harg14 : arg14.IsWhole) (arg15 : Memref sig .tc .vmem S1024x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x512x1024 .f32) (harg18 : arg18.IsWhole) (arg19 : Memref sig .tc .vmem S16x640x512 .f32) (harg19 : arg19.IsWhole) (arg20 : Memref sig .tc .vmem S16x640x512 .bf16) (harg20 : arg20.IsWhole)
    (x0 : Vec F S16 .f32) (x1 : Vec F S1x1024x512 .bf16) (x2 : Vec F S1x512x1024 .bf16) (x3 : Vec F S1x128x256 .bf16) (x4 : Vec F S1x512x256 .bf16) (x5 : Vec F S1x128x256 .bf16) (x6 : Vec F S1x256x128 .bf16) (x7 : Vec F S1x256x512 .bf16) (x8 : Vec F S1x256x128 .bf16) (x9 : Vec F S1x256x256 .bf16) (x10 : Vec F S1x256x256 .bf16) (x11 : Vec F S1x512x1024 .f32) (x12 : Vec F S1x1x1x1x1024 .f32) (x13 : Vec F S1024x1024 .bf16) (x14 : Vec F S1x1x1024 .f32) (x15 : Vec F S1x1x1024 .f32)  :
    ∃ P rest : Fin 16 → List (View.Piece (Elt F) S16x640x512 .bf16),
      (∀ k, P k = probPieces k ((windowLoads i x0 x1 x3 x4 x5 x6 x7 x8 x9 x10).sinks (groupOf k))
        (scoreTile arg19.view (scoreStores (windowLoads i x0 x1 x3 x4 x5 x6 x7 x8 x9 x10) 16) k) ++ rest k) ∧
      View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15).1 = k0_pay1 (k0_pay363
        (blockOut arg19.view arg20.view (windowLoads i x0 x1 x3 x4 x5 x6 x7 x8 x9 x10) (scoreStores (windowLoads i x0 x1 x3 x4 x5 x6 x7 x8 x9 x10) 16) P)
        (k0_pay359 x2) (k0_pay360 x11) (k0_pay361 x12) (k0_pay362 x14) x15 x13) := by
  refine ⟨P0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15, fun k => if k.val = 0 then [] else P0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 ⟨k.val - 1, by omega⟩, fun k => ?_, ?_⟩
  · rw [probs_eq, scores_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15, X0_eq]
  · rw [result_eq, View.canon_unit_zero zero3, attention_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15, scores_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15, X0_eq]
    rw [read_whole harg4 x2 zero3, read_whole harg13 x11 zero3, read_whole harg14 x12 zero5, read_whole harg16 x14 zero3, read_whole harg17 x15 zero3,
      read_whole harg15 x13 zero2]

end Cert.KernelIdeal.Attn
end
-- ==== Proof.Read.lean ====
/- What a grid step's attention is computed from, in terms of the arguments. -/
module

public import proofs.«01_k».proof.Proof.Windows
public import proofs.«01_k».proof.Proof.Out
public import proofs.«01_k».proof.Proof.Body

@[expose] public section

set_option maxRecDepth 16384
noncomputable section

namespace Cert.KernelIdeal.Attn
open Idealize.ShloMosaic Idealize.ShloMosaic.TcCoe
open Idealize.SL Idealize.SL.Sem
open Cert.KernelIdeal Cert.KernelIdeal.Gen

variable (m : (ℓ : Loc nD τ sig) → Buf (Elt Ideal) ℓ) (c : Dev nD) (t : Fin cfg0.N)

/-- Two indices that agree but for how the row is written. -/
theorem ix_row {a b d : ℕ} (i : Fin a) (r r' : ℕ) (h : r < b) (h' : r' < b) (e : r = r') {j : Fin d} :
    (ix3 i ⟨r, h⟩ j) = ix3 i ⟨r', h'⟩ j := by subst e; rfl

/-- What a grid step's attention is computed from. -/
def stepLoads : Loads Ideal := windowLoads (grid0.coords t) (iblk m c 0 t) (X0_1 m c t) (iblk m c 3 t) (iblk m c 4 t) (iblk m c 5 t) (iblk m c 6 t)
  (iblk m c 7 t) (iblk m c 8 t) (iblk m c 9 t) (iblk m c 10 t)

/-- A row of the keys of the grid step that is a key of the sequence. -/
theorem keys_apply (R : Fin 768) (d : Fin 256) (h1 : 128 ≤ 512 * (part t).val + R.val) (h2 : 512 * (part t).val + R.val < 2176) :
    (stepLoads m c t).keys (ix2 R d) = a1 m c (ix3 (batch t) ⟨512 * (part t).val + R.val - 128, by omega⟩ d) := by
  show k0_pay2 (iblk m c 3 t) (iblk m c 4 t) (iblk m c 5 t) (ix2 R d) = _
  have hp := (part t).isLt
  generalize hA : (a1 m c) = A
  have e3 := block3 m c t
  have e4 := block4 m c t
  have e5 := block5 m c t
  rw [hA] at e3 e4 e5
  generalize iblk m c 3 t = y3 at *
  generalize iblk m c 4 t = y4 at *
  generalize iblk m c 5 t = y5 at *
  pointwise [k0_pay2]
  split
  · rw [e3]; exact congrArg A (ix_row _ _ _ _ _ (by dsimp only; omega))
  · split
    · rw [e4]; exact congrArg A (ix_row _ _ _ _ _ (by dsimp only; omega))
    · rw [e5]; exact congrArg A (ix_row _ _ _ _ _ (by dsimp only; omega))

theorem vals_apply (R : Fin 768) (d : Fin 256) (h1 : 128 ≤ 512 * (part t).val + R.val) (h2 : 512 * (part t).val + R.val < 2176) :
    (stepLoads m c t).vals (ix2 d R) = a2 m c (ix3 (batch t) ⟨512 * (part t).val + R.val - 128, by omega⟩ d) := by
  show k0_pay3 (iblk m c 6 t) (iblk m c 7 t) (iblk m c 8 t) (ix2 d R) = _
  have hp := (part t).isLt
  generalize hA : (a2 m c) = A
  have e3 := block6 m c t
  have e4 := block7 m c t
  have e5 := block8 m c t
  rw [hA] at e3 e4 e5
  generalize iblk m c 6 t = y3 at *
  generalize iblk m c 7 t = y4 at *
  generalize iblk m c 8 t = y5 at *
  pointwise [k0_pay3]
  split
  · rw [e3]; exact congrArg A (ix_row _ _ _ _ _ (by dsimp only; omega))
  · split
    · rw [e4]; exact congrArg A (ix_row _ _ _ _ _ (by dsimp only; omega))
    · rw [e5]; exact congrArg A (ix_row _ _ _ _ _ (by dsimp only; omega))

theorem ctxKeys_apply (r d : Fin 256) : (stepLoads m c t).ctxKeys (ix2 r d) = a4 m c (ix3 (batch t) r d) := by
  show k0_pay4 (iblk m c 9 t) (ix2 r d) = _
  rw [← block9 m c t r d]
  pointwise [k0_pay4]

theorem ctxVals_apply (d r : Fin 256) : (stepLoads m c t).ctxVals (ix2 d r) = a5 m c (ix3 (batch t) r d) := by
  show k0_pay5 (iblk m c 10 t) (ix2 d r) = _
  rw [← block10 m c t d r]
  pointwise [k0_pay5]

/-- A tile's slab of the queries' block. -/
theorem slab_apply (y : S1x1024x512.Idx → Ideal .bf16) (s : Fin 4) (R : Fin 1024) (x : Fin 128) :
    shapeCast S1024x128 (View.ld (Val := Elt Ideal) (e' := .bf16) y (Rect.unit (s := S1x1024x512) ![0, 0, 128 * s.val] S1x1024x128.size (inb_queries s))) shapeCasts_S1x1024x128_S1024x128 (ix2 R x)
      = y (ix3 0 R ⟨128 * s.val + x.val, by omega⟩) := by
  refine Eq.trans (b := View.ld (Val := Elt Ideal) (e' := .bf16) y (Rect.unit (s := S1x1024x512) ![0, 0, 128 * s.val] S1x1024x128.size (inb_queries s)) (ix3 0 R x)) ?_ ?_
  · generalize View.ld (Val := Elt Ideal) (e' := .bf16) y (Rect.unit (s := S1x1024x512) ![0, 0, 128 * s.val] S1x1024x128.size (inb_queries s)) = z
    change FVec Ideal S1x1024x128 .bf16 at z
    show shapeCast S1024x128 z _ _ = _
    pointwise []
  · refine View.ld_unit_apply_of (Val := Elt Ideal) (e := .bf16) y _ _ _ _ _ fun a => ?_
    fin_cases a
    · rfl
    · exact (Nat.zero_add _).symm
    · rfl

theorem queries_apply (s : Fin 4) (R : Fin 1024) (x : Fin 128) : (stepLoads m c t).queries s (ix2 R x)
    = a0 m c (ix3 (batch t) ⟨512 * (part t).val + (128 * s.val + x.val), by have := (part t).isLt; omega⟩ (Softmax.swap R)) * Ideal.ofBits .f32 0x3E000000#32 * ((Softmax.lg : ℝ) : EReal) :=
  (slab_apply (X0_1 m c t) s R x).trans (block1 m c t R ⟨128 * s.val + x.val, by omega⟩)

/-- A sink loaded from its block. -/
theorem sink_load (y : S16.Idx → Ideal .f32) (j : Fin 16) :
    View.ld (Val := Elt Ideal) (e' := .f32) y (Rect.unit (s := S16) ![j.val] S1.size (inb_sink j)) (Shape.Idx.first (sink_pos j)) = y (ix1 j) := by
  refine View.ld_unit_apply_of (Val := Elt Ideal) (e := .f32) y _ _ _ _ _ fun a => ?_
  fin_cases a
  have h : ((Shape.Idx.first (sink_pos j)) 0).val < 1 := ((Shape.Idx.first (sink_pos j)) 0).isLt
  show j.val = j.val + ((Shape.Idx.first (sink_pos j)) 0).val
  omega

theorem sinks_apply (g : Fin 4) (x : Fin 512) : (stepLoads m c t).sinks g (ix2 0 x) = a9 m c (ix1 ⟨g.val * 4 + x.val / 128, by omega⟩) * ((Softmax.lg : ℝ) : EReal) := by
  have e := sinkRow_apply (fun j => if h : j < 4 then (Scalar.mulf (F := Ideal) (φ := .f32) (View.ld (Val := Elt Ideal) (e' := .f32) (iblk m c 0 t)
    (Rect.unit (s := S16) ![4 * g.val + j] S1.size (inb_sink ⟨4 * g.val + j, by omega⟩)) (Shape.Idx.first (sink_pos ⟨4 * g.val + j, by omega⟩))) (Named.named κ "log2e" 0x3FB8AA3B#32) : Ideal .f32) else 0) x
  refine Eq.trans e ?_
  show (if h : _ then _ else _) = _
  rw [dif_pos (by omega), sink_load (iblk m c 0 t) ⟨4 * g.val + x.val / 128, by omega⟩, log2e_named]
  refine congrArg (· * _) ((block0 m c t _).trans (congrArg (a9 m c) (congrArg ix1 (Fin.ext ?_))))
  show 4 * g.val + x.val / 128 = g.val * 4 + x.val / 128
  omega

end Cert.KernelIdeal.Attn
end
-- ==== Proof.Ref.lean ====
/- The reference, read at an index. -/
module

public import proofs.«01_k».proof.Proof.Gen.ReferenceIdeal.Read
public import Idealize.ShloMosaic.Lib.Pointwise
public import Idealize.ShloMosaic.Lib.WordCmp
public import proofs.«01_k».proof.Proof.Softmax

@[expose] public section

set_option maxRecDepth 16384
noncomputable section

namespace Cert.ReferenceIdeal.Attn
open Idealize.ShloMosaic Idealize.ShloMosaic.TcCoe Idealize.SL.Sem
open Cert.ReferenceIdeal Cert.ReferenceIdeal.Read

variable (x0 : FVec Ideal S32x2048x1024 .f32) (x1 x2 : FVec Ideal S32x2048x256 .f32) (x3 : FVec Ideal S32x2048x1024 .f32)
  (x4 x5 : FVec Ideal S32x256x256 .f32) (x6 : FVec Ideal S32x2048x1024 .f32) (x7 : FVec Ideal S32x1024 .f32)
  (x8 : FVec Ideal S1024x1024 .f32) (x9 : FVec Ideal S16 .f32) (x10 x11 : FVec Ideal S4x1024 .f32)

/-- The scores of a query of a head to the sequence, the context and the sink. -/
def scores (b : Fin 32) (t j : Fin 4) (i : Fin 2048) (n : Fin 2305) : EReal := val_main_v26 (F := Ideal) x0 x1 x4 x9 (ix5 b t j i n)

/-- The largest of them. -/
def top (b : Fin 32) (t j : Fin 4) (i : Fin 2048) : EReal := Finset.univ.fold max ⊥ (scores x0 x1 x4 x9 b t j i)

theorem neg_inf_word : Ideal.ofBits .f32 0xFF800000#32 = ⊥ := by
  simp [Ideal.ofBits, Ideal.ieee]

theorem max_apply (b : Fin 32) (t j : Fin 4) (i : Fin 2048) : val_main_v27 (F := Ideal) x0 x1 x4 x9 (ix4 b t j i) = top x0 x1 x4 x9 b t j i := by
  unfold top scores val_main_v27
  generalize val_main_v26 (F := Ideal) x0 x1 x4 x9 = y
  show Host.reduce (max : EReal → EReal → EReal) y _ _ _ _ = _
  rw [Host.reduce_eq_fold_single (max : EReal → EReal → EReal) y _ Gen.reducesTo_S32x4x4x2048x2305_S32x4x4x2048_d4 (by decide), val_main_cst_2_apply]
  rw [show FloatOps.ofBits (F := Ideal) .f32 0xFF800000#32 = (⊥ : EReal) from neg_inf_word]
  refine Finset.fold_congr fun n _ => congrArg y (funext fun a => Fin.ext ?_)
  match a with | ⟨0, _⟩ => rfl | ⟨1, _⟩ => rfl | ⟨2, _⟩ => rfl | ⟨3, _⟩ => rfl | ⟨4, _⟩ => rfl

theorem top_apply (b : Fin 32) (t j : Fin 4) (i : Fin 2048) : val_main_v29 (F := Ideal) x0 x1 x4 x9 (ix4 b t j i) = top x0 x1 x4 x9 b t j i := by
  rw [val_main_v29_apply, val_main_v28_apply, val_main_cst_3_apply, max_apply]
  show max (Ideal.ofBits .f32 0xFF800000#32) _ = _
  rw [neg_inf_word, max_eq_right bot_le]

theorem exp_apply (b : Fin 32) (t j : Fin 4) (i : Fin 2048) (n : Fin 2305) :
    val_main_v33 (F := Ideal) x0 x1 x4 x9 (ix5 b t j i n) = Ideal.exp (scores x0 x1 x4 x9 b t j i n - top x0 x1 x4 x9 b t j i) := by
  pointwise [val_main_v33, val_main_v32, val_main_v31, val_main_v30]
  rw [top_apply]
  rfl

theorem den_apply (b : Fin 32) (t j : Fin 4) (i : Fin 2048) :
    val_main_v34 (F := Ideal) x0 x1 x4 x9 (ix4 b t j i) = ∑ n, Ideal.exp (scores x0 x1 x4 x9 b t j i n - top x0 x1 x4 x9 b t j i) := by
  pointwise [val_main_v34, val_main_cst_4]
  simp only [exp_apply]

theorem prob_apply (b : Fin 32) (t j : Fin 4) (i : Fin 2048) (n : Fin 2305) :
    val_main_v37 (F := Ideal) x0 x1 x4 x9 (ix5 b t j i n)
      = Ideal.div (Ideal.exp (scores x0 x1 x4 x9 b t j i n - top x0 x1 x4 x9 b t j i)) (∑ n, Ideal.exp (scores x0 x1 x4 x9 b t j i n - top x0 x1 x4 x9 b t j i)) := by
  pointwise [val_main_v37, val_main_v36, val_main_v35]
  rw [exp_apply, den_apply]

theorem out_apply (b : Fin 32) (i : Fin 2048) (n : Fin 1024) :
    val_main_v45 (F := Ideal) x0 x1 x2 x4 x5 x9 (ix3 b i n)
      = (∑ k : Fin 2048, x2 (ix3 b k ⟨64 * (n.val / 256) + n.val % 64, by omega⟩) * val_main_v37 (F := Ideal) x0 x1 x4 x9 (ix5 b ⟨n.val / 256, by omega⟩ ⟨n.val / 64 % 4, by omega⟩ i ⟨k.val, by omega⟩))
        + ∑ k : Fin 256, x5 (ix3 b k ⟨64 * (n.val / 256) + n.val % 64, by omega⟩) * val_main_v37 (F := Ideal) x0 x1 x4 x9 (ix5 b ⟨n.val / 256, by omega⟩ ⟨n.val / 64 % 4, by omega⟩ i ⟨2048 + k.val, by omega⟩) := by
  pointwise [val_main_v45, val_main_v44, val_main_v43, val_main_v42, val_main_v41, val_main_v40, val_main_v39, val_main_v38, val_main_v2, val_main_v4,
    dot_S32x2048x4x64_S32x4x4x2048x2048_S32x4x64x4x2048_1_4_3_23_02_01]
  simp only [mul_comm _ 64]

theorem abs_word (i n : ℕ) (hi : i < 2048) (hn : n < 2048) :
    IntOp.absi (BitVec.ofNat 32 i - BitVec.ofNat 32 n) = BitVec.ofNat 32 (if n ≤ i then i - n else n - i) := by
  rw [IntOp.absi, BitVec.msb_eq_decide]
  apply BitVec.eq_of_toNat_eq
  split_ifs with h1 h2 h2 <;> simp only [BitVec.toNat_neg, BitVec.toNat_sub, BitVec.toNat_ofNat, decide_eq_true_eq] at * <;> omega

theorem near_word (i n : ℕ) (hi : i < 2048) (hn : n < 2048) :
    IntOp.cmpi .sle (IntOp.absi (IntOp.subi (BitVec.ofNat 32 i) (BitVec.ofNat 32 n))) 128#32 = 1#1 ↔ Softmax.Near i n := by
  rw [show IntOp.subi (BitVec.ofNat 32 i) (BitVec.ofNat 32 n) = BitVec.ofNat 32 i - BitVec.ofNat 32 n from rfl, abs_word i n hi hn,
    WordCmp.cmpi_sle_ofNat_eq_one_iff (by split_ifs <;> omega) (by omega)]
  unfold Softmax.Near
  split_ifs <;> omega

/-- A score of a query to a key of the sequence. -/
def latent (b : Fin 32) (t j : Fin 4) (i n : Fin 2048) : EReal :=
  (∑ d : Fin 64, x1 (ix3 b n ⟨t.val * 64 + d.val, by omega⟩) * x0 (ix3 b i ⟨t.val * 256 + j.val * 64 + d.val, by omega⟩)) * Ideal.ofBits .f32 0x3E000000#32

/-- A score of a query to a key of the context. -/
def context (b : Fin 32) (t j : Fin 4) (i : Fin 2048) (n : Fin 256) : EReal :=
  (∑ d : Fin 64, x4 (ix3 b n ⟨t.val * 64 + d.val, by omega⟩) * x0 (ix3 b i ⟨t.val * 256 + j.val * 64 + d.val, by omega⟩)) * Ideal.ofBits .f32 0x3E000000#32

theorem v17_apply (b : Fin 32) (t j : Fin 4) (i n : Fin 2048) :
    val_main_v17 (F := Ideal) x0 x1 (ix5 b t j i n) = latent x0 x1 b t j i n := by
  unfold latent
  pointwise [val_main_v17, val_main_v16, val_main_cst, val_main_v15, val_main_v14, val_main_v0, val_main_v1, dot_S32x2048x4x64_S32x2048x4x4x64_S32x4x2048x2048x4_3_4_1_13_02_02]

theorem v22_apply (b : Fin 32) (t j : Fin 4) (i : Fin 2048) (n : Fin 256) :
    val_main_v22 (F := Ideal) x0 x4 (ix5 b t j i n) = context x0 x4 b t j i n := by
  unfold context
  pointwise [val_main_v22, val_main_v21, val_main_cst_1, val_main_v20, val_main_v19, val_main_v0, val_main_v3, dot_S32x256x4x64_S32x2048x4x4x64_S32x4x256x2048x4_3_4_1_13_02_02]

theorem v18_apply (b : Fin 32) (t j : Fin 4) (i n : Fin 2048) :
    val_main_v18 (F := Ideal) x0 x1 (ix5 b t j i n) = if Softmax.Near i.val n.val then latent x0 x1 b t j i n else ⊥ := by
  pointwise [val_main_v18, val_main_call0_v1, val_main_call0_v2, val_main_call0_v0, val_main_cst_0, val_main_v13, val_main_v12, val_main_c, val_main_v11, val_main_v10, val_main_v9,
    val_main_v8, val_main_v7, val_main_v6, val_main_v5]
  rw [v17_apply]
  unfold Scalar.select
  by_cases h : Softmax.Near i.val n.val
  · rw [if_pos h, (near_word i.val n.val i.isLt n.isLt).2 h]
    rfl
  · rw [if_neg h]
    have := mt (near_word i.val n.val i.isLt n.isLt).1 h
    exact (if_neg this).trans neg_inf_word

theorem v25_apply (b : Fin 32) (t j : Fin 4) (i : Fin 2048) :
    val_main_v25 (F := Ideal) x9 (ix5 b t j i 0) = x9 (ix1 ⟨t.val * 4 + j.val, by omega⟩) := by
  pointwise [val_main_v25, val_main_v24, val_main_v23]

theorem scores_latent (b : Fin 32) (t j : Fin 4) (i n : Fin 2048) :
    scores x0 x1 x4 x9 b t j i ⟨n.val, by omega⟩ = val_main_v18 (F := Ideal) x0 x1 (ix5 b t j i n) := by
  unfold scores
  pointwise [val_main_v26]

theorem scores_context (b : Fin 32) (t j : Fin 4) (i : Fin 2048) (n : Fin 256) :
    scores x0 x1 x4 x9 b t j i ⟨2048 + n.val, by omega⟩ = val_main_v22 (F := Ideal) x0 x4 (ix5 b t j i n) := by
  unfold scores
  pointwise [val_main_v26]

theorem scores_sink (b : Fin 32) (t j : Fin 4) (i : Fin 2048) :
    scores x0 x1 x4 x9 b t j i ⟨2304, by omega⟩ = val_main_v25 (F := Ideal) x9 (ix5 b t j i 0) := by
  unfold scores
  pointwise [val_main_v26]

end Cert.ReferenceIdeal.Attn
end
-- ==== Proof.Join.lean ====
/- A grid step's attention is the attention of the sequence. -/
module

public import proofs.«01_k».proof.Proof.Read
public import proofs.«01_k».proof.Proof.Ref

@[expose] public section

set_option maxRecDepth 16384
noncomputable section

namespace Cert.KernelIdeal.Attn
open Idealize.ShloMosaic Idealize.ShloMosaic.TcCoe
open Idealize.SL Idealize.SL.Sem
open Cert.KernelIdeal Cert.KernelIdeal.Gen

theorem tileOf_pair (s g : Fin 4) : tileOf (pair s g) = s := Fin.ext (by show (4 * s.val + g.val) / 4 = s.val; omega)
theorem groupOf_pair (s g : Fin 4) : groupOf (pair s g) = g := Fin.ext (by show (4 * s.val + g.val) % 4 = g.val; omega)

theorem eighth_word : Ideal.ofBits .f32 0x3E000000#32 = ((1 / 8 : ℝ) : EReal) := by
  simp [Ideal.ofBits, Ideal.ieee]
  rw [← EReal.coe_mul]
  norm_num

/-- The score the reference computes, when its entries are reals. -/
theorem dot_plain (f g : Fin 64 → ℝ) : (∑ d, (f d : EReal) * (g d : EReal)) * Ideal.ofBits .f32 0x3E000000#32 = (((∑ d, f d * g d) * (1 / 8) : ℝ) : EReal) := by
  rw [eighth_word, EReal.coe_mul, Softmax.coe_sum]
  simp only [EReal.coe_mul]

/-- The score the grid step computes, its queries scaled beforehand. -/
theorem dot_scaled (f g : Fin 64 → ℝ) : (∑ d, (f d : EReal) * ((g d : EReal) * Ideal.ofBits .f32 0x3E000000#32 * ((Softmax.lg : ℝ) : EReal)))
    = ((Softmax.lg * ((∑ d, f d * g d) * (1 / 8)) : ℝ) : EReal) := by
  rw [eighth_word]
  simp only [← EReal.coe_mul]
  rw [← Softmax.coe_sum, Finset.sum_mul, Finset.mul_sum]
  refine congrArg _ (Finset.sum_congr rfl fun d _ => ?_)
  ring

variable (m : (ℓ : Loc nD τ sig) → Buf (Elt Ideal) ℓ) (c : Dev nD) (t : Fin cfg0.N)

/-- The query of the sequence at a place of a tile of the grid step. -/
def query (s : Fin 4) (x : Fin 128) : Fin 2048 := ⟨512 * (part t).val + (128 * s.val + x.val), by have := (part t).isLt; omega⟩
/-- The number of a tile among those of the sequence. -/
def tileAt (s : Fin 4) : Fin 16 := ⟨4 * (part t).val + s.val, by have := (part t).isLt; omega⟩
/-- A query of a tile among those of a group of four heads. -/
def lane (j : Fin 4) (x : Fin 128) : Fin 512 := ⟨128 * j.val + x.val, by omega⟩

theorem lane_div (j : Fin 4) (x : Fin 128) : (lane j x).val / 128 = j.val := by show (128 * j.val + x.val) / 128 = _; omega
theorem lane_mod (j : Fin 4) (x : Fin 128) : (lane j x).val % 128 = x.val := by show (128 * j.val + x.val) % 128 = _; omega

/-- The scaled query a score of a pair uses. -/
theorem query_apply (s g j : Fin 4) (x : Fin 128) (d : Fin 64) :
    (stepLoads m c t).queries s (ix2 ⟨256 * ((lane j x).val / 128) + 64 * g.val + d.val, by have := lane_div j x; omega⟩ ⟨(lane j x).val % 128, by omega⟩)
      = a0 m c (ix3 (batch t) (query t s x) ⟨g.val * 256 + j.val * 64 + d.val, by omega⟩) * Ideal.ofBits .f32 0x3E000000#32 * ((Softmax.lg : ℝ) : EReal) := by
  rw [queries_apply]
  refine congrArg (fun y => a0 m c y * Ideal.ofBits .f32 0x3E000000#32 * ((Softmax.lg : ℝ) : EReal)) (congrArg₂ (ix3 (batch t)) (Fin.ext ?_) (Fin.ext ?_))
  · show 512 * (part t).val + (128 * s.val + (lane j x).val % 128) = 512 * (part t).val + (128 * s.val + x.val)
    rw [lane_mod]
  · have e := lane_div j x
    show (256 * ((lane j x).val / 128) + 64 * g.val + d.val) / 64 % 4 * 256 + (256 * ((lane j x).val / 128) + 64 * g.val + d.val) / 256 * 64
      + (256 * ((lane j x).val / 128) + 64 * g.val + d.val) % 64 = g.val * 256 + j.val * 64 + d.val
    rw [e]
    obtain ⟨h1, h2, h3⟩ := Softmax.swap_parts j.isLt g.isLt d.isLt
    rw [show 256 * j.val + 64 * g.val + d.val = j.val * 256 + g.val * 64 + d.val by ring, h1, h2, h3]

/-- A score of a pair with a key of the sequence. -/
theorem score_key (s g j : Fin 4) (x : Fin 128) (r : Fin 384) (h : Softmax.Inside (tileAt t s) x r.val) :
    scoreOf (stepLoads m c t) (pair s g) (ix2 ⟨r.val, by omega⟩ (lane j x))
      = ∑ d : Fin 64, a1 m c (ix3 (batch t) (Softmax.keyAt (tileAt t s) x r.val h) ⟨g.val * 64 + d.val, by omega⟩)
          * (a0 m c (ix3 (batch t) (query t s x) ⟨g.val * 256 + j.val * 64 + d.val, by omega⟩) * Ideal.ofBits .f32 0x3E000000#32 * ((Softmax.lg : ℝ) : EReal)) := by
  rw [scoreOf_apply]
  simp only [tileOf_pair, groupOf_pair]
  have h3 := h.2.2.1
  have h4 := h.2.2.2
  have e : (tileAt t s).val = 4 * (part t).val + s.val := rfl
  refine Finset.sum_congr rfl fun d _ => congrArg₂ (· * ·) ?_ (query_apply m c t s g j x d)
  rw [keysOf_apply, dif_pos r.isLt, keys_apply m c t _ _ (by dsimp only; omega) (by dsimp only; omega)]
  refine congrArg (a1 m c) (congrArg₂ (ix3 (batch t)) (Fin.ext ?_) (Fin.ext ?_))
  · show 512 * (part t).val + (128 * s.val + r.val) - 128 = 128 * (tileAt t s).val + r.val - 128
    omega
  · show 64 * g.val + d.val = g.val * 64 + d.val
    omega

/-- A score of a pair with a key of the context. -/
theorem score_context (s g j : Fin 4) (x : Fin 128) (r : Fin 256) :
    scoreOf (stepLoads m c t) (pair s g) (ix2 ⟨384 + r.val, by omega⟩ (lane j x))
      = ∑ d : Fin 64, a4 m c (ix3 (batch t) r ⟨g.val * 64 + d.val, by omega⟩)
          * (a0 m c (ix3 (batch t) (query t s x) ⟨g.val * 256 + j.val * 64 + d.val, by omega⟩) * Ideal.ofBits .f32 0x3E000000#32 * ((Softmax.lg : ℝ) : EReal)) := by
  rw [scoreOf_apply]
  simp only [tileOf_pair, groupOf_pair]
  refine Finset.sum_congr rfl fun d _ => congrArg₂ (· * ·) ?_ (query_apply m c t s g j x d)
  rw [keysOf_apply, dif_neg (by dsimp only; omega), ctxKeys_apply]
  refine congrArg (a4 m c) (congrArg₂ (ix3 (batch t)) (Fin.ext ?_) (Fin.ext ?_))
  · show 384 + r.val - 384 = r.val
    omega
  · show 64 * g.val + d.val = g.val * 64 + d.val
    omega

theorem tileNo_step (s : Fin 4) : tileNo (stepLoads m c t) s = Scalar.addi (Scalar.muli (BitVec.ofNat 32 (part t).val) 4#32) (BitVec.ofNat 32 s.val) := rfl

/-- A masked score of a pair: the score with a key the query looks at, and nothing elsewhere. -/
theorem masked_key (s g j : Fin 4) (x : Fin 128) (r : Fin 384) :
    (Softmax.Inside (tileAt t s) x r.val → masked (stepLoads m c t) (pair s g) ⟨r.val, by omega⟩ (lane j x) = scoreOf (stepLoads m c t) (pair s g) (ix2 ⟨r.val, by omega⟩ (lane j x)))
      ∧ (¬ Softmax.Inside (tileAt t s) x r.val → masked (stepLoads m c t) (pair s g) ⟨r.val, by omega⟩ (lane j x) = ⊥) := by
  have e : (tileAt t s).val = 4 * (part t).val + s.val := rfl
  have hp := (part t).isLt
  unfold masked Softmax.Inside
  rw [tileOf_pair, tileNo_step]
  simp only [maskPrev_apply, maskNext_apply, lane_mod]
  constructor
  · intro h
    split
    · rw [if_pos (by omega), add_zero]
    · split
      · rw [if_pos (by omega), add_zero]
      · rfl
  · intro h
    split
    · rw [if_neg (by omega), EReal.add_bot]
    · split
      · rw [if_neg (by omega), EReal.add_bot]
      · exact absurd (by omega) h

theorem masked_context (s g j : Fin 4) (x : Fin 128) (r : Fin 256) :
    masked (stepLoads m c t) (pair s g) ⟨384 + r.val, by omega⟩ (lane j x) = scoreOf (stepLoads m c t) (pair s g) (ix2 ⟨384 + r.val, by omega⟩ (lane j x)) := by
  unfold masked
  rw [dif_neg (by dsimp only; omega), dif_neg (by dsimp only; omega)]

variable (q : S32x2048x1024.Idx → ℝ) (k : S32x2048x256.Idx → ℝ) (kc : S32x256x256.Idx → ℝ) (z : S16.Idx → ℝ)
variable (hq : ∀ y, a0 m c y = (q y : EReal)) (hk : ∀ y, a1 m c y = (k y : EReal)) (hkc : ∀ y, a4 m c y = (kc y : EReal)) (hz : ∀ y, a9 m c y = (z y : EReal))
include hq hk hkc hz

/-- The scores of a grid step and of the sequence agree. -/
theorem step_scores (s g j : Fin 4) (x : Fin 128) : Softmax.Scores (tileAt t s) x
    (fun n => (∑ d : Fin 64, k (ix3 (batch t) n ⟨g.val * 64 + d.val, by omega⟩) * q (ix3 (batch t) (query t s x) ⟨g.val * 256 + j.val * 64 + d.val, by omega⟩)) * (1 / 8))
    (fun n => (∑ d : Fin 64, kc (ix3 (batch t) n ⟨g.val * 64 + d.val, by omega⟩) * q (ix3 (batch t) (query t s x) ⟨g.val * 256 + j.val * 64 + d.val, by omega⟩)) * (1 / 8))
    (z (ix1 ⟨g.val * 4 + j.val, by omega⟩))
    (fun r => masked (stepLoads m c t) (pair s g) r (lane j x)) ((stepLoads m c t).sinks g (ix2 0 (lane j x)))
    (ReferenceIdeal.Attn.scores (a0 m c) (a1 m c) (a4 m c) (a9 m c) (batch t) g j (query t s x)) where
  inside r h := by
    rw [(masked_key m c t s g j x r).1 h, score_key m c t s g j x r h]
    simp only [hq, hk]
    exact dot_scaled _ _
  outside r h := (masked_key m c t s g j x r).2 h
  context r := by
    rw [masked_context, score_context]
    simp only [hq, hkc]
    exact dot_scaled _ _
  sink := by
    rw [sinks_apply]
    simp only [lane_div]
    rw [hz, mul_comm, EReal.coe_mul]
  near n h := by
    rw [ReferenceIdeal.Attn.scores_latent, ReferenceIdeal.Attn.v18_apply, if_pos]
    · unfold ReferenceIdeal.Attn.latent
      simp only [hq, hk]
      exact dot_plain _ _
    · have e : (query t s x).val = 128 * (tileAt t s).val + x.val := by
        show 512 * (part t).val + (128 * s.val + x.val) = 128 * (4 * (part t).val + s.val) + x.val
        omega
      rw [e]; exact h
  far n h := by
    rw [ReferenceIdeal.Attn.scores_latent, ReferenceIdeal.Attn.v18_apply, if_neg]
    have e : (query t s x).val = 128 * (tileAt t s).val + x.val := by
      show 512 * (part t).val + (128 * s.val + x.val) = 128 * (4 * (part t).val + s.val) + x.val
      omega
    rw [e]; exact h
  context' n := by
    rw [ReferenceIdeal.Attn.scores_context, ReferenceIdeal.Attn.v22_apply]
    unfold ReferenceIdeal.Attn.context
    simp only [hq, hkc]
    exact dot_plain _ _
  sink' := by
    rw [ReferenceIdeal.Attn.scores_sink, ReferenceIdeal.Attn.v25_apply, hz]

/-- The attention of a query of a head: its values averaged over the sequence and the context. -/
theorem attended_pair (s g j : Fin 4) (x : Fin 128) (d : Fin 64) : attended (stepLoads m c t) (pair s g) d (lane j x)
    = (∑ n : Fin 2048, a2 m c (ix3 (batch t) n ⟨64 * g.val + d.val, by omega⟩)
          * ReferenceIdeal.Read.val_main_v37 (F := Ideal) (a0 m c) (a1 m c) (a4 m c) (a9 m c) (ix5 (batch t) g j (query t s x) ⟨n.val, by omega⟩))
      + ∑ n : Fin 256, a5 m c (ix3 (batch t) n ⟨64 * g.val + d.val, by omega⟩)
          * ReferenceIdeal.Read.val_main_v37 (F := Ideal) (a0 m c) (a1 m c) (a4 m c) (a9 m c) (ix5 (batch t) g j (query t s x) ⟨2048 + n.val, by omega⟩) := by
  unfold attended expScore topScore
  simp only [ReferenceIdeal.Attn.prob_apply, tileOf_pair, groupOf_pair]
  refine (step_scores m c t q k kc z hq hk hkc hz s g j x).mean (fun r => valsOf (stepLoads m c t) s (ix2 ⟨64 * g.val + d.val, by omega⟩ r))
    (fun n => a2 m c (ix3 (batch t) n ⟨64 * g.val + d.val, by omega⟩)) (fun n => a5 m c (ix3 (batch t) n ⟨64 * g.val + d.val, by omega⟩)) ?_ ?_ _ rfl _ rfl
  · intro r h
    have h3 := h.2.2.1
    have h4 := h.2.2.2
    have e : (tileAt t s).val = 4 * (part t).val + s.val := rfl
    show valsOf _ _ _ = _
    rw [valsOf_apply, dif_pos r.isLt, vals_apply m c t _ _ (by dsimp only; omega) (by dsimp only; omega)]
    refine congrArg (a2 m c) (congrArg₂ (ix3 (batch t)) (Fin.ext ?_) rfl)
    show 512 * (part t).val + (128 * s.val + r.val) - 128 = 128 * (tileAt t s).val + r.val - 128
    omega
  · intro r
    show valsOf _ _ _ = _
    rw [valsOf_apply, dif_neg (by dsimp only; omega), ctxVals_apply]
    refine congrArg (a5 m c) (congrArg₂ (ix3 (batch t)) (Fin.ext ?_) rfl)
    show 384 + r.val - 384 = r.val
    omega

/-- The attention a grid step computes is that of the sequence, its columns in the other order. -/
theorem attended_eq (i : Fin 512) (n : Fin 1024) :
    attended (stepLoads m c t) (pair ⟨i.val / 128, by omega⟩ ⟨n.val % 256 / 64, by omega⟩) ⟨n.val % 64, by omega⟩ ⟨128 * (n.val / 256) + i.val % 128, by omega⟩
      = ReferenceIdeal.Read.val_main_v45 (F := Ideal) (a0 m c) (a1 m c) (a2 m c) (a4 m c) (a5 m c) (a9 m c) (ix3 (batch t) ⟨512 * (part t).val + i.val, by have := (part t).isLt; omega⟩ (Softmax.swap n)) := by
  have hn := n.isLt
  have hi := i.isLt
  have hp := (part t).isLt
  refine (attended_pair m c t q k kc z hq hk hkc hz ⟨i.val / 128, by omega⟩ ⟨n.val % 256 / 64, by omega⟩ ⟨n.val / 256, by omega⟩ ⟨i.val % 128, by omega⟩ ⟨n.val % 64, by omega⟩).trans ?_
  rw [ReferenceIdeal.Attn.out_apply]
  obtain ⟨h1, h2, h3⟩ := Softmax.swap_parts (t := n.val / 64 % 4) (j := n.val / 256) (d := n.val % 64) (by omega) (by omega) (by omega)
  have e1 : (Softmax.swap n).val / 64 % 4 = n.val / 256 := h1
  have e2 : (Softmax.swap n).val / 256 = n.val % 256 / 64 := h2.trans (by omega)
  have e3 : (Softmax.swap n).val % 64 = n.val % 64 := h3
  have e4 : query t ⟨i.val / 128, by omega⟩ ⟨i.val % 128, by omega⟩ = ⟨512 * (part t).val + i.val, by omega⟩ := by
    apply Fin.ext
    show 512 * (part t).val + (128 * (i.val / 128) + i.val % 128) = 512 * (part t).val + i.val
    omega
  rw [e4]
  simp only [e1, e2, e3]

end Cert.KernelIdeal.Attn
end
-- ==== Proof.Final.lean ====
/- The block the kernel stores, read at an index. -/
module

public import proofs.«01_k».proof.Proof.Out
public import proofs.«01_k».proof.Proof.Norm

@[expose] public section

set_option maxRecDepth 16384
noncomputable section

namespace Cert.KernelIdeal.Attn
open Idealize.ShloMosaic Idealize.ShloMosaic.TcCoe
open Idealize.SL Idealize.SL.Sem
open Cert.KernelIdeal Cert.KernelIdeal.Gen

theorem zero_word : Ideal.ofBits .f32 0x00000000#32 = 0 := by
  simp [Ideal.ofBits, Ideal.ieee]

/-- The rows the normalization is applied to. -/
def residual (o : FVec Ideal S512x1024 .f32) (g : FVec Ideal S512x1024 .bf16) (h : FVec Ideal S512x1024 .f32) (gate : FVec Ideal S1x1024 .f32)
    (w : FVec Ideal S1024x1024 .bf16) : FVec Ideal S512x1024 .f32 :=
  addf (mulf (broadcast S512x1024 (Scalar.ofBits .f32 0x3FD744FD#32)) h) (mulf (broadcastTo S512x1024 gate broadcasts_S1x1024_S512x1024)
    (matmul dot_S512x1024_S1024x1024_S512x1024_1_0_0_1_n_n none (truncf .bf16 (mulf o (divf (extf .f32 g bitsLt_bf16_f32)
      (addf (broadcast S512x1024 (Scalar.ofBits .f32 0x3F800000#32)) (exp (subf (broadcast S512x1024 (Scalar.ofBits .f32 0x00000000#32)) (extf .f32 g bitsLt_bf16_f32)))))) bitsLt_bf16_f32)
      (shapeCast S1024x1024 w shapeCasts_S1024x1024_S1024x1024) (constant S512x1024 .f32 0x00000000#32)))

/-- The mean of every row. -/
def rowMean (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

theorem residual_apply (o : FVec Ideal S512x1024 .f32) (g : FVec Ideal S512x1024 .bf16) (h : FVec Ideal S512x1024 .f32) (gate : FVec Ideal S1x1024 .f32)
    (w : FVec Ideal S1024x1024 .bf16) (i : Fin 512) (n : Fin 1024) :
    residual o g h gate w (ix2 i n) = Ideal.ofBits .f32 0x3FD744FD#32 * h (ix2 i n)
      + gate (ix2 0 n) * ∑ k : Fin 1024, o (ix2 i k) * Softmax.silu (g (ix2 i k)) * w (ix2 k n) := by
  unfold residual Softmax.silu
  pointwise [dot_S512x1024_S1024x1024_S512x1024_1_0_0_1_n_n]
  simp only [zero_sub]

theorem rowMean_apply (z : FVec Ideal S512x1024 .f32) (i : Fin 512) : rowMean z (ix2 i 0) = Softmax.mean fun n => z (ix2 i n) := by
  unfold rowMean Softmax.mean
  pointwise []

theorem pay363_eq (o : FVec Ideal S512x1024 .f32) (g : FVec Ideal S512x1024 .bf16) (h : FVec Ideal S512x1024 .f32) (gate lng : FVec Ideal S1x1024 .f32)
    (lnb : FVec Ideal S1x1x1024 .f32) (w : FVec Ideal S1024x1024 .bf16) :
    k0_pay363 (F := Ideal) o g h gate lng lnb w =
      addf (mulf (mulf (subf (residual o g h gate w) (broadcastTo S512x1024 (rowMean (residual o g h gate w)) broadcasts_S512x1_S512x1024))
        (broadcastTo S512x1024 (rsqrt (addf (rowMean (mulf (subf (residual o g h gate w) (broadcastTo S512x1024 (rowMean (residual o g h gate w)) broadcasts_S512x1_S512x1024))
          (subf (residual o g h gate w) (broadcastTo S512x1024 (rowMean (residual o g h gate w)) broadcasts_S512x1_S512x1024)))) (broadcast S512x1 (Scalar.ofBits .f32 0x3727C5AC#32)))) broadcasts_S512x1_S512x1024))
        (broadcastTo S512x1024 lng broadcasts_S1x1024_S512x1024))
        (broadcastTo S512x1024 (shapeCast S1x1024 lnb shapeCasts_S1x1x1024_S1x1024) broadcasts_S1x1024_S512x1024) := rfl

theorem pay363_apply (o : FVec Ideal S512x1024 .f32) (g : FVec Ideal S512x1024 .bf16) (h : FVec Ideal S512x1024 .f32) (gate lng : FVec Ideal S1x1024 .f32)
    (lnb : FVec Ideal S1x1x1024 .f32) (w : FVec Ideal S1024x1024 .bf16) (i : Fin 512) (n : Fin 1024) :
    k0_pay363 (F := Ideal) o g h gate lng lnb w (ix2 i n)
      = Softmax.normed (fun n => residual o g h gate w (ix2 i n)) (fun n => lng (ix2 0 n)) (fun n => lnb (ix3 0 0 n)) n := by
  rw [pay363_eq]
  generalize residual o g h gate w = z
  unfold Softmax.normed
  pointwise []
  simp only [rowMean_apply]
  have hz : ∀ k, mulf (subf z (broadcastTo S512x1024 (rowMean z) broadcasts_S512x1_S512x1024)) (subf z (broadcastTo S512x1024 (rowMean z) broadcasts_S512x1_S512x1024)) (ix2 i k)
      = (z (ix2 i k) - Softmax.mean fun n => z (ix2 i n)) * (z (ix2 i k) - Softmax.mean fun n => z (ix2 i n)) := fun k => by
    pointwise []
    rw [rowMean_apply]
  simp only [hz]

theorem result_apply (o : FVec Ideal S512x1024 .f32) (g : FVec Ideal S1x512x1024 .bf16) (h : FVec Ideal S1x512x1024 .f32) (gate : FVec Ideal S1x1x1x1x1024 .f32) (lng lnb : FVec Ideal S1x1x1024 .f32)
    (w : FVec Ideal S1024x1024 .bf16) (i : Fin 512) (n : Fin 1024) :
    k0_pay1 (k0_pay363 (F := Ideal) o (k0_pay359 g) (k0_pay360 h) (k0_pay361 gate) (k0_pay362 lng) lnb w) (ix3 0 i n)
      = Softmax.normed (fun n => Ideal.ofBits .f32 0x3FD744FD#32 * h (ix3 0 i n)
      + gate (ix5 0 0 0 0 n) * ∑ k : Fin 1024, o (ix2 i k) * Softmax.silu (g (ix3 0 i k)) * w (ix2 k n)) (fun n => lng (ix3 0 0 n)) (fun n => lnb (ix3 0 0 n)) n := by
  unfold k0_pay1
  pointwise []
  simp only [pay363_apply, residual_apply]
  unfold k0_pay359 k0_pay360 k0_pay361 k0_pay362
  pointwise []

end Cert.KernelIdeal.Attn
end
-- ==== Proof.RefOut.lean ====
/- The reference, read at an index. -/
module

public import proofs.«01_k».proof.Proof.Gen.ReferenceIdeal.Read
public import Idealize.ShloMosaic.Lib.Pointwise
public import Idealize.ShloMosaic.Lib.WordCmp
public import proofs.«01_k».proof.Proof.Ref
public import proofs.«01_k».proof.Proof.Norm

@[expose] public section

set_option maxRecDepth 16384
noncomputable section

namespace Cert.ReferenceIdeal.Attn
open Idealize.ShloMosaic Idealize.ShloMosaic.TcCoe Idealize.SL.Sem
open Cert.ReferenceIdeal Cert.ReferenceIdeal.Read

variable (x0 : FVec Ideal S32x2048x1024 .f32) (x1 x2 : FVec Ideal S32x2048x256 .f32) (x3 : FVec Ideal S32x2048x1024 .f32)
  (x4 x5 : FVec Ideal S32x256x256 .f32) (x6 : FVec Ideal S32x2048x1024 .f32) (x7 : FVec Ideal S32x1024 .f32)
  (x8 : FVec Ideal S1024x1024 .f32) (x9 : FVec Ideal S16 .f32) (x10 x11 : FVec Ideal S4x1024 .f32)

theorem v47_apply (b : Fin 32) (i : Fin 2048) (n : Fin 1024) :
    val_main_v47 (F := Ideal) x0 x1 x2 x3 x4 x5 x9 (ix3 b i n) = val_main_v45 (F := Ideal) x0 x1 x2 x4 x5 x9 (ix3 b i n) * Softmax.silu (x3 (ix3 b i n)) := by
  pointwise [val_main_v47, val_main_v46, val_main_call1_v5, val_main_call1_v4, val_main_call1_v3, val_main_call1_v2, val_main_call1_v1, val_main_call1_v0, val_main_call1_cst, val_main_call1_cst_0]
  rw [Softmax.silu_eq]

/-- The row the normalization is applied to. -/
def residual (b : Fin 32) (i : Fin 2048) (n : Fin 1024) : EReal :=
  Ideal.ofBits .f32 0x3FD744FD#32 * x6 (ix3 b i n) + x7 (ix2 b n) * ∑ k : Fin 1024, val_main_v45 (F := Ideal) x0 x1 x2 x4 x5 x9 (ix3 b i k) * Softmax.silu (x3 (ix3 b i k)) * x8 (ix2 k n)

theorem v54_apply (b : Fin 32) (i : Fin 2048) (n : Fin 1024) :
    val_main_v54 (F := Ideal) x0 x1 x2 x3 x4 x5 x6 x7 x8 x9 (ix3 b i n) = residual x0 x1 x2 x3 x4 x5 x6 x7 x8 x9 b i n := by
  unfold residual
  pointwise [val_main_v54, val_main_v53, val_main_v52, val_main_v51, val_main_v50, val_main_v49, val_main_v48, val_main_cst_5, dot_S32x2048x1024_S1024x1024_S32x2048x1024_2_0_01_1_n_n]
  simp only [v47_apply]

theorem v62_apply (b : Fin 32) (i : Fin 2048)  :
    val_main_v62 (F := Ideal) x0 x1 x2 x3 x4 x5 x6 x7 x8 x9 (ix3 b i 0) = Softmax.mean (residual x0 x1 x2 x3 x4 x5 x6 x7 x8 x9 b i) := by
  unfold Softmax.mean
  pointwise [val_main_v62, val_main_v61, val_main_v60, val_main_v59, val_main_cst_6, val_main_cst_7]
  simp only [v54_apply]

theorem v69_apply (b : Fin 32) (i : Fin 2048)  :
    val_main_v69 (F := Ideal) x0 x1 x2 x3 x4 x5 x6 x7 x8 x9 (ix3 b i 0) = Softmax.mean fun k => (residual x0 x1 x2 x3 x4 x5 x6 x7 x8 x9 b i k - Softmax.mean (residual x0 x1 x2 x3 x4 x5 x6 x7 x8 x9 b i)) * (residual x0 x1 x2 x3 x4 x5 x6 x7 x8 x9 b i k - Softmax.mean (residual x0 x1 x2 x3 x4 x5 x6 x7 x8 x9 b i)) := by
  rw [Softmax.mean]
  pointwise [val_main_v69, val_main_v68, val_main_v67, val_main_v66, val_main_v65, val_main_v64, val_main_v63, val_main_cst_8, val_main_cst_9]
  simp only [v54_apply, v62_apply]

theorem v82_apply (b : Fin 32) (i : Fin 2048) (n : Fin 1024) :
    val_main_v82 (F := Ideal) x0 x1 x2 x3 x4 x5 x6 x7 x8 x9 x10 x11 (ix3 b i n) = Softmax.normed (residual x0 x1 x2 x3 x4 x5 x6 x7 x8 x9 b i) (fun n => x10 (ix2 0 n)) (fun n => x11 (ix2 0 n)) n := by
  unfold Softmax.normed
  pointwise [val_main_v82, val_main_v81, val_main_v80, val_main_v79, val_main_v78, val_main_v77, val_main_v76, val_main_v75, val_main_v74, val_main_v73, val_main_v72, val_main_v71, val_main_v70, val_main_cst_10, val_main_v58, val_main_v57, val_main_v56, val_main_v55]
  rw [v54_apply, v62_apply, v69_apply]

end Cert.ReferenceIdeal.Attn
end
-- ==== Proof.Whole.lean ====
/- The result's array after the run is the reference's result. -/
module

public import proofs.«01_k».proof.Proof.Join
public import proofs.«01_k».proof.Proof.Final
public import proofs.«01_k».proof.Proof.RefOut

@[expose] public section

set_option maxRecDepth 16384
noncomputable section

namespace Cert.KernelIdeal.Attn
open Idealize.ShloMosaic Idealize.ShloMosaic.TcCoe
open Idealize.SL Idealize.SL.Sem
open Idealize.ShloMosaic.Pipeline (Dat)
open Cert.KernelIdeal Cert.KernelIdeal.Gen

variable (m : (ℓ : Loc nD τ sig) → Buf (Elt Ideal) ℓ) (c : Dev nD) (t : Fin cfg0.N)

/-- What a grid step leaves in its block of the result, from the attention it computes. -/
theorem step_result : ∃ o : FVec Ideal S512x1024 .f32,
    (∀ (i : Fin 512) (n : Fin 1024), o (ix2 i n)
      = attended (stepLoads m c t) (pair ⟨i.val / 128, by omega⟩ ⟨n.val % 256 / 64, by omega⟩) ⟨n.val % 64, by omega⟩ ⟨128 * (n.val / 256) + i.val % 128, by omega⟩)
    ∧ outsAt0 m c t = k0_pay1 (k0_pay363 o (k0_pay359 (X0_2 m c t)) (k0_pay360 (iblk m c 11 t)) (k0_pay361 (iblk m c 12 t)) (k0_pay362 (iblk m c 14 t)) (iblk m c 15 t) (iblk m c 13 t)) := by
  obtain ⟨P, rest, hP, e⟩ := canon_result (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
  refine ⟨_, fun i n => blockOut_apply scM0_0.view scM0_1.view (stepLoads m c t) P rest hP i n, ?_⟩
  refine Eq.trans ?_ e
  unfold outsAt0 out0_A_16
  exact View.read_writes_eq_canon _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _)

variable (q : S32x2048x1024.Idx → ℝ) (k : S32x2048x256.Idx → ℝ) (kc : S32x256x256.Idx → ℝ) (z : S16.Idx → ℝ)
variable (hq : ∀ y, a0 m c y = (q y : EReal)) (hk : ∀ y, a1 m c y = (k y : EReal)) (hkc : ∀ y, a4 m c y = (kc y : EReal)) (hz : ∀ y, a9 m c y = (z y : EReal))
include hq hk hkc hz

/-- The same, as the reference's result at the step's rows. -/
theorem step_apply (i : Fin 512) (n : Fin 1024) : (outsAt0 m c t : FVec Ideal S1x512x1024 .f32) (ix3 0 i n)
    = ReferenceIdeal.Read.val_main_v82 (F := Ideal) (a0 m c) (a1 m c) (a2 m c) (a3 m c) (a4 m c) (a5 m c) (a6 m c) (a7 m c) (a8 m c) (a9 m c) (a10 m c) (a11 m c)
        (ix3 (batch t) ⟨512 * (part t).val + i.val, by have := (part t).isLt; omega⟩ n) := by
  obtain ⟨o, ho, e⟩ := step_result m c t
  rw [e, result_apply, ReferenceIdeal.Attn.v82_apply]
  have h1 : (fun n => (iblk m c 14 t : FVec Ideal S1x1x1024 .f32) (ix3 0 0 n)) = fun n => a10 m c (ix2 0 n) := funext fun n => block14 m c t n
  have h2 : (fun n => (iblk m c 15 t : FVec Ideal S1x1x1024 .f32) (ix3 0 0 n)) = fun n => a11 m c (ix2 0 n) := funext fun n => block15 m c t n
  rw [h1, h2]
  refine congrArg (fun f => Softmax.normed f _ _ n) (funext fun n => ?_)
  unfold ReferenceIdeal.Attn.residual
  refine congrArg₂ (· + ·) (congrArg (_ * ·) (block11 m c t i n)) (congrArg₂ (· * ·) (block12 m c t n) ?_)
  refine Eq.trans (Finset.sum_congr rfl fun l _ => ?_) (Softmax.sum_swap _)
  rw [ho, attended_eq m c t q k kc z hq hk hkc hz i l]
  exact congrArg₂ (· * ·) (congrArg (fun y => _ * Softmax.silu y) (block2 m c t i l)) (block13 m c t l n)

/-- The result's array after the run. -/
theorem result_eq_reference : (dats m 0 c).arrAt 16 cfg0.N
    = ReferenceIdeal.Read.val_main_v82 (F := Ideal) (a0 m c) (a1 m c) (a2 m c) (a3 m c) (a4 m c) (a5 m c) (a6 m c) (a7 m c) (a8 m c) (a9 m c) (a10 m c) (a11 m c) := by
  refine (dats m 0 c).arrAt_eq_of_covers 16 _ (by decide +kernel) fun t hf y => ?_
  change S1x512x1024.Idx at y
  blk_simp
  rw [after0_16]
  obtain ⟨y0, y1, y2, rfl⟩ : ∃ (y0 : Fin 1) (y1 : Fin 512) (y2 : Fin 1024), y = ix3 y0 y1 y2 := ⟨y 0, y 1, y 2, funext fun a => by fin_cases a <;> rfl⟩
  obtain rfl : y0 = 0 := Subsingleton.elim _ _
  refine (step_apply m c t q k kc z hq hk hkc hz y1 y2).trans (congrArg _ ?_)
  blk_ext [index16]

end Cert.KernelIdeal.Attn
end
-- ==== Proof.Agree.lean ====
/- The kernel's claims: its runs, and its result beside the reference's. -/
module

public import proofs.«01_k».proof.Defs
public import proofs.«01_k».proof.Proof.Whole
public import proofs.«01_k».proof.Proof.Gen.Kernel.Frame
public import proofs.«01_k».proof.Proof.Gen.ReferenceIdeal.Run

@[expose] public section

noncomputable section

namespace Cert.Proof
open Idealize.ShloMosaic Idealize.SL.Sem

/-- The side conditions the precondition states. -/
instance preFacts : Cert.Pre_finite_scores.Facts where
  bcast_S_S32x2048x1024 := by decide
  bcast_S_S32x2048x256 := by decide
  bcast_S_S32x256x256 := by decide
  bcast_S_S16 := by decide

/-- An entry below infinity in absolute value is a real number. -/
theorem real_of_finite {S : Shape} (x y : FVec Ideal S .f32) (hy : ∀ i, y i = Ideal.ofBits .f32 0x7F800000#32)
    (h : cmpf .olt (Host.absf x) y = fun _ => 1#1) : ∃ f : S.Idx → ℝ, ∀ i, x i = (f i : EReal) := by
  have key (i : S.Idx) : ∃ r : ℝ, x i = (r : EReal) := by
    have h1 := congrFun h i
    have h2 : BitVec.ofBool (decide (max (x i) (-(x i)) < y i)) = 1#1 := h1
    rw [hy, show Ideal.ofBits .f32 0x7F800000#32 = ⊤ by simp [Ideal.ofBits, Ideal.ieee]] at h2
    have h3 : max (x i) (-(x i)) < (⊤ : EReal) := by
      by_contra hn
      rw [decide_eq_false hn] at h2
      exact absurd h2 (by decide)
    obtain ⟨h4, h5⟩ := max_lt_iff.1 h3
    have h6 : x i ≠ (⊥ : EReal) := fun e => by rw [e] at h5; exact absurd h5 (by simp)
    exact ⟨(x i : EReal).toReal, (EReal.coe_toReal h4.ne h6).symm⟩
  exact ⟨fun i => (key i).choose, fun i => (key i).choose_spec⟩

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite_scores := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_pre : Cert.quiescent_ReferenceIdeal_pre_finite_scores := fun m ρ _ => frame_reference m ρ trivial

theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

/-- Equal arguments give equal results. -/
theorem agree_args {x0 y0 : FVec Ideal ReferenceIdeal.S32x2048x1024 .f32} {x1 y1 : FVec Ideal ReferenceIdeal.S32x2048x256 .f32} {x2 y2 : FVec Ideal ReferenceIdeal.S32x2048x256 .f32} {x3 y3 : FVec Ideal ReferenceIdeal.S32x2048x1024 .f32} {x4 y4 : FVec Ideal ReferenceIdeal.S32x256x256 .f32} {x5 y5 : FVec Ideal ReferenceIdeal.S32x256x256 .f32} {x6 y6 : FVec Ideal ReferenceIdeal.S32x2048x1024 .f32} {x7 y7 : FVec Ideal ReferenceIdeal.S32x1024 .f32} {x8 y8 : FVec Ideal ReferenceIdeal.S1024x1024 .f32} {x9 y9 : FVec Ideal ReferenceIdeal.S16 .f32} {x10 y10 : FVec Ideal ReferenceIdeal.S4x1024 .f32} {x11 y11 : FVec Ideal ReferenceIdeal.S4x1024 .f32}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) :
    Cert.ReferenceIdeal.Read.val_main_v82 (F := Ideal) x0 x1 x2 x3 x4 x5 x6 x7 x8 x9 x10 x11 = Cert.ReferenceIdeal.Read.val_main_v82 (F := Ideal) y0 y1 y2 y3 y4 y5 y6 y7 y8 y9 y10 y11 := by
  subst e0 e1 e2 e3 e4 e5 e6 e7 e8 e9 e10 e11
  rfl

theorem algebraic : Cert.algebraic_KernelIdeal_ReferenceIdeal_pre_finite_scores := by
  intro m ρ m' ρ' hpre hagree
  refine ⟨fun c => Cert.ReferenceIdeal.Read.val_main_v82 (F := Ideal) (KernelIdeal.Attn.a0 m c) (KernelIdeal.Attn.a1 m c) (KernelIdeal.Attn.a2 m c) (KernelIdeal.Attn.a3 m c) (KernelIdeal.Attn.a4 m c)
    (KernelIdeal.Attn.a5 m c) (KernelIdeal.Attn.a6 m c) (KernelIdeal.Attn.a7 m c) (KernelIdeal.Attn.a8 m c) (KernelIdeal.Attn.a9 m c) (KernelIdeal.Attn.a10 m c) (KernelIdeal.Attn.a11 m c), ?_, ?_⟩
  · refine (θ_run Cert.KernelIdeal.defs _ _).mono (fun r h c => ⟨(h c).1.trans ?_, (h c).2⟩) (Cert.KernelIdeal.Value.run_blocks (F := Ideal) m ρ)
    obtain ⟨h0, h1, h2, h3⟩ := hpre c
    obtain ⟨q, hq⟩ := real_of_finite _ _ (fun _ => rfl) h0
    obtain ⟨k, hk⟩ := real_of_finite _ _ (fun _ => rfl) h1
    obtain ⟨kc, hkc⟩ := real_of_finite _ _ (fun _ => rfl) h2
    obtain ⟨z, hz⟩ := real_of_finite _ _ (fun _ => rfl) h3
    exact KernelIdeal.Attn.result_eq_reference m c q k kc z hq hk hkc hz
  · refine (θ_run Cert.ReferenceIdeal.defs _ _).mono (fun r h c => ⟨(h c).1.trans ?_, (h c).2⟩) (Cert.ReferenceIdeal.Value.run (F := Ideal) m' ρ')
    refine (Cert.ReferenceIdeal.Read.val_main_v82_eq (StableHlo.launchContents m' c)).trans ?_
    obtain ⟨e0, e1, e2, e3, e4, e5, e6, e7, e8, e9, e10, e11⟩ := hagree c
    exact agree_args e0 e1 e2 e3 e4 e5 e6 e7 e8 e9 e10 e11

end Cert.Proof
end
-- ==== Proof.Proj.lean ====
/- The projection that mixer B makes of the latents: what one grid step stores, read at an index of its block. -/
module

public import proofs.«01_k».proof.Proof.Softmax
public import proofs.«01_k».proof.Proof.Gen.Kernel2Ideal.Value
public import Idealize.ShloMosaic.Lib.Pointwise
public import Idealize.ShloMosaic.Lib.Pipeline.ValueKit

@[expose] public section

set_option maxRecDepth 16384
noncomputable section

namespace Cert.Kernel2Ideal.Proj
open Idealize.ShloMosaic Idealize.ShloMosaic.TcCoe
open Idealize.SL Idealize.SL.Sem
open Cert.Kernel2Ideal Cert.Kernel2Ideal.Gen

/-- The product of the rows with 256 columns of the weights, as the body stores it. -/
def plain (u : FVec Ideal S1024x1024 .bf16) (w : FVec Ideal S1024x256 .bf16) : FVec Ideal S1x1024x256 .bf16 :=
  shapeCast S1x1024x256 (truncf .bf16 (matmul dot_S1024x1024_S1024x256_S1024x256_1_0_0_1_n_n none u
    (shapeCast S1024x256 w shapeCasts_S1024x256_S1024x256) (constant S1024x256 .f32 0x00000000#32)) bitsLt_bf16_f32) shapeCasts_S1024x256_S1x1024x256

/-- The same, times the constant. -/
def scaled (u : FVec Ideal S1024x1024 .bf16) (w : FVec Ideal S1024x256 .bf16) : FVec Ideal S1x1024x256 .bf16 :=
  shapeCast S1x1024x256 (truncf .bf16 (mulf (matmul dot_S1024x1024_S1024x256_S1024x256_1_0_0_1_n_n none u
    (shapeCast S1024x256 w shapeCasts_S1024x256_S1024x256) (constant S1024x256 .f32 0x00000000#32))
    (broadcast S1024x256 (Named.named κ "log2e" 0x3FB8AA3B#32))) bitsLt_bf16_f32) shapeCasts_S1024x256_S1x1024x256

theorem plain_apply (u : FVec Ideal S1024x1024 .bf16) (w : FVec Ideal S1024x256 .bf16) (i : Fin 1024) (n : Fin 256) :
    plain u w (ix3 0 i n) = ∑ k : Fin 1024, u (ix2 i k) * w (ix2 k n) := by
  unfold plain
  pointwise [dot_S1024x1024_S1024x256_S1024x256_1_0_0_1_n_n]

theorem scaled_apply (u : FVec Ideal S1024x1024 .bf16) (w : FVec Ideal S1024x256 .bf16) (i : Fin 1024) (n : Fin 256) :
    scaled u w (ix3 0 i n) = (∑ k : Fin 1024, u (ix2 i k) * w (ix2 k n)) * ((Softmax.lg : ℝ) : EReal) := by
  unfold scaled
  pointwise [dot_S1024x1024_S1024x256_S1024x256_1_0_0_1_n_n]
  rfl

/-- What a grid step leaves in its block: the product of its rows with all the columns, the first 1024 of them times the constant. -/
def block (u : FVec Ideal S1024x1024 .bf16) (w : FVec Ideal S1024x4096 .bf16) (y : S1x1024x4096.Idx) : EReal :=
  if (y 2).val < 1024 then (∑ k : Fin 1024, u (ix2 (y 1) k) * w (ix2 k (y 2))) * ((Softmax.lg : ℝ) : EReal)
  else ∑ k : Fin 1024, u (ix2 (y 1) k) * w (ix2 k (y 2))

theorem plain_piece (u : FVec Ideal S1024x1024 .bf16) (w : FVec Ideal S1024x4096 .bf16) (o : ℕ) (ho : 1024 ≤ o)
    (inb : ∀ a, ![0, o] a + S1024x256.size a ≤ S1024x4096.size a) (inb' : ∀ a, ![0, 0, o] a + S1x1024x256.size a ≤ S1x1024x4096.size a)
    (x : S1x1024x256.Idx) :
    plain u (View.ld (Val := Elt Ideal) (e' := .bf16) w (Rect.unit (s := S1024x4096) ![0, o] S1024x256.size inb)) x
      = block u w ((Rect.unit (s := S1x1024x4096) ![0, 0, o] S1x1024x256.size inb').emb x) := by
  obtain ⟨x0, x1, x2, rfl⟩ : ∃ (x0 : Fin 1) (x1 : Fin 1024) (x2 : Fin 256), x = ix3 x0 x1 x2 := ⟨x 0, x 1, x 2, funext fun a => by fin_cases a <;> rfl⟩
  obtain rfl : x0 = 0 := Subsingleton.elim _ _
  have hb : o + 256 ≤ 4096 := inb 1
  have he : (Rect.unit (s := S1x1024x4096) ![0, 0, o] S1x1024x256.size inb').emb (ix3 0 x1 x2) = ix3 0 x1 ⟨o + x2.val, by omega⟩ := by
    funext a
    refine Fin.ext ?_
    rw [Rect.emb_apply]
    match a with
    | ⟨0, _⟩ => rfl
    | ⟨1, _⟩ => show 0 + 1 * x1.val = x1.val; omega
    | ⟨2, _⟩ => show o + 1 * x2.val = o + x2.val; omega
  rw [plain_apply, he]
  unfold block
  refine Eq.trans ?_ (if_neg (show ¬ o + x2.val < 1024 by omega)).symm
  refine Finset.sum_congr rfl fun k _ => congrArg (_ * ·) ?_
  refine View.ld_unit_apply_of (Val := Elt Ideal) (e := .bf16) w _ _ _ _ _ fun a => ?_
  match a with
  | ⟨0, _⟩ => exact (Nat.zero_add _).symm
  | ⟨1, _⟩ => rfl

theorem scaled_piece (u : FVec Ideal S1024x1024 .bf16) (w : FVec Ideal S1024x4096 .bf16) (o : ℕ) (ho : o + 256 ≤ 1024)
    (inb : ∀ a, ![0, o] a + S1024x256.size a ≤ S1024x4096.size a) (inb' : ∀ a, ![0, 0, o] a + S1x1024x256.size a ≤ S1x1024x4096.size a)
    (x : S1x1024x256.Idx) :
    scaled u (View.ld (Val := Elt Ideal) (e' := .bf16) w (Rect.unit (s := S1024x4096) ![0, o] S1024x256.size inb)) x
      = block u w ((Rect.unit (s := S1x1024x4096) ![0, 0, o] S1x1024x256.size inb').emb x) := by
  obtain ⟨x0, x1, x2, rfl⟩ : ∃ (x0 : Fin 1) (x1 : Fin 1024) (x2 : Fin 256), x = ix3 x0 x1 x2 := ⟨x 0, x 1, x 2, funext fun a => by fin_cases a <;> rfl⟩
  obtain rfl : x0 = 0 := Subsingleton.elim _ _
  have hb : o + 256 ≤ 4096 := inb 1
  have he : (Rect.unit (s := S1x1024x4096) ![0, 0, o] S1x1024x256.size inb').emb (ix3 0 x1 x2) = ix3 0 x1 ⟨o + x2.val, by omega⟩ := by
    funext a
    refine Fin.ext ?_
    rw [Rect.emb_apply]
    match a with
    | ⟨0, _⟩ => rfl
    | ⟨1, _⟩ => show 0 + 1 * x1.val = x1.val; omega
    | ⟨2, _⟩ => show o + 1 * x2.val = o + x2.val; omega
  rw [scaled_apply, he]
  unfold block
  refine Eq.trans ?_ (if_pos (show o + x2.val < 1024 by omega)).symm
  refine congrArg (· * _) (Finset.sum_congr rfl fun k _ => congrArg (_ * ·) ?_)
  refine View.ld_unit_apply_of (Val := Elt Ideal) (e := .bf16) w _ _ _ _ _ fun a => ?_
  match a with
  | ⟨0, _⟩ => exact (Nat.zero_add _).symm
  | ⟨1, _⟩ => rfl

/-- What a grid step leaves in its block, from the contents of its windows. -/
theorem out_apply (x0 : Vec Ideal S1x1024x1024 .f32) (x1 x2 : Vec Ideal S1x1x1x1x1024 .f32) (x3 : Vec Ideal S1024x4096 .bf16) (y : S1x1024x4096.Idx) :
    (out0_4 x0 x1 x2 x3 : FVec Ideal S1x1024x4096 .bf16) y = block (k0_pay20 x0 x1 x2 x3) x3 y := by
  unfold out0_4
  refine View.canon_apply_of_pieces (Val := Elt Ideal) (e := .bf16) (block (k0_pay20 x0 x1 x2 x3) x3) _ ?_ y (cover0_4 _ _ _ _ _ _ _ _ _ _ _ _ _ _ _ _ y)
  exact List.forall_mem_cons.2 ⟨fun x => plain_piece _ _ 3840 (by decide) (by decide) (by decide) x,
    (List.forall_mem_cons.2 ⟨fun x => plain_piece _ _ 3584 (by decide) (by decide) (by decide) x,
    (List.forall_mem_cons.2 ⟨fun x => plain_piece _ _ 3328 (by decide) (by decide) (by decide) x,
    (List.forall_mem_cons.2 ⟨fun x => plain_piece _ _ 3072 (by decide) (by decide) (by decide) x,
    (List.forall_mem_cons.2 ⟨fun x => plain_piece _ _ 2816 (by decide) (by decide) (by decide) x,
    (List.forall_mem_cons.2 ⟨fun x => plain_piece _ _ 2560 (by decide) (by decide) (by decide) x,
    (List.forall_mem_cons.2 ⟨fun x => plain_piece _ _ 2304 (by decide) (by decide) (by decide) x,
    (List.forall_mem_cons.2 ⟨fun x => plain_piece _ _ 2048 (by decide) (by decide) (by decide) x,
    (List.forall_mem_cons.2 ⟨fun x => plain_piece _ _ 1792 (by decide) (by decide) (by decide) x,
    (List.forall_mem_cons.2 ⟨fun x => plain_piece _ _ 1536 (by decide) (by decide) (by decide) x,
    (List.forall_mem_cons.2 ⟨fun x => plain_piece _ _ 1280 (by decide) (by decide) (by decide) x,
    (List.forall_mem_cons.2 ⟨fun x => plain_piece _ _ 1024 (by decide) (by decide) (by decide) x,
    (List.forall_mem_cons.2 ⟨fun x => scaled_piece _ _ 768 (by decide) (by decide) (by decide) x,
    (List.forall_mem_cons.2 ⟨fun x => scaled_piece _ _ 512 (by decide) (by decide) (by decide) x,
    (List.forall_mem_cons.2 ⟨fun x => scaled_piece _ _ 256 (by decide) (by decide) (by decide) x,
    (List.forall_mem_cons.2 ⟨fun x => scaled_piece _ _ 0 (by decide) (by decide) (by decide) x, List.forall_mem_nil _⟩)⟩)⟩)⟩)⟩)⟩)⟩)⟩)⟩)⟩)⟩)⟩)⟩)⟩)⟩)⟩

theorem rows_apply (x0 : Vec Ideal S1x1024x1024 .f32) (x1 x2 : Vec Ideal S1x1x1x1x1024 .f32) (x3 : Vec Ideal S1024x4096 .bf16) (i k : Fin 1024) :
    (k0_pay20 x0 x1 x2 x3 : FVec Ideal S1024x1024 .bf16) (ix2 i k)
      = (x0 : FVec Ideal S1x1024x1024 .f32) (ix3 0 i k) * (Ideal.ofBits .f32 0x3F800000#32 + (x2 : FVec Ideal S1x1x1x1x1024 .f32) (ix5 0 0 0 0 k))
        + (x1 : FVec Ideal S1x1x1x1x1024 .f32) (ix5 0 0 0 0 k) := by
  unfold k0_pay20 k0_pay3
  rw [View.ld_unit_zero (S := S1x1024x1024) (by decide), View.ld_unit_zero (S := S1x1x1x1x1024) (by decide), View.ld_unit_zero (S := S1x1x1x1x1024) (by decide)]
  pointwise []

end Cert.Kernel2Ideal.Proj
end
-- ==== Proof.ProjHost.lean ====
/- The arrays the projection's blocks are cut from, and its blocks, in terms of the arguments. -/
module

public import proofs.«01_k».proof.Proof.Proj
public import Idealize.ShloMosaic.Lib.StableHlo.RunRead

@[expose] public section

set_option maxRecDepth 16384
noncomputable section

namespace Cert.Kernel2Ideal.Proj
open Idealize.ShloMosaic Idealize.ShloMosaic.TcCoe
open Idealize.SL Idealize.SL.Sem
open Cert.Kernel2Ideal Cert.Kernel2Ideal.Gen Idealize.ShloMosaic.StableHlo

variable (m : (ℓ : Loc nD τ sig) → Buf (Elt Ideal) ℓ) (c : Dev nD)

/-! The arguments' contents. -/
abbrev a0 : FVec Ideal S32x2048x1024 .f32 := m ((c : Thread nD τ).loc main_arg0)
abbrev a1 : FVec Ideal S32x1024 .f32 := m ((c : Thread nD τ).loc main_arg1)
abbrev a2 : FVec Ideal S32x1024 .f32 := m ((c : Thread nD τ).loc main_arg2)
abbrev a3 : FVec Ideal S1024x4096 .f32 := m ((c : Thread nD τ).loc main_arg3)

theorem v5_queries (k n : Fin 1024) :
    (V m c main_v5 : FVec Ideal S1024x4096 .bf16) (ix2 k ⟨n.val, by omega⟩) = a3 m c (ix2 k ⟨n.val, by omega⟩) * Ideal.ofBits .f32 0x3E000000#32 := by
  unfold_abbrev_sides
  after_reads_simp
  pointwise []
  after_reads_simp
  pointwise []
  rfl

theorem v5_rest (k : Fin 1024) (n : Fin 3072) :
    (V m c main_v5 : FVec Ideal S1024x4096 .bf16) (ix2 k ⟨1024 + n.val, by omega⟩) = a3 m c (ix2 k ⟨1024 + n.val, by omega⟩) := by
  unfold_abbrev_sides
  after_reads_simp
  pointwise []
  after_reads_simp
  pointwise []

theorem v11_shift (b : Fin 32) (n : Fin 1024) :
    (V m c main_v11 : FVec Ideal S4x3x40x1x1024 .f32) (ix5 1 0 ⟨b.val, by omega⟩ 0 n) = a1 m c (ix2 b n) := by
  unfold_abbrev_sides
  after_reads_simp
  show pad S4x3x40x1x1024 ![1, 0, 0, 0, 0] ![2, 1, 8, 0, 0] ![0, 0, 0, 0, 0]
        (broadcastInDim S1x2x32x1x1024 ![1, 2, 4] bcast_S2x32x1024_S1x2x32x1x1024_1_2_4
            (concatenate S2x32x1024 0 [⟨S1x32x1024, _⟩, ⟨S1x32x1024, _⟩] concatenates_S1x32x1024_S1x32x1024_S2x32x1024_d0))
        (sitofp .f32 (constantI S_ 32 0#32))
        pads_S1x2x32x1x1024_S4x3x40x1x1024_120_010_080_000_000 h_S_ _ = _
  pointwise []
  after_reads_simp
  pointwise []

theorem v11_scale (b : Fin 32) (n : Fin 1024) :
    (V m c main_v11 : FVec Ideal S4x3x40x1x1024 .f32) (ix5 1 1 ⟨b.val, by omega⟩ 0 n) = a2 m c (ix2 b n) := by
  unfold_abbrev_sides
  after_reads_simp
  show pad S4x3x40x1x1024 ![1, 0, 0, 0, 0] ![2, 1, 8, 0, 0] ![0, 0, 0, 0, 0]
        (broadcastInDim S1x2x32x1x1024 ![1, 2, 4] bcast_S2x32x1024_S1x2x32x1x1024_1_2_4
            (concatenate S2x32x1024 0 [⟨S1x32x1024, _⟩, ⟨S1x32x1024, _⟩] concatenates_S1x32x1024_S1x32x1024_S2x32x1024_d0))
        (sitofp .f32 (constantI S_ 32 0#32))
        pads_S1x2x32x1x1024_S4x3x40x1x1024_120_010_080_000_000 h_S_ _ = _
  pointwise []
  after_reads_simp
  pointwise []

variable (t : Fin cfg0.N)

/-- The batch a grid step works on. -/
def batch (t : Fin cfg0.N) : Fin 32 := grid0.coords t 0
/-- The half of the batch's latents it works on. -/
def part (t : Fin cfg0.N) : Fin 2 := grid0.coords t 1

theorem index0 (t : Fin cfg0.N) : win0_0.index t = ![(batch t).val, (part t).val, 0] := (by decide +kernel : ∀ t : Fin grid0.N, win0_0.index t = ![(batch t).val, (part t).val, 0]) t
theorem index1 (t : Fin cfg0.N) : win0_1.index t = ![1, 0, (batch t).val, 0, 0] := (by decide +kernel : ∀ t : Fin grid0.N, win0_1.index t = ![1, 0, (batch t).val, 0, 0]) t
theorem index2 (t : Fin cfg0.N) : win0_2.index t = ![1, 1, (batch t).val, 0, 0] := (by decide +kernel : ∀ t : Fin grid0.N, win0_2.index t = ![1, 1, (batch t).val, 0, 0]) t
theorem index3 (t : Fin cfg0.N) : win0_3.index t = ![0, 0] := (by decide +kernel : ∀ t : Fin grid0.N, win0_3.index t = ![0, 0]) t
theorem index4 (t : Fin cfg0.N) : win0_4.index t = ![(batch t).val, (part t).val, 0] := (by decide +kernel : ∀ t : Fin grid0.N, win0_4.index t = ![(batch t).val, (part t).val, 0]) t

theorem block0 (i k : Fin 1024) : (iblk m c 0 t : FVec Ideal S1x1024x1024 .f32) (ix3 0 i k) = a0 m c (ix3 (batch t) ⟨1024 * (part t).val + i.val, by have := (part t).isLt; omega⟩ k) := by
  blk_simp [iblk]
  refine Eq.trans (congrArg (V m c main_arg0) ?_) (congrFun (V_main_arg0 m c) _)
  blk_ext [index0]

theorem block1 (k : Fin 1024) : (iblk m c 1 t : FVec Ideal S1x1x1x1x1024 .f32) (ix5 0 0 0 0 k) = a1 m c (ix2 (batch t) k) := by
  blk_simp [iblk]
  refine Eq.trans (congrArg (V m c main_v11) ?_) (v11_shift m c (batch t) k)
  blk_ext [index1]

theorem block2 (k : Fin 1024) : (iblk m c 2 t : FVec Ideal S1x1x1x1x1024 .f32) (ix5 0 0 0 0 k) = a2 m c (ix2 (batch t) k) := by
  blk_simp [iblk]
  refine Eq.trans (congrArg (V m c main_v11) ?_) (v11_scale m c (batch t) k)
  blk_ext [index2]

theorem block3 (k : Fin 1024) (n : Fin 4096) : (iblk m c 3 t : FVec Ideal S1024x4096 .bf16) (ix2 k n) = (V m c main_v5 : FVec Ideal S1024x4096 .bf16) (ix2 k n) := by
  blk_simp [iblk]
  refine congrArg (V m c main_v5) ?_
  blk_ext [index3]

end Cert.Kernel2Ideal.Proj
end
-- ==== Proof.ProjRef.lean ====
/- The projection that mixer B makes of the latents, as a sum, and the reference read as that sum. -/
module

public import proofs.«01_k».proof.Proof.Softmax
public import proofs.«01_k».proof.Proof.Gen.Reference2Ideal.Run
public import Idealize.ShloMosaic.Lib.Pointwise

@[expose] public section

set_option maxRecDepth 16384
noncomputable section

namespace Cert.Reference2Ideal.Proj
open Idealize.ShloMosaic Idealize.ShloMosaic.TcCoe
open Idealize.SL Idealize.SL.Sem
open Cert.Reference2Ideal Cert.Reference2Ideal.Gen

theorem two_word : Ideal.ofBits .f32 0x40000000#32 = ((2 : ℝ) : EReal) := by
  simp [Ideal.ofBits, Ideal.ieee]
  rw [← EReal.coe_mul]
  norm_num

theorem log_read : id (Host.log (constant (F := Ideal) S_ .f32 1073741824#32)) ix0 = ((Real.log 2 : ℝ) : EReal) := by
  have h : id (Host.log (constant (F := Ideal) S_ .f32 1073741824#32)) ix0 = Ideal.log (Ideal.ofBits .f32 0x40000000#32) := rfl
  rw [h, two_word]
  exact if_neg (by norm_num)

theorem div_log_two (x : EReal) : Ideal.div x ((Real.log 2 : ℝ) : EReal) = x * ((Softmax.lg : ℝ) : EReal) := by
  have h : ((Real.log 2 : ℝ) : EReal) ≠ 0 := EReal.coe_ne_zero.2 (Real.log_pos (by norm_num)).ne'
  unfold Ideal.div Softmax.lg
  rw [if_neg h, EReal.coe_inv]

/-- The modulated row of a latent. -/
def row (x : FVec Ideal S32x2048x1024 .f32) (shift scale : FVec Ideal S32x1024 .f32) (b : Fin 32) (i : Fin 2048) (k : Fin 1024) : EReal :=
  x (ix3 b i k) * (Ideal.ofBits .f32 0x3F800000#32 + scale (ix2 b k)) + shift (ix2 b k)

/-- Queries, keys, values and gates side by side; the queries have the attention's scale, in base two. -/
def packed (x : FVec Ideal S32x2048x1024 .f32) (shift scale : FVec Ideal S32x1024 .f32) (w : FVec Ideal S1024x4096 .f32) : FVec Ideal S32x2048x4096 .bf16 := fun y =>
  if (y 2).val < 1024 then (∑ k : Fin 1024, row x shift scale (y 0) (y 1) k * w (ix2 k (y 2))) * Ideal.ofBits .f32 0x3E000000#32 * ((Softmax.lg : ℝ) : EReal)
  else ∑ k : Fin 1024, row x shift scale (y 0) (y 1) k * w (ix2 k (y 2))

variable (m : (ℓ : Loc nD τ sig) → Buf (Elt Ideal) ℓ) (ρ : Dev nD → PrngReg)

theorem run_packed : θ_run defs (onTc (τ := τ) (main (F := Ideal))) ⟨m, fun _ => 0, ρ⟩ fun r => ∀ c : Dev nD,
      r.2.mem ((c.tc : Thread nD τ).loc main_v20) = packed (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.Reference2Ideal.Value.run (F := Ideal) m ρ)
  generalize m ((c.tc : Thread nD τ).loc main_arg0) = x
  generalize m ((c.tc : Thread nD τ).loc main_arg1) = shift
  generalize m ((c.tc : Thread nD τ).loc main_arg2) = scale
  generalize m ((c.tc : Thread nD τ).loc main_arg3) = w
  funext y
  obtain ⟨b, i, n, rfl⟩ : ∃ (b : Fin 32) (i : Fin 2048) (n : Fin 4096), y = ix3 b i n := ⟨y 0, y 1, y 2, funext fun a => by fin_cases a <;> rfl⟩
  unfold packed row
  by_cases h : n.val < 1024
  · rw [if_pos (show ((ix3 b i n : S32x2048x4096.Idx) 2).val < 1024 from h)]
    pointwise [dot_S32x2048x1024_S1024x4096_S32x2048x4096_2_0_01_1_n_n]
    rw [dif_pos h]
    exact (congrArg (Ideal.div _) log_read).trans (div_log_two _)
  · rw [if_neg (show ¬ ((ix3 b i n : S32x2048x4096.Idx) 2).val < 1024 from h)]
    pointwise [dot_S32x2048x1024_S1024x4096_S32x2048x4096_2_0_01_1_n_n]
    rw [dif_neg h]
    have e (j : Fin 4096) (hj : j.val = n.val) : j = n := Fin.ext hj
    by_cases h1 : n.val - 1024 < 1024
    · rw [dif_pos h1, e ⟨1024 + (n.val - 1024), by omega⟩ (by show 1024 + (n.val - 1024) = n.val; omega)]
    · rw [dif_neg h1]
      by_cases h2 : n.val - 1024 - 1024 < 1024
      · rw [dif_pos h2, e ⟨2048 + (n.val - 1024 - 1024), by omega⟩ (by show 2048 + (n.val - 1024 - 1024) = n.val; omega)]
      · rw [dif_neg h2, e ⟨3072 + (n.val - 1024 - 1024 - 1024), by omega⟩ (by show 3072 + (n.val - 1024 - 1024 - 1024) = n.val; omega)]

end Cert.Reference2Ideal.Proj
end
-- ==== Proof.ProjAgree.lean ====
/- The projection's claims: its runs, and its result beside the reference's. -/
module

public import proofs.«01_k».proof.Defs
public import proofs.«01_k».proof.Proof.ProjHost
public import proofs.«01_k».proof.Proof.ProjRef
public import proofs.«01_k».proof.Proof.Join
public import proofs.«01_k».proof.Proof.Gen.Kernel2.Frame

@[expose] public section

set_option maxRecDepth 16384
noncomputable section

namespace Cert.Kernel2Ideal.Proj
open Idealize.ShloMosaic Idealize.ShloMosaic.TcCoe
open Idealize.SL Idealize.SL.Sem
open Idealize.ShloMosaic.Pipeline (Dat)
open Cert.Kernel2Ideal Cert.Kernel2Ideal.Gen
open Cert.Reference2Ideal.Proj (packed row)

variable (m : (ℓ : Loc nD τ sig) → Buf (Elt Ideal) ℓ) (c : Dev nD) (t : Fin cfg0.N)

/-- A row a grid step modulates is the reference's row. -/
theorem rows_eq (i k : Fin 1024) : (k0_pay20 (iblk m c 0 t) (iblk m c 1 t) (iblk m c 2 t) (iblk m c 3 t) : FVec Ideal S1024x1024 .bf16) (ix2 i k)
    = row (a0 m c) (a1 m c) (a2 m c) (batch t) ⟨1024 * (part t).val + i.val, by have := (part t).isLt; omega⟩ k := by
  rw [rows_apply]
  unfold row
  exact congrArg₂ (· + ·) (congrArg₂ (· * ·) (block0 m c t i k) (congrArg (_ + ·) (block2 m c t k))) (block1 m c t k)

/-- The weights' scale comes out of a query's sum. -/
theorem sum_scaled (f g : Fin 1024 → EReal) : (∑ k, f k * (g k * Ideal.ofBits .f32 0x3E000000#32)) = (∑ k, f k * g k) * Ideal.ofBits .f32 0x3E000000#32 := by
  rw [KernelIdeal.Attn.eighth_word, Softmax.sum_mul_coe _ _ (by norm_num)]
  exact Finset.sum_congr rfl fun k _ => (mul_assoc _ _ _).symm

/-- What a grid step leaves in its block of the result, as the reference's result at the step's rows. -/
theorem step_apply (i : Fin 1024) (n : Fin 4096) :
    (out0_4 (iblk m c 0 t) (iblk m c 1 t) (iblk m c 2 t) (iblk m c 3 t) : FVec Ideal S1x1024x4096 .bf16) (ix3 0 i n)
      = packed (a0 m c) (a1 m c) (a2 m c) (a3 m c) (ix3 (batch t) ⟨1024 * (part t).val + i.val, by have := (part t).isLt; omega⟩ n) := by
  rw [out_apply]
  unfold block packed
  by_cases h : n.val < 1024
  · refine (if_pos h).trans (Eq.trans ?_ (if_pos h).symm)
    refine congrArg (· * _) (Eq.trans (Finset.sum_congr rfl fun k _ => ?_) (sum_scaled _ _))
    exact congrArg₂ (· * ·) (rows_eq m c t i k) ((block3 m c t k n).trans (v5_queries m c k ⟨n.val, h⟩))
  · refine (if_neg h).trans (Eq.trans ?_ (if_neg h).symm)
    refine Finset.sum_congr rfl fun k _ => ?_
    have e : n = (⟨1024 + (⟨n.val - 1024, by omega⟩ : Fin 3072).val, by show 1024 + (n.val - 1024) < 4096; omega⟩ : Fin 4096) := Fin.ext (by show n.val = 1024 + (n.val - 1024); omega)
    refine congrArg₂ (· * ·) (rows_eq m c t i k) ((block3 m c t k n).trans ?_)
    show (V m c main_v5 : FVec Ideal S1024x4096 .bf16) (ix2 k n) = a3 m c (ix2 k n)
    rw [e]
    exact v5_rest m c k ⟨n.val - 1024, by omega⟩

/-- The result's array after the run. -/
theorem result_eq_packed : (dats m 0 c).arrAt 4 cfg0.N = packed (a0 m c) (a1 m c) (a2 m c) (a3 m c) := by
  refine (dats m 0 c).arrAt_eq_of_covers 4 _ (by decide +kernel) fun t hf y => ?_
  change S1x1024x4096.Idx at y
  blk_simp
  rw [after0_4]
  obtain ⟨y0, y1, y2, rfl⟩ : ∃ (y0 : Fin 1) (y1 : Fin 1024) (y2 : Fin 4096), y = ix3 y0 y1 y2 := ⟨y 0, y 1, y 2, funext fun a => by fin_cases a <;> rfl⟩
  obtain rfl : y0 = 0 := Subsingleton.elim _ _
  refine (step_apply m c t y1 y2).trans (congrArg _ ?_)
  blk_ext [index4]

end Cert.Kernel2Ideal.Proj

namespace Cert.Proof
open Idealize.ShloMosaic Idealize.SL.Sem
open Cert.Reference2Ideal.Proj (packed)

theorem frame_kernel2 : Cert.quiescent_Kernel2 := fun m ρ _ => Cert.Kernel2.Gen.frame m ρ
theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves2 : Cert.preserves_Kernel2_Kernel2Ideal :=
  IdealRules.named_const.statement Cert.Kernel2Ideal.κ "log2e" .f32 0x3FB8AA3B#32 (((Real.log 2)⁻¹ : ℝ) : EReal) rfl

/-- Equal arguments give equal results. -/
theorem packed_congr {x0 y0 : FVec Ideal Reference2Ideal.S32x2048x1024 .f32} {x1 y1 x2 y2 : FVec Ideal Reference2Ideal.S32x1024 .f32} {x3 y3 : FVec Ideal Reference2Ideal.S1024x4096 .f32}
    (e0 : x0 = y0) (e1 : x1 = y1) (e2 : x2 = y2) (e3 : x3 = y3) : packed x0 x1 x2 x3 = packed y0 y1 y2 y3 := by
  subst e0 e1 e2 e3
  rfl

theorem algebraic2 : Cert.algebraic_Kernel2Ideal_Reference2Ideal := by
  intro m ρ m' ρ' _ hagree
  refine ⟨fun c => packed (Kernel2Ideal.Proj.a0 m c) (Kernel2Ideal.Proj.a1 m c) (Kernel2Ideal.Proj.a2 m c) (Kernel2Ideal.Proj.a3 m c), ?_, ?_⟩
  · exact (θ_run Cert.Kernel2Ideal.defs _ _).mono (fun r h c => ⟨(h c).1.trans (Kernel2Ideal.Proj.result_eq_packed m c), (h c).2⟩) (Cert.Kernel2Ideal.Value.run_blocks (F := Ideal) m ρ)
  · refine (θ_run Cert.Reference2Ideal.defs _ _).mono (fun r h c => ⟨(h c).1.trans ?_, (h c).2⟩) (Cert.Reference2Ideal.Proj.run_packed m' ρ')
    obtain ⟨e0, e1, e2, e3⟩ := hagree c
    exact packed_congr e0 e1 e2 e3

end Cert.Proof
end
-- ==== Proof.Turn.lean ====
/- The rotary embedding of a head's 64 entries over the extended reals: its form in the reference, and the forms with
   each entry's partner fetched. -/
module

public import proofs.«01_k».proof.Proof.Softmax

@[expose] public section

noncomputable section

namespace Cert.Turn

/-- A function on 64 entries from one on each quarter. -/
def four {α : Type} (a b c e : Fin 16 → α) (d : Fin 64) : α :=
  if h : d.val < 16 then a ⟨d.val, h⟩
  else if h : d.val - 16 < 16 then b ⟨d.val - 16, h⟩
  else if h : d.val - 16 - 16 < 16 then c ⟨d.val - 16 - 16, h⟩
  else e ⟨d.val - 16 - 16 - 16, by omega⟩

theorem four_0 {α : Type} (a b c e : Fin 16 → α) (d : Fin 64) (j : Fin 16) (h : d.val = j.val) : four a b c e d = a j := by
  unfold four
  rw [dif_pos (show d.val < 16 by omega)]
  exact congrArg a (Fin.ext h)

theorem four_1 {α : Type} (a b c e : Fin 16 → α) (d : Fin 64) (j : Fin 16) (h : d.val = 16 + j.val) : four a b c e d = b j := by
  unfold four
  rw [dif_neg (show ¬ d.val < 16 by omega), dif_pos (show d.val - 16 < 16 by omega)]
  exact congrArg b (Fin.ext (by show d.val - 16 = j.val; omega))

theorem four_2 {α : Type} (a b c e : Fin 16 → α) (d : Fin 64) (j : Fin 16) (h : d.val = 32 + j.val) : four a b c e d = c j := by
  unfold four
  rw [dif_neg (show ¬ d.val < 16 by omega), dif_neg (show ¬ d.val - 16 < 16 by omega), dif_pos (show d.val - 16 - 16 < 16 by omega)]
  exact congrArg c (Fin.ext (by show d.val - 16 - 16 = j.val; omega))

theorem four_3 {α : Type} (a b c e : Fin 16 → α) (d : Fin 64) (j : Fin 16) (h : d.val = 48 + j.val) : four a b c e d = e j := by
  unfold four
  rw [dif_neg (show ¬ d.val < 16 by omega), dif_neg (show ¬ d.val - 16 < 16 by omega), dif_neg (show ¬ d.val - 16 - 16 < 16 by omega)]
  exact congrArg e (Fin.ext (by show d.val - 16 - 16 - 16 = j.val; omega))

/-- The quarter an entry lies in, and its place there. -/
theorem cases4 (d : Fin 64) : (∃ j : Fin 16, d.val = j.val) ∨ (∃ j : Fin 16, d.val = 16 + j.val) ∨ (∃ j : Fin 16, d.val = 32 + j.val) ∨ ∃ j : Fin 16, d.val = 48 + j.val := by
  by_cases h0 : d.val < 16
  · exact .inl ⟨⟨d.val, h0⟩, rfl⟩
  by_cases h1 : d.val < 32
  · exact .inr (.inl ⟨⟨d.val - 16, by omega⟩, by show d.val = 16 + (d.val - 16); omega⟩)
  by_cases h2 : d.val < 48
  · exact .inr (.inr (.inl ⟨⟨d.val - 32, by omega⟩, by show d.val = 32 + (d.val - 32); omega⟩))
  · exact .inr (.inr (.inr ⟨⟨d.val - 48, by omega⟩, by show d.val = 48 + (d.val - 48); omega⟩))

/-- The rotated entries: the first half by the row's angles, the second by the column's. -/
def rotated (x : Fin 64 → EReal) (cr sr cc sc : Fin 16 → EReal) : Fin 64 → EReal :=
  four (fun j => x ⟨j.val, by omega⟩ * cr j - x ⟨16 + j.val, by omega⟩ * sr j)
    (fun j => x ⟨16 + j.val, by omega⟩ * cr j + x ⟨j.val, by omega⟩ * sr j)
    (fun j => x ⟨32 + j.val, by omega⟩ * cc j - x ⟨48 + j.val, by omega⟩ * sc j)
    (fun j => x ⟨48 + j.val, by omega⟩ * cc j + x ⟨32 + j.val, by omega⟩ * sc j)

/-- Each entry's partner in the rotation. -/
def pair (x : Fin 64 → EReal) : Fin 64 → EReal :=
  four (fun j => x ⟨16 + j.val, by omega⟩) (fun j => x ⟨j.val, by omega⟩) (fun j => x ⟨48 + j.val, by omega⟩) (fun j => x ⟨32 + j.val, by omega⟩)

def cosAt (cr cc : Fin 16 → EReal) : Fin 64 → EReal := four cr cr cc cc
def sinaAt (sr sc : Fin 16 → EReal) : Fin 64 → EReal := four (fun j => -sr j) (fun _ => 0) (fun j => -sc j) (fun _ => 0)
def sinbAt (sr sc : Fin 16 → EReal) : Fin 64 → EReal := four (fun _ => 0) sr (fun _ => 0) sc

/-- With partners fetched. -/
theorem rotated_of_pair (x : Fin 64 → EReal) (cr sr cc sc : Fin 16 → EReal) (d : Fin 64) :
    x d * cosAt cr cc d + pair x d * (sinaAt sr sc d + sinbAt sr sc d) = rotated x cr sr cc sc d := by
  unfold rotated pair cosAt sinaAt sinbAt
  obtain ⟨j, h⟩ | ⟨j, h⟩ | ⟨j, h⟩ | ⟨j, h⟩ := cases4 d
  · simp only [four_0 _ _ _ _ d j h, add_zero, mul_neg, ← sub_eq_add_neg]
    rw [show d = ⟨j.val, by omega⟩ from Fin.ext h]
  · simp only [four_1 _ _ _ _ d j h, zero_add]
    rw [show d = ⟨16 + j.val, by omega⟩ from Fin.ext h]
  · simp only [four_2 _ _ _ _ d j h, add_zero, mul_neg, ← sub_eq_add_neg]
    rw [show d = ⟨32 + j.val, by omega⟩ from Fin.ext h]
  · simp only [four_3 _ _ _ _ d j h, zero_add]
    rw [show d = ⟨48 + j.val, by omega⟩ from Fin.ext h]

/-- With the entries sixteen after and sixteen before fetched: what lies outside the pair is multiplied by zero. -/
theorem rotated_of_shifts (x y z : Fin 64 → EReal) (cr sr cc sc : Fin 16 → EReal) (d : Fin 64)
    (hy : ∀ (e : Fin 64) (h : e.val + 16 < 64), y e = x ⟨e.val + 16, h⟩) (hz : ∀ (e : Fin 64) (_ : 16 ≤ e.val), z e = x ⟨e.val - 16, by omega⟩) :
    x d * cosAt cr cc d + y d * sinaAt sr sc d + z d * sinbAt sr sc d = rotated x cr sr cc sc d := by
  unfold rotated cosAt sinaAt sinbAt
  obtain ⟨j, h⟩ | ⟨j, h⟩ | ⟨j, h⟩ | ⟨j, h⟩ := cases4 d
  · simp only [four_0 _ _ _ _ d j h, mul_zero, add_zero, mul_neg, ← sub_eq_add_neg]
    rw [hy d (by omega)]
    exact congrArg₂ (fun a b => x a * cr j - x b * sr j) (Fin.ext h) (Fin.ext (by show d.val + 16 = 16 + j.val; omega))
  · simp only [four_1 _ _ _ _ d j h, mul_zero, add_zero]
    rw [hz d (by omega)]
    exact congrArg₂ (fun a b => x a * cr j + x b * sr j) (Fin.ext h) (Fin.ext (by show d.val - 16 = j.val; omega))
  · simp only [four_2 _ _ _ _ d j h, mul_zero, add_zero, mul_neg, ← sub_eq_add_neg]
    rw [hy d (by omega)]
    exact congrArg₂ (fun a b => x a * cc j - x b * sc j) (Fin.ext h) (Fin.ext (by show d.val + 16 = 48 + j.val; omega))
  · simp only [four_3 _ _ _ _ d j h, mul_zero, add_zero]
    rw [hz d (by omega)]
    exact congrArg₂ (fun a b => x a * cc j + x b * sc j) (Fin.ext h) (Fin.ext (by show d.val - 16 = 32 + j.val; omega))

theorem add_scaled (a b p q : EReal) (c : ℝ) (hc : 0 ≤ c) : a * c * p + b * c * q = (a * p + b * q) * c := by
  rw [EReal.right_distrib_of_nonneg_of_ne_top (by exact_mod_cast hc) (EReal.coe_ne_top c), mul_right_comm a, mul_right_comm b]

theorem sub_scaled (a b p q : EReal) (c : ℝ) (hc : 0 ≤ c) : a * c * p - b * c * q = (a * p - b * q) * c := by
  rw [sub_eq_add_neg, sub_eq_add_neg, EReal.right_distrib_of_nonneg_of_ne_top (by exact_mod_cast hc) (EReal.coe_ne_top c), mul_right_comm a, mul_right_comm b, neg_mul]

/-- A scale by a real that isn't negative passes through the rotation. -/
theorem rotated_scaled (x : Fin 64 → EReal) (cr sr cc sc : Fin 16 → EReal) (c : ℝ) (hc : 0 ≤ c) (d : Fin 64) :
    rotated (fun e => x e * c) cr sr cc sc d = rotated x cr sr cc sc d * c := by
  unfold rotated
  obtain ⟨j, h⟩ | ⟨j, h⟩ | ⟨j, h⟩ | ⟨j, h⟩ := cases4 d
  · rw [four_0 _ _ _ _ d j h, four_0 _ _ _ _ d j h, sub_scaled _ _ _ _ c hc]
  · rw [four_1 _ _ _ _ d j h, four_1 _ _ _ _ d j h, add_scaled _ _ _ _ c hc]
  · rw [four_2 _ _ _ _ d j h, four_2 _ _ _ _ d j h, sub_scaled _ _ _ _ c hc]
  · rw [four_3 _ _ _ _ d j h, four_3 _ _ _ _ d j h, add_scaled _ _ _ _ c hc]

end Cert.Turn
end
-- ==== Proof.Rope.lean ====
/- The projection that mixer A makes of the latents: what one grid step stores, read at an index of its blocks. -/
module

public import proofs.«01_k».proof.Proof.Turn
public import proofs.«01_k».proof.Proof.Gen.Kernel3Ideal.Value
public import Idealize.ShloMosaic.Lib.Pointwise
public import Idealize.ShloMosaic.Lib.Pipeline.ValueKit

@[expose] public section

set_option maxRecDepth 16384
noncomputable section

namespace Cert.Kernel3Ideal.Rope
open Idealize.ShloMosaic Idealize.ShloMosaic.TcCoe
open Idealize.SL Idealize.SL.Sem
open Cert.Kernel3Ideal Cert.Kernel3Ideal.Gen
open Cert.Turn

/-- The product of the rows with 256 columns of the weights. -/
def dots (u : FVec Ideal S1024x1024 .bf16) (w : FVec Ideal S1024x256 .bf16) : FVec Ideal S1024x256 .f32 :=
  matmul dot_S1024x1024_S1024x256_S1024x256_1_0_0_1_n_n none u (shapeCast S1024x256 w shapeCasts_S1024x256_S1024x256) (constant S1024x256 .f32 0x00000000#32)

/-- The gates' product as the body stores it. -/
def gates (u : FVec Ideal S1024x1024 .bf16) (w : FVec Ideal S1024x256 .bf16) : FVec Ideal S1x1024x256 .bf16 :=
  shapeCast S1x1024x256 (truncf .bf16 (dots u w) bitsLt_bf16_f32) shapeCasts_S1024x256_S1x1024x256

/-- The product of 256 rows of the transposed weights with the rows. -/
def dotsT (u : FVec Ideal S1024x1024 .bf16) (w : FVec Ideal S256x1024 .bf16) : FVec Ideal S256x1024 .f32 :=
  matmul dot_S256x1024_S1024x1024_S256x1024_1_1_0_0_n_n none (shapeCast S256x1024 w shapeCasts_S256x1024_S256x1024) u (constant S256x1024 .f32 0x00000000#32)

/-- The values' product as the body stores it. -/
def vals (u : FVec Ideal S1024x1024 .bf16) (w : FVec Ideal S256x1024 .bf16) : FVec Ideal S1x256x1024 .bf16 :=
  shapeCast S1x256x1024 (truncf .bf16 (dotsT u w) bitsLt_bf16_f32) shapeCasts_S256x1024_S1x256x1024

/-- Two heads of keys, rotated by shifts of the lanes. -/
def lanes (a : FVec Ideal S1024x128 .f32) (x5 x6 x7 : FVec Ideal S1024x128 .f32) : FVec Ideal S1024x128 .f32 :=
  addf (addf (mulf a (shapeCast S1024x128 x5 shapeCasts_S1024x128_S1024x128))
    (mulf (dynamicRotate 1 112#32 none a rotates_S1024x128_d1) (shapeCast S1024x128 x6 shapeCasts_S1024x128_S1024x128)))
    (mulf (dynamicRotate 1 16#32 none a rotates_S1024x128_d1) (shapeCast S1024x128 x7 shapeCasts_S1024x128_S1024x128))

/-- The keys as the body stores them. -/
def keys (u : FVec Ideal S1024x1024 .bf16) (w : FVec Ideal S1024x256 .bf16) (x5 x6 x7 : FVec Ideal S1024x128 .f32) : FVec Ideal S1x1024x256 .bf16 :=
  shapeCast S1x1024x256 (truncf .bf16 (concatenate S1024x256 1
    [⟨S1024x128, lanes (extractStridedSlice S1024x128 ![0, 0] (dots u w) slices_S1024x256_o0_0_S1024x128) x5 x6 x7⟩,
      ⟨S1024x128, lanes (extractStridedSlice S1024x128 ![0, 128] (dots u w) slices_S1024x256_o0_128_S1024x128) x5 x6 x7⟩]
    concatenates_S1024x128_S1024x128_S1024x256_d1) bitsLt_bf16_f32) shapeCasts_S1024x256_S1x1024x256

/-- The products of the queries' weights, times the constant. -/
def turned (u : FVec Ideal S1024x1024 .bf16) (w : FVec Ideal S256x1024 .bf16) : FVec Ideal S256x1024 .f32 :=
  mulf (dotsT u w) (broadcast S256x1024 (Named.named κ "log2e" 0x3FB8AA3B#32))

/-- A head of queries, rotated. -/
def head (v : FVec Ideal S64x1024 .f32) (x8 x9 : FVec Ideal S64x1024 .f32) : FVec Ideal S64x1024 .f32 :=
  addf (mulf v (shapeCast S64x1024 x8 shapeCasts_S64x1024_S64x1024))
    (mulf (concatenate S64x1024 0
      [⟨S16x1024, extractStridedSlice S16x1024 ![16, 0] v slices_S64x1024_o16_0_S16x1024⟩, ⟨S16x1024, extractStridedSlice S16x1024 ![0, 0] v slices_S64x1024_o0_0_S16x1024⟩,
        ⟨S16x1024, extractStridedSlice S16x1024 ![48, 0] v slices_S64x1024_o48_0_S16x1024⟩, ⟨S16x1024, extractStridedSlice S16x1024 ![32, 0] v slices_S64x1024_o32_0_S16x1024⟩]
      concatenates_S16x1024_S16x1024_S16x1024_S16x1024_S64x1024_d0) (shapeCast S64x1024 x9 shapeCasts_S64x1024_S64x1024))

/-- The queries as the body stores them. -/
def queries (u : FVec Ideal S1024x1024 .bf16) (w : FVec Ideal S256x1024 .bf16) (x8 x9 : FVec Ideal S64x1024 .f32) : FVec Ideal S1x256x1024 .bf16 :=
  shapeCast S1x256x1024 (truncf .bf16 (concatenate S256x1024 0
    [⟨S64x1024, head (extractStridedSlice S64x1024 ![0, 0] (turned u w) slices_S256x1024_o0_0_S64x1024) x8 x9⟩,
      ⟨S64x1024, head (extractStridedSlice S64x1024 ![64, 0] (turned u w) slices_S256x1024_o64_0_S64x1024) x8 x9⟩,
      ⟨S64x1024, head (extractStridedSlice S64x1024 ![128, 0] (turned u w) slices_S256x1024_o128_0_S64x1024) x8 x9⟩,
      ⟨S64x1024, head (extractStridedSlice S64x1024 ![192, 0] (turned u w) slices_S256x1024_o192_0_S64x1024) x8 x9⟩]
    concatenates_S64x1024_S64x1024_S64x1024_S64x1024_S256x1024_d0) bitsLt_bf16_f32) shapeCasts_S256x1024_S1x256x1024

theorem dots_apply (u : FVec Ideal S1024x1024 .bf16) (w : FVec Ideal S1024x256 .bf16) (i : Fin 1024) (n : Fin 256) :
    dots u w (ix2 i n) = ∑ k : Fin 1024, u (ix2 i k) * w (ix2 k n) := by
  unfold dots
  pointwise [dot_S1024x1024_S1024x256_S1024x256_1_0_0_1_n_n]

theorem gates_apply (u : FVec Ideal S1024x1024 .bf16) (w : FVec Ideal S1024x256 .bf16) (i : Fin 1024) (n : Fin 256) :
    gates u w (ix3 0 i n) = ∑ k : Fin 1024, u (ix2 i k) * w (ix2 k n) := by
  refine Eq.trans ?_ (dots_apply u w i n)
  unfold gates
  pointwise []

theorem dotsT_apply (u : FVec Ideal S1024x1024 .bf16) (w : FVec Ideal S256x1024 .bf16) (n : Fin 256) (i : Fin 1024) :
    dotsT u w (ix2 n i) = ∑ k : Fin 1024, u (ix2 i k) * w (ix2 n k) := by
  unfold dotsT
  pointwise [dot_S256x1024_S1024x1024_S256x1024_1_1_0_0_n_n]
  exact Finset.sum_congr rfl fun k _ => mul_comm _ _

theorem vals_apply (u : FVec Ideal S1024x1024 .bf16) (w : FVec Ideal S256x1024 .bf16) (n : Fin 256) (i : Fin 1024) :
    vals u w (ix3 0 n i) = ∑ k : Fin 1024, u (ix2 i k) * w (ix2 n k) := by
  refine Eq.trans ?_ (dotsT_apply u w n i)
  unfold vals
  pointwise []

theorem turned_apply (u : FVec Ideal S1024x1024 .bf16) (w : FVec Ideal S256x1024 .bf16) (n : Fin 256) (i : Fin 1024) :
    turned u w (ix2 n i) = (∑ k : Fin 1024, u (ix2 i k) * w (ix2 n k)) * ((Softmax.lg : ℝ) : EReal) := by
  rw [← dotsT_apply]
  unfold turned
  pointwise []
  rfl

theorem lanes_apply (a : FVec Ideal S1024x128 .f32) (x5 x6 x7 : FVec Ideal S1024x128 .f32) (i : Fin 1024) (l : Fin 128) :
    lanes a x5 x6 x7 (ix2 i l) = a (ix2 i l) * x5 (ix2 i l) + a (ix2 i ⟨(l.val + 128 - 112) % 128, by omega⟩) * x6 (ix2 i l) + a (ix2 i ⟨(l.val + 128 - 16) % 128, by omega⟩) * x7 (ix2 i l) := by
  unfold lanes
  pointwise []

theorem head_apply (v x8 x9 : FVec Ideal S64x1024 .f32) (d : Fin 64) (i : Fin 1024) :
    head v x8 x9 (ix2 d i) = v (ix2 d i) * x8 (ix2 d i) + pair (fun e => v (ix2 e i)) d * x9 (ix2 d i) := by
  unfold head pair four
  pointwise []

/-! The tables hold, for a row's angles `cr sr` and a column's `cc sc`, the cosine of each entry and the sines with their signs. -/
variable (cr sr cc sc : Fin 1024 → Fin 16 → EReal)

/-- A head of queries cut from the products is their rotation. -/
theorem head_slice (A : FVec Ideal S256x1024 .f32) (v x8 x9 : FVec Ideal S64x1024 .f32) (r : ℕ) (hr : r < 4)
    (hv : ∀ (e : Fin 64) (i : Fin 1024), v (ix2 e i) = A (ix2 ⟨64 * r + e.val, by omega⟩ i))
    (h8 : ∀ (e : Fin 64) (i : Fin 1024), x8 (ix2 e i) = cosAt (cr i) (cc i) e)
    (h9 : ∀ (e : Fin 64) (i : Fin 1024), x9 (ix2 e i) = sinaAt (sr i) (sc i) e + sinbAt (sr i) (sc i) e)
    (n : Fin 256) (d : Fin 64) (i : Fin 1024) (hn : n.val = 64 * r + d.val) :
    head v x8 x9 (ix2 d i) = rotated (fun e => A (ix2 ⟨n.val / 64 * 64 + e.val, by omega⟩ i)) (cr i) (sr i) (cc i) (sc i) ⟨n.val % 64, by omega⟩ := by
  have hd : (⟨n.val % 64, by omega⟩ : Fin 64) = d := Fin.ext (by show n.val % 64 = d.val; omega)
  rw [head_apply, h8, h9, hd]
  refine (rotated_of_pair (fun e => v (ix2 e i)) _ _ _ _ d).trans ?_
  refine congrArg (fun f => rotated f _ _ _ _ d) (funext fun e => ?_)
  rw [hv]
  exact congrArg (fun j => A (ix2 j i)) (Fin.ext (by show 64 * r + e.val = n.val / 64 * 64 + e.val; omega))

theorem queries_apply (u : FVec Ideal S1024x1024 .bf16) (w : FVec Ideal S256x1024 .bf16) (x8 x9 : FVec Ideal S64x1024 .f32)
    (h8 : ∀ (e : Fin 64) (i : Fin 1024), x8 (ix2 e i) = cosAt (cr i) (cc i) e)
    (h9 : ∀ (e : Fin 64) (i : Fin 1024), x9 (ix2 e i) = sinaAt (sr i) (sc i) e + sinbAt (sr i) (sc i) e) (n : Fin 256) (i : Fin 1024) :
    queries u w x8 x9 (ix3 0 n i)
      = rotated (fun e => turned u w (ix2 ⟨n.val / 64 * 64 + e.val, by omega⟩ i)) (cr i) (sr i) (cc i) (sc i) ⟨n.val % 64, by omega⟩ := by
  unfold queries
  pointwise []
  by_cases h0 : n.val < 64
  · rw [dif_pos h0]
    exact head_slice cr sr cc sc (turned u w) _ x8 x9 0 (by omega) (fun e i => by pointwise []) h8 h9 n _ i (by show n.val = 64 * 0 + n.val; omega)
  rw [dif_neg h0]
  by_cases h1 : n.val - 64 < 64
  · rw [dif_pos h1]
    exact head_slice cr sr cc sc (turned u w) _ x8 x9 1 (by omega) (fun e i => by pointwise []) h8 h9 n _ i (by show n.val = 64 * 1 + (n.val - 64); omega)
  rw [dif_neg h1]
  by_cases h2 : n.val - 64 - 64 < 64
  · rw [dif_pos h2]
    exact head_slice cr sr cc sc (turned u w) _ x8 x9 2 (by omega) (fun e i => by pointwise []) h8 h9 n _ i (by show n.val = 64 * 2 + (n.val - 64 - 64); omega)
  · rw [dif_neg h2]
    exact head_slice cr sr cc sc (turned u w) _ x8 x9 3 (by omega) (fun e i => by pointwise []) h8 h9 n _ i (by show n.val = 64 * 3 + (n.val - 64 - 64 - 64); omega)

/-- Two heads of keys cut from the products are their rotations. -/
theorem lanes_slice (A : FVec Ideal S1024x256 .f32) (v x5 x6 x7 : FVec Ideal S1024x128 .f32) (r : ℕ) (hr : r < 2)
    (hv : ∀ (i : Fin 1024) (l : Fin 128), v (ix2 i l) = A (ix2 i ⟨128 * r + l.val, by omega⟩))
    (h5 : ∀ (i : Fin 1024) (l : Fin 128), x5 (ix2 i l) = cosAt (cr i) (cc i) ⟨l.val % 64, by omega⟩)
    (h6 : ∀ (i : Fin 1024) (l : Fin 128), x6 (ix2 i l) = sinaAt (sr i) (sc i) ⟨l.val % 64, by omega⟩)
    (h7 : ∀ (i : Fin 1024) (l : Fin 128), x7 (ix2 i l) = sinbAt (sr i) (sc i) ⟨l.val % 64, by omega⟩)
    (n : Fin 256) (l : Fin 128) (i : Fin 1024) (hn : n.val = 128 * r + l.val) :
    lanes v x5 x6 x7 (ix2 i l) = rotated (fun e => A (ix2 i ⟨n.val / 64 * 64 + e.val, by omega⟩)) (cr i) (sr i) (cc i) (sc i) ⟨n.val % 64, by omega⟩ := by
  have hd : (⟨l.val % 64, by omega⟩ : Fin 64) = ⟨n.val % 64, by omega⟩ := Fin.ext (by show l.val % 64 = n.val % 64; omega)
  rw [lanes_apply, h5, h6, h7, hv, hv, hv, hd]
  rw [← rotated_of_shifts (fun e => A (ix2 i ⟨n.val / 64 * 64 + e.val, by omega⟩))
    (fun e => A (ix2 i ⟨128 * r + (l.val / 64 * 64 + e.val + 128 - 112) % 128, by omega⟩))
    (fun e => A (ix2 i ⟨128 * r + (l.val / 64 * 64 + e.val + 128 - 16) % 128, by omega⟩)) (cr i) (sr i) (cc i) (sc i) ⟨n.val % 64, by omega⟩
    (fun e he => congrArg (fun j => A (ix2 i j)) (Fin.ext (by show 128 * r + (l.val / 64 * 64 + e.val + 128 - 112) % 128 = n.val / 64 * 64 + (e.val + 16); omega)))
    (fun e he => congrArg (fun j => A (ix2 i j)) (Fin.ext (by show 128 * r + (l.val / 64 * 64 + e.val + 128 - 16) % 128 = n.val / 64 * 64 + (e.val - 16); omega)))]
  refine congrArg₂ (· + ·) (congrArg₂ (· + ·) (congrArg (fun j => A (ix2 i j) * _) (Fin.ext ?_)) (congrArg (fun j => A (ix2 i j) * _) (Fin.ext ?_))) (congrArg (fun j => A (ix2 i j) * _) (Fin.ext ?_))
  · show 128 * r + l.val = n.val / 64 * 64 + n.val % 64
    omega
  · show 128 * r + (l.val + 128 - 112) % 128 = 128 * r + (l.val / 64 * 64 + n.val % 64 + 128 - 112) % 128
    rw [show l.val / 64 * 64 + n.val % 64 = l.val by omega]
  · show 128 * r + (l.val + 128 - 16) % 128 = 128 * r + (l.val / 64 * 64 + n.val % 64 + 128 - 16) % 128
    rw [show l.val / 64 * 64 + n.val % 64 = l.val by omega]

theorem keys_apply (u : FVec Ideal S1024x1024 .bf16) (w : FVec Ideal S1024x256 .bf16) (x5 x6 x7 : FVec Ideal S1024x128 .f32)
    (h5 : ∀ (i : Fin 1024) (l : Fin 128), x5 (ix2 i l) = cosAt (cr i) (cc i) ⟨l.val % 64, by omega⟩)
    (h6 : ∀ (i : Fin 1024) (l : Fin 128), x6 (ix2 i l) = sinaAt (sr i) (sc i) ⟨l.val % 64, by omega⟩)
    (h7 : ∀ (i : Fin 1024) (l : Fin 128), x7 (ix2 i l) = sinbAt (sr i) (sc i) ⟨l.val % 64, by omega⟩) (i : Fin 1024) (n : Fin 256) :
    keys u w x5 x6 x7 (ix3 0 i n) = rotated (fun e => dots u w (ix2 i ⟨n.val / 64 * 64 + e.val, by omega⟩)) (cr i) (sr i) (cc i) (sc i) ⟨n.val % 64, by omega⟩ := by
  unfold keys
  pointwise []
  by_cases h0 : n.val < 128
  · rw [dif_pos h0]
    exact lanes_slice cr sr cc sc (dots u w) _ x5 x6 x7 0 (by omega) (fun i l => by pointwise []) h5 h6 h7 n _ i (by show n.val = 128 * 0 + n.val; omega)
  · rw [dif_neg h0]
    exact lanes_slice cr sr cc sc (dots u w) _ x5 x6 x7 1 (by omega) (fun i l => by pointwise []) h5 h6 h7 n _ i (by show n.val = 128 * 1 + (n.val - 128); omega)

/-- What a grid step leaves in its block of rows: gates, and rotated keys. -/
def rowsBlock (u : FVec Ideal S1024x1024 .bf16) (w : FVec Ideal S1024x1280 .bf16) (y : S1x1024x1280.Idx) : EReal :=
  if (y 2).val < 1024 then ∑ k : Fin 1024, u (ix2 (y 1) k) * w (ix2 k (y 2))
  else rotated (fun e => ∑ k : Fin 1024, u (ix2 (y 1) k) * w (ix2 k ⟨(y 2).val / 64 * 64 + e.val, by have : (y 2).val < 1280 := (y 2).isLt; omega⟩))
    (cr (y 1)) (sr (y 1)) (cc (y 1)) (sc (y 1)) ⟨(y 2).val % 64, by omega⟩

/-- What it leaves in its block of columns: rotated queries times the constant, and values. -/
def colsBlock (u : FVec Ideal S1024x1024 .bf16) (w : FVec Ideal S1280x1024 .bf16) (y : S1x1280x1024.Idx) : EReal :=
  if (y 1).val < 1024 then rotated (fun e => (∑ k : Fin 1024, u (ix2 (y 2) k) * w (ix2 ⟨(y 1).val / 64 * 64 + e.val, by have : (y 1).val < 1280 := (y 1).isLt; omega⟩ k)) * ((Softmax.lg : ℝ) : EReal))
    (cr (y 2)) (sr (y 2)) (cc (y 2)) (sc (y 2)) ⟨(y 1).val % 64, by omega⟩
  else ∑ k : Fin 1024, u (ix2 (y 2) k) * w (ix2 (y 1) k)

/-- Where a store of 256 columns lies in the block of rows. -/
theorem rows_emb (o : ℕ) (inb' : ∀ a, ![0, 0, o] a + S1x1024x256.size a ≤ S1x1024x1280.size a) (x1 : Fin 1024) (x2 : Fin 256) :
    (Rect.unit (s := S1x1024x1280) ![0, 0, o] S1x1024x256.size inb').emb (ix3 0 x1 x2) = ix3 0 x1 ⟨o + x2.val, by have h : o + 256 ≤ 1280 := inb' 2; omega⟩ := by
  funext a
  refine Fin.ext ?_
  rw [Rect.emb_apply]
  match a with
  | ⟨0, _⟩ => rfl
  | ⟨1, _⟩ => show 0 + 1 * x1.val = x1.val; omega
  | ⟨2, _⟩ => show o + 1 * x2.val = o + x2.val; omega

/-- Where a store of 256 rows lies in the block of columns. -/
theorem cols_emb (o : ℕ) (inb' : ∀ a, ![0, o, 0] a + S1x256x1024.size a ≤ S1x1280x1024.size a) (x1 : Fin 256) (x2 : Fin 1024) :
    (Rect.unit (s := S1x1280x1024) ![0, o, 0] S1x256x1024.size inb').emb (ix3 0 x1 x2) = ix3 0 ⟨o + x1.val, by have h : o + 256 ≤ 1280 := inb' 1; omega⟩ x2 := by
  funext a
  refine Fin.ext ?_
  rw [Rect.emb_apply]
  match a with
  | ⟨0, _⟩ => rfl
  | ⟨1, _⟩ => show o + 1 * x1.val = o + x1.val; omega
  | ⟨2, _⟩ => show 0 + 1 * x2.val = x2.val; omega

/-- The columns of the weights a product reads. -/
theorem ld_cols (w : FVec Ideal S1024x1280 .bf16) (o : ℕ) (inb : ∀ a, ![0, o] a + S1024x256.size a ≤ S1024x1280.size a) (k : Fin 1024) (n : Fin 256) :
    View.ld (Val := Elt Ideal) (e' := .bf16) w (Rect.unit (s := S1024x1280) ![0, o] S1024x256.size inb) (ix2 k n) = w (ix2 k ⟨o + n.val, by have h : o + 256 ≤ 1280 := inb 1; omega⟩) := by
  refine View.ld_unit_apply_of (Val := Elt Ideal) (e := .bf16) w _ _ _ _ _ fun a => ?_
  match a with
  | ⟨0, _⟩ => exact (Nat.zero_add _).symm
  | ⟨1, _⟩ => rfl

/-- The rows of the transposed weights a product reads. -/
theorem ld_rows (w : FVec Ideal S1280x1024 .bf16) (o : ℕ) (inb : ∀ a, ![o, 0] a + S256x1024.size a ≤ S1280x1024.size a) (n : Fin 256) (k : Fin 1024) :
    View.ld (Val := Elt Ideal) (e' := .bf16) w (Rect.unit (s := S1280x1024) ![o, 0] S256x1024.size inb) (ix2 n k) = w (ix2 ⟨o + n.val, by have h : o + 256 ≤ 1280 := inb 0; omega⟩ k) := by
  refine View.ld_unit_apply_of (Val := Elt Ideal) (e := .bf16) w _ _ _ _ _ fun a => ?_
  match a with
  | ⟨0, _⟩ => rfl
  | ⟨1, _⟩ => exact (Nat.zero_add _).symm

theorem gates_piece (u : FVec Ideal S1024x1024 .bf16) (w : FVec Ideal S1024x1280 .bf16) (o : ℕ) (ho : o + 256 ≤ 1024)
    (inb : ∀ a, ![0, o] a + S1024x256.size a ≤ S1024x1280.size a) (inb' : ∀ a, ![0, 0, o] a + S1x1024x256.size a ≤ S1x1024x1280.size a) (x : S1x1024x256.Idx) :
    gates u (View.ld (Val := Elt Ideal) (e' := .bf16) w (Rect.unit (s := S1024x1280) ![0, o] S1024x256.size inb)) x
      = rowsBlock cr sr cc sc u w ((Rect.unit (s := S1x1024x1280) ![0, 0, o] S1x1024x256.size inb').emb x) := by
  obtain ⟨x0, x1, x2, rfl⟩ : ∃ (x0 : Fin 1) (x1 : Fin 1024) (x2 : Fin 256), x = ix3 x0 x1 x2 := ⟨x 0, x 1, x 2, funext fun a => by fin_cases a <;> rfl⟩
  obtain rfl : x0 = 0 := Subsingleton.elim _ _
  rw [gates_apply, rows_emb]
  unfold rowsBlock
  refine Eq.trans ?_ (if_pos (show o + x2.val < 1024 by omega)).symm
  exact Finset.sum_congr rfl fun k _ => congrArg (_ * ·) (ld_cols w o inb k x2)

theorem keys_piece (u : FVec Ideal S1024x1024 .bf16) (w : FVec Ideal S1024x1280 .bf16) (x5 x6 x7 : FVec Ideal S1024x128 .f32)
    (h5 : ∀ (i : Fin 1024) (l : Fin 128), x5 (ix2 i l) = cosAt (cr i) (cc i) ⟨l.val % 64, by omega⟩)
    (h6 : ∀ (i : Fin 1024) (l : Fin 128), x6 (ix2 i l) = sinaAt (sr i) (sc i) ⟨l.val % 64, by omega⟩)
    (h7 : ∀ (i : Fin 1024) (l : Fin 128), x7 (ix2 i l) = sinbAt (sr i) (sc i) ⟨l.val % 64, by omega⟩)
    (inb : ∀ a, ![0, 1024] a + S1024x256.size a ≤ S1024x1280.size a) (inb' : ∀ a, ![0, 0, 1024] a + S1x1024x256.size a ≤ S1x1024x1280.size a) (x : S1x1024x256.Idx) :
    keys u (View.ld (Val := Elt Ideal) (e' := .bf16) w (Rect.unit (s := S1024x1280) ![0, 1024] S1024x256.size inb)) x5 x6 x7 x
      = rowsBlock cr sr cc sc u w ((Rect.unit (s := S1x1024x1280) ![0, 0, 1024] S1x1024x256.size inb').emb x) := by
  obtain ⟨x0, x1, x2, rfl⟩ : ∃ (x0 : Fin 1) (x1 : Fin 1024) (x2 : Fin 256), x = ix3 x0 x1 x2 := ⟨x 0, x 1, x 2, funext fun a => by fin_cases a <;> rfl⟩
  obtain rfl : x0 = 0 := Subsingleton.elim _ _
  rw [keys_apply cr sr cc sc u _ x5 x6 x7 h5 h6 h7, rows_emb]
  unfold rowsBlock
  refine Eq.trans ?_ (if_neg (show ¬ 1024 + x2.val < 1024 by omega)).symm
  refine congrArg₂ (fun f d => rotated f (cr x1) (sr x1) (cc x1) (sc x1) d) (funext fun e => ?_) (Fin.ext (by show x2.val % 64 = (1024 + x2.val) % 64; omega))
  rw [dots_apply]
  refine Finset.sum_congr rfl fun k _ => congrArg (_ * ·) ((ld_cols w 1024 inb k _).trans ?_)
  exact congrArg (fun j => w (ix2 k j)) (Fin.ext (by show 1024 + (x2.val / 64 * 64 + e.val) = (1024 + x2.val) / 64 * 64 + e.val; omega))

theorem queries_piece (u : FVec Ideal S1024x1024 .bf16) (w : FVec Ideal S1280x1024 .bf16) (x8 x9 : FVec Ideal S64x1024 .f32)
    (h8 : ∀ (e : Fin 64) (i : Fin 1024), x8 (ix2 e i) = cosAt (cr i) (cc i) e)
    (h9 : ∀ (e : Fin 64) (i : Fin 1024), x9 (ix2 e i) = sinaAt (sr i) (sc i) e + sinbAt (sr i) (sc i) e)
    (o : ℕ) (ho : o + 256 ≤ 1024) (h64 : o % 64 = 0)
    (inb : ∀ a, ![o, 0] a + S256x1024.size a ≤ S1280x1024.size a) (inb' : ∀ a, ![0, o, 0] a + S1x256x1024.size a ≤ S1x1280x1024.size a) (x : S1x256x1024.Idx) :
    queries u (View.ld (Val := Elt Ideal) (e' := .bf16) w (Rect.unit (s := S1280x1024) ![o, 0] S256x1024.size inb)) x8 x9 x
      = colsBlock cr sr cc sc u w ((Rect.unit (s := S1x1280x1024) ![0, o, 0] S1x256x1024.size inb').emb x) := by
  obtain ⟨x0, x1, x2, rfl⟩ : ∃ (x0 : Fin 1) (x1 : Fin 256) (x2 : Fin 1024), x = ix3 x0 x1 x2 := ⟨x 0, x 1, x 2, funext fun a => by fin_cases a <;> rfl⟩
  obtain rfl : x0 = 0 := Subsingleton.elim _ _
  rw [queries_apply cr sr cc sc u _ x8 x9 h8 h9, cols_emb]
  unfold colsBlock
  refine Eq.trans ?_ (if_pos (show o + x1.val < 1024 by omega)).symm
  refine congrArg₂ (fun f d => rotated f (cr x2) (sr x2) (cc x2) (sc x2) d) (funext fun e => ?_) (Fin.ext (by show x1.val % 64 = (o + x1.val) % 64; omega))
  rw [turned_apply]
  refine congrArg (· * _) (Finset.sum_congr rfl fun k _ => congrArg (_ * ·) ((ld_rows w o inb _ k).trans ?_))
  exact congrArg (fun j => w (ix2 j k)) (Fin.ext (by show o + (x1.val / 64 * 64 + e.val) = (o + x1.val) / 64 * 64 + e.val; omega))

theorem vals_piece (u : FVec Ideal S1024x1024 .bf16) (w : FVec Ideal S1280x1024 .bf16)
    (inb : ∀ a, ![1024, 0] a + S256x1024.size a ≤ S1280x1024.size a) (inb' : ∀ a, ![0, 1024, 0] a + S1x256x1024.size a ≤ S1x1280x1024.size a) (x : S1x256x1024.Idx) :
    vals u (View.ld (Val := Elt Ideal) (e' := .bf16) w (Rect.unit (s := S1280x1024) ![1024, 0] S256x1024.size inb)) x
      = colsBlock cr sr cc sc u w ((Rect.unit (s := S1x1280x1024) ![0, 1024, 0] S1x256x1024.size inb').emb x) := by
  obtain ⟨x0, x1, x2, rfl⟩ : ∃ (x0 : Fin 1) (x1 : Fin 256) (x2 : Fin 1024), x = ix3 x0 x1 x2 := ⟨x 0, x 1, x 2, funext fun a => by fin_cases a <;> rfl⟩
  obtain rfl : x0 = 0 := Subsingleton.elim _ _
  rw [vals_apply, cols_emb]
  unfold colsBlock
  refine Eq.trans ?_ (if_neg (show ¬ 1024 + x1.val < 1024 by omega)).symm
  exact Finset.sum_congr rfl fun k _ => congrArg (_ * ·) (ld_rows w 1024 inb x1 k)

variable (x0 : Vec Ideal S1x1024x1024 .f32) (x1 x2 : Vec Ideal S1x1x1x1x1024 .f32) (x3 : Vec Ideal S1024x1280 .bf16) (x4 : Vec Ideal S1280x1024 .bf16)
  (x5 x6 x7 : Vec Ideal S1024x128 .f32) (x8 x9 : Vec Ideal S64x1024 .f32)

/-- The modulated rows of a grid step. -/
theorem rows_apply (i k : Fin 1024) :
    (k0_pay51 x0 x1 x2 x3 x4 x5 x6 x7 x8 x9 : FVec Ideal S1024x1024 .bf16) (ix2 i k)
      = (x0 : FVec Ideal S1x1024x1024 .f32) (ix3 0 i k) * (Ideal.ofBits .f32 0x3F800000#32 + (x2 : FVec Ideal S1x1x1x1x1024 .f32) (ix5 0 0 0 0 k))
        + (x1 : FVec Ideal S1x1x1x1x1024 .f32) (ix5 0 0 0 0 k) := by
  unfold k0_pay51 k0_pay3
  rw [View.ld_unit_zero (S := S1x1024x1024) (by decide), View.ld_unit_zero (S := S1x1x1x1x1024) (by decide), View.ld_unit_zero (S := S1x1x1x1x1024) (by decide)]
  pointwise []

/-- The block of rows after a grid step. -/
theorem out10_apply
    (h5 : ∀ (i : Fin 1024) (l : Fin 128), (x5 : FVec Ideal S1024x128 .f32) (ix2 i l) = cosAt (cr i) (cc i) ⟨l.val % 64, by omega⟩)
    (h6 : ∀ (i : Fin 1024) (l : Fin 128), (x6 : FVec Ideal S1024x128 .f32) (ix2 i l) = sinaAt (sr i) (sc i) ⟨l.val % 64, by omega⟩)
    (h7 : ∀ (i : Fin 1024) (l : Fin 128), (x7 : FVec Ideal S1024x128 .f32) (ix2 i l) = sinbAt (sr i) (sc i) ⟨l.val % 64, by omega⟩) (y : S1x1024x1280.Idx) :
    (out0_10 x0 x1 x2 x3 x4 x5 x6 x7 x8 x9 : FVec Ideal S1x1024x1280 .bf16) y = rowsBlock cr sr cc sc (k0_pay51 x0 x1 x2 x3 x4 x5 x6 x7 x8 x9) x3 y := by
  unfold out0_10
  rw [View.ld_unit_zero (S := S1024x128) (by decide) _ x5, View.ld_unit_zero (S := S1024x128) (by decide) _ x6, View.ld_unit_zero (S := S1024x128) (by decide) _ x7]
  refine View.canon_apply_of_pieces (Val := Elt Ideal) (e := .bf16) (rowsBlock cr sr cc sc (k0_pay51 x0 x1 x2 x3 x4 x5 x6 x7 x8 x9) x3) _ ?_ y (cover0_10 _ _ _ _ _ y)
  exact List.forall_mem_cons.2 ⟨fun x => keys_piece cr sr cc sc _ _ x5 x6 x7 h5 h6 h7 (by decide) (by decide) x,
    List.forall_mem_cons.2 ⟨fun x => gates_piece cr sr cc sc _ _ 768 (by decide) (by decide) (by decide) x,
    List.forall_mem_cons.2 ⟨fun x => gates_piece cr sr cc sc _ _ 512 (by decide) (by decide) (by decide) x,
    List.forall_mem_cons.2 ⟨fun x => gates_piece cr sr cc sc _ _ 256 (by decide) (by decide) (by decide) x,
    List.forall_mem_cons.2 ⟨fun x => gates_piece cr sr cc sc _ _ 0 (by decide) (by decide) (by decide) x, List.forall_mem_nil _⟩⟩⟩⟩⟩

/-- The block of columns after a grid step. -/
theorem out11_apply
    (h8 : ∀ (e : Fin 64) (i : Fin 1024), (x8 : FVec Ideal S64x1024 .f32) (ix2 e i) = cosAt (cr i) (cc i) e)
    (h9 : ∀ (e : Fin 64) (i : Fin 1024), (x9 : FVec Ideal S64x1024 .f32) (ix2 e i) = sinaAt (sr i) (sc i) e + sinbAt (sr i) (sc i) e) (y : S1x1280x1024.Idx) :
    (out0_11 x0 x1 x2 x3 x4 x5 x6 x7 x8 x9 : FVec Ideal S1x1280x1024 .bf16) y = colsBlock cr sr cc sc (k0_pay51 x0 x1 x2 x3 x4 x5 x6 x7 x8 x9) x4 y := by
  unfold out0_11
  rw [View.ld_unit_zero (S := S64x1024) (by decide) _ x8, View.ld_unit_zero (S := S64x1024) (by decide) _ x9]
  refine View.canon_apply_of_pieces (Val := Elt Ideal) (e := .bf16) (colsBlock cr sr cc sc (k0_pay51 x0 x1 x2 x3 x4 x5 x6 x7 x8 x9) x4) _ ?_ y (cover0_11 _ _ _ _ _ y)
  exact List.forall_mem_cons.2 ⟨fun x => vals_piece cr sr cc sc _ _ (by decide) (by decide) x,
    List.forall_mem_cons.2 ⟨fun x => queries_piece cr sr cc sc _ _ x8 x9 h8 h9 768 (by decide) (by decide) (by decide) (by decide) x,
    List.forall_mem_cons.2 ⟨fun x => queries_piece cr sr cc sc _ _ x8 x9 h8 h9 512 (by decide) (by decide) (by decide) (by decide) x,
    List.forall_mem_cons.2 ⟨fun x => queries_piece cr sr cc sc _ _ x8 x9 h8 h9 256 (by decide) (by decide) (by decide) (by decide) x,
    List.forall_mem_cons.2 ⟨fun x => queries_piece cr sr cc sc _ _ x8 x9 h8 h9 0 (by decide) (by decide) (by decide) (by decide) x, List.forall_mem_nil _⟩⟩⟩⟩⟩

end Cert.Kernel3Ideal.Rope
end
-- ==== Proof.RopeHost.lean ====
/- The arrays the blocks of the projection with rotary embedding are cut from, and its blocks, in terms of the arguments. -/
module

public import proofs.«01_k».proof.Proof.Rope
public import proofs.«01_k».proof.Proof.Norm
public import Idealize.ShloMosaic.Lib.StableHlo.RunRead

@[expose] public section

set_option maxRecDepth 16384
noncomputable section

namespace Cert.Kernel3Ideal.Rope
open Idealize.ShloMosaic Idealize.ShloMosaic.TcCoe
open Idealize.SL Idealize.SL.Sem
open Cert.Kernel3Ideal Cert.Kernel3Ideal.Gen Idealize.ShloMosaic.StableHlo
open Cert.Turn

variable (m : (ℓ : Loc nD τ sig) → Buf (Elt Ideal) ℓ) (c : Dev nD)

/-! The arguments' contents. -/
abbrev a0 : FVec Ideal S32x2048x1024 .f32 := m ((c : Thread nD τ).loc main_arg0)
abbrev a1 : FVec Ideal S32x1024 .f32 := m ((c : Thread nD τ).loc main_arg1)
abbrev a2 : FVec Ideal S32x1024 .f32 := m ((c : Thread nD τ).loc main_arg2)
abbrev a3 : FVec Ideal S1024x2560 .f32 := m ((c : Thread nD τ).loc main_arg3)
abbrev a4 : FVec Ideal S2048x16 .f32 := m ((c : Thread nD τ).loc main_arg4)
abbrev a5 : FVec Ideal S2048x16 .f32 := m ((c : Thread nD τ).loc main_arg5)
abbrev a6 : FVec Ideal S2048x16 .f32 := m ((c : Thread nD τ).loc main_arg6)
abbrev a7 : FVec Ideal S2048x16 .f32 := m ((c : Thread nD τ).loc main_arg7)

theorem v14_gates (k n : Fin 1024) :
    (V m c main_v14 : FVec Ideal S1024x1280 .bf16) (ix2 k ⟨n.val, by omega⟩) = a3 m c (ix2 k ⟨1536 + (Softmax.swap n).val, by have := (Softmax.swap n).isLt; omega⟩) := by
  unfold_abbrev_sides
  after_reads_simp
  pointwise []
  after_reads_simp
  pointwise []
  rfl

theorem v14_keys (k : Fin 1024) (n : Fin 256) :
    (V m c main_v14 : FVec Ideal S1024x1280 .bf16) (ix2 k ⟨1024 + n.val, by omega⟩) = a3 m c (ix2 k ⟨1024 + n.val, by omega⟩) := by
  unfold_abbrev_sides
  after_reads_simp
  pointwise []
  after_reads_simp
  pointwise []

theorem v17_queries (k n : Fin 1024) :
    (V m c main_v17 : FVec Ideal S1280x1024 .bf16) (ix2 ⟨n.val, by omega⟩ k) = a3 m c (ix2 k ⟨(Softmax.swap n).val, by have := (Softmax.swap n).isLt; omega⟩) * Ideal.ofBits .f32 0x3E000000#32 := by
  unfold_abbrev_sides
  after_reads_simp
  pointwise []
  after_reads_simp
  pointwise []
  rfl

theorem v17_vals (k : Fin 1024) (n : Fin 256) :
    (V m c main_v17 : FVec Ideal S1280x1024 .bf16) (ix2 ⟨1024 + n.val, by omega⟩ k) = a3 m c (ix2 k ⟨1280 + n.val, by omega⟩) := by
  unfold_abbrev_sides
  after_reads_simp
  pointwise []
  after_reads_simp
  pointwise []

theorem v30_apply (i : Fin 2048) (l : Fin 128) :
    (V m c main_v30 : FVec Ideal S2048x128 .f32) (ix2 i l) = cosAt (fun j => a4 m c (ix2 i j)) (fun j => a6 m c (ix2 i j)) ⟨l.val % 64, by omega⟩ := by
  unfold_abbrev_sides
  after_reads_simp
  pointwise []
  after_reads_simp
  pointwise []
  rfl

theorem v33_apply (i : Fin 2048) (l : Fin 128) :
    (V m c main_v33 : FVec Ideal S2048x128 .f32) (ix2 i l) = sinaAt (fun j => a5 m c (ix2 i j)) (fun j => a7 m c (ix2 i j)) ⟨l.val % 64, by omega⟩ := by
  unfold_abbrev_sides
  after_reads_simp
  pointwise []
  after_reads_simp
  pointwise []
  rfl

theorem v36_apply (i : Fin 2048) (l : Fin 128) :
    (V m c main_v36 : FVec Ideal S2048x128 .f32) (ix2 i l) = sinbAt (fun j => a5 m c (ix2 i j)) (fun j => a7 m c (ix2 i j)) ⟨l.val % 64, by omega⟩ := by
  unfold_abbrev_sides
  after_reads_simp
  pointwise []
  after_reads_simp
  pointwise []
  rfl

theorem v37_apply (e : Fin 64) (i : Fin 2048) :
    (V m c main_v37 : FVec Ideal S64x2048 .f32) (ix2 e i) = cosAt (fun j => a4 m c (ix2 i j)) (fun j => a6 m c (ix2 i j)) e := by
  unfold_abbrev_sides
  after_reads_simp
  pointwise []
  after_reads_simp
  pointwise []
  rfl

theorem v39_apply (e : Fin 64) (i : Fin 2048) :
    (V m c main_v39 : FVec Ideal S64x2048 .f32) (ix2 e i) = sinaAt (fun j => a5 m c (ix2 i j)) (fun j => a7 m c (ix2 i j)) e + sinbAt (fun j => a5 m c (ix2 i j)) (fun j => a7 m c (ix2 i j)) e := by
  unfold_abbrev_sides
  after_reads_simp
  pointwise []
  after_reads_simp
  pointwise []
  rfl

theorem v44_shift (b : Fin 32) (n : Fin 1024) :
    (V m c main_v44 : FVec Ideal S4x3x40x1x1024 .f32) (ix5 0 0 ⟨b.val, by omega⟩ 0 n) = a1 m c (ix2 b n) := by
  unfold_abbrev_sides
  after_reads_simp
  show pad S4x3x40x1x1024 ![0, 0, 0, 0, 0] ![3, 1, 8, 0, 0] ![0, 0, 0, 0, 0]
        (broadcastInDim S1x2x32x1x1024 ![1, 2, 4] bcast_S2x32x1024_S1x2x32x1x1024_1_2_4
            (concatenate S2x32x1024 0 [⟨S1x32x1024, _⟩, ⟨S1x32x1024, _⟩] concatenates_S1x32x1024_S1x32x1024_S2x32x1024_d0))
        (sitofp .f32 (constantI S_ 32 0#32))
        pads_S1x2x32x1x1024_S4x3x40x1x1024_030_010_080_000_000 h_S_ _ = _
  pointwise []
  after_reads_simp
  pointwise []

theorem v44_scale (b : Fin 32) (n : Fin 1024) :
    (V m c main_v44 : FVec Ideal S4x3x40x1x1024 .f32) (ix5 0 1 ⟨b.val, by omega⟩ 0 n) = a2 m c (ix2 b n) := by
  unfold_abbrev_sides
  after_reads_simp
  show pad S4x3x40x1x1024 ![0, 0, 0, 0, 0] ![3, 1, 8, 0, 0] ![0, 0, 0, 0, 0]
        (broadcastInDim S1x2x32x1x1024 ![1, 2, 4] bcast_S2x32x1024_S1x2x32x1x1024_1_2_4
            (concatenate S2x32x1024 0 [⟨S1x32x1024, _⟩, ⟨S1x32x1024, _⟩] concatenates_S1x32x1024_S1x32x1024_S2x32x1024_d0))
        (sitofp .f32 (constantI S_ 32 0#32))
        pads_S1x2x32x1x1024_S4x3x40x1x1024_030_010_080_000_000 h_S_ _ = _
  pointwise []
  after_reads_simp
  pointwise []

variable (t : Fin cfg0.N)

/-- The batch a grid step works on. -/
def batch (t : Fin cfg0.N) : Fin 32 := grid0.coords t 0
/-- The half of the batch's latents it works on. -/
def part (t : Fin cfg0.N) : Fin 2 := grid0.coords t 1
/-- A step's latent among the batch's. -/
def latent (t : Fin cfg0.N) (i : Fin 1024) : Fin 2048 := ⟨1024 * (part t).val + i.val, by have := (part t).isLt; omega⟩

theorem index0 (t : Fin cfg0.N) : win0_0.index t = ![(batch t).val, (part t).val, 0] := (by decide +kernel : ∀ t : Fin grid0.N, win0_0.index t = ![(batch t).val, (part t).val, 0]) t
theorem index1 (t : Fin cfg0.N) : win0_1.index t = ![0, 0, (batch t).val, 0, 0] := (by decide +kernel : ∀ t : Fin grid0.N, win0_1.index t = ![0, 0, (batch t).val, 0, 0]) t
theorem index2 (t : Fin cfg0.N) : win0_2.index t = ![0, 1, (batch t).val, 0, 0] := (by decide +kernel : ∀ t : Fin grid0.N, win0_2.index t = ![0, 1, (batch t).val, 0, 0]) t
theorem index3 (t : Fin cfg0.N) : win0_3.index t = ![0, 0] := (by decide +kernel : ∀ t : Fin grid0.N, win0_3.index t = ![0, 0]) t
theorem index4 (t : Fin cfg0.N) : win0_4.index t = ![0, 0] := (by decide +kernel : ∀ t : Fin grid0.N, win0_4.index t = ![0, 0]) t
theorem index5 (t : Fin cfg0.N) : win0_5.index t = ![(part t).val, 0] := (by decide +kernel : ∀ t : Fin grid0.N, win0_5.index t = ![(part t).val, 0]) t
theorem index6 (t : Fin cfg0.N) : win0_6.index t = ![(part t).val, 0] := (by decide +kernel : ∀ t : Fin grid0.N, win0_6.index t = ![(part t).val, 0]) t
theorem index7 (t : Fin cfg0.N) : win0_7.index t = ![(part t).val, 0] := (by decide +kernel : ∀ t : Fin grid0.N, win0_7.index t = ![(part t).val, 0]) t
theorem index8 (t : Fin cfg0.N) : win0_8.index t = ![0, (part t).val] := (by decide +kernel : ∀ t : Fin grid0.N, win0_8.index t = ![0, (part t).val]) t
theorem index9 (t : Fin cfg0.N) : win0_9.index t = ![0, (part t).val] := (by decide +kernel : ∀ t : Fin grid0.N, win0_9.index t = ![0, (part t).val]) t
theorem index10 (t : Fin cfg0.N) : win0_10.index t = ![(batch t).val, (part t).val, 0] := (by decide +kernel : ∀ t : Fin grid0.N, win0_10.index t = ![(batch t).val, (part t).val, 0]) t
theorem index11 (t : Fin cfg0.N) : win0_11.index t = ![(batch t).val, 0, (part t).val] := (by decide +kernel : ∀ t : Fin grid0.N, win0_11.index t = ![(batch t).val, 0, (part t).val]) t

theorem block0 (i k : Fin 1024) : (iblk m c 0 t : FVec Ideal S1x1024x1024 .f32) (ix3 0 i k) = a0 m c (ix3 (batch t) (latent t i) k) := by
  blk_simp [iblk]
  refine Eq.trans (congrArg (V m c main_arg0) ?_) (congrFun (V_main_arg0 m c) _)
  blk_ext [index0, latent]

theorem block1 (k : Fin 1024) : (iblk m c 1 t : FVec Ideal S1x1x1x1x1024 .f32) (ix5 0 0 0 0 k) = a1 m c (ix2 (batch t) k) := by
  blk_simp [iblk]
  refine Eq.trans (congrArg (V m c main_v44) ?_) (v44_shift m c (batch t) k)
  blk_ext [index1]

theorem block2 (k : Fin 1024) : (iblk m c 2 t : FVec Ideal S1x1x1x1x1024 .f32) (ix5 0 0 0 0 k) = a2 m c (ix2 (batch t) k) := by
  blk_simp [iblk]
  refine Eq.trans (congrArg (V m c main_v44) ?_) (v44_scale m c (batch t) k)
  blk_ext [index2]

theorem block3 (k : Fin 1024) (n : Fin 1280) : (iblk m c 3 t : FVec Ideal S1024x1280 .bf16) (ix2 k n) = (V m c main_v14 : FVec Ideal S1024x1280 .bf16) (ix2 k n) := by
  blk_simp [iblk]
  refine congrArg (V m c main_v14) ?_
  blk_ext [index3]

theorem block4 (n : Fin 1280) (k : Fin 1024) : (iblk m c 4 t : FVec Ideal S1280x1024 .bf16) (ix2 n k) = (V m c main_v17 : FVec Ideal S1280x1024 .bf16) (ix2 n k) := by
  blk_simp [iblk]
  refine congrArg (V m c main_v17) ?_
  blk_ext [index4]

theorem block5 (i : Fin 1024) (l : Fin 128) : (iblk m c 5 t : FVec Ideal S1024x128 .f32) (ix2 i l)
    = cosAt (fun j => a4 m c (ix2 (latent t i) j)) (fun j => a6 m c (ix2 (latent t i) j)) ⟨l.val % 64, by omega⟩ := by
  blk_simp [iblk]
  refine Eq.trans (congrArg (V m c main_v30) ?_) (v30_apply m c (latent t i) l)
  blk_ext [index5, latent]

theorem block6 (i : Fin 1024) (l : Fin 128) : (iblk m c 6 t : FVec Ideal S1024x128 .f32) (ix2 i l)
    = sinaAt (fun j => a5 m c (ix2 (latent t i) j)) (fun j => a7 m c (ix2 (latent t i) j)) ⟨l.val % 64, by omega⟩ := by
  blk_simp [iblk]
  refine Eq.trans (congrArg (V m c main_v33) ?_) (v33_apply m c (latent t i) l)
  blk_ext [index6, latent]

theorem block7 (i : Fin 1024) (l : Fin 128) : (iblk m c 7 t : FVec Ideal S1024x128 .f32) (ix2 i l)
    = sinbAt (fun j => a5 m c (ix2 (latent t i) j)) (fun j => a7 m c (ix2 (latent t i) j)) ⟨l.val % 64, by omega⟩ := by
  blk_simp [iblk]
  refine Eq.trans (congrArg (V m c main_v36) ?_) (v36_apply m c (latent t i) l)
  blk_ext [index7, latent]

theorem block8 (e : Fin 64) (i : Fin 1024) : (iblk m c 8 t : FVec Ideal S64x1024 .f32) (ix2 e i)
    = cosAt (fun j => a4 m c (ix2 (latent t i) j)) (fun j => a6 m c (ix2 (latent t i) j)) e := by
  blk_simp [iblk]
  refine Eq.trans (congrArg (V m c main_v37) ?_) (v37_apply m c e (latent t i))
  blk_ext [index8, latent]

theorem block9 (e : Fin 64) (i : Fin 1024) : (iblk m c 9 t : FVec Ideal S64x1024 .f32) (ix2 e i)
    = sinaAt (fun j => a5 m c (ix2 (latent t i) j)) (fun j => a7 m c (ix2 (latent t i) j)) e + sinbAt (fun j => a5 m c (ix2 (latent t i) j)) (fun j => a7 m c (ix2 (latent t i) j)) e := by
  blk_simp [iblk]
  refine Eq.trans (congrArg (V m c main_v39) ?_) (v39_apply m c e (latent t i))
  blk_ext [index9, latent]

end Cert.Kernel3Ideal.Rope
end
-- ==== Proof.RopeRef.lean ====
/- The projection that mixer A makes of the latents, with the rotary embedding, as sums, and the reference read as them. -/
module

public import proofs.«01_k».proof.Proof.Turn
public import proofs.«01_k».proof.Proof.Norm
public import proofs.«01_k».proof.Proof.Gen.Reference3Ideal.Read
public import Idealize.ShloMosaic.Lib.Pointwise

@[expose] public section

set_option maxRecDepth 16384
noncomputable section

namespace Cert.Reference3Ideal.Rope
open Idealize.ShloMosaic Idealize.ShloMosaic.TcCoe
open Idealize.SL Idealize.SL.Sem
open Cert.Reference3Ideal Cert.Reference3Ideal.Gen
open Cert.Turn Cert.Reference3Ideal.Read

theorem two_word : Ideal.ofBits .f32 0x40000000#32 = ((2 : ℝ) : EReal) := by
  simp [Ideal.ofBits, Ideal.ieee]
  rw [← EReal.coe_mul]
  norm_num

theorem log_read : id (Host.log (constant (F := Ideal) S_ .f32 1073741824#32)) ix0 = ((Real.log 2 : ℝ) : EReal) := by
  have h : id (Host.log (constant (F := Ideal) S_ .f32 1073741824#32)) ix0 = Ideal.log (Ideal.ofBits .f32 0x40000000#32) := rfl
  rw [h, two_word]
  exact if_neg (by norm_num)

theorem div_log_two (x : EReal) : Ideal.div x ((Real.log 2 : ℝ) : EReal) = x * ((Softmax.lg : ℝ) : EReal) := by
  have h : ((Real.log 2 : ℝ) : EReal) ≠ 0 := EReal.coe_ne_zero.2 (Real.log_pos (by norm_num)).ne'
  unfold Ideal.div Softmax.lg
  rw [if_neg h, EReal.coe_inv]

variable (x : FVec Ideal S32x2048x1024 .f32) (shift scale : FVec Ideal S32x1024 .f32) (w : FVec Ideal S1024x2560 .f32) (cr sr cc sc : FVec Ideal S2048x16 .f32)

/-- The modulated row of a latent. -/
def row (b : Fin 32) (i : Fin 2048) (k : Fin 1024) : EReal :=
  x (ix3 b i k) * (Ideal.ofBits .f32 0x3F800000#32 + scale (ix2 b k)) + shift (ix2 b k)

/-- The projection of a latent. -/
def proj (b : Fin 32) (i : Fin 2048) (n : Fin 2560) : EReal := ∑ k : Fin 1024, row x shift scale b i k * w (ix2 k n)

/-- 64 entries of a latent's projection, rotated. -/
def turnedHead (b : Fin 32) (i : Fin 2048) (o : ℕ) (ho : o + 64 ≤ 2560) : Fin 64 → EReal :=
  rotated (fun e => proj x shift scale w b i ⟨o + e.val, by omega⟩) (fun j => cr (ix2 i j)) (fun j => sr (ix2 i j)) (fun j => cc (ix2 i j)) (fun j => sc (ix2 i j))

/-- Gates and rotated keys side by side. -/
def rowsOf : FVec Ideal S32x2048x1280 .bf16 := fun y =>
  if h : (y 2).val < 1024 then proj x shift scale w (y 0) (y 1) ⟨1536 + (Softmax.swap ⟨(y 2).val, h⟩).val, by have := (Softmax.swap ⟨(y 2).val, h⟩).isLt; omega⟩
  else turnedHead x shift scale w cr sr cc sc (y 0) (y 1) ((y 2).val / 64 * 64) (by have : (y 2).val < 1280 := (y 2).isLt; omega) ⟨(y 2).val % 64, by omega⟩

/-- Rotated and scaled queries, and values, transposed. -/
def colsOf : FVec Ideal S32x1280x2048 .bf16 := fun y =>
  if h : (y 1).val < 1024 then turnedHead x shift scale w cr sr cc sc (y 0) (y 2) ((Softmax.swap ⟨(y 1).val, h⟩).val / 64 * 64) (by have := (Softmax.swap ⟨(y 1).val, h⟩).isLt; omega) ⟨(y 1).val % 64, by omega⟩
    * Ideal.ofBits .f32 0x3E000000#32 * ((Softmax.lg : ℝ) : EReal)
  else proj x shift scale w (y 0) (y 2) ⟨(y 1).val + 256, by have : (y 1).val < 1280 := (y 1).isLt; omega⟩

theorem v8_apply (b : Fin 32) (i : Fin 2048) (n : Fin 2560) : val_main_v8 (F := Ideal) x shift scale w (ix3 b i n) = proj x shift scale w b i n := by
  unfold val_main_v8 val_main_v7 val_main_v6 val_main_v5 val_main_v4 val_main_v3 val_main_v2 val_main_v1 val_main_v0 val_main_cst proj row
  pointwise [dot_S32x2048x1024_S1024x2560_S32x2048x2560_2_0_01_1_n_n]

theorem v24_apply (b : Fin 32) (i : Fin 2048) (h : Fin 16) (j : Fin 16) : val_main_v24 (F := Ideal) x shift scale w cr sr (ix4 b i h j)
    = proj x shift scale w b i ⟨h.val * 64 + j.val, by omega⟩ * cr (ix2 i j) - proj x shift scale w b i ⟨h.val * 64 + (16 + j.val), by omega⟩ * sr (ix2 i j) := by
  unfold val_main_v24 val_main_v23 val_main_v22 val_main_v21 val_main_v20 val_main_v19 val_main_v18 val_main_v15 val_main_v14 val_main_v13 val_main_v9
  pointwise []
  simp only [v8_apply, Nat.add_assoc]

theorem v29_apply (b : Fin 32) (i : Fin 2048) (h : Fin 16) (j : Fin 16) : val_main_v29 (F := Ideal) x shift scale w cr sr (ix4 b i h j)
    = proj x shift scale w b i ⟨h.val * 64 + (16 + j.val), by omega⟩ * cr (ix2 i j) + proj x shift scale w b i ⟨h.val * 64 + j.val, by omega⟩ * sr (ix2 i j) := by
  unfold val_main_v29 val_main_v28 val_main_v27 val_main_v26 val_main_v25 val_main_v19 val_main_v18 val_main_v15 val_main_v14 val_main_v13 val_main_v9
  pointwise []
  simp only [v8_apply, Nat.add_assoc]

theorem v36_apply (b : Fin 32) (i : Fin 2048) (h : Fin 16) (j : Fin 16) : val_main_v36 (F := Ideal) x shift scale w cc sc (ix4 b i h j)
    = proj x shift scale w b i ⟨h.val * 64 + (32 + j.val), by omega⟩ * cc (ix2 i j) - proj x shift scale w b i ⟨h.val * 64 + (48 + j.val), by omega⟩ * sc (ix2 i j) := by
  unfold val_main_v36 val_main_v35 val_main_v34 val_main_v33 val_main_v32 val_main_v31 val_main_v30 val_main_v17 val_main_v16 val_main_v13 val_main_v9
  pointwise []
  simp only [v8_apply, Nat.add_assoc]

theorem v41_apply (b : Fin 32) (i : Fin 2048) (h : Fin 16) (j : Fin 16) : val_main_v41 (F := Ideal) x shift scale w cc sc (ix4 b i h j)
    = proj x shift scale w b i ⟨h.val * 64 + (48 + j.val), by omega⟩ * cc (ix2 i j) + proj x shift scale w b i ⟨h.val * 64 + (32 + j.val), by omega⟩ * sc (ix2 i j) := by
  unfold val_main_v41 val_main_v40 val_main_v39 val_main_v38 val_main_v37 val_main_v31 val_main_v30 val_main_v17 val_main_v16 val_main_v13 val_main_v9
  pointwise []
  simp only [v8_apply, Nat.add_assoc]

theorem v60_apply (b : Fin 32) (i : Fin 2048) (h : Fin 4) (j : Fin 16) : val_main_v60 (F := Ideal) x shift scale w cr sr (ix4 b i h j)
    = proj x shift scale w b i ⟨1024 + h.val * 64 + j.val, by omega⟩ * cr (ix2 i j) - proj x shift scale w b i ⟨1024 + h.val * 64 + (16 + j.val), by omega⟩ * sr (ix2 i j) := by
  unfold val_main_v60 val_main_v59 val_main_v58 val_main_v57 val_main_v56 val_main_v55 val_main_v54 val_main_v51 val_main_v50 val_main_v49 val_main_v10
  pointwise []
  simp only [v8_apply, Nat.add_assoc]

theorem v65_apply (b : Fin 32) (i : Fin 2048) (h : Fin 4) (j : Fin 16) : val_main_v65 (F := Ideal) x shift scale w cr sr (ix4 b i h j)
    = proj x shift scale w b i ⟨1024 + h.val * 64 + (16 + j.val), by omega⟩ * cr (ix2 i j) + proj x shift scale w b i ⟨1024 + h.val * 64 + j.val, by omega⟩ * sr (ix2 i j) := by
  unfold val_main_v65 val_main_v64 val_main_v63 val_main_v62 val_main_v61 val_main_v55 val_main_v54 val_main_v51 val_main_v50 val_main_v49 val_main_v10
  pointwise []
  simp only [v8_apply, Nat.add_assoc]

theorem v72_apply (b : Fin 32) (i : Fin 2048) (h : Fin 4) (j : Fin 16) : val_main_v72 (F := Ideal) x shift scale w cc sc (ix4 b i h j)
    = proj x shift scale w b i ⟨1024 + h.val * 64 + (32 + j.val), by omega⟩ * cc (ix2 i j) - proj x shift scale w b i ⟨1024 + h.val * 64 + (48 + j.val), by omega⟩ * sc (ix2 i j) := by
  unfold val_main_v72 val_main_v71 val_main_v70 val_main_v69 val_main_v68 val_main_v67 val_main_v66 val_main_v53 val_main_v52 val_main_v49 val_main_v10
  pointwise []
  simp only [v8_apply, Nat.add_assoc]

theorem v77_apply (b : Fin 32) (i : Fin 2048) (h : Fin 4) (j : Fin 16) : val_main_v77 (F := Ideal) x shift scale w cc sc (ix4 b i h j)
    = proj x shift scale w b i ⟨1024 + h.val * 64 + (48 + j.val), by omega⟩ * cc (ix2 i j) + proj x shift scale w b i ⟨1024 + h.val * 64 + (32 + j.val), by omega⟩ * sc (ix2 i j) := by
  unfold val_main_v77 val_main_v76 val_main_v75 val_main_v74 val_main_v73 val_main_v67 val_main_v66 val_main_v53 val_main_v52 val_main_v49 val_main_v10
  pointwise []
  simp only [v8_apply, Nat.add_assoc]

theorem v42_apply (b : Fin 32) (i : Fin 2048) (h : Fin 16) (d : Fin 64) :
    val_main_v42 (F := Ideal) x shift scale w cr sr cc sc (ix4 b i h d) = turnedHead x shift scale w cr sr cc sc b i (h.val * 64) (by omega) d := by
  unfold val_main_v42
  pointwise []
  simp only [v24_apply, v29_apply, v36_apply, v41_apply]
  rfl

theorem v78_apply (b : Fin 32) (i : Fin 2048) (h : Fin 4) (d : Fin 64) :
    val_main_v78 (F := Ideal) x shift scale w cr sr cc sc (ix4 b i h d) = turnedHead x shift scale w cr sr cc sc b i (1024 + h.val * 64) (by omega) d := by
  unfold val_main_v78
  pointwise []
  simp only [v60_apply, v65_apply, v72_apply, v77_apply]
  rfl

theorem v48_apply (b : Fin 32) (i : Fin 2048) (h : Fin 16) (d : Fin 64) :
    val_main_v48 (F := Ideal) x shift scale w cr sr cc sc (ix4 b i h d)
      = turnedHead x shift scale w cr sr cc sc b i (h.val * 64) (by omega) d * Ideal.ofBits .f32 0x3E000000#32 * ((Softmax.lg : ℝ) : EReal) := by
  unfold val_main_v48 val_main_v47 val_main_v46 val_main_v45 val_main_cst_1 val_main_v44 val_main_v43 val_main_cst_0
  pointwise []
  rw [v42_apply]
  exact (congrArg (Ideal.div _) log_read).trans (div_log_two _)

theorem turnedHead_congr (b : Fin 32) (i : Fin 2048) {o o' : ℕ} (ho : o + 64 ≤ 2560) (ho' : o' + 64 ≤ 2560) {d d' : Fin 64} (e : o = o') (ed : d.val = d'.val) :
    turnedHead x shift scale w cr sr cc sc b i o ho d = turnedHead x shift scale w cr sr cc sc b i o' ho' d' := by
  obtain rfl : d = d' := Fin.ext ed
  subst e
  rfl

theorem proj_congr (b : Fin 32) (i : Fin 2048) {n n' : Fin 2560} (e : n.val = n'.val) : proj x shift scale w b i n = proj x shift scale w b i n' :=
  congrArg _ (Fin.ext e)

theorem v89_apply : (val_main_v89 (F := Ideal) x shift scale w cr sr cc sc : FVec Ideal S32x2048x1280 .bf16) = rowsOf x shift scale w cr sr cc sc := by
  funext y
  obtain ⟨b, i, n, rfl⟩ : ∃ (b : Fin 32) (i : Fin 2048) (n : Fin 1280), y = ix3 b i n := ⟨y 0, y 1, y 2, funext fun a => by fin_cases a <;> rfl⟩
  unfold rowsOf val_main_v89 val_main_v83
  by_cases h : n.val < 1024
  · rw [dif_pos (show ((ix3 b i n : S32x2048x1280.Idx) 2).val < 1024 from h)]
    unfold val_main_v82 val_main_v81 val_main_v80 val_main_v12
    pointwise []
    rw [dif_pos h, v8_apply]
    rfl
  · rw [dif_neg (show ¬ ((ix3 b i n : S32x2048x1280.Idx) 2).val < 1024 from h)]
    unfold val_main_v79
    pointwise []
    rw [dif_neg h, v78_apply]
    have hn : n.val < 1280 := n.isLt
    refine turnedHead_congr x shift scale w cr sr cc sc b i _ _ ?_ ?_
    · show 1024 + (n.val - 1024) / 64 * 64 = n.val / 64 * 64
      omega
    · show (n.val - 1024) % 64 = n.val % 64
      omega

theorem v90_apply : (val_main_v90 (F := Ideal) x shift scale w cr sr cc sc : FVec Ideal S32x1280x2048 .bf16) = colsOf x shift scale w cr sr cc sc := by
  funext y
  obtain ⟨b, n, i, rfl⟩ : ∃ (b : Fin 32) (n : Fin 1280) (i : Fin 2048), y = ix3 b n i := ⟨y 0, y 1, y 2, funext fun a => by fin_cases a <;> rfl⟩
  unfold colsOf val_main_v90 val_main_v88 val_main_v87
  have hn : n.val < 1280 := n.isLt
  by_cases h : n.val < 1024
  · rw [dif_pos (show ((ix3 b n i : S32x1280x2048.Idx) 1).val < 1024 from h)]
    unfold val_main_v86 val_main_v85 val_main_v84
    pointwise []
    rw [dif_pos h, v48_apply]
    refine congrArg (· * _ * _) (turnedHead_congr x shift scale w cr sr cc sc b i _ _ ?_ ?_)
    · show (n.val / 64 % 4 * 4 + n.val / 256) * 64 = (n.val / 64 % 4 * 256 + n.val / 256 * 64 + n.val % 64) / 64 * 64
      omega
    · show n.val % 64 = n.val % 64
      rfl
  · rw [dif_neg (show ¬ ((ix3 b n i : S32x1280x2048.Idx) 1).val < 1024 from h)]
    unfold val_main_v11
    pointwise []
    rw [dif_neg h, v8_apply]
    refine proj_congr x shift scale w b i ?_
    show 1280 + (n.val - 1024) = n.val + 256
    omega

end Cert.Reference3Ideal.Rope
end
-- ==== Proof.RopeAgree.lean ====
/- The claims for the projection with rotary embedding: its runs, and its two results beside the reference's. -/
module

public import proofs.«01_k».proof.Defs
public import proofs.«01_k».proof.Proof.RopeHost
public import proofs.«01_k».proof.Proof.RopeRef
public import proofs.«01_k».proof.Proof.Join
public import proofs.«01_k».proof.Proof.Gen.Kernel3.Frame
public import proofs.«01_k».proof.Proof.Gen.Reference3Ideal.Run

@[expose] public section

set_option maxRecDepth 16384
noncomputable section

namespace Cert.Kernel3Ideal.Rope
open Idealize.ShloMosaic Idealize.ShloMosaic.TcCoe
open Idealize.SL Idealize.SL.Sem
open Idealize.ShloMosaic.Pipeline (Dat)
open Cert.Kernel3Ideal Cert.Kernel3Ideal.Gen
open Cert.Turn
open Cert.Reference3Ideal.Rope (rowsOf colsOf row proj turnedHead turnedHead_congr proj_congr)

variable (m : (ℓ : Loc nD τ sig) → Buf (Elt Ideal) ℓ) (c : Dev nD) (t : Fin cfg0.N)

/-- The rows a grid step modulates. -/
abbrev stepRows : FVec Ideal S1024x1024 .bf16 :=
  k0_pay51 (iblk m c 0 t) (iblk m c 1 t) (iblk m c 2 t) (iblk m c 3 t) (iblk m c 4 t) (iblk m c 5 t) (iblk m c 6 t) (iblk m c 7 t) (iblk m c 8 t) (iblk m c 9 t)

/-- A row a grid step modulates is the reference's row. -/
theorem rows_eq (i k : Fin 1024) : stepRows m c t (ix2 i k) = row (a0 m c) (a1 m c) (a2 m c) (batch t) (latent t i) k := by
  unfold stepRows
  rw [rows_apply]
  unfold row
  exact congrArg₂ (· + ·) (congrArg₂ (· * ·) (block0 m c t i k) (congrArg (_ + ·) (block2 m c t k))) (block1 m c t k)

/-- The product with the columns of gates. -/
theorem gates_eq (i : Fin 1024) (n : Fin 1280) (h : n.val < 1024) :
    ∑ k : Fin 1024, stepRows m c t (ix2 i k) * (iblk m c 3 t : FVec Ideal S1024x1280 .bf16) (ix2 k n)
      = proj (a0 m c) (a1 m c) (a2 m c) (a3 m c) (batch t) (latent t i) ⟨1536 + (Softmax.swap ⟨n.val, h⟩).val, by have := (Softmax.swap ⟨n.val, h⟩).isLt; omega⟩ :=
  Finset.sum_congr rfl fun k _ => congrArg₂ (· * ·) (rows_eq m c t i k) ((block3 m c t k n).trans (v14_gates m c k ⟨n.val, h⟩))

/-- The product with the columns of keys. -/
theorem keys_eq (i : Fin 1024) (n : Fin 1280) (h : ¬ n.val < 1024) :
    ∑ k : Fin 1024, stepRows m c t (ix2 i k) * (iblk m c 3 t : FVec Ideal S1024x1280 .bf16) (ix2 k n)
      = proj (a0 m c) (a1 m c) (a2 m c) (a3 m c) (batch t) (latent t i) ⟨n.val, by omega⟩ := by
  refine Finset.sum_congr rfl fun k _ => congrArg₂ (· * ·) (rows_eq m c t i k) ((block3 m c t k n).trans ?_)
  have e : n = (⟨1024 + (⟨n.val - 1024, by omega⟩ : Fin 256).val, by show 1024 + (n.val - 1024) < 1280; omega⟩ : Fin 1280) := Fin.ext (by show n.val = 1024 + (n.val - 1024); omega)
  refine (congrArg (fun j => (V m c main_v14 : FVec Ideal S1024x1280 .bf16) (ix2 k j)) e).trans ((v14_keys m c k ⟨n.val - 1024, by omega⟩).trans ?_)
  exact congrArg (fun j => a3 m c (ix2 k j)) (Fin.ext (by show 1024 + (n.val - 1024) = n.val; omega))

/-- The weights' scale comes out of a query's sum. -/
theorem sum_scaled (f g : Fin 1024 → EReal) : (∑ k, f k * (g k * Ideal.ofBits .f32 0x3E000000#32)) = (∑ k, f k * g k) * Ideal.ofBits .f32 0x3E000000#32 := by
  rw [KernelIdeal.Attn.eighth_word, Softmax.sum_mul_coe _ _ (by norm_num)]
  exact Finset.sum_congr rfl fun k _ => (mul_assoc _ _ _).symm

/-- The product with the rows of queries. -/
theorem queries_eq (i : Fin 1024) (n : Fin 1280) (h : n.val < 1024) :
    ∑ k : Fin 1024, stepRows m c t (ix2 i k) * (iblk m c 4 t : FVec Ideal S1280x1024 .bf16) (ix2 n k)
      = proj (a0 m c) (a1 m c) (a2 m c) (a3 m c) (batch t) (latent t i) ⟨(Softmax.swap ⟨n.val, h⟩).val, by have := (Softmax.swap ⟨n.val, h⟩).isLt; omega⟩ * Ideal.ofBits .f32 0x3E000000#32 :=
  (Finset.sum_congr rfl fun k _ => congrArg₂ (· * ·) (rows_eq m c t i k) ((block4 m c t n k).trans (v17_queries m c k ⟨n.val, h⟩))).trans (sum_scaled _ _)

/-- The product with the rows of values. -/
theorem vals_eq (i : Fin 1024) (n : Fin 1280) (h : ¬ n.val < 1024) :
    ∑ k : Fin 1024, stepRows m c t (ix2 i k) * (iblk m c 4 t : FVec Ideal S1280x1024 .bf16) (ix2 n k)
      = proj (a0 m c) (a1 m c) (a2 m c) (a3 m c) (batch t) (latent t i) ⟨n.val + 256, by omega⟩ := by
  refine Finset.sum_congr rfl fun k _ => congrArg₂ (· * ·) (rows_eq m c t i k) ((block4 m c t n k).trans ?_)
  have e : n = (⟨1024 + (⟨n.val - 1024, by omega⟩ : Fin 256).val, by show 1024 + (n.val - 1024) < 1280; omega⟩ : Fin 1280) := Fin.ext (by show n.val = 1024 + (n.val - 1024); omega)
  refine (congrArg (fun j => (V m c main_v17 : FVec Ideal S1280x1024 .bf16) (ix2 j k)) e).trans ((v17_vals m c k ⟨n.val - 1024, by omega⟩).trans ?_)
  exact congrArg (fun j => a3 m c (ix2 k j)) (Fin.ext (by show 1280 + (n.val - 1024) = n.val + 256; omega))

/-- What a grid step leaves in its block of rows, as the reference's result at the step's latents. -/
theorem step10_apply (i : Fin 1024) (n : Fin 1280) :
    (out0_10 (iblk m c 0 t) (iblk m c 1 t) (iblk m c 2 t) (iblk m c 3 t) (iblk m c 4 t) (iblk m c 5 t) (iblk m c 6 t) (iblk m c 7 t) (iblk m c 8 t) (iblk m c 9 t) : FVec Ideal S1x1024x1280 .bf16) (ix3 0 i n)
      = rowsOf (a0 m c) (a1 m c) (a2 m c) (a3 m c) (a4 m c) (a5 m c) (a6 m c) (a7 m c) (ix3 (batch t) (latent t i) n) := by
  rw [out10_apply (fun i j => a4 m c (ix2 (latent t i) j)) (fun i j => a5 m c (ix2 (latent t i) j)) (fun i j => a6 m c (ix2 (latent t i) j)) (fun i j => a7 m c (ix2 (latent t i) j))
    _ _ _ _ _ _ _ _ _ _ (block5 m c t) (block6 m c t) (block7 m c t)]
  unfold rowsBlock rowsOf
  by_cases h : n.val < 1024
  · refine (if_pos h).trans (Eq.trans ?_ (dif_pos h).symm)
    exact gates_eq m c t i n h
  · refine (if_neg h).trans (Eq.trans ?_ (dif_neg h).symm)
    unfold turnedHead
    refine congrArg (fun f => rotated f _ _ _ _ _) (funext fun e => ?_)
    refine keys_eq m c t i ⟨n.val / 64 * 64 + e.val, _⟩ ?_
    show ¬ n.val / 64 * 64 + e.val < 1024
    omega

/-- What it leaves in its block of columns. -/
theorem step11_apply (n : Fin 1280) (i : Fin 1024) :
    (out0_11 (iblk m c 0 t) (iblk m c 1 t) (iblk m c 2 t) (iblk m c 3 t) (iblk m c 4 t) (iblk m c 5 t) (iblk m c 6 t) (iblk m c 7 t) (iblk m c 8 t) (iblk m c 9 t) : FVec Ideal S1x1280x1024 .bf16) (ix3 0 n i)
      = colsOf (a0 m c) (a1 m c) (a2 m c) (a3 m c) (a4 m c) (a5 m c) (a6 m c) (a7 m c) (ix3 (batch t) n (latent t i)) := by
  rw [out11_apply (fun i j => a4 m c (ix2 (latent t i) j)) (fun i j => a5 m c (ix2 (latent t i) j)) (fun i j => a6 m c (ix2 (latent t i) j)) (fun i j => a7 m c (ix2 (latent t i) j))
    _ _ _ _ _ _ _ _ _ _ (block8 m c t) (block9 m c t)]
  unfold colsBlock colsOf
  by_cases h : n.val < 1024
  · refine (if_pos h).trans (Eq.trans ?_ (dif_pos h).symm)
    unfold turnedHead
    refine (rotated_scaled _ _ _ _ _ _ Softmax.lg_pos.le _).trans (congrArg (· * _) ?_)
    rw [KernelIdeal.Attn.eighth_word]
    refine Eq.trans ?_ (rotated_scaled _ _ _ _ _ _ (by norm_num) _)
    refine congrArg (fun f => rotated f _ _ _ _ _) (funext fun e => ?_)
    refine (queries_eq m c t i ⟨n.val / 64 * 64 + e.val, _⟩ (show n.val / 64 * 64 + e.val < 1024 by omega)).trans ?_
    rw [KernelIdeal.Attn.eighth_word]
    refine congrArg (· * _) (proj_congr _ _ _ _ _ _ ?_)
    show (n.val / 64 * 64 + e.val) / 64 % 4 * 256 + (n.val / 64 * 64 + e.val) / 256 * 64 + (n.val / 64 * 64 + e.val) % 64
      = (n.val / 64 % 4 * 256 + n.val / 256 * 64 + n.val % 64) / 64 * 64 + e.val
    omega
  · refine (if_neg h).trans (Eq.trans ?_ (dif_neg h).symm)
    exact vals_eq m c t i n h

/-- The array of rows after the run. -/
theorem result10 : (dats m 0 c).arrAt 10 cfg0.N = rowsOf (a0 m c) (a1 m c) (a2 m c) (a3 m c) (a4 m c) (a5 m c) (a6 m c) (a7 m c) := by
  refine (dats m 0 c).arrAt_eq_of_covers 10 _ (by decide +kernel) fun t hf y => ?_
  change S1x1024x1280.Idx at y
  blk_simp
  rw [after0_10]
  obtain ⟨y0, y1, y2, rfl⟩ : ∃ (y0 : Fin 1) (y1 : Fin 1024) (y2 : Fin 1280), y = ix3 y0 y1 y2 := ⟨y 0, y 1, y 2, funext fun a => by fin_cases a <;> rfl⟩
  obtain rfl : y0 = 0 := Subsingleton.elim _ _
  refine (step10_apply m c t y1 y2).trans (congrArg _ ?_)
  blk_ext [index10, latent]

/-- The array of columns after the run. -/
theorem result11 : (dats m 0 c).arrAt 11 cfg0.N = colsOf (a0 m c) (a1 m c) (a2 m c) (a3 m c) (a4 m c) (a5 m c) (a6 m c) (a7 m c) := by
  refine (dats m 0 c).arrAt_eq_of_covers 11 _ (by decide +kernel) fun t hf y => ?_
  change S1x1280x1024.Idx at y
  blk_simp
  rw [after0_11]
  obtain ⟨y0, y1, y2, rfl⟩ : ∃ (y0 : Fin 1) (y1 : Fin 1280) (y2 : Fin 1024), y = ix3 y0 y1 y2 := ⟨y 0, y 1, y 2, funext fun a => by fin_cases a <;> rfl⟩
  obtain rfl : y0 = 0 := Subsingleton.elim _ _
  refine (step11_apply m c t y1 y2).trans (congrArg _ ?_)
  blk_ext [index11, latent]

end Cert.Kernel3Ideal.Rope

namespace Cert.Proof
open Idealize.ShloMosaic Idealize.SL.Sem
open Cert.Reference3Ideal.Rope (rowsOf colsOf)

theorem frame_kernel3 : Cert.quiescent_Kernel3 := fun m ρ _ => Cert.Kernel3.Gen.frame m ρ
theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem preserves3 : Cert.preserves_Kernel3_Kernel3Ideal :=
  IdealRules.named_const.statement Cert.Kernel3Ideal.κ "log2e" .f32 0x3FB8AA3B#32 (((Real.log 2)⁻¹ : ℝ) : EReal) rfl

theorem congr8 {A B C D E F G H R : Type} (f : A → B → C → D → E → F → G → H → R) {a a' : A} {b b' : B} {c c' : C} {d d' : D} {e e' : E} {g g' : F} {h h' : G} {i i' : H}
    (e0 : a = a') (e1 : b = b') (e2 : c = c') (e3 : d = d') (e4 : e = e') (e5 : g = g') (e6 : h = h') (e7 : i = i') :
    f a b c d e g h i = f a' b' c' d' e' g' h' i' := by
  subst e0 e1 e2 e3 e4 e5 e6 e7
  rfl

theorem algebraic3 : Cert.algebraic_Kernel3Ideal_Reference3Ideal := by
  intro m ρ m' ρ' _ hagree
  refine ⟨fun c => rowsOf (Kernel3Ideal.Rope.a0 m c) (Kernel3Ideal.Rope.a1 m c) (Kernel3Ideal.Rope.a2 m c) (Kernel3Ideal.Rope.a3 m c) (Kernel3Ideal.Rope.a4 m c) (Kernel3Ideal.Rope.a5 m c) (Kernel3Ideal.Rope.a6 m c) (Kernel3Ideal.Rope.a7 m c),
    fun c => colsOf (Kernel3Ideal.Rope.a0 m c) (Kernel3Ideal.Rope.a1 m c) (Kernel3Ideal.Rope.a2 m c) (Kernel3Ideal.Rope.a3 m c) (Kernel3Ideal.Rope.a4 m c) (Kernel3Ideal.Rope.a5 m c) (Kernel3Ideal.Rope.a6 m c) (Kernel3Ideal.Rope.a7 m c), ?_, ?_⟩
  · exact (θ_run Cert.Kernel3Ideal.defs _ _).mono (fun r h c => ⟨(h c).1.trans (Kernel3Ideal.Rope.result10 m c), (h c).2.1.trans (Kernel3Ideal.Rope.result11 m c), (h c).2.2⟩) (Cert.Kernel3Ideal.Value.run_blocks (F := Ideal) m ρ)
  · refine (θ_run Cert.Reference3Ideal.defs _ _).mono (fun r h c => ⟨(h c).1.trans ?_, (h c).2.1.trans ?_, (h c).2.2⟩) (Cert.Reference3Ideal.Value.run (F := Ideal) m' ρ')
    · obtain ⟨e0, e1, e2, e3, e4, e5, e6, e7⟩ := hagree c
      exact ((Cert.Reference3Ideal.Read.val_main_v89_eq m' c).trans (Cert.Reference3Ideal.Rope.v89_apply _ _ _ _ _ _ _ _)).trans (congr8 rowsOf e0 e1 e2 e3 e4 e5 e6 e7)
    · obtain ⟨e0, e1, e2, e3, e4, e5, e6, e7⟩ := hagree c
      exact ((Cert.Reference3Ideal.Read.val_main_v90_eq m' c).trans (Cert.Reference3Ideal.Rope.v90_apply _ _ _ _ _ _ _ _)).trans (congr8 colsOf e0 e1 e2 e3 e4 e5 e6 e7)

end Cert.Proof
end
-- ==== Proof.CtxB.lean ====
/- The projection that mixer B makes of the context: what one grid step stores, read at an index of its block. -/
module

public import proofs.«01_k».proof.Proof.Softmax
public import proofs.«01_k».proof.Proof.Gen.Kernel4Ideal.Value
public import Idealize.ShloMosaic.Lib.Pointwise
public import Idealize.ShloMosaic.Lib.Pipeline.ValueKit

@[expose] public section

set_option maxRecDepth 16384
noncomputable section

namespace Cert.Kernel4Ideal.Ctx
open Idealize.ShloMosaic Idealize.ShloMosaic.TcCoe
open Idealize.SL Idealize.SL.Sem
open Cert.Kernel4Ideal Cert.Kernel4Ideal.Gen

/-- The product of the rows with 256 columns of the weights, as the body stores it. -/
def plain (u : FVec Ideal S256x1024 .bf16) (w : FVec Ideal S1024x256 .bf16) : FVec Ideal S1x256x256 .bf16 :=
  shapeCast S1x256x256 (truncf .bf16 (matmul dot_S256x1024_S1024x256_S256x256_1_0_0_1_n_n none u
    (shapeCast S1024x256 w shapeCasts_S1024x256_S1024x256) (constant S256x256 .f32 0x00000000#32)) bitsLt_bf16_f32) shapeCasts_S256x256_S1x256x256

/-- The same, times the constant. -/
def scaled (u : FVec Ideal S256x1024 .bf16) (w : FVec Ideal S1024x256 .bf16) : FVec Ideal S1x256x256 .bf16 :=
  shapeCast S1x256x256 (truncf .bf16 (mulf (matmul dot_S256x1024_S1024x256_S256x256_1_0_0_1_n_n none u
    (shapeCast S1024x256 w shapeCasts_S1024x256_S1024x256) (constant S256x256 .f32 0x00000000#32))
    (broadcast S256x256 (Named.named κ "log2e" 0x3FB8AA3B#32))) bitsLt_bf16_f32) shapeCasts_S256x256_S1x256x256

theorem plain_apply (u : FVec Ideal S256x1024 .bf16) (w : FVec Ideal S1024x256 .bf16) (i : Fin 256) (n : Fin 256) :
    plain u w (ix3 0 i n) = ∑ k : Fin 1024, u (ix2 i k) * w (ix2 k n) := by
  unfold plain
  pointwise [dot_S256x1024_S1024x256_S256x256_1_0_0_1_n_n]

theorem scaled_apply (u : FVec Ideal S256x1024 .bf16) (w : FVec Ideal S1024x256 .bf16) (i : Fin 256) (n : Fin 256) :
    scaled u w (ix3 0 i n) = (∑ k : Fin 1024, u (ix2 i k) * w (ix2 k n)) * ((Softmax.lg : ℝ) : EReal) := by
  unfold scaled
  pointwise [dot_S256x1024_S1024x256_S256x256_1_0_0_1_n_n]
  rfl

/-- What a grid step leaves in its block: the product of its rows with all the columns, the first 1024 of them times the constant. -/
def block (u : FVec Ideal S256x1024 .bf16) (w : FVec Ideal S1024x4096 .bf16) (y : S1x256x4096.Idx) : EReal :=
  if (y 2).val < 1024 then (∑ k : Fin 1024, u (ix2 (y 1) k) * w (ix2 k (y 2))) * ((Softmax.lg : ℝ) : EReal)
  else ∑ k : Fin 1024, u (ix2 (y 1) k) * w (ix2 k (y 2))

theorem plain_piece (u : FVec Ideal S256x1024 .bf16) (w : FVec Ideal S1024x4096 .bf16) (o : ℕ) (ho : 1024 ≤ o)
    (inb : ∀ a, ![0, o] a + S1024x256.size a ≤ S1024x4096.size a) (inb' : ∀ a, ![0, 0, o] a + S1x256x256.size a ≤ S1x256x4096.size a)
    (x : S1x256x256.Idx) :
    plain u (View.ld (Val := Elt Ideal) (e' := .bf16) w (Rect.unit (s := S1024x4096) ![0, o] S1024x256.size inb)) x
      = block u w ((Rect.unit (s := S1x256x4096) ![0, 0, o] S1x256x256.size inb').emb x) := by
  obtain ⟨x0, x1, x2, rfl⟩ : ∃ (x0 : Fin 1) (x1 : Fin 256) (x2 : Fin 256), x = ix3 x0 x1 x2 := ⟨x 0, x 1, x 2, funext fun a => by fin_cases a <;> rfl⟩
  obtain rfl : x0 = 0 := Subsingleton.elim _ _
  have hb : o + 256 ≤ 4096 := inb 1
  have he : (Rect.unit (s := S1x256x4096) ![0, 0, o] S1x256x256.size inb').emb (ix3 0 x1 x2) = ix3 0 x1 ⟨o + x2.val, by omega⟩ := by
    funext a
    refine Fin.ext ?_
    rw [Rect.emb_apply]
    match a with
    | ⟨0, _⟩ => rfl
    | ⟨1, _⟩ => show 0 + 1 * x1.val = x1.val; omega
    | ⟨2, _⟩ => show o + 1 * x2.val = o + x2.val; omega
  rw [plain_apply, he]
  unfold block
  refine Eq.trans ?_ (if_neg (show ¬ o + x2.val < 1024 by omega)).symm
  refine Finset.sum_congr rfl fun k _ => congrArg (_ * ·) ?_
  refine View.ld_unit_apply_of (Val := Elt Ideal) (e := .bf16) w _ _ _ _ _ fun a => ?_
  match a with
  | ⟨0, _⟩ => exact (Nat.zero_add _).symm
  | ⟨1, _⟩ => rfl

theorem scaled_piece (u : FVec Ideal S256x1024 .bf16) (w : FVec Ideal S1024x4096 .bf16) (o : ℕ) (ho : o + 256 ≤ 1024)
    (inb : ∀ a, ![0, o] a + S1024x256.size a ≤ S1024x4096.size a) (inb' : ∀ a, ![0, 0, o] a + S1x256x256.size a ≤ S1x256x4096.size a)
    (x : S1x256x256.Idx) :
    scaled u (View.ld (Val := Elt Ideal) (e' := .bf16) w (Rect.unit (s := S1024x4096) ![0, o] S1024x256.size inb)) x
      = block u w ((Rect.unit (s := S1x256x4096) ![0, 0, o] S1x256x256.size inb').emb x) := by
  obtain ⟨x0, x1, x2, rfl⟩ : ∃ (x0 : Fin 1) (x1 : Fin 256) (x2 : Fin 256), x = ix3 x0 x1 x2 := ⟨x 0, x 1, x 2, funext fun a => by fin_cases a <;> rfl⟩
  obtain rfl : x0 = 0 := Subsingleton.elim _ _
  have hb : o + 256 ≤ 4096 := inb 1
  have he : (Rect.unit (s := S1x256x4096) ![0, 0, o] S1x256x256.size inb').emb (ix3 0 x1 x2) = ix3 0 x1 ⟨o + x2.val, by omega⟩ := by
    funext a
    refine Fin.ext ?_
    rw [Rect.emb_apply]
    match a with
    | ⟨0, _⟩ => rfl
    | ⟨1, _⟩ => show 0 + 1 * x1.val = x1.val; omega
    | ⟨2, _⟩ => show o + 1 * x2.val = o + x2.val; omega
  rw [scaled_apply, he]
  unfold block
  refine Eq.trans ?_ (if_pos (show o + x2.val < 1024 by omega)).symm
  refine congrArg (· * _) (Finset.sum_congr rfl fun k _ => congrArg (_ * ·) ?_)
  refine View.ld_unit_apply_of (Val := Elt Ideal) (e := .bf16) w _ _ _ _ _ fun a => ?_
  match a with
  | ⟨0, _⟩ => exact (Nat.zero_add _).symm
  | ⟨1, _⟩ => rfl

/-- What a grid step leaves in its block, from the contents of its windows. -/
theorem out_apply (x0 : Vec Ideal S1x256x1024 .f32) (x1 x2 : Vec Ideal S1x1x1x1x1024 .f32) (x3 : Vec Ideal S1024x4096 .bf16) (y : S1x256x4096.Idx) :
    (out0_4 x0 x1 x2 x3 : FVec Ideal S1x256x4096 .bf16) y = block (k0_pay20 x0 x1 x2 x3) x3 y := by
  unfold out0_4
  refine View.canon_apply_of_pieces (Val := Elt Ideal) (e := .bf16) (block (k0_pay20 x0 x1 x2 x3) x3) _ ?_ y (cover0_4 _ _ _ _ _ _ _ _ _ _ _ _ _ _ _ _ y)
  exact List.forall_mem_cons.2 ⟨fun x => plain_piece _ _ 3840 (by decide) (by decide) (by decide) x,
    (List.forall_mem_cons.2 ⟨fun x => plain_piece _ _ 3584 (by decide) (by decide) (by decide) x,
    (List.forall_mem_cons.2 ⟨fun x => plain_piece _ _ 3328 (by decide) (by decide) (by decide) x,
    (List.forall_mem_cons.2 ⟨fun x => plain_piece _ _ 3072 (by decide) (by decide) (by decide) x,
    (List.forall_mem_cons.2 ⟨fun x => plain_piece _ _ 2816 (by decide) (by decide) (by decide) x,
    (List.forall_mem_cons.2 ⟨fun x => plain_piece _ _ 2560 (by decide) (by decide) (by decide) x,
    (List.forall_mem_cons.2 ⟨fun x => plain_piece _ _ 2304 (by decide) (by decide) (by decide) x,
    (List.forall_mem_cons.2 ⟨fun x => plain_piece _ _ 2048 (by decide) (by decide) (by decide) x,
    (List.forall_mem_cons.2 ⟨fun x => plain_piece _ _ 1792 (by decide) (by decide) (by decide) x,
    (List.forall_mem_cons.2 ⟨fun x => plain_piece _ _ 1536 (by decide) (by decide) (by decide) x,
    (List.forall_mem_cons.2 ⟨fun x => plain_piece _ _ 1280 (by decide) (by decide) (by decide) x,
    (List.forall_mem_cons.2 ⟨fun x => plain_piece _ _ 1024 (by decide) (by decide) (by decide) x,
    (List.forall_mem_cons.2 ⟨fun x => scaled_piece _ _ 768 (by decide) (by decide) (by decide) x,
    (List.forall_mem_cons.2 ⟨fun x => scaled_piece _ _ 512 (by decide) (by decide) (by decide) x,
    (List.forall_mem_cons.2 ⟨fun x => scaled_piece _ _ 256 (by decide) (by decide) (by decide) x,
    (List.forall_mem_cons.2 ⟨fun x => scaled_piece _ _ 0 (by decide) (by decide) (by decide) x, List.forall_mem_nil _⟩)⟩)⟩)⟩)⟩)⟩)⟩)⟩)⟩)⟩)⟩)⟩)⟩)⟩)⟩)⟩

theorem rows_apply (x0 : Vec Ideal S1x256x1024 .f32) (x1 x2 : Vec Ideal S1x1x1x1x1024 .f32) (x3 : Vec Ideal S1024x4096 .bf16) (i : Fin 256) (k : Fin 1024) :
    (k0_pay20 x0 x1 x2 x3 : FVec Ideal S256x1024 .bf16) (ix2 i k)
      = (x0 : FVec Ideal S1x256x1024 .f32) (ix3 0 i k) * (Ideal.ofBits .f32 0x3F800000#32 + (x2 : FVec Ideal S1x1x1x1x1024 .f32) (ix5 0 0 0 0 k))
        + (x1 : FVec Ideal S1x1x1x1x1024 .f32) (ix5 0 0 0 0 k) := by
  unfold k0_pay20 k0_pay3
  rw [View.ld_unit_zero (S := S1x256x1024) (by decide), View.ld_unit_zero (S := S1x1x1x1x1024) (by decide), View.ld_unit_zero (S := S1x1x1x1x1024) (by decide)]
  pointwise []

end Cert.Kernel4Ideal.Ctx
end
-- ==== Proof.CtxBHost.lean ====
/- The arrays the context projection's blocks are cut from, and its blocks, in terms of the arguments. -/
module

public import proofs.«01_k».proof.Proof.CtxB
public import Idealize.ShloMosaic.Lib.StableHlo.RunRead

@[expose] public section

set_option maxRecDepth 16384
noncomputable section

namespace Cert.Kernel4Ideal.Ctx
open Idealize.ShloMosaic Idealize.ShloMosaic.TcCoe
open Idealize.SL Idealize.SL.Sem
open Cert.Kernel4Ideal Cert.Kernel4Ideal.Gen Idealize.ShloMosaic.StableHlo

variable (m : (ℓ : Loc nD τ sig) → Buf (Elt Ideal) ℓ) (c : Dev nD)

/-! The arguments' contents. -/
abbrev a0 : FVec Ideal S32x256x1024 .f32 := m ((c : Thread nD τ).loc main_arg0)
abbrev a1 : FVec Ideal S1024 .f32 := m ((c : Thread nD τ).loc main_arg1)
abbrev a2 : FVec Ideal S1024 .f32 := m ((c : Thread nD τ).loc main_arg2)
abbrev a3 : FVec Ideal S1024x4096 .f32 := m ((c : Thread nD τ).loc main_arg3)

theorem v5_queries (k n : Fin 1024) :
    (V m c main_v5 : FVec Ideal S1024x4096 .bf16) (ix2 k ⟨n.val, by omega⟩) = a3 m c (ix2 k ⟨n.val, by omega⟩) * Ideal.ofBits .f32 0x3E000000#32 := by
  unfold_abbrev_sides
  after_reads_simp
  pointwise []
  after_reads_simp
  pointwise []
  rfl

theorem v5_rest (k : Fin 1024) (n : Fin 3072) :
    (V m c main_v5 : FVec Ideal S1024x4096 .bf16) (ix2 k ⟨1024 + n.val, by omega⟩) = a3 m c (ix2 k ⟨1024 + n.val, by omega⟩) := by
  unfold_abbrev_sides
  after_reads_simp
  pointwise []
  after_reads_simp
  pointwise []

theorem v11_shift (n : Fin 1024) :
    (V m c main_v11 : FVec Ideal S4x3x40x1x1024 .f32) (ix5 1 0 32 0 n) = a1 m c (ix1 n) := by
  unfold_abbrev_sides
  after_reads_simp
  show pad S4x3x40x1x1024 ![1, 0, 32, 0, 0] ![2, 1, 7, 0, 0] ![0, 0, 0, 0, 0]
        (broadcastInDim S1x2x1x1x1024 ![1, 4] bcast_S2x1024_S1x2x1x1x1024_1_4
            (concatenate S2x1024 0 [⟨S1x1024, _⟩, ⟨S1x1024, _⟩] concatenates_S1x1024_S1x1024_S2x1024_d0))
        (sitofp .f32 (constantI S_ 32 0#32))
        pads_S1x2x1x1x1024_S4x3x40x1x1024_120_010_3270_000_000 h_S_ _ = _
  pointwise []
  after_reads_simp
  pointwise []

theorem v11_scale (n : Fin 1024) :
    (V m c main_v11 : FVec Ideal S4x3x40x1x1024 .f32) (ix5 1 1 32 0 n) = a2 m c (ix1 n) := by
  unfold_abbrev_sides
  after_reads_simp
  show pad S4x3x40x1x1024 ![1, 0, 32, 0, 0] ![2, 1, 7, 0, 0] ![0, 0, 0, 0, 0]
        (broadcastInDim S1x2x1x1x1024 ![1, 4] bcast_S2x1024_S1x2x1x1x1024_1_4
            (concatenate S2x1024 0 [⟨S1x1024, _⟩, ⟨S1x1024, _⟩] concatenates_S1x1024_S1x1024_S2x1024_d0))
        (sitofp .f32 (constantI S_ 32 0#32))
        pads_S1x2x1x1x1024_S4x3x40x1x1024_120_010_3270_000_000 h_S_ _ = _
  pointwise []
  after_reads_simp
  pointwise []

variable (t : Fin cfg0.N)

/-- The batch a grid step works on. -/
def batch (t : Fin cfg0.N) : Fin 32 := grid0.coords t 0

theorem index0 (t : Fin cfg0.N) : win0_0.index t = ![(batch t).val, 0, 0] := (by decide +kernel : ∀ t : Fin grid0.N, win0_0.index t = ![(batch t).val, 0, 0]) t
theorem index1 (t : Fin cfg0.N) : win0_1.index t = ![1, 0, 32, 0, 0] := (by decide +kernel : ∀ t : Fin grid0.N, win0_1.index t = ![1, 0, 32, 0, 0]) t
theorem index2 (t : Fin cfg0.N) : win0_2.index t = ![1, 1, 32, 0, 0] := (by decide +kernel : ∀ t : Fin grid0.N, win0_2.index t = ![1, 1, 32, 0, 0]) t
theorem index3 (t : Fin cfg0.N) : win0_3.index t = ![0, 0] := (by decide +kernel : ∀ t : Fin grid0.N, win0_3.index t = ![0, 0]) t
theorem index4 (t : Fin cfg0.N) : win0_4.index t = ![(batch t).val, 0, 0] := (by decide +kernel : ∀ t : Fin grid0.N, win0_4.index t = ![(batch t).val, 0, 0]) t

theorem block0 (i : Fin 256) (k : Fin 1024) : (iblk m c 0 t : FVec Ideal S1x256x1024 .f32) (ix3 0 i k) = a0 m c (ix3 (batch t) i k) := by
  blk_simp [iblk]
  refine Eq.trans (congrArg (V m c main_arg0) ?_) (congrFun (V_main_arg0 m c) _)
  blk_ext [index0]

theorem block1 (k : Fin 1024) : (iblk m c 1 t : FVec Ideal S1x1x1x1x1024 .f32) (ix5 0 0 0 0 k) = a1 m c (ix1 k) := by
  blk_simp [iblk]
  refine Eq.trans (congrArg (V m c main_v11) ?_) (v11_shift m c k)
  blk_ext [index1]

theorem block2 (k : Fin 1024) : (iblk m c 2 t : FVec Ideal S1x1x1x1x1024 .f32) (ix5 0 0 0 0 k) = a2 m c (ix1 k) := by
  blk_simp [iblk]
  refine Eq.trans (congrArg (V m c main_v11) ?_) (v11_scale m c k)
  blk_ext [index2]

theorem block3 (k : Fin 1024) (n : Fin 4096) : (iblk m c 3 t : FVec Ideal S1024x4096 .bf16) (ix2 k n) = (V m c main_v5 : FVec Ideal S1024x4096 .bf16) (ix2 k n) := by
  blk_simp [iblk]
  refine congrArg (V m c main_v5) ?_
  blk_ext [index3]

end Cert.Kernel4Ideal.Ctx
end
-- ==== Proof.CtxBRef.lean ====
/- The projection that mixer B makes of the context, as a sum, and the reference read as that sum. -/
module

public import proofs.«01_k».proof.Proof.ProjRef
public import proofs.«01_k».proof.Proof.Gen.Reference4Ideal.Run
public import Idealize.ShloMosaic.Lib.Pointwise

@[expose] public section

set_option maxRecDepth 16384
noncomputable section

namespace Cert.Reference4Ideal.Ctx
open Idealize.ShloMosaic Idealize.ShloMosaic.TcCoe
open Idealize.SL Idealize.SL.Sem
open Cert.Reference4Ideal Cert.Reference4Ideal.Gen

open Cert.Reference2Ideal.Proj (log_read div_log_two)

/-- The modulated row of a context entry. -/
def row (x : FVec Ideal S32x256x1024 .f32) (shift scale : FVec Ideal S1024 .f32) (b : Fin 32) (i : Fin 256) (k : Fin 1024) : EReal :=
  x (ix3 b i k) * (Ideal.ofBits .f32 0x3F800000#32 + scale (ix1 k)) + shift (ix1 k)

/-- Queries, keys, values and gates side by side; the queries have the attention's scale, in base two. -/
def packed (x : FVec Ideal S32x256x1024 .f32) (shift scale : FVec Ideal S1024 .f32) (w : FVec Ideal S1024x4096 .f32) : FVec Ideal S32x256x4096 .bf16 := fun y =>
  if (y 2).val < 1024 then (∑ k : Fin 1024, row x shift scale (y 0) (y 1) k * w (ix2 k (y 2))) * Ideal.ofBits .f32 0x3E000000#32 * ((Softmax.lg : ℝ) : EReal)
  else ∑ k : Fin 1024, row x shift scale (y 0) (y 1) k * w (ix2 k (y 2))

variable (m : (ℓ : Loc nD τ sig) → Buf (Elt Ideal) ℓ) (ρ : Dev nD → PrngReg)

theorem run_packed : θ_run defs (onTc (τ := τ) (main (F := Ideal))) ⟨m, fun _ => 0, ρ⟩ fun r => ∀ c : Dev nD,
      r.2.mem ((c.tc : Thread nD τ).loc main_v20) = packed (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.Reference4Ideal.Value.run (F := Ideal) m ρ)
  generalize m ((c.tc : Thread nD τ).loc main_arg0) = x
  generalize m ((c.tc : Thread nD τ).loc main_arg1) = shift
  generalize m ((c.tc : Thread nD τ).loc main_arg2) = scale
  generalize m ((c.tc : Thread nD τ).loc main_arg3) = w
  funext y
  obtain ⟨b, i, n, rfl⟩ : ∃ (b : Fin 32) (i : Fin 256) (n : Fin 4096), y = ix3 b i n := ⟨y 0, y 1, y 2, funext fun a => by fin_cases a <;> rfl⟩
  unfold packed row
  by_cases h : n.val < 1024
  · rw [if_pos (show ((ix3 b i n : S32x256x4096.Idx) 2).val < 1024 from h)]
    pointwise [dot_S32x256x1024_S1024x4096_S32x256x4096_2_0_01_1_n_n]
    rw [dif_pos h]
    exact (congrArg (Ideal.div _) log_read).trans (div_log_two _)
  · rw [if_neg (show ¬ ((ix3 b i n : S32x256x4096.Idx) 2).val < 1024 from h)]
    pointwise [dot_S32x256x1024_S1024x4096_S32x256x4096_2_0_01_1_n_n]
    rw [dif_neg h]
    have e (j : Fin 4096) (hj : j.val = n.val) : j = n := Fin.ext hj
    by_cases h1 : n.val - 1024 < 1024
    · rw [dif_pos h1, e ⟨1024 + (n.val - 1024), by omega⟩ (by show 1024 + (n.val - 1024) = n.val; omega)]
    · rw [dif_neg h1]
      by_cases h2 : n.val - 1024 - 1024 < 1024
      · rw [dif_pos h2, e ⟨2048 + (n.val - 1024 - 1024), by omega⟩ (by show 2048 + (n.val - 1024 - 1024) = n.val; omega)]
      · rw [dif_neg h2, e ⟨3072 + (n.val - 1024 - 1024 - 1024), by omega⟩ (by show 3072 + (n.val - 1024 - 1024 - 1024) = n.val; omega)]

end Cert.Reference4Ideal.Ctx
end
-- ==== Proof.CtxBAgree.lean ====
/- The context projection's claims: its runs, and its result beside the reference's. -/
module

public import proofs.«01_k».proof.Defs
public import proofs.«01_k».proof.Proof.CtxBHost
public import proofs.«01_k».proof.Proof.CtxBRef
public import proofs.«01_k».proof.Proof.ProjAgree
public import proofs.«01_k».proof.Proof.Gen.Kernel4.Frame

@[expose] public section

set_option maxRecDepth 16384
noncomputable section

namespace Cert.Kernel4Ideal.Ctx
open Idealize.ShloMosaic Idealize.ShloMosaic.TcCoe
open Idealize.SL Idealize.SL.Sem
open Idealize.ShloMosaic.Pipeline (Dat)
open Cert.Kernel4Ideal Cert.Kernel4Ideal.Gen
open Cert.Reference4Ideal.Ctx (packed row)
open Cert.Kernel2Ideal.Proj (sum_scaled)

variable (m : (ℓ : Loc nD τ sig) → Buf (Elt Ideal) ℓ) (c : Dev nD) (t : Fin cfg0.N)

/-- A row a grid step modulates is the reference's row. -/
theorem rows_eq (i : Fin 256) (k : Fin 1024) : (k0_pay20 (iblk m c 0 t) (iblk m c 1 t) (iblk m c 2 t) (iblk m c 3 t) : FVec Ideal S256x1024 .bf16) (ix2 i k)
    = row (a0 m c) (a1 m c) (a2 m c) (batch t) i k := by
  rw [rows_apply]
  unfold row
  exact congrArg₂ (· + ·) (congrArg₂ (· * ·) (block0 m c t i k) (congrArg (_ + ·) (block2 m c t k))) (block1 m c t k)

/-- What a grid step leaves in its block of the result, as the reference's result at the step's rows. -/
theorem step_apply (i : Fin 256) (n : Fin 4096) :
    (out0_4 (iblk m c 0 t) (iblk m c 1 t) (iblk m c 2 t) (iblk m c 3 t) : FVec Ideal S1x256x4096 .bf16) (ix3 0 i n)
      = packed (a0 m c) (a1 m c) (a2 m c) (a3 m c) (ix3 (batch t) i n) := by
  rw [out_apply]
  unfold block packed
  by_cases h : n.val < 1024
  · refine (if_pos h).trans (Eq.trans ?_ (if_pos h).symm)
    refine congrArg (· * _) (Eq.trans (Finset.sum_congr rfl fun k _ => ?_) (sum_scaled _ _))
    exact congrArg₂ (· * ·) (rows_eq m c t i k) ((block3 m c t k n).trans (v5_queries m c k ⟨n.val, h⟩))
  · refine (if_neg h).trans (Eq.trans ?_ (if_neg h).symm)
    refine Finset.sum_congr rfl fun k _ => ?_
    have e : n = (⟨1024 + (⟨n.val - 1024, by omega⟩ : Fin 3072).val, by show 1024 + (n.val - 1024) < 4096; omega⟩ : Fin 4096) := Fin.ext (by show n.val = 1024 + (n.val - 1024); omega)
    refine congrArg₂ (· * ·) (rows_eq m c t i k) ((block3 m c t k n).trans ?_)
    show (V m c main_v5 : FVec Ideal S1024x4096 .bf16) (ix2 k n) = a3 m c (ix2 k n)
    rw [e]
    exact v5_rest m c k ⟨n.val - 1024, by omega⟩

/-- The result's array after the run. -/
theorem result_eq_packed : (dats m 0 c).arrAt 4 cfg0.N = packed (a0 m c) (a1 m c) (a2 m c) (a3 m c) := by
  refine (dats m 0 c).arrAt_eq_of_covers 4 _ (by decide +kernel) fun t hf y => ?_
  change S1x256x4096.Idx at y
  blk_simp
  rw [after0_4]
  obtain ⟨y0, y1, y2, rfl⟩ : ∃ (y0 : Fin 1) (y1 : Fin 256) (y2 : Fin 4096), y = ix3 y0 y1 y2 := ⟨y 0, y 1, y 2, funext fun a => by fin_cases a <;> rfl⟩
  obtain rfl : y0 = 0 := Subsingleton.elim _ _
  refine (step_apply m c t y1 y2).trans (congrArg _ ?_)
  blk_ext [index4]

end Cert.Kernel4Ideal.Ctx

namespace Cert.Proof
open Idealize.ShloMosaic Idealize.SL.Sem
open Cert.Reference4Ideal.Ctx (packed)

theorem frame_kernel4 : Cert.quiescent_Kernel4 := fun m ρ _ => Cert.Kernel4.Gen.frame m ρ
theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves4 : Cert.preserves_Kernel4_Kernel4Ideal :=
  IdealRules.named_const.statement Cert.Kernel4Ideal.κ "log2e" .f32 0x3FB8AA3B#32 (((Real.log 2)⁻¹ : ℝ) : EReal) rfl

/-- Equal arguments give equal results. -/
theorem packedB_congr {x0 y0 : FVec Ideal Reference4Ideal.S32x256x1024 .f32} {x1 y1 x2 y2 : FVec Ideal Reference4Ideal.S1024 .f32} {x3 y3 : FVec Ideal Reference4Ideal.S1024x4096 .f32}
    (e0 : x0 = y0) (e1 : x1 = y1) (e2 : x2 = y2) (e3 : x3 = y3) : packed x0 x1 x2 x3 = packed y0 y1 y2 y3 := by
  subst e0 e1 e2 e3
  rfl

theorem algebraic4 : Cert.algebraic_Kernel4Ideal_Reference4Ideal := by
  intro m ρ m' ρ' _ hagree
  refine ⟨fun c => packed (Kernel4Ideal.Ctx.a0 m c) (Kernel4Ideal.Ctx.a1 m c) (Kernel4Ideal.Ctx.a2 m c) (Kernel4Ideal.Ctx.a3 m c), ?_, ?_⟩
  · exact (θ_run Cert.Kernel4Ideal.defs _ _).mono (fun r h c => ⟨(h c).1.trans (Kernel4Ideal.Ctx.result_eq_packed m c), (h c).2⟩) (Cert.Kernel4Ideal.Value.run_blocks (F := Ideal) m ρ)
  · refine (θ_run Cert.Reference4Ideal.defs _ _).mono (fun r h c => ⟨(h c).1.trans ?_, (h c).2⟩) (Cert.Reference4Ideal.Ctx.run_packed m' ρ')
    obtain ⟨e0, e1, e2, e3⟩ := hagree c
    exact packedB_congr e0 e1 e2 e3

end Cert.Proof
end
-- ==== Proof.CtxKV.lean ====
/- The projection to keys and values that mixer B makes of the context: what one grid step stores, read at an index of its block. -/
module

public import proofs.«01_k».proof.Proof.Softmax
public import proofs.«01_k».proof.Proof.Gen.Kernel5Ideal.Value
public import Idealize.ShloMosaic.Lib.Pointwise
public import Idealize.ShloMosaic.Lib.Pipeline.ValueKit

@[expose] public section

set_option maxRecDepth 16384
noncomputable section

namespace Cert.Kernel5Ideal.Kv
open Idealize.ShloMosaic Idealize.ShloMosaic.TcCoe
open Idealize.SL Idealize.SL.Sem
open Cert.Kernel5Ideal Cert.Kernel5Ideal.Gen

/-- The product of the rows with 256 columns of the weights, as the body stores it. -/
def plain (u : FVec Ideal S256x1024 .bf16) (w : FVec Ideal S1024x256 .bf16) : FVec Ideal S1x256x256 .bf16 :=
  shapeCast S1x256x256 (truncf .bf16 (matmul dot_S256x1024_S1024x256_S256x256_1_0_0_1_n_n none u
    (shapeCast S1024x256 w shapeCasts_S1024x256_S1024x256) (constant S256x256 .f32 0x00000000#32)) bitsLt_bf16_f32) shapeCasts_S256x256_S1x256x256

theorem plain_apply (u : FVec Ideal S256x1024 .bf16) (w : FVec Ideal S1024x256 .bf16) (i : Fin 256) (n : Fin 256) :
    plain u w (ix3 0 i n) = ∑ k : Fin 1024, u (ix2 i k) * w (ix2 k n) := by
  unfold plain
  pointwise [dot_S256x1024_S1024x256_S256x256_1_0_0_1_n_n]

/-- What a grid step leaves in its block: the product of its rows with all the columns. -/
def block (u : FVec Ideal S256x1024 .bf16) (w : FVec Ideal S1024x2048 .bf16) (y : S1x256x2048.Idx) : EReal :=
  ∑ k : Fin 1024, u (ix2 (y 1) k) * w (ix2 k (y 2))

theorem plain_piece (u : FVec Ideal S256x1024 .bf16) (w : FVec Ideal S1024x2048 .bf16) (o : ℕ)
    (inb : ∀ a, ![0, o] a + S1024x256.size a ≤ S1024x2048.size a) (inb' : ∀ a, ![0, 0, o] a + S1x256x256.size a ≤ S1x256x2048.size a)
    (x : S1x256x256.Idx) :
    plain u (View.ld (Val := Elt Ideal) (e' := .bf16) w (Rect.unit (s := S1024x2048) ![0, o] S1024x256.size inb)) x
      = block u w ((Rect.unit (s := S1x256x2048) ![0, 0, o] S1x256x256.size inb').emb x) := by
  obtain ⟨x0, x1, x2, rfl⟩ : ∃ (x0 : Fin 1) (x1 : Fin 256) (x2 : Fin 256), x = ix3 x0 x1 x2 := ⟨x 0, x 1, x 2, funext fun a => by fin_cases a <;> rfl⟩
  obtain rfl : x0 = 0 := Subsingleton.elim _ _
  have hb : o + 256 ≤ 2048 := inb 1
  have he : (Rect.unit (s := S1x256x2048) ![0, 0, o] S1x256x256.size inb').emb (ix3 0 x1 x2) = ix3 0 x1 ⟨o + x2.val, by omega⟩ := by
    funext a
    refine Fin.ext ?_
    rw [Rect.emb_apply]
    match a with
    | ⟨0, _⟩ => rfl
    | ⟨1, _⟩ => show 0 + 1 * x1.val = x1.val; omega
    | ⟨2, _⟩ => show o + 1 * x2.val = o + x2.val; omega
  rw [plain_apply, he]
  unfold block
  refine Finset.sum_congr rfl fun k _ => congrArg (_ * ·) ?_
  refine View.ld_unit_apply_of (Val := Elt Ideal) (e := .bf16) w _ _ _ _ _ fun a => ?_
  match a with
  | ⟨0, _⟩ => exact (Nat.zero_add _).symm
  | ⟨1, _⟩ => rfl

/-- What a grid step leaves in its block, from the contents of its windows. -/
theorem out_apply (x0 : Vec Ideal S1x256x1024 .f32) (x1 x2 : Vec Ideal S1x1x1x1x1024 .f32) (x3 : Vec Ideal S1024x2048 .bf16) (y : S1x256x2048.Idx) :
    (out0_4 x0 x1 x2 x3 : FVec Ideal S1x256x2048 .bf16) y = block (k0_pay11 x0 x1 x2 x3) x3 y := by
  unfold out0_4
  refine View.canon_apply_of_pieces (Val := Elt Ideal) (e := .bf16) (block (k0_pay11 x0 x1 x2 x3) x3) _ ?_ y (cover0_4 _ _ _ _ _ _ _ _ y)
  exact (List.forall_mem_cons.2 ⟨fun x => plain_piece _ _ 1792 (by decide) (by decide) x,
    (List.forall_mem_cons.2 ⟨fun x => plain_piece _ _ 1536 (by decide) (by decide) x,
    (List.forall_mem_cons.2 ⟨fun x => plain_piece _ _ 1280 (by decide) (by decide) x,
    (List.forall_mem_cons.2 ⟨fun x => plain_piece _ _ 1024 (by decide) (by decide) x,
    (List.forall_mem_cons.2 ⟨fun x => plain_piece _ _ 768 (by decide) (by decide) x,
    (List.forall_mem_cons.2 ⟨fun x => plain_piece _ _ 512 (by decide) (by decide) x,
    (List.forall_mem_cons.2 ⟨fun x => plain_piece _ _ 256 (by decide) (by decide) x,
    (List.forall_mem_cons.2 ⟨fun x => plain_piece _ _ 0 (by decide) (by decide) x, List.forall_mem_nil _⟩)⟩)⟩)⟩)⟩)⟩)⟩)⟩)

theorem rows_apply (x0 : Vec Ideal S1x256x1024 .f32) (x1 x2 : Vec Ideal S1x1x1x1x1024 .f32) (x3 : Vec Ideal S1024x2048 .bf16) (i : Fin 256) (k : Fin 1024) :
    (k0_pay11 x0 x1 x2 x3 : FVec Ideal S256x1024 .bf16) (ix2 i k)
      = (x0 : FVec Ideal S1x256x1024 .f32) (ix3 0 i k) * (Ideal.ofBits .f32 0x3F800000#32 + (x2 : FVec Ideal S1x1x1x1x1024 .f32) (ix5 0 0 0 0 k))
        + (x1 : FVec Ideal S1x1x1x1x1024 .f32) (ix5 0 0 0 0 k) := by
  unfold k0_pay11 k0_pay3
  rw [View.ld_unit_zero (S := S1x256x1024) (by decide), View.ld_unit_zero (S := S1x1x1x1x1024) (by decide), View.ld_unit_zero (S := S1x1x1x1x1024) (by decide)]
  pointwise []

end Cert.Kernel5Ideal.Kv
end
-- ==== Proof.CtxKVHost.lean ====
/- The arrays the blocks of the context's keys and values are cut from, and its blocks, in terms of the arguments. -/
module

public import proofs.«01_k».proof.Proof.CtxKV
public import Idealize.ShloMosaic.Lib.StableHlo.RunRead

@[expose] public section

set_option maxRecDepth 16384
noncomputable section

namespace Cert.Kernel5Ideal.Kv
open Idealize.ShloMosaic Idealize.ShloMosaic.TcCoe
open Idealize.SL Idealize.SL.Sem
open Cert.Kernel5Ideal Cert.Kernel5Ideal.Gen Idealize.ShloMosaic.StableHlo

variable (m : (ℓ : Loc nD τ sig) → Buf (Elt Ideal) ℓ) (c : Dev nD)

/-! The arguments' contents. -/
abbrev a0 : FVec Ideal S32x256x1024 .f32 := m ((c : Thread nD τ).loc main_arg0)
abbrev a1 : FVec Ideal S1024 .f32 := m ((c : Thread nD τ).loc main_arg1)
abbrev a2 : FVec Ideal S1024 .f32 := m ((c : Thread nD τ).loc main_arg2)
abbrev a3 : FVec Ideal S1024x4096 .f32 := m ((c : Thread nD τ).loc main_arg3)

theorem v12_apply (k : Fin 1024) (n : Fin 2048) :
    (V m c main_v12 : FVec Ideal S1024x2048 .bf16) (ix2 k n) = a3 m c (ix2 k ⟨1024 + n.val, by omega⟩) := by
  unfold_abbrev_sides
  after_reads_simp
  pointwise []
  after_reads_simp
  pointwise []

theorem v11_shift (n : Fin 1024) :
    (V m c main_v11 : FVec Ideal S4x3x40x1x1024 .f32) (ix5 3 0 32 0 n) = a1 m c (ix1 n) := by
  unfold_abbrev_sides
  after_reads_simp
  show pad S4x3x40x1x1024 ![3, 0, 32, 0, 0] ![0, 1, 7, 0, 0] ![0, 0, 0, 0, 0]
        (broadcastInDim S1x2x1x1x1024 ![1, 4] bcast_S2x1024_S1x2x1x1x1024_1_4
            (concatenate S2x1024 0 [⟨S1x1024, _⟩, ⟨S1x1024, _⟩] concatenates_S1x1024_S1x1024_S2x1024_d0))
        (sitofp .f32 (constantI S_ 32 0#32))
        pads_S1x2x1x1x1024_S4x3x40x1x1024_300_010_3270_000_000 h_S_ _ = _
  pointwise []
  after_reads_simp
  pointwise []

theorem v11_scale (n : Fin 1024) :
    (V m c main_v11 : FVec Ideal S4x3x40x1x1024 .f32) (ix5 3 1 32 0 n) = a2 m c (ix1 n) := by
  unfold_abbrev_sides
  after_reads_simp
  show pad S4x3x40x1x1024 ![3, 0, 32, 0, 0] ![0, 1, 7, 0, 0] ![0, 0, 0, 0, 0]
        (broadcastInDim S1x2x1x1x1024 ![1, 4] bcast_S2x1024_S1x2x1x1x1024_1_4
            (concatenate S2x1024 0 [⟨S1x1024, _⟩, ⟨S1x1024, _⟩] concatenates_S1x1024_S1x1024_S2x1024_d0))
        (sitofp .f32 (constantI S_ 32 0#32))
        pads_S1x2x1x1x1024_S4x3x40x1x1024_300_010_3270_000_000 h_S_ _ = _
  pointwise []
  after_reads_simp
  pointwise []

variable (t : Fin cfg0.N)

/-- The batch a grid step works on. -/
def batch (t : Fin cfg0.N) : Fin 32 := grid0.coords t 0

theorem index0 (t : Fin cfg0.N) : win0_0.index t = ![(batch t).val, 0, 0] := (by decide +kernel : ∀ t : Fin grid0.N, win0_0.index t = ![(batch t).val, 0, 0]) t
theorem index1 (t : Fin cfg0.N) : win0_1.index t = ![3, 0, 32, 0, 0] := (by decide +kernel : ∀ t : Fin grid0.N, win0_1.index t = ![3, 0, 32, 0, 0]) t
theorem index2 (t : Fin cfg0.N) : win0_2.index t = ![3, 1, 32, 0, 0] := (by decide +kernel : ∀ t : Fin grid0.N, win0_2.index t = ![3, 1, 32, 0, 0]) t
theorem index3 (t : Fin cfg0.N) : win0_3.index t = ![0, 0] := (by decide +kernel : ∀ t : Fin grid0.N, win0_3.index t = ![0, 0]) t
theorem index4 (t : Fin cfg0.N) : win0_4.index t = ![(batch t).val, 0, 0] := (by decide +kernel : ∀ t : Fin grid0.N, win0_4.index t = ![(batch t).val, 0, 0]) t

theorem block0 (i : Fin 256) (k : Fin 1024) : (iblk m c 0 t : FVec Ideal S1x256x1024 .f32) (ix3 0 i k) = a0 m c (ix3 (batch t) i k) := by
  blk_simp [iblk]
  refine Eq.trans (congrArg (V m c main_arg0) ?_) (congrFun (V_main_arg0 m c) _)
  blk_ext [index0]

theorem block1 (k : Fin 1024) : (iblk m c 1 t : FVec Ideal S1x1x1x1x1024 .f32) (ix5 0 0 0 0 k) = a1 m c (ix1 k) := by
  blk_simp [iblk]
  refine Eq.trans (congrArg (V m c main_v11) ?_) (v11_shift m c k)
  blk_ext [index1]

theorem block2 (k : Fin 1024) : (iblk m c 2 t : FVec Ideal S1x1x1x1x1024 .f32) (ix5 0 0 0 0 k) = a2 m c (ix1 k) := by
  blk_simp [iblk]
  refine Eq.trans (congrArg (V m c main_v11) ?_) (v11_scale m c k)
  blk_ext [index2]

theorem block3 (k : Fin 1024) (n : Fin 2048) : (iblk m c 3 t : FVec Ideal S1024x2048 .bf16) (ix2 k n) = a3 m c (ix2 k ⟨1024 + n.val, by omega⟩) := by
  blk_simp [iblk]
  refine Eq.trans (congrArg (V m c main_v12) ?_) (v12_apply m c k n)
  blk_ext [index3]

end Cert.Kernel5Ideal.Kv
end
-- ==== Proof.CtxKVRef.lean ====
/- The keys and values that mixer B makes of the context, as sums, and the reference read as those sums. -/
module

public import proofs.«01_k».proof.Proof.Softmax
public import proofs.«01_k».proof.Proof.Gen.Reference5Ideal.Run
public import Idealize.ShloMosaic.Lib.Pointwise

@[expose] public section

set_option maxRecDepth 16384
noncomputable section

namespace Cert.Reference5Ideal.Kv
open Idealize.ShloMosaic Idealize.ShloMosaic.TcCoe
open Idealize.SL Idealize.SL.Sem
open Cert.Reference5Ideal Cert.Reference5Ideal.Gen

/-- The modulated row of a context entry. -/
def row (x : FVec Ideal S32x256x1024 .f32) (shift scale : FVec Ideal S1024 .f32) (b : Fin 32) (i : Fin 256) (k : Fin 1024) : EReal :=
  x (ix3 b i k) * (Ideal.ofBits .f32 0x3F800000#32 + scale (ix1 k)) + shift (ix1 k)

/-- Keys and values side by side. -/
def packed (x : FVec Ideal S32x256x1024 .f32) (shift scale : FVec Ideal S1024 .f32) (w : FVec Ideal S1024x4096 .f32) : FVec Ideal S32x256x2048 .bf16 := fun y =>
  ∑ k : Fin 1024, row x shift scale (y 0) (y 1) k * w (ix2 k ⟨1024 + (y 2).val, by have : (y 2).val < 2048 := (y 2).isLt; omega⟩)

variable (m : (ℓ : Loc nD τ sig) → Buf (Elt Ideal) ℓ) (ρ : Dev nD → PrngReg)

theorem run_packed : θ_run defs (onTc (τ := τ) (main (F := Ideal))) ⟨m, fun _ => 0, ρ⟩ fun r => ∀ c : Dev nD,
      r.2.mem ((c.tc : Thread nD τ).loc main_v14) = packed (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.Reference5Ideal.Value.run (F := Ideal) m ρ)
  generalize m ((c.tc : Thread nD τ).loc main_arg0) = x
  generalize m ((c.tc : Thread nD τ).loc main_arg1) = shift
  generalize m ((c.tc : Thread nD τ).loc main_arg2) = scale
  generalize m ((c.tc : Thread nD τ).loc main_arg3) = w
  funext y
  obtain ⟨b, i, n, rfl⟩ : ∃ (b : Fin 32) (i : Fin 256) (n : Fin 2048), y = ix3 b i n := ⟨y 0, y 1, y 2, funext fun a => by fin_cases a <;> rfl⟩
  unfold packed row
  pointwise [dot_S32x256x1024_S1024x4096_S32x256x4096_2_0_01_1_n_n]
  by_cases h : n.val < 1024
  · rw [dif_pos h]
  · rw [dif_neg h]
    refine Finset.sum_congr rfl fun k _ => congrArg (_ * ·) (congrArg (fun j => w (ix2 k j)) (Fin.ext ?_))
    show 2048 + (n.val - 1024) = 1024 + n.val
    omega

end Cert.Reference5Ideal.Kv
end
-- ==== Proof.CtxKVAgree.lean ====
/- The claims for the context's keys and values: its runs, and its result beside the reference's. -/
module

public import proofs.«01_k».proof.Defs
public import proofs.«01_k».proof.Proof.CtxKVHost
public import proofs.«01_k».proof.Proof.CtxKVRef
public import proofs.«01_k».proof.Proof.ProjAgree
public import proofs.«01_k».proof.Proof.Gen.Kernel5.Frame

@[expose] public section

set_option maxRecDepth 16384
noncomputable section

namespace Cert.Kernel5Ideal.Kv
open Idealize.ShloMosaic Idealize.ShloMosaic.TcCoe
open Idealize.SL Idealize.SL.Sem
open Idealize.ShloMosaic.Pipeline (Dat)
open Cert.Kernel5Ideal Cert.Kernel5Ideal.Gen
open Cert.Reference5Ideal.Kv (packed row)

variable (m : (ℓ : Loc nD τ sig) → Buf (Elt Ideal) ℓ) (c : Dev nD) (t : Fin cfg0.N)

/-- A row a grid step modulates is the reference's row. -/
theorem rows_eq (i : Fin 256) (k : Fin 1024) : (k0_pay11 (iblk m c 0 t) (iblk m c 1 t) (iblk m c 2 t) (iblk m c 3 t) : FVec Ideal S256x1024 .bf16) (ix2 i k)
    = row (a0 m c) (a1 m c) (a2 m c) (batch t) i k := by
  rw [rows_apply]
  unfold row
  exact congrArg₂ (· + ·) (congrArg₂ (· * ·) (block0 m c t i k) (congrArg (_ + ·) (block2 m c t k))) (block1 m c t k)

/-- What a grid step leaves in its block of the result, as the reference's result at the step's rows. -/
theorem step_apply (i : Fin 256) (n : Fin 2048) :
    (out0_4 (iblk m c 0 t) (iblk m c 1 t) (iblk m c 2 t) (iblk m c 3 t) : FVec Ideal S1x256x2048 .bf16) (ix3 0 i n)
      = packed (a0 m c) (a1 m c) (a2 m c) (a3 m c) (ix3 (batch t) i n) := by
  rw [out_apply]
  unfold block packed
  exact Finset.sum_congr rfl fun k _ => congrArg₂ (· * ·) (rows_eq m c t i k) (block3 m c t k n)

/-- The result's array after the run. -/
theorem result_eq_packed : (dats m 0 c).arrAt 4 cfg0.N = packed (a0 m c) (a1 m c) (a2 m c) (a3 m c) := by
  refine (dats m 0 c).arrAt_eq_of_covers 4 _ (by decide +kernel) fun t hf y => ?_
  change S1x256x2048.Idx at y
  blk_simp
  rw [after0_4]
  obtain ⟨y0, y1, y2, rfl⟩ : ∃ (y0 : Fin 1) (y1 : Fin 256) (y2 : Fin 2048), y = ix3 y0 y1 y2 := ⟨y 0, y 1, y 2, funext fun a => by fin_cases a <;> rfl⟩
  obtain rfl : y0 = 0 := Subsingleton.elim _ _
  refine (step_apply m c t y1 y2).trans (congrArg _ ?_)
  blk_ext [index4]

end Cert.Kernel5Ideal.Kv

namespace Cert.Proof
open Idealize.ShloMosaic Idealize.SL.Sem
open Cert.Reference5Ideal.Kv (packed)

theorem frame_kernel5 : Cert.quiescent_Kernel5 := fun m ρ _ => Cert.Kernel5.Gen.frame m ρ
theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves5 : Cert.preserves_Kernel5_Kernel5Ideal := trivial

/-- Equal arguments give equal results. -/
theorem packedKV_congr {x0 y0 : FVec Ideal Reference5Ideal.S32x256x1024 .f32} {x1 y1 x2 y2 : FVec Ideal Reference5Ideal.S1024 .f32} {x3 y3 : FVec Ideal Reference5Ideal.S1024x4096 .f32}
    (e0 : x0 = y0) (e1 : x1 = y1) (e2 : x2 = y2) (e3 : x3 = y3) : packed x0 x1 x2 x3 = packed y0 y1 y2 y3 := by
  subst e0 e1 e2 e3
  rfl

theorem algebraic5 : Cert.algebraic_Kernel5Ideal_Reference5Ideal := by
  intro m ρ m' ρ' _ hagree
  refine ⟨fun c => packed (Kernel5Ideal.Kv.a0 m c) (Kernel5Ideal.Kv.a1 m c) (Kernel5Ideal.Kv.a2 m c) (Kernel5Ideal.Kv.a3 m c), ?_, ?_⟩
  · exact (θ_run Cert.Kernel5Ideal.defs _ _).mono (fun r h c => ⟨(h c).1.trans (Kernel5Ideal.Kv.result_eq_packed m c), (h c).2⟩) (Cert.Kernel5Ideal.Value.run_blocks (F := Ideal) m ρ)
  · refine (θ_run Cert.Reference5Ideal.defs _ _).mono (fun r h c => ⟨(h c).1.trans ?_, (h c).2⟩) (Cert.Reference5Ideal.Kv.run_packed m' ρ')
    obtain ⟨e0, e1, e2, e3⟩ := hagree c
    exact packedKV_congr e0 e1 e2 e3

end Cert.Proof
end
-- ==== Proof.CtxA.lean ====
/- The projection that mixer A makes of the context: what one grid step stores, read at an index of its blocks. -/
module

public import proofs.«01_k».proof.Proof.Softmax
public import proofs.«01_k».proof.Proof.Gen.Kernel6Ideal.Value
public import Idealize.ShloMosaic.Lib.Pointwise
public import Idealize.ShloMosaic.Lib.Pipeline.ValueKit

@[expose] public section

set_option maxRecDepth 16384
noncomputable section

namespace Cert.Kernel6Ideal.CtxA
open Idealize.ShloMosaic Idealize.ShloMosaic.TcCoe
open Idealize.SL Idealize.SL.Sem
open Cert.Kernel6Ideal Cert.Kernel6Ideal.Gen

/-- The product of the rows with 256 columns of the weights, as the body stores it. -/
def plain (u : FVec Ideal S256x1024 .bf16) (w : FVec Ideal S1024x256 .bf16) : FVec Ideal S1x256x256 .bf16 :=
  shapeCast S1x256x256 (truncf .bf16 (matmul dot_S256x1024_S1024x256_S256x256_1_0_0_1_n_n none u
    (shapeCast S1024x256 w shapeCasts_S1024x256_S1024x256) (constant S256x256 .f32 0x00000000#32)) bitsLt_bf16_f32) shapeCasts_S256x256_S1x256x256

/-- The product of 256 rows of the transposed weights with the rows. -/
def dotsT (u : FVec Ideal S256x1024 .bf16) (w : FVec Ideal S256x1024 .bf16) : FVec Ideal S256x256 .f32 :=
  matmul dot_S256x1024_S256x1024_S256x256_1_1_0_0_n_n none (shapeCast S256x1024 w shapeCasts_S256x1024_S256x1024) u (constant S256x256 .f32 0x00000000#32)

/-- The values' product as the body stores it. -/
def vals (u : FVec Ideal S256x1024 .bf16) (w : FVec Ideal S256x1024 .bf16) : FVec Ideal S1x256x256 .bf16 :=
  shapeCast S1x256x256 (truncf .bf16 (dotsT u w) bitsLt_bf16_f32) shapeCasts_S256x256_S1x256x256

/-- The queries' product, times the constant, as the body stores it. -/
def queries (u : FVec Ideal S256x1024 .bf16) (w : FVec Ideal S256x1024 .bf16) : FVec Ideal S1x256x256 .bf16 :=
  shapeCast S1x256x256 (truncf .bf16 (mulf (dotsT u w) (broadcast S256x256 (Named.named κ "log2e" 0x3FB8AA3B#32))) bitsLt_bf16_f32) shapeCasts_S256x256_S1x256x256

theorem plain_apply (u : FVec Ideal S256x1024 .bf16) (w : FVec Ideal S1024x256 .bf16) (i : Fin 256) (n : Fin 256) :
    plain u w (ix3 0 i n) = ∑ k : Fin 1024, u (ix2 i k) * w (ix2 k n) := by
  unfold plain
  pointwise [dot_S256x1024_S1024x256_S256x256_1_0_0_1_n_n]

theorem dotsT_apply (u : FVec Ideal S256x1024 .bf16) (w : FVec Ideal S256x1024 .bf16) (n : Fin 256) (i : Fin 256) :
    dotsT u w (ix2 n i) = ∑ k : Fin 1024, u (ix2 i k) * w (ix2 n k) := by
  unfold dotsT
  pointwise [dot_S256x1024_S256x1024_S256x256_1_1_0_0_n_n]
  exact Finset.sum_congr rfl fun k _ => mul_comm _ _

theorem vals_apply (u : FVec Ideal S256x1024 .bf16) (w : FVec Ideal S256x1024 .bf16) (n : Fin 256) (i : Fin 256) :
    vals u w (ix3 0 n i) = ∑ k : Fin 1024, u (ix2 i k) * w (ix2 n k) := by
  refine Eq.trans ?_ (dotsT_apply u w n i)
  unfold vals
  pointwise []

theorem queries_apply (u : FVec Ideal S256x1024 .bf16) (w : FVec Ideal S256x1024 .bf16) (n : Fin 256) (i : Fin 256) :
    queries u w (ix3 0 n i) = (∑ k : Fin 1024, u (ix2 i k) * w (ix2 n k)) * ((Softmax.lg : ℝ) : EReal) := by
  rw [← dotsT_apply]
  unfold queries
  pointwise []
  rfl

/-- What a grid step leaves in its block of rows: gates and keys. -/
def rowsBlock (u : FVec Ideal S256x1024 .bf16) (w : FVec Ideal S1024x1280 .bf16) (y : S1x256x1280.Idx) : EReal :=
  ∑ k : Fin 1024, u (ix2 (y 1) k) * w (ix2 k (y 2))

/-- What it leaves in its block of columns: queries times the constant, and values. -/
def colsBlock (u : FVec Ideal S256x1024 .bf16) (w : FVec Ideal S1280x1024 .bf16) (y : S1x1280x256.Idx) : EReal :=
  if (y 1).val < 1024 then (∑ k : Fin 1024, u (ix2 (y 2) k) * w (ix2 (y 1) k)) * ((Softmax.lg : ℝ) : EReal)
  else ∑ k : Fin 1024, u (ix2 (y 2) k) * w (ix2 (y 1) k)

/-- Where a store of 256 columns lies in the block of rows. -/
theorem rows_emb (o : ℕ) (inb' : ∀ a, ![0, 0, o] a + S1x256x256.size a ≤ S1x256x1280.size a) (x1 : Fin 256) (x2 : Fin 256) :
    (Rect.unit (s := S1x256x1280) ![0, 0, o] S1x256x256.size inb').emb (ix3 0 x1 x2) = ix3 0 x1 ⟨o + x2.val, by have h : o + 256 ≤ 1280 := inb' 2; omega⟩ := by
  funext a
  refine Fin.ext ?_
  rw [Rect.emb_apply]
  match a with
  | ⟨0, _⟩ => rfl
  | ⟨1, _⟩ => show 0 + 1 * x1.val = x1.val; omega
  | ⟨2, _⟩ => show o + 1 * x2.val = o + x2.val; omega

/-- Where a store of 256 rows lies in the block of columns. -/
theorem cols_emb (o : ℕ) (inb' : ∀ a, ![0, o, 0] a + S1x256x256.size a ≤ S1x1280x256.size a) (x1 : Fin 256) (x2 : Fin 256) :
    (Rect.unit (s := S1x1280x256) ![0, o, 0] S1x256x256.size inb').emb (ix3 0 x1 x2) = ix3 0 ⟨o + x1.val, by have h : o + 256 ≤ 1280 := inb' 1; omega⟩ x2 := by
  funext a
  refine Fin.ext ?_
  rw [Rect.emb_apply]
  match a with
  | ⟨0, _⟩ => rfl
  | ⟨1, _⟩ => show o + 1 * x1.val = o + x1.val; omega
  | ⟨2, _⟩ => show 0 + 1 * x2.val = x2.val; omega

/-- The columns of the weights a product reads. -/
theorem ld_cols (w : FVec Ideal S1024x1280 .bf16) (o : ℕ) (inb : ∀ a, ![0, o] a + S1024x256.size a ≤ S1024x1280.size a) (k : Fin 1024) (n : Fin 256) :
    View.ld (Val := Elt Ideal) (e' := .bf16) w (Rect.unit (s := S1024x1280) ![0, o] S1024x256.size inb) (ix2 k n) = w (ix2 k ⟨o + n.val, by have h : o + 256 ≤ 1280 := inb 1; omega⟩) := by
  refine View.ld_unit_apply_of (Val := Elt Ideal) (e := .bf16) w _ _ _ _ _ fun a => ?_
  match a with
  | ⟨0, _⟩ => exact (Nat.zero_add _).symm
  | ⟨1, _⟩ => rfl

/-- The rows of the transposed weights a product reads. -/
theorem ld_rows (w : FVec Ideal S1280x1024 .bf16) (o : ℕ) (inb : ∀ a, ![o, 0] a + S256x1024.size a ≤ S1280x1024.size a) (n : Fin 256) (k : Fin 1024) :
    View.ld (Val := Elt Ideal) (e' := .bf16) w (Rect.unit (s := S1280x1024) ![o, 0] S256x1024.size inb) (ix2 n k) = w (ix2 ⟨o + n.val, by have h : o + 256 ≤ 1280 := inb 0; omega⟩ k) := by
  refine View.ld_unit_apply_of (Val := Elt Ideal) (e := .bf16) w _ _ _ _ _ fun a => ?_
  match a with
  | ⟨0, _⟩ => rfl
  | ⟨1, _⟩ => exact (Nat.zero_add _).symm

theorem plain_piece (u : FVec Ideal S256x1024 .bf16) (w : FVec Ideal S1024x1280 .bf16) (o : ℕ)
    (inb : ∀ a, ![0, o] a + S1024x256.size a ≤ S1024x1280.size a) (inb' : ∀ a, ![0, 0, o] a + S1x256x256.size a ≤ S1x256x1280.size a) (x : S1x256x256.Idx) :
    plain u (View.ld (Val := Elt Ideal) (e' := .bf16) w (Rect.unit (s := S1024x1280) ![0, o] S1024x256.size inb)) x
      = rowsBlock u w ((Rect.unit (s := S1x256x1280) ![0, 0, o] S1x256x256.size inb').emb x) := by
  obtain ⟨x0, x1, x2, rfl⟩ : ∃ (x0 : Fin 1) (x1 : Fin 256) (x2 : Fin 256), x = ix3 x0 x1 x2 := ⟨x 0, x 1, x 2, funext fun a => by fin_cases a <;> rfl⟩
  obtain rfl : x0 = 0 := Subsingleton.elim _ _
  rw [plain_apply, rows_emb]
  unfold rowsBlock
  exact Finset.sum_congr rfl fun k _ => congrArg (_ * ·) (ld_cols w o inb k x2)

theorem queries_piece (u : FVec Ideal S256x1024 .bf16) (w : FVec Ideal S1280x1024 .bf16) (o : ℕ) (ho : o + 256 ≤ 1024)
    (inb : ∀ a, ![o, 0] a + S256x1024.size a ≤ S1280x1024.size a) (inb' : ∀ a, ![0, o, 0] a + S1x256x256.size a ≤ S1x1280x256.size a) (x : S1x256x256.Idx) :
    queries u (View.ld (Val := Elt Ideal) (e' := .bf16) w (Rect.unit (s := S1280x1024) ![o, 0] S256x1024.size inb)) x
      = colsBlock u w ((Rect.unit (s := S1x1280x256) ![0, o, 0] S1x256x256.size inb').emb x) := by
  obtain ⟨x0, x1, x2, rfl⟩ : ∃ (x0 : Fin 1) (x1 : Fin 256) (x2 : Fin 256), x = ix3 x0 x1 x2 := ⟨x 0, x 1, x 2, funext fun a => by fin_cases a <;> rfl⟩
  obtain rfl : x0 = 0 := Subsingleton.elim _ _
  rw [queries_apply, cols_emb]
  unfold colsBlock
  refine Eq.trans ?_ (if_pos (show o + x1.val < 1024 by omega)).symm
  exact congrArg (· * _) (Finset.sum_congr rfl fun k _ => congrArg (_ * ·) (ld_rows w o inb x1 k))

theorem vals_piece (u : FVec Ideal S256x1024 .bf16) (w : FVec Ideal S1280x1024 .bf16)
    (inb : ∀ a, ![1024, 0] a + S256x1024.size a ≤ S1280x1024.size a) (inb' : ∀ a, ![0, 1024, 0] a + S1x256x256.size a ≤ S1x1280x256.size a) (x : S1x256x256.Idx) :
    vals u (View.ld (Val := Elt Ideal) (e' := .bf16) w (Rect.unit (s := S1280x1024) ![1024, 0] S256x1024.size inb)) x
      = colsBlock u w ((Rect.unit (s := S1x1280x256) ![0, 1024, 0] S1x256x256.size inb').emb x) := by
  obtain ⟨x0, x1, x2, rfl⟩ : ∃ (x0 : Fin 1) (x1 : Fin 256) (x2 : Fin 256), x = ix3 x0 x1 x2 := ⟨x 0, x 1, x 2, funext fun a => by fin_cases a <;> rfl⟩
  obtain rfl : x0 = 0 := Subsingleton.elim _ _
  rw [vals_apply, cols_emb]
  unfold colsBlock
  refine Eq.trans ?_ (if_neg (show ¬ 1024 + x1.val < 1024 by omega)).symm
  exact Finset.sum_congr rfl fun k _ => congrArg (_ * ·) (ld_rows w 1024 inb x1 k)

variable (x0 : Vec Ideal S1x256x1024 .f32) (x1 x2 : Vec Ideal S1x1x1x1x1024 .f32) (x3 : Vec Ideal S1024x1280 .bf16) (x4 : Vec Ideal S1280x1024 .bf16)

/-- The modulated rows of a grid step. -/
theorem rows_apply (i : Fin 256) (k : Fin 1024) :
    (k0_pay13 x0 x1 x2 x3 x4 : FVec Ideal S256x1024 .bf16) (ix2 i k)
      = (x0 : FVec Ideal S1x256x1024 .f32) (ix3 0 i k) * (Ideal.ofBits .f32 0x3F800000#32 + (x2 : FVec Ideal S1x1x1x1x1024 .f32) (ix5 0 0 0 0 k))
        + (x1 : FVec Ideal S1x1x1x1x1024 .f32) (ix5 0 0 0 0 k) := by
  unfold k0_pay13 k0_pay1
  rw [View.ld_unit_zero (S := S1x256x1024) (by decide), View.ld_unit_zero (S := S1x1x1x1x1024) (by decide), View.ld_unit_zero (S := S1x1x1x1x1024) (by decide)]
  pointwise []

/-- The block of rows after a grid step. -/
theorem out5_apply (y : S1x256x1280.Idx) :
    (out0_5 x0 x1 x2 x3 x4 : FVec Ideal S1x256x1280 .bf16) y = rowsBlock (k0_pay13 x0 x1 x2 x3 x4) x3 y := by
  unfold out0_5
  refine View.canon_apply_of_pieces (Val := Elt Ideal) (e := .bf16) (rowsBlock (k0_pay13 x0 x1 x2 x3 x4) x3) _ ?_ y (cover0_5 _ _ _ _ _ y)
  exact List.forall_mem_cons.2 ⟨fun x => plain_piece _ _ 1024 (by decide) (by decide) x,
    List.forall_mem_cons.2 ⟨fun x => plain_piece _ _ 768 (by decide) (by decide) x,
    List.forall_mem_cons.2 ⟨fun x => plain_piece _ _ 512 (by decide) (by decide) x,
    List.forall_mem_cons.2 ⟨fun x => plain_piece _ _ 256 (by decide) (by decide) x,
    List.forall_mem_cons.2 ⟨fun x => plain_piece _ _ 0 (by decide) (by decide) x, List.forall_mem_nil _⟩⟩⟩⟩⟩

/-- The block of columns after a grid step. -/
theorem out6_apply (y : S1x1280x256.Idx) :
    (out0_6 x0 x1 x2 x3 x4 : FVec Ideal S1x1280x256 .bf16) y = colsBlock (k0_pay13 x0 x1 x2 x3 x4) x4 y := by
  unfold out0_6
  refine View.canon_apply_of_pieces (Val := Elt Ideal) (e := .bf16) (colsBlock (k0_pay13 x0 x1 x2 x3 x4) x4) _ ?_ y (cover0_6 _ _ _ _ _ y)
  exact List.forall_mem_cons.2 ⟨fun x => vals_piece _ _ (by decide) (by decide) x,
    List.forall_mem_cons.2 ⟨fun x => queries_piece _ _ 768 (by decide) (by decide) (by decide) x,
    List.forall_mem_cons.2 ⟨fun x => queries_piece _ _ 512 (by decide) (by decide) (by decide) x,
    List.forall_mem_cons.2 ⟨fun x => queries_piece _ _ 256 (by decide) (by decide) (by decide) x,
    List.forall_mem_cons.2 ⟨fun x => queries_piece _ _ 0 (by decide) (by decide) (by decide) x, List.forall_mem_nil _⟩⟩⟩⟩⟩

end Cert.Kernel6Ideal.CtxA
end
-- ==== Proof.CtxAHost.lean ====
/- The arrays the blocks of the projection that mixer A makes of the context are cut from, and its blocks, in terms of the arguments. -/
module

public import proofs.«01_k».proof.Proof.CtxA
public import proofs.«01_k».proof.Proof.Norm
public import Idealize.ShloMosaic.Lib.StableHlo.RunRead

@[expose] public section

set_option maxRecDepth 16384
noncomputable section

namespace Cert.Kernel6Ideal.CtxA
open Idealize.ShloMosaic Idealize.ShloMosaic.TcCoe
open Idealize.SL Idealize.SL.Sem
open Cert.Kernel6Ideal Cert.Kernel6Ideal.Gen Idealize.ShloMosaic.StableHlo

variable (m : (ℓ : Loc nD τ sig) → Buf (Elt Ideal) ℓ) (c : Dev nD)

/-! The arguments' contents. -/
abbrev a0 : FVec Ideal S32x256x1024 .f32 := m ((c : Thread nD τ).loc main_arg0)
abbrev a1 : FVec Ideal S1024 .f32 := m ((c : Thread nD τ).loc main_arg1)
abbrev a2 : FVec Ideal S1024 .f32 := m ((c : Thread nD τ).loc main_arg2)
abbrev a3 : FVec Ideal S1024x2560 .f32 := m ((c : Thread nD τ).loc main_arg3)

theorem v14_gates (k n : Fin 1024) :
    (V m c main_v14 : FVec Ideal S1024x1280 .bf16) (ix2 k ⟨n.val, by omega⟩) = a3 m c (ix2 k ⟨1536 + (Softmax.swap n).val, by have := (Softmax.swap n).isLt; omega⟩) := by
  unfold_abbrev_sides
  after_reads_simp
  pointwise []
  after_reads_simp
  pointwise []
  rfl

theorem v14_keys (k : Fin 1024) (n : Fin 256) :
    (V m c main_v14 : FVec Ideal S1024x1280 .bf16) (ix2 k ⟨1024 + n.val, by omega⟩) = a3 m c (ix2 k ⟨1024 + n.val, by omega⟩) := by
  unfold_abbrev_sides
  after_reads_simp
  pointwise []
  after_reads_simp
  pointwise []

theorem v17_queries (k n : Fin 1024) :
    (V m c main_v17 : FVec Ideal S1280x1024 .bf16) (ix2 ⟨n.val, by omega⟩ k) = a3 m c (ix2 k ⟨(Softmax.swap n).val, by have := (Softmax.swap n).isLt; omega⟩) * Ideal.ofBits .f32 0x3E000000#32 := by
  unfold_abbrev_sides
  after_reads_simp
  pointwise []
  after_reads_simp
  pointwise []
  rfl

theorem v17_vals (k : Fin 1024) (n : Fin 256) :
    (V m c main_v17 : FVec Ideal S1280x1024 .bf16) (ix2 ⟨1024 + n.val, by omega⟩ k) = a3 m c (ix2 k ⟨1280 + n.val, by omega⟩) := by
  unfold_abbrev_sides
  after_reads_simp
  pointwise []
  after_reads_simp
  pointwise []

theorem v26_shift (n : Fin 1024) :
    (V m c main_v26 : FVec Ideal S4x3x40x1x1024 .f32) (ix5 0 0 32 0 n) = a1 m c (ix1 n) := by
  unfold_abbrev_sides
  after_reads_simp
  show pad S4x3x40x1x1024 ![0, 0, 32, 0, 0] ![3, 1, 7, 0, 0] ![0, 0, 0, 0, 0]
        (broadcastInDim S1x2x1x1x1024 ![1, 4] bcast_S2x1024_S1x2x1x1x1024_1_4
            (concatenate S2x1024 0 [⟨S1x1024, _⟩, ⟨S1x1024, _⟩] concatenates_S1x1024_S1x1024_S2x1024_d0))
        (sitofp .f32 (constantI S_ 32 0#32))
        pads_S1x2x1x1x1024_S4x3x40x1x1024_030_010_3270_000_000 h_S_ _ = _
  pointwise []
  after_reads_simp
  pointwise []

theorem v26_scale (n : Fin 1024) :
    (V m c main_v26 : FVec Ideal S4x3x40x1x1024 .f32) (ix5 0 1 32 0 n) = a2 m c (ix1 n) := by
  unfold_abbrev_sides
  after_reads_simp
  show pad S4x3x40x1x1024 ![0, 0, 32, 0, 0] ![3, 1, 7, 0, 0] ![0, 0, 0, 0, 0]
        (broadcastInDim S1x2x1x1x1024 ![1, 4] bcast_S2x1024_S1x2x1x1x1024_1_4
            (concatenate S2x1024 0 [⟨S1x1024, _⟩, ⟨S1x1024, _⟩] concatenates_S1x1024_S1x1024_S2x1024_d0))
        (sitofp .f32 (constantI S_ 32 0#32))
        pads_S1x2x1x1x1024_S4x3x40x1x1024_030_010_3270_000_000 h_S_ _ = _
  pointwise []
  after_reads_simp
  pointwise []

variable (t : Fin cfg0.N)

/-- The batch a grid step works on. -/
def batch (t : Fin cfg0.N) : Fin 32 := grid0.coords t 0

theorem index0 (t : Fin cfg0.N) : win0_0.index t = ![(batch t).val, 0, 0] := (by decide +kernel : ∀ t : Fin grid0.N, win0_0.index t = ![(batch t).val, 0, 0]) t
theorem index1 (t : Fin cfg0.N) : win0_1.index t = ![0, 0, 32, 0, 0] := (by decide +kernel : ∀ t : Fin grid0.N, win0_1.index t = ![0, 0, 32, 0, 0]) t
theorem index2 (t : Fin cfg0.N) : win0_2.index t = ![0, 1, 32, 0, 0] := (by decide +kernel : ∀ t : Fin grid0.N, win0_2.index t = ![0, 1, 32, 0, 0]) t
theorem index3 (t : Fin cfg0.N) : win0_3.index t = ![0, 0] := (by decide +kernel : ∀ t : Fin grid0.N, win0_3.index t = ![0, 0]) t
theorem index4 (t : Fin cfg0.N) : win0_4.index t = ![0, 0] := (by decide +kernel : ∀ t : Fin grid0.N, win0_4.index t = ![0, 0]) t
theorem index5 (t : Fin cfg0.N) : win0_5.index t = ![(batch t).val, 0, 0] := (by decide +kernel : ∀ t : Fin grid0.N, win0_5.index t = ![(batch t).val, 0, 0]) t
theorem index6 (t : Fin cfg0.N) : win0_6.index t = ![(batch t).val, 0, 0] := (by decide +kernel : ∀ t : Fin grid0.N, win0_6.index t = ![(batch t).val, 0, 0]) t

theorem block0 (i : Fin 256) (k : Fin 1024) : (iblk m c 0 t : FVec Ideal S1x256x1024 .f32) (ix3 0 i k) = a0 m c (ix3 (batch t) i k) := by
  blk_simp [iblk]
  refine Eq.trans (congrArg (V m c main_arg0) ?_) (congrFun (V_main_arg0 m c) _)
  blk_ext [index0]

theorem block1 (k : Fin 1024) : (iblk m c 1 t : FVec Ideal S1x1x1x1x1024 .f32) (ix5 0 0 0 0 k) = a1 m c (ix1 k) := by
  blk_simp [iblk]
  refine Eq.trans (congrArg (V m c main_v26) ?_) (v26_shift m c k)
  blk_ext [index1]

theorem block2 (k : Fin 1024) : (iblk m c 2 t : FVec Ideal S1x1x1x1x1024 .f32) (ix5 0 0 0 0 k) = a2 m c (ix1 k) := by
  blk_simp [iblk]
  refine Eq.trans (congrArg (V m c main_v26) ?_) (v26_scale m c k)
  blk_ext [index2]

theorem block3 (k : Fin 1024) (n : Fin 1280) : (iblk m c 3 t : FVec Ideal S1024x1280 .bf16) (ix2 k n) = (V m c main_v14 : FVec Ideal S1024x1280 .bf16) (ix2 k n) := by
  blk_simp [iblk]
  refine congrArg (V m c main_v14) ?_
  blk_ext [index3]

theorem block4 (n : Fin 1280) (k : Fin 1024) : (iblk m c 4 t : FVec Ideal S1280x1024 .bf16) (ix2 n k) = (V m c main_v17 : FVec Ideal S1280x1024 .bf16) (ix2 n k) := by
  blk_simp [iblk]
  refine congrArg (V m c main_v17) ?_
  blk_ext [index4]

end Cert.Kernel6Ideal.CtxA
end
-- ==== Proof.CtxARef.lean ====
/- The projection that mixer A makes of the context, as sums, and the reference read as them. -/
module

public import proofs.«01_k».proof.Proof.ProjRef
public import proofs.«01_k».proof.Proof.Norm
public import proofs.«01_k».proof.Proof.Gen.Reference6Ideal.Read
public import Idealize.ShloMosaic.Lib.Pointwise

@[expose] public section

set_option maxRecDepth 16384
noncomputable section

namespace Cert.Reference6Ideal.CtxA
open Idealize.ShloMosaic Idealize.ShloMosaic.TcCoe
open Idealize.SL Idealize.SL.Sem
open Cert.Reference6Ideal Cert.Reference6Ideal.Gen
open Cert.Reference6Ideal.Read
open Cert.Reference2Ideal.Proj (log_read div_log_two)

variable (x : FVec Ideal S32x256x1024 .f32) (shift scale : FVec Ideal S1024 .f32) (w : FVec Ideal S1024x2560 .f32)

/-- The modulated row of a context entry. -/
def row (b : Fin 32) (i : Fin 256) (k : Fin 1024) : EReal :=
  x (ix3 b i k) * (Ideal.ofBits .f32 0x3F800000#32 + scale (ix1 k)) + shift (ix1 k)

/-- The projection of a context entry. -/
def proj (b : Fin 32) (i : Fin 256) (n : Fin 2560) : EReal := ∑ k : Fin 1024, row x shift scale b i k * w (ix2 k n)

/-- Gates and keys side by side. -/
def rowsOf : FVec Ideal S32x256x1280 .bf16 := fun y =>
  if h : (y 2).val < 1024 then proj x shift scale w (y 0) (y 1) ⟨1536 + (Softmax.swap ⟨(y 2).val, h⟩).val, by have := (Softmax.swap ⟨(y 2).val, h⟩).isLt; omega⟩
  else proj x shift scale w (y 0) (y 1) ⟨(y 2).val, by have : (y 2).val < 1280 := (y 2).isLt; omega⟩

/-- Scaled queries, and values, transposed. -/
def colsOf : FVec Ideal S32x1280x256 .bf16 := fun y =>
  if h : (y 1).val < 1024 then proj x shift scale w (y 0) (y 2) ⟨(Softmax.swap ⟨(y 1).val, h⟩).val, by have := (Softmax.swap ⟨(y 1).val, h⟩).isLt; omega⟩
    * Ideal.ofBits .f32 0x3E000000#32 * ((Softmax.lg : ℝ) : EReal)
  else proj x shift scale w (y 0) (y 2) ⟨(y 1).val + 256, by have : (y 1).val < 1280 := (y 1).isLt; omega⟩

theorem v8_apply (b : Fin 32) (i : Fin 256) (n : Fin 2560) : val_main_v8 (F := Ideal) x shift scale w (ix3 b i n) = proj x shift scale w b i n := by
  unfold val_main_v8 val_main_v7 val_main_v6 val_main_v5 val_main_v4 val_main_v3 val_main_v2 val_main_v1 val_main_v0 val_main_cst proj row
  pointwise [dot_S32x256x1024_S1024x2560_S32x256x2560_2_0_01_1_n_n]

theorem proj_congr (b : Fin 32) (i : Fin 256) {n n' : Fin 2560} (e : n.val = n'.val) : proj x shift scale w b i n = proj x shift scale w b i n' :=
  congrArg _ (Fin.ext e)

theorem v18_apply (b : Fin 32) (i : Fin 256) (n : Fin 1024) :
    val_main_v18 (F := Ideal) x shift scale w (ix3 b i n) = proj x shift scale w b i ⟨n.val, by omega⟩ * Ideal.ofBits .f32 0x3E000000#32 * ((Softmax.lg : ℝ) : EReal) := by
  unfold val_main_v18 val_main_v17 val_main_v16 val_main_v15 val_main_cst_1 val_main_v14 val_main_v13 val_main_cst_0 val_main_v9
  pointwise []
  rw [v8_apply]
  exact (congrArg (Ideal.div _) log_read).trans (div_log_two _)

theorem v28_apply : (val_main_v28 (F := Ideal) x shift scale w : FVec Ideal S32x256x1280 .bf16) = rowsOf x shift scale w := by
  funext y
  obtain ⟨b, i, n, rfl⟩ : ∃ (b : Fin 32) (i : Fin 256) (n : Fin 1280), y = ix3 b i n := ⟨y 0, y 1, y 2, funext fun a => by fin_cases a <;> rfl⟩
  unfold rowsOf val_main_v28 val_main_v22
  have hn : n.val < 1280 := n.isLt
  by_cases h : n.val < 1024
  · rw [dif_pos (show ((ix3 b i n : S32x256x1280.Idx) 2).val < 1024 from h)]
    unfold val_main_v21 val_main_v20 val_main_v19 val_main_v12
    pointwise []
    rw [dif_pos h, v8_apply]
    rfl
  · rw [dif_neg (show ¬ ((ix3 b i n : S32x256x1280.Idx) 2).val < 1024 from h)]
    unfold val_main_v10
    pointwise []
    rw [dif_neg h, v8_apply]
    refine proj_congr x shift scale w b i ?_
    show 1024 + (n.val - 1024) = n.val
    omega

theorem v29_apply : (val_main_v29 (F := Ideal) x shift scale w : FVec Ideal S32x1280x256 .bf16) = colsOf x shift scale w := by
  funext y
  obtain ⟨b, n, i, rfl⟩ : ∃ (b : Fin 32) (n : Fin 1280) (i : Fin 256), y = ix3 b n i := ⟨y 0, y 1, y 2, funext fun a => by fin_cases a <;> rfl⟩
  unfold colsOf val_main_v29 val_main_v27 val_main_v26
  have hn : n.val < 1280 := n.isLt
  by_cases h : n.val < 1024
  · rw [dif_pos (show ((ix3 b n i : S32x1280x256.Idx) 1).val < 1024 from h)]
    unfold val_main_v25 val_main_v24 val_main_v23
    pointwise []
    rw [dif_pos h, v18_apply]
    rfl
  · rw [dif_neg (show ¬ ((ix3 b n i : S32x1280x256.Idx) 1).val < 1024 from h)]
    unfold val_main_v11
    pointwise []
    rw [dif_neg h, v8_apply]
    refine proj_congr x shift scale w b i ?_
    show 1280 + (n.val - 1024) = n.val + 256
    omega

end Cert.Reference6Ideal.CtxA
end
-- ==== Proof.CtxAAgree.lean ====
/- The claims for mixer A's projection of the context: its runs, and its two results beside the reference's. -/
module

public import proofs.«01_k».proof.Defs
public import proofs.«01_k».proof.Proof.CtxAHost
public import proofs.«01_k».proof.Proof.CtxARef
public import proofs.«01_k».proof.Proof.ProjAgree
public import proofs.«01_k».proof.Proof.Gen.Kernel6.Frame
public import proofs.«01_k».proof.Proof.Gen.Reference6Ideal.Run

@[expose] public section

set_option maxRecDepth 16384
noncomputable section

namespace Cert.Kernel6Ideal.CtxA
open Idealize.ShloMosaic Idealize.ShloMosaic.TcCoe
open Idealize.SL Idealize.SL.Sem
open Idealize.ShloMosaic.Pipeline (Dat)
open Cert.Kernel6Ideal Cert.Kernel6Ideal.Gen
open Cert.Reference6Ideal.CtxA (rowsOf colsOf row proj proj_congr)
open Cert.Kernel2Ideal.Proj (sum_scaled)

variable (m : (ℓ : Loc nD τ sig) → Buf (Elt Ideal) ℓ) (c : Dev nD) (t : Fin cfg0.N)

/-- The rows a grid step modulates. -/
abbrev stepRows : FVec Ideal S256x1024 .bf16 :=
  k0_pay13 (iblk m c 0 t) (iblk m c 1 t) (iblk m c 2 t) (iblk m c 3 t) (iblk m c 4 t)

/-- A row a grid step modulates is the reference's row. -/
theorem rows_eq (i : Fin 256) (k : Fin 1024) : stepRows m c t (ix2 i k) = row (a0 m c) (a1 m c) (a2 m c) (batch t) i k := by
  unfold stepRows
  rw [rows_apply]
  unfold row
  exact congrArg₂ (· + ·) (congrArg₂ (· * ·) (block0 m c t i k) (congrArg (_ + ·) (block2 m c t k))) (block1 m c t k)

/-- The product with the columns of gates. -/
theorem gates_eq (i : Fin 256) (n : Fin 1280) (h : n.val < 1024) :
    ∑ k : Fin 1024, stepRows m c t (ix2 i k) * (iblk m c 3 t : FVec Ideal S1024x1280 .bf16) (ix2 k n)
      = proj (a0 m c) (a1 m c) (a2 m c) (a3 m c) (batch t) i ⟨1536 + (Softmax.swap ⟨n.val, h⟩).val, by have := (Softmax.swap ⟨n.val, h⟩).isLt; omega⟩ :=
  Finset.sum_congr rfl fun k _ => congrArg₂ (· * ·) (rows_eq m c t i k) ((block3 m c t k n).trans (v14_gates m c k ⟨n.val, h⟩))

/-- The product with the columns of keys. -/
theorem keys_eq (i : Fin 256) (n : Fin 1280) (h : ¬ n.val < 1024) :
    ∑ k : Fin 1024, stepRows m c t (ix2 i k) * (iblk m c 3 t : FVec Ideal S1024x1280 .bf16) (ix2 k n)
      = proj (a0 m c) (a1 m c) (a2 m c) (a3 m c) (batch t) i ⟨n.val, by omega⟩ := by
  refine Finset.sum_congr rfl fun k _ => congrArg₂ (· * ·) (rows_eq m c t i k) ((block3 m c t k n).trans ?_)
  have e : n = (⟨1024 + (⟨n.val - 1024, by omega⟩ : Fin 256).val, by show 1024 + (n.val - 1024) < 1280; omega⟩ : Fin 1280) := Fin.ext (by show n.val = 1024 + (n.val - 1024); omega)
  refine (congrArg (fun j => (V m c main_v14 : FVec Ideal S1024x1280 .bf16) (ix2 k j)) e).trans ((v14_keys m c k ⟨n.val - 1024, by omega⟩).trans ?_)
  exact congrArg (fun j => a3 m c (ix2 k j)) (Fin.ext (by show 1024 + (n.val - 1024) = n.val; omega))

/-- The product with the rows of queries. -/
theorem queries_eq (i : Fin 256) (n : Fin 1280) (h : n.val < 1024) :
    ∑ k : Fin 1024, stepRows m c t (ix2 i k) * (iblk m c 4 t : FVec Ideal S1280x1024 .bf16) (ix2 n k)
      = proj (a0 m c) (a1 m c) (a2 m c) (a3 m c) (batch t) i ⟨(Softmax.swap ⟨n.val, h⟩).val, by have := (Softmax.swap ⟨n.val, h⟩).isLt; omega⟩ * Ideal.ofBits .f32 0x3E000000#32 :=
  (Finset.sum_congr rfl fun k _ => congrArg₂ (· * ·) (rows_eq m c t i k) ((block4 m c t n k).trans (v17_queries m c k ⟨n.val, h⟩))).trans (sum_scaled _ _)

/-- The product with the rows of values. -/
theorem vals_eq (i : Fin 256) (n : Fin 1280) (h : ¬ n.val < 1024) :
    ∑ k : Fin 1024, stepRows m c t (ix2 i k) * (iblk m c 4 t : FVec Ideal S1280x1024 .bf16) (ix2 n k)
      = proj (a0 m c) (a1 m c) (a2 m c) (a3 m c) (batch t) i ⟨n.val + 256, by omega⟩ := by
  refine Finset.sum_congr rfl fun k _ => congrArg₂ (· * ·) (rows_eq m c t i k) ((block4 m c t n k).trans ?_)
  have e : n = (⟨1024 + (⟨n.val - 1024, by omega⟩ : Fin 256).val, by show 1024 + (n.val - 1024) < 1280; omega⟩ : Fin 1280) := Fin.ext (by show n.val = 1024 + (n.val - 1024); omega)
  refine (congrArg (fun j => (V m c main_v17 : FVec Ideal S1280x1024 .bf16) (ix2 j k)) e).trans ((v17_vals m c k ⟨n.val - 1024, by omega⟩).trans ?_)
  exact congrArg (fun j => a3 m c (ix2 k j)) (Fin.ext (by show 1280 + (n.val - 1024) = n.val + 256; omega))

/-- What a grid step leaves in its block of rows, as the reference's result at the step's rows. -/
theorem step5_apply (i : Fin 256) (n : Fin 1280) :
    (out0_5 (iblk m c 0 t) (iblk m c 1 t) (iblk m c 2 t) (iblk m c 3 t) (iblk m c 4 t) : FVec Ideal S1x256x1280 .bf16) (ix3 0 i n)
      = rowsOf (a0 m c) (a1 m c) (a2 m c) (a3 m c) (ix3 (batch t) i n) := by
  rw [out5_apply]
  unfold rowsBlock rowsOf
  by_cases h : n.val < 1024
  · exact (gates_eq m c t i n h).trans (Eq.symm (dif_pos h))
  · exact (keys_eq m c t i n h).trans (Eq.symm (dif_neg h))

/-- What it leaves in its block of columns. -/
theorem step6_apply (n : Fin 1280) (i : Fin 256) :
    (out0_6 (iblk m c 0 t) (iblk m c 1 t) (iblk m c 2 t) (iblk m c 3 t) (iblk m c 4 t) : FVec Ideal S1x1280x256 .bf16) (ix3 0 n i)
      = colsOf (a0 m c) (a1 m c) (a2 m c) (a3 m c) (ix3 (batch t) n i) := by
  rw [out6_apply]
  unfold colsBlock colsOf
  by_cases h : n.val < 1024
  · refine (if_pos h).trans (Eq.trans ?_ (dif_pos h).symm)
    exact congrArg (· * _) (queries_eq m c t i n h)
  · refine (if_neg h).trans (Eq.trans ?_ (dif_neg h).symm)
    exact vals_eq m c t i n h

/-- The array of rows after the run. -/
theorem result5 : (dats m 0 c).arrAt 5 cfg0.N = rowsOf (a0 m c) (a1 m c) (a2 m c) (a3 m c) := by
  refine (dats m 0 c).arrAt_eq_of_covers 5 _ (by decide +kernel) fun t hf y => ?_
  change S1x256x1280.Idx at y
  blk_simp
  rw [after0_5]
  obtain ⟨y0, y1, y2, rfl⟩ : ∃ (y0 : Fin 1) (y1 : Fin 256) (y2 : Fin 1280), y = ix3 y0 y1 y2 := ⟨y 0, y 1, y 2, funext fun a => by fin_cases a <;> rfl⟩
  obtain rfl : y0 = 0 := Subsingleton.elim _ _
  refine (step5_apply m c t y1 y2).trans (congrArg _ ?_)
  blk_ext [index5]

/-- The array of columns after the run. -/
theorem result6 : (dats m 0 c).arrAt 6 cfg0.N = colsOf (a0 m c) (a1 m c) (a2 m c) (a3 m c) := by
  refine (dats m 0 c).arrAt_eq_of_covers 6 _ (by decide +kernel) fun t hf y => ?_
  change S1x1280x256.Idx at y
  blk_simp
  rw [after0_6]
  obtain ⟨y0, y1, y2, rfl⟩ : ∃ (y0 : Fin 1) (y1 : Fin 1280) (y2 : Fin 256), y = ix3 y0 y1 y2 := ⟨y 0, y 1, y 2, funext fun a => by fin_cases a <;> rfl⟩
  obtain rfl : y0 = 0 := Subsingleton.elim _ _
  refine (step6_apply m c t y1 y2).trans (congrArg _ ?_)
  blk_ext [index6]

end Cert.Kernel6Ideal.CtxA

namespace Cert.Proof
open Idealize.ShloMosaic Idealize.SL.Sem
open Cert.Reference6Ideal.CtxA (rowsOf colsOf)

theorem frame_kernel6 : Cert.quiescent_Kernel6 := fun m ρ _ => Cert.Kernel6.Gen.frame m ρ
theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem preserves6 : Cert.preserves_Kernel6_Kernel6Ideal :=
  IdealRules.named_const.statement Cert.Kernel6Ideal.κ "log2e" .f32 0x3FB8AA3B#32 (((Real.log 2)⁻¹ : ℝ) : EReal) rfl

theorem congr4 {A B C D R : Type} (f : A → B → C → D → R) {a a' : A} {b b' : B} {c c' : C} {d d' : D} (e0 : a = a') (e1 : b = b') (e2 : c = c') (e3 : d = d') :
    f a b c d = f a' b' c' d' := by
  subst e0 e1 e2 e3
  rfl

theorem algebraic6 : Cert.algebraic_Kernel6Ideal_Reference6Ideal := by
  intro m ρ m' ρ' _ hagree
  refine ⟨fun c => rowsOf (Kernel6Ideal.CtxA.a0 m c) (Kernel6Ideal.CtxA.a1 m c) (Kernel6Ideal.CtxA.a2 m c) (Kernel6Ideal.CtxA.a3 m c),
    fun c => colsOf (Kernel6Ideal.CtxA.a0 m c) (Kernel6Ideal.CtxA.a1 m c) (Kernel6Ideal.CtxA.a2 m c) (Kernel6Ideal.CtxA.a3 m c), ?_, ?_⟩
  · exact (θ_run Cert.Kernel6Ideal.defs _ _).mono (fun r h c => ⟨(h c).1.trans (Kernel6Ideal.CtxA.result5 m c), (h c).2.1.trans (Kernel6Ideal.CtxA.result6 m c), (h c).2.2⟩) (Cert.Kernel6Ideal.Value.run_blocks (F := Ideal) m ρ)
  · refine (θ_run Cert.Reference6Ideal.defs _ _).mono (fun r h c => ⟨(h c).1.trans ?_, (h c).2.1.trans ?_, (h c).2.2⟩) (Cert.Reference6Ideal.Value.run (F := Ideal) m' ρ')
    · obtain ⟨e0, e1, e2, e3⟩ := hagree c
      exact ((Cert.Reference6Ideal.Read.val_main_v28_eq _ _ _ _).trans (Cert.Reference6Ideal.CtxA.v28_apply _ _ _ _)).trans (congr4 rowsOf e0 e1 e2 e3)
    · obtain ⟨e0, e1, e2, e3⟩ := hagree c
      exact ((Cert.Reference6Ideal.Read.val_main_v29_eq _ _ _ _).trans (Cert.Reference6Ideal.CtxA.v29_apply _ _ _ _)).trans (congr4 colsOf e0 e1 e2 e3)

end Cert.Proof
end
-- ==== Proof.CtxO.lean ====
/- The context's own attention in mixer B: what one grid step stores, read at an index of its block. -/
module

public import proofs.«01_k».proof.Proof.Softmax
public import proofs.«01_k».proof.Proof.Norm
public import proofs.«01_k».proof.Proof.Gen.Kernel7Ideal.Value
public import Idealize.ShloMosaic.Lib.Pointwise
public import Idealize.ShloMosaic.Lib.WordCmp
public import Idealize.ShloMosaic.Lib.Pipeline.ValueKit

@[expose] public section

set_option maxRecDepth 16384
noncomputable section

namespace Cert.Kernel7Ideal.Own
open Idealize.ShloMosaic Idealize.ShloMosaic.TcCoe
open Idealize.SL Idealize.SL.Sem
open Cert.Kernel7Ideal Cert.Kernel7Ideal.Gen

theorem slices_rows (a : Fin 4) : S1024x256.Slices ![256 * a.val, 0] S256x256 := by revert a; decide

theorem slices_cols (a : Fin 4) : S256x1024.Slices ![0, 256 * a.val] S256x256 := by revert a; decide

/-- The lanes of one head of a block of four. -/
def slot (a : Fin 4) : IVec S256x256 1 :=
  broadcastTo S256x256 (shapeCast S1x256 (cmpi .eq k0_pay8 (broadcast S1x256 (BitVec.ofNat 32 a.val))) shapeCasts_S1x256_S1x256) broadcasts_S1x256_S256x256

/-- The queries with the lanes of the other heads zero. -/
def only (q : FVec Ideal S256x256 .bf16) (a : Fin 4) : FVec Ideal S256x256 .bf16 :=
  select (slot a) q (broadcast S256x256 (Scalar.ofBits .bf16 0x0000#16))

/-- The scores of the four heads, under one another. -/
def scoresOf (q k : FVec Ideal S256x256 .bf16) : FVec Ideal S1024x256 .f32 :=
  matmul dot_S1024x256_S256x256_S1024x256_1_1_0_0_n_n none
    (concatenate S1024x256 0 [⟨S256x256, only q 0⟩, ⟨S256x256, only q 1⟩, ⟨S256x256, only q 2⟩, ⟨S256x256, only q 3⟩] concatenates_S256x256_S256x256_S256x256_S256x256_S1024x256_d0)
    k (constant S1024x256 .f32 0x00000000#32)

/-- The exponentials of one head's scores less the largest of their row. -/
def expOf (s : FVec Ideal S1024x256 .f32) (a : Fin 4) : FVec Ideal S256x256 .f32 :=
  exp2 (subf (extractStridedSlice S256x256 ![256 * a.val, 0] s (slices_rows a))
    (broadcastTo S256x256 (shapeCast S256x1 (multiReduction .maximumf [1] S256 (extractStridedSlice S256x256 ![256 * a.val, 0] s (slices_rows a)) 0xFF800000#32
      reduces_S256x256_S256 (.inl rfl) rfl) shapeCasts_S256_S256x1) broadcasts_S256x1_S256x256))

/-- The inverses of the sums of the rows. -/
def invOf (p : FVec Ideal S256x256 .f32) : FVec Ideal S256x1 .f32 :=
  divf (broadcast S256x1 (Scalar.ofBits .f32 0x3F800000#32))
    (shapeCast S256x1 (multiReduction .add [1] S256 p 0x00000000#32 reduces_S256x256_S256 (.inl rfl) rfl) shapeCasts_S256_S256x1)

/-- The weighted sums of the values, for the four heads under one another. -/
def valsOf (s : FVec Ideal S1024x256 .f32) (v : FVec Ideal S256x256 .bf16) : FVec Ideal S1024x256 .f32 :=
  matmul dot_S1024x256_S256x256_S1024x256_1_0_0_1_n_n none
    (concatenate S1024x256 0 [⟨S256x256, truncf .bf16 (expOf s 0) bitsLt_bf16_f32⟩, ⟨S256x256, truncf .bf16 (expOf s 1) bitsLt_bf16_f32⟩,
      ⟨S256x256, truncf .bf16 (expOf s 2) bitsLt_bf16_f32⟩, ⟨S256x256, truncf .bf16 (expOf s 3) bitsLt_bf16_f32⟩] concatenates_S256x256_S256x256_S256x256_S256x256_S1024x256_d0)
    v (constant S1024x256 .f32 0x00000000#32)

/-- One head's means, on all lanes. -/
def headOf (s : FVec Ideal S1024x256 .f32) (v : FVec Ideal S256x256 .bf16) (a : Fin 4) : FVec Ideal S256x256 .f32 :=
  mulf (extractStridedSlice S256x256 ![256 * a.val, 0] (valsOf s v) (slices_rows a)) (broadcastTo S256x256 (invOf (expOf s a)) broadcasts_S256x1_S256x256)

/-- The attention of a block of four heads. -/
def heads (q k v : FVec Ideal S256x256 .bf16) : FVec Ideal S256x256 .f32 :=
  select (slot 3) (headOf (scoresOf q k) v 3) (select (slot 2) (headOf (scoresOf q k) v 2) (select (slot 1) (headOf (scoresOf q k) v 1) (headOf (scoresOf q k) v 0)))

/-- A block's queries. -/
def queries (x : FVec Ideal S1x256x1024 .bf16) (a : Fin 4) : FVec Ideal S256x256 .bf16 :=
  extractStridedSlice S256x256 ![0, 256 * a.val] (shapeCast S256x1024 (View.ld (Val := Elt Ideal) (e' := .bf16) x r0_0) shapeCasts_S1x256x1024_S256x1024) (slices_cols a)

variable (x0 x1 x2 x3 : Vec Ideal S1x256x1024 .bf16) (x4 : Vec Ideal S1x256x1024 .f32) (x5 : Vec Ideal S1x1x1x1x1024 .f32) (x6 : Vec Ideal S1024x1024 .bf16) (x7 x8 : Vec Ideal S1x1x1024 .f32)

theorem pay115_eq : k0_pay115 x0 x1 x2 x3 x4 x5 x6 x7 x8 = heads (queries x0 0) (shapeCast S256x256 (View.ld (Val := Elt Ideal) (e' := .bf16) x2 r0_1) shapeCasts_S1x256x256_S256x256)
    (shapeCast S256x256 (View.ld (Val := Elt Ideal) (e' := .bf16) x3 r0_1) shapeCasts_S1x256x256_S256x256) := rfl

theorem pay125_eq : k0_pay125 x0 x1 x2 x3 x4 x5 x6 x7 x8 = heads (queries x0 1) (shapeCast S256x256 (View.ld (Val := Elt Ideal) (e' := .bf16) x2 r0_2) shapeCasts_S1x256x256_S256x256)
    (shapeCast S256x256 (View.ld (Val := Elt Ideal) (e' := .bf16) x3 r0_2) shapeCasts_S1x256x256_S256x256) := rfl

theorem pay134_eq : k0_pay134 x0 x1 x2 x3 x4 x5 x6 x7 x8 = heads (queries x0 2) (shapeCast S256x256 (View.ld (Val := Elt Ideal) (e' := .bf16) x2 r0_3) shapeCasts_S1x256x256_S256x256)
    (shapeCast S256x256 (View.ld (Val := Elt Ideal) (e' := .bf16) x3 r0_3) shapeCasts_S1x256x256_S256x256) := rfl

theorem pay145_eq : select (broadcastTo S256x256 (k0_pay146 x0 x1 x2 x3 x4 x5 x6 x7 x8) broadcasts_S1x256_S256x256) (k0_pay145 x0 x1 x2 x3 x4 x5 x6 x7 x8) (k0_pay144 x0 x1 x2 x3 x4 x5 x6 x7 x8)
    = heads (queries x0 3) (shapeCast S256x256 (View.ld (Val := Elt Ideal) (e' := .bf16) x2 r0_4) shapeCasts_S1x256x256_S256x256)
    (shapeCast S256x256 (View.ld (Val := Elt Ideal) (e' := .bf16) x3 r0_4) shapeCasts_S1x256x256_S256x256) := rfl

theorem lane_apply : ∀ e : Fin 256, k0_pay8 (ix2 0 e) = BitVec.ofNat 32 (e.val / 64) := by decide +kernel

theorem slot_apply (a : Fin 4) (i e : Fin 256) : slot a (ix2 i e) = if e.val / 64 = a.val then 1#1 else 0#1 := by
  unfold slot
  pointwise []
  rw [lane_apply]
  have key : ∀ (x : Fin 4) (a : Fin 4), BitVec.ofBool (decide (BitVec.ofNat 32 x.val = BitVec.ofNat 32 a.val)) = if x.val = a.val then 1#1 else 0#1 := by decide
  exact key ⟨e.val / 64, by omega⟩ a

theorem bf16_zero : Ideal.ofBits .bf16 0x0000#16 = 0 := by
  simp [Ideal.ofBits, Ideal.ieee]

theorem neg_inf_word : Ideal.ofBits .f32 0xFF800000#32 = ⊥ := by
  simp [Ideal.ofBits, Ideal.ieee]

theorem select_slot (a : Fin 4) {e : FTy} (x y : FVec Ideal S256x256 e) (i d : Fin 256) :
    select (slot a) x y (ix2 i d) = if d.val / 64 = a.val then x (ix2 i d) else y (ix2 i d) := by
  have h : select (slot a) x y (ix2 i d) = if slot a (ix2 i d) = 1#1 then x (ix2 i d) else y (ix2 i d) := rfl
  rw [h, slot_apply]
  split_ifs <;> first | rfl | (exfalso; simp_all)

theorem only_apply (q : FVec Ideal S256x256 .bf16) (a : Fin 4) (i d : Fin 256) :
    only q a (ix2 i d) = if d.val / 64 = a.val then q (ix2 i d) else 0 := by
  unfold only
  rw [select_slot]
  exact congrArg (fun z => if d.val / 64 = a.val then q (ix2 i d) else z) bf16_zero

theorem under_apply {e : FTy} (T : Fin 4 → FVec Ideal S256x256 e) (a : Fin 4) (i n : Fin 256) :
    concatenate S1024x256 0 [⟨S256x256, T 0⟩, ⟨S256x256, T 1⟩, ⟨S256x256, T 2⟩, ⟨S256x256, T 3⟩]
      concatenates_S256x256_S256x256_S256x256_S256x256_S1024x256_d0 (ix2 ⟨256 * a.val + i.val, by omega⟩ n) = T a (ix2 i n) := by
  have hi := i.isLt
  pointwise
  have key (s : Fin 4) (e : ℕ) (he : e < 256) (h : 256 * a.val + i.val = 256 * s.val + e) :
      T s (ix2 ⟨e, he⟩ n) = T a (ix2 i n) := by
    rw [show a = s from Fin.ext (by omega)]
    congr 2
    exact Fin.ext (by simp only; omega)
  split_ifs <;> first
    | exact key 0 _ _ (by simp) | exact key 1 _ _ (by simp; omega) | exact key 2 _ _ (by simp; omega) | exact key 3 _ _ (by simp; omega)
    | (exfalso; omega)

/-- A score of one head. -/
def score (q k : FVec Ideal S256x256 .bf16) (a : Fin 4) (i r : Fin 256) : EReal :=
  ∑ d : Fin 256, (if d.val / 64 = a.val then q (ix2 i d) else 0) * k (ix2 r d)

theorem scoresOf_apply (q k : FVec Ideal S256x256 .bf16) (a : Fin 4) (i r : Fin 256) :
    scoresOf q k (ix2 ⟨256 * a.val + i.val, by omega⟩ r) = score q k a i r := by
  unfold scoresOf score
  have h (T : FVec Ideal S1024x256 .bf16) (x : Fin 1024) : matmul dot_S1024x256_S256x256_S1024x256_1_1_0_0_n_n none T k (constant S1024x256 .f32 0x00000000#32) (ix2 x r)
      = ∑ d : Fin 256, T (ix2 x d) * k (ix2 r d) := by
    pointwise [dot_S1024x256_S256x256_S1024x256_1_1_0_0_n_n]
  rw [h]
  refine Finset.sum_congr rfl fun d _ => congrArg (· * _) ?_
  exact (under_apply (only q) a i d).trans (only_apply q a i d)

/-- The exponentials, from the scores. -/
def expScore (q k : FVec Ideal S256x256 .bf16) (a : Fin 4) (i r : Fin 256) : EReal :=
  Ideal.exp2 (score q k a i r - Finset.univ.fold max ⊥ fun r => score q k a i r)

theorem expOf_apply (q k : FVec Ideal S256x256 .bf16) (a : Fin 4) (i r : Fin 256) :
    expOf (scoresOf q k) a (ix2 i r) = expScore q k a i r := by
  have h := scoresOf_apply q k a i
  unfold expOf expScore
  generalize scoresOf q k = s at h
  pointwise []
  simp only [h, neg_inf_word]
  rfl

theorem headOf_apply (q k v : FVec Ideal S256x256 .bf16) (a : Fin 4) (i n : Fin 256) :
    headOf (scoresOf q k) v a (ix2 i n) = (∑ r, expScore q k a i r * v (ix2 r n)) * Ideal.div 1 (∑ r, expScore q k a i r) := by
  have h (x : Fin 1024) : valsOf (scoresOf q k) v (ix2 x n)
      = ∑ r : Fin 256, concatenate S1024x256 0 [⟨S256x256, (truncf .bf16 (expOf (scoresOf q k) 0) bitsLt_bf16_f32 : FVec Ideal S256x256 .bf16)⟩, ⟨S256x256, truncf .bf16 (expOf (scoresOf q k) 1) bitsLt_bf16_f32⟩,
      ⟨S256x256, truncf .bf16 (expOf (scoresOf q k) 2) bitsLt_bf16_f32⟩, ⟨S256x256, truncf .bf16 (expOf (scoresOf q k) 3) bitsLt_bf16_f32⟩] concatenates_S256x256_S256x256_S256x256_S256x256_S1024x256_d0 (ix2 x r) * v (ix2 r n) := by
    unfold valsOf
    generalize concatenate S1024x256 0 _ _ = T
    pointwise [dot_S1024x256_S256x256_S1024x256_1_0_0_1_n_n]
  have h2 : valsOf (scoresOf q k) v (ix2 ⟨256 * a.val + i.val, by omega⟩ n) = ∑ r, expScore q k a i r * v (ix2 r n) := by
    rw [h]
    refine Finset.sum_congr rfl fun r _ => congrArg (· * _) ?_
    exact (under_apply (fun a => truncf .bf16 (expOf (scoresOf q k) a) bitsLt_bf16_f32) a i r).trans (expOf_apply q k a i r)
  have h3 : invOf (expOf (scoresOf q k) a) (ix2 i 0) = Ideal.div 1 (∑ r, expScore q k a i r) := by
    have h4 := expOf_apply q k a i
    unfold invOf
    generalize expOf (scoresOf q k) a = p at h4
    pointwise []
    simp only [h4]
  unfold headOf
  generalize valsOf (scoresOf q k) v = x at h2
  generalize invOf (expOf (scoresOf q k) a) = y at h3
  pointwise []
  rw [h2, h3]

/-- The attention of a block of four heads, at an index. -/
theorem heads_apply (q k v : FVec Ideal S256x256 .bf16) (i n : Fin 256) :
    heads q k v (ix2 i n) = (∑ r, expScore q k ⟨n.val / 64, by omega⟩ i r * v (ix2 r n)) * Ideal.div 1 (∑ r, expScore q k ⟨n.val / 64, by omega⟩ i r) := by
  have hn := n.isLt
  rw [← headOf_apply]
  unfold heads
  simp only [select_slot]
  have key (a : Fin 4) (h : n.val / 64 = a.val) : headOf (scoresOf q k) v a (ix2 i n) = headOf (scoresOf q k) v ⟨n.val / 64, by omega⟩ (ix2 i n) := by
    rw [show (⟨n.val / 64, by omega⟩ : Fin 4) = a from Fin.ext h]
  split_ifs with h3 h2 h1
  · exact key 3 h3
  · exact key 2 h2
  · exact key 1 h1
  · refine key 0 ?_
    have h3' : n.val / 64 ≠ 3 := h3
    have h2' : n.val / 64 ≠ 2 := h2
    have h1' : n.val / 64 ≠ 1 := h1
    show n.val / 64 = 0
    omega

theorem columns_apply (T : Fin 4 → FVec Ideal S256x256 .f32) (i : Fin 256) (n : Fin 1024) :
    concatenate S256x1024 1 [⟨S256x256, T 0⟩, ⟨S256x256, T 1⟩, ⟨S256x256, T 2⟩, ⟨S256x256, T 3⟩]
      concatenates_S256x256_S256x256_S256x256_S256x256_S256x1024_d1 (ix2 i n)
      = T ⟨n.val / 256, by omega⟩ (ix2 i ⟨n.val % 256, by omega⟩) := by
  have hn := n.isLt
  pointwise
  have key (j : Fin 4) (e : ℕ) (he : e < 256) (h : n.val = 256 * j.val + e) :
      T j (ix2 i ⟨e, he⟩) = T ⟨n.val / 256, by omega⟩ (ix2 i ⟨n.val % 256, by omega⟩) := by
    rw [show (⟨n.val / 256, by omega⟩ : Fin 4) = j from Fin.ext (by simp only; omega)]
    congr 2
    exact Fin.ext (by simp only; omega)
  split_ifs <;> first
    | exact key 0 _ _ (by simp) | exact key 1 _ _ (by simp; omega) | exact key 2 _ _ (by simp; omega) | exact key 3 _ _ (by simp; omega)
    | (exfalso; omega)

/-- The rows the normalization is applied to. -/
def residual (o : FVec Ideal S256x1024 .f32) (g : FVec Ideal S256x1024 .bf16) (h : FVec Ideal S256x1024 .f32) (gate : FVec Ideal S1x1024 .f32)
    (w : FVec Ideal S1024x1024 .bf16) : FVec Ideal S256x1024 .f32 :=
  addf (mulf (broadcast S256x1024 (Scalar.ofBits .f32 0x3FD744FD#32)) h) (mulf (broadcastTo S256x1024 gate broadcasts_S1x1024_S256x1024)
    (matmul dot_S256x1024_S1024x1024_S256x1024_1_0_0_1_n_n none (truncf .bf16 (mulf o (divf (extf .f32 g bitsLt_bf16_f32)
      (addf (broadcast S256x1024 (Scalar.ofBits .f32 0x3F800000#32)) (exp (subf (broadcast S256x1024 (Scalar.ofBits .f32 0x00000000#32)) (extf .f32 g bitsLt_bf16_f32)))))) bitsLt_bf16_f32)
      (shapeCast S1024x1024 w shapeCasts_S1024x1024_S1024x1024) (constant S256x1024 .f32 0x00000000#32)))

/-- The mean of every row. -/
def rowMean (z : FVec Ideal S256x1024 .f32) : FVec Ideal S256x1 .f32 :=
  divf (shapeCast S256x1 (multiReduction .add [1] S256 z 0x00000000#32 reduces_S256x1024_S256 (.inl rfl) rfl) shapeCasts_S256_S256x1)
    (broadcast S256x1 (Scalar.ofBits .f32 0x44800000#32))

theorem residual_apply (o : FVec Ideal S256x1024 .f32) (g : FVec Ideal S256x1024 .bf16) (h : FVec Ideal S256x1024 .f32) (gate : FVec Ideal S1x1024 .f32)
    (w : FVec Ideal S1024x1024 .bf16) (i : Fin 256) (n : Fin 1024) :
    residual o g h gate w (ix2 i n) = Ideal.ofBits .f32 0x3FD744FD#32 * h (ix2 i n)
      + gate (ix2 0 n) * ∑ k : Fin 1024, o (ix2 i k) * Softmax.silu (g (ix2 i k)) * w (ix2 k n) := by
  unfold residual Softmax.silu
  pointwise [dot_S256x1024_S1024x1024_S256x1024_1_0_0_1_n_n]
  simp only [zero_sub]

theorem rowMean_apply (z : FVec Ideal S256x1024 .f32) (i : Fin 256) : rowMean z (ix2 i 0) = Softmax.mean fun n => z (ix2 i n) := by
  unfold rowMean Softmax.mean
  pointwise []

theorem pay1_apply (lng lnb : FVec Ideal S1x1024 .f32) (z : FVec Ideal S256x1024 .f32) (i : Fin 256) (n : Fin 1024) :
    (k0_pay1 (F := Ideal) lng lnb z (broadcastTo S256x1024 (rowMean z) broadcasts_S256x1_S256x1024) : FVec Ideal S1x256x1024 .f32) (ix3 0 i n)
      = Softmax.normed (fun n => z (ix2 i n)) (fun n => lng (ix2 0 n)) (fun n => lnb (ix2 0 n)) n := by
  unfold k0_pay1 Softmax.normed
  have hz : ∀ k, mulf (subf z (broadcastTo S256x1024 (rowMean z) broadcasts_S256x1_S256x1024)) (subf z (broadcastTo S256x1024 (rowMean z) broadcasts_S256x1_S256x1024)) (ix2 i k)
      = (z (ix2 i k) - Softmax.mean fun n => z (ix2 i n)) * (z (ix2 i k) - Softmax.mean fun n => z (ix2 i n)) := fun k => by
    pointwise []
    rw [rowMean_apply]
  have hm (y : FVec Ideal S256x1024 .f32) : divf (shapeCast S256x1 (multiReduction .add [1] S256 y 0x00000000#32 reduces_S256x1024_S256 (.inl rfl) rfl) shapeCasts_S256_S256x1)
    (broadcast S256x1 (Scalar.ofBits .f32 0x44800000#32)) = rowMean y := rfl
  simp only [hm]
  pointwise []
  simp only [rowMean_apply, hz]

/-- The block of a window's keys or values, at an index. -/
theorem cut_apply (x : FVec Ideal S1x256x1024 .bf16) (a : Fin 4) (inb : ∀ k, ![0, 0, 256 * a.val] k + S1x256x256.size k ≤ S1x256x1024.size k) (r n : Fin 256) :
    shapeCast S256x256 (View.ld (Val := Elt Ideal) (e' := .bf16) x (Rect.unit (s := S1x256x1024) ![0, 0, 256 * a.val] S1x256x256.size inb) : FVec Ideal S1x256x256 .bf16) shapeCasts_S1x256x256_S256x256 (ix2 r n)
      = x (ix3 0 r ⟨256 * a.val + n.val, by omega⟩) := by
  have h (y : FVec Ideal S1x256x256 .bf16) : shapeCast S256x256 y shapeCasts_S1x256x256_S256x256 (ix2 r n) = y (ix3 0 r n) := by
    pointwise []
  refine (h _).trans ?_
  refine View.ld_unit_apply_of (Val := Elt Ideal) (e := .bf16) x _ _ _ _ _ fun k => ?_
  match k with
  | ⟨0, _⟩ => rfl
  | ⟨1, _⟩ => exact (Nat.zero_add _).symm
  | ⟨2, _⟩ => rfl

theorem queries_apply (x : FVec Ideal S1x256x1024 .bf16) (a : Fin 4) (i d : Fin 256) : queries x a (ix2 i d) = x (ix3 0 i ⟨256 * a.val + d.val, by omega⟩) := by
  unfold queries
  rw [View.ld_unit_zero (S := S1x256x1024) (by decide)]
  pointwise []

/-- One score of one head, from the windows. -/
def dotAt (q k : FVec Ideal S1x256x1024 .bf16) (h : Fin 16) (i r : Fin 256) : EReal :=
  ∑ d : Fin 64, q (ix3 0 i ⟨64 * h.val + d.val, by omega⟩) * k (ix3 0 r ⟨64 * h.val + d.val, by omega⟩)

/-- A sum over the lanes that are zero outside one head. -/
theorem sum_slot (a : Fin 4) (f g : Fin 256 → EReal) :
    ∑ d : Fin 256, (if d.val / 64 = a.val then f d else 0) * g d = ∑ d : Fin 64, f ⟨64 * a.val + d.val, by omega⟩ * g ⟨64 * a.val + d.val, by omega⟩ := by
  classical
  rw [← Finset.sum_filter_of_ne (p := fun d : Fin 256 => d.val / 64 = a.val) (fun d _ hd => by by_contra h; exact hd (by rw [if_neg h, zero_mul]))]
  refine Finset.sum_bij' (fun d hd => ⟨d.val - 64 * a.val, by have := (Finset.mem_filter.1 hd).2; omega⟩)
    (fun d _ => ⟨64 * a.val + d.val, by omega⟩) ?_ ?_ ?_ ?_ ?_
  · intro d hd
    exact Finset.mem_univ _
  · intro d hd
    exact Finset.mem_filter.2 ⟨Finset.mem_univ _, by show (64 * a.val + d.val) / 64 = a.val; omega⟩
  · intro d hd
    have := (Finset.mem_filter.1 hd).2
    exact Fin.ext (by show 64 * a.val + (d.val - 64 * a.val) = d.val; omega)
  · intro d hd
    exact Fin.ext (by show 64 * a.val + d.val - 64 * a.val = d.val; omega)
  · intro d hd
    have h := (Finset.mem_filter.1 hd).2
    have e : (⟨64 * a.val + (d.val - 64 * a.val), by omega⟩ : Fin 256) = d := Fin.ext (by show 64 * a.val + (d.val - 64 * a.val) = d.val; omega)
    show (if d.val / 64 = a.val then f d else 0) * g d = f ⟨64 * a.val + (d.val - 64 * a.val), _⟩ * g ⟨64 * a.val + (d.val - 64 * a.val), _⟩
    rw [if_pos h, e]

/-- The attention of one query in one head, from the windows. -/
def attended (q k v : FVec Ideal S1x256x1024 .bf16) (i : Fin 256) (n : Fin 1024) : EReal :=
  (∑ r, Ideal.exp2 (dotAt q k ⟨n.val / 64, by omega⟩ i r - Finset.univ.fold max ⊥ fun r => dotAt q k ⟨n.val / 64, by omega⟩ i r) * v (ix3 0 r n))
    * Ideal.div 1 (∑ r, Ideal.exp2 (dotAt q k ⟨n.val / 64, by omega⟩ i r - Finset.univ.fold max ⊥ fun r => dotAt q k ⟨n.val / 64, by omega⟩ i r))

theorem blocks_apply (q k v : FVec Ideal S1x256x1024 .bf16) (Q K W : FVec Ideal S256x256 .bf16) (i : Fin 256) (n : Fin 1024)
    (hQ : ∀ d : Fin 256, Q (ix2 i d) = q (ix3 0 i ⟨256 * (n.val / 256) + d.val, by omega⟩))
    (hK : ∀ r d : Fin 256, K (ix2 r d) = k (ix3 0 r ⟨256 * (n.val / 256) + d.val, by omega⟩))
    (hW : ∀ r d : Fin 256, W (ix2 r d) = v (ix3 0 r ⟨256 * (n.val / 256) + d.val, by omega⟩)) :
    heads Q K W (ix2 i ⟨n.val % 256, by omega⟩) = attended q k v i n := by
  have hn := n.isLt
  have hs (r : Fin 256) : score Q K ⟨n.val % 256 / 64, by omega⟩ i r = dotAt q k ⟨n.val / 64, by omega⟩ i r := by
    unfold score dotAt
    refine (sum_slot ⟨n.val % 256 / 64, by omega⟩ (fun d => Q (ix2 i d)) (fun d => K (ix2 r d))).trans (Finset.sum_congr rfl fun d _ => ?_)
    rw [hQ, hK]
    have e : (⟨256 * (n.val / 256) + (64 * (n.val % 256 / 64) + d.val), by omega⟩ : Fin 1024) = ⟨64 * (n.val / 64) + d.val, by omega⟩ := Fin.ext (by simp only; omega)
    exact congrArg₂ (· * ·) (congrArg (fun z => q (ix3 0 i z)) e) (congrArg (fun z => k (ix3 0 r z)) e)
  have hv (r : Fin 256) : W (ix2 r ⟨n.val % 256, by omega⟩) = v (ix3 0 r n) := by
    rw [hW]
    exact congrArg (fun z => v (ix3 0 r z)) (Fin.ext (by simp only; omega))
  rw [heads_apply]
  unfold expScore attended
  simp only [hs, hv]

/-- The attention of the whole block of rows. -/
def attention : FVec Ideal S256x1024 .f32 :=
  concatenate S256x1024 1 [⟨S256x256, k0_pay115 x0 x1 x2 x3 x4 x5 x6 x7 x8⟩, ⟨S256x256, k0_pay125 x0 x1 x2 x3 x4 x5 x6 x7 x8⟩, ⟨S256x256, k0_pay134 x0 x1 x2 x3 x4 x5 x6 x7 x8⟩,
    ⟨S256x256, (select (broadcastTo S256x256 (k0_pay146 x0 x1 x2 x3 x4 x5 x6 x7 x8) broadcasts_S1x256_S256x256) (k0_pay145 x0 x1 x2 x3 x4 x5 x6 x7 x8) (k0_pay144 x0 x1 x2 x3 x4 x5 x6 x7 x8) : FVec Ideal S256x256 .f32)⟩]
    concatenates_S256x256_S256x256_S256x256_S256x256_S256x1024_d1

theorem cols_in (a : Fin 4) : ∀ k, ![0, 0, 256 * a.val] k + S1x256x256.size k ≤ S1x256x1024.size k := by revert a; decide

theorem attention_apply (i : Fin 256) (n : Fin 1024) : attention x0 x1 x2 x3 x4 x5 x6 x7 x8 (ix2 i n) = attended x0 x2 x3 i n := by
  unfold attention
  rw [pay115_eq, pay125_eq, pay134_eq, pay145_eq]
  let T (a : Fin 4) : FVec Ideal S256x256 .f32 := heads (queries x0 a)
    (shapeCast S256x256 (View.ld (Val := Elt Ideal) (e' := .bf16) x2 (Rect.unit (s := S1x256x1024) ![0, 0, 256 * a.val] S1x256x256.size (cols_in a)) : FVec Ideal S1x256x256 .bf16) shapeCasts_S1x256x256_S256x256)
    (shapeCast S256x256 (View.ld (Val := Elt Ideal) (e' := .bf16) x3 (Rect.unit (s := S1x256x1024) ![0, 0, 256 * a.val] S1x256x256.size (cols_in a)) : FVec Ideal S1x256x256 .bf16) shapeCasts_S1x256x256_S256x256)
  refine (columns_apply T i n).trans ?_
  exact blocks_apply x0 x2 x3 _ _ _ i n (fun d => queries_apply x0 _ i d) (fun r d => cut_apply x2 _ _ r d) (fun r d => cut_apply x3 _ _ r d)

/-- What a grid step leaves in its block, from the contents of its windows. -/
theorem out_apply (i : Fin 256) (n : Fin 1024) :
    (out0_9 x0 x1 x2 x3 x4 x5 x6 x7 x8 : FVec Ideal S1x256x1024 .f32) (ix3 0 i n)
      = Softmax.normed (fun n => Ideal.ofBits .f32 0x3FD744FD#32 * (x4 : FVec Ideal S1x256x1024 .f32) (ix3 0 i n)
      + (x5 : FVec Ideal S1x1x1x1x1024 .f32) (ix5 0 0 0 0 n) * ∑ k : Fin 1024, attended x0 x2 x3 i k * Softmax.silu ((x1 : FVec Ideal S1x256x1024 .bf16) (ix3 0 i k)) * (x6 : FVec Ideal S1024x1024 .bf16) (ix2 k n))
        (fun n => (x7 : FVec Ideal S1x1x1024 .f32) (ix3 0 0 n)) (fun n => (x8 : FVec Ideal S1x1x1024 .f32) (ix3 0 0 n)) n := by
  unfold out0_9
  rw [View.canon_unit_zero (S := S1x256x1024) (by decide)]
  have h : k0_pay108 (k0_pay115 x0 x1 x2 x3 x4 x5 x6 x7 x8) (k0_pay125 x0 x1 x2 x3 x4 x5 x6 x7 x8) (k0_pay134 x0 x1 x2 x3 x4 x5 x6 x7 x8) (k0_pay144 x0 x1 x2 x3 x4 x5 x6 x7 x8) (k0_pay145 x0 x1 x2 x3 x4 x5 x6 x7 x8)
        (k0_pay146 x0 x1 x2 x3 x4 x5 x6 x7 x8) (View.ld x1 r0_0) (View.ld x4 r0_0) (View.ld x5 r0_5) (View.ld x6 r0_7)
      = residual (attention x0 x1 x2 x3 x4 x5 x6 x7 x8) (shapeCast S256x1024 (View.ld x1 r0_0) shapeCasts_S1x256x1024_S256x1024) (shapeCast S256x1024 (View.ld x4 r0_0) shapeCasts_S1x256x1024_S256x1024)
        (shapeCast S1x1024 (View.ld x5 r0_5) shapeCasts_S1x1x1x1x1024_S1x1024) (View.ld x6 r0_7) := rfl
  have h2 : k0_pay109 (k0_pay115 x0 x1 x2 x3 x4 x5 x6 x7 x8) (k0_pay125 x0 x1 x2 x3 x4 x5 x6 x7 x8) (k0_pay134 x0 x1 x2 x3 x4 x5 x6 x7 x8) (k0_pay144 x0 x1 x2 x3 x4 x5 x6 x7 x8) (k0_pay145 x0 x1 x2 x3 x4 x5 x6 x7 x8)
        (k0_pay146 x0 x1 x2 x3 x4 x5 x6 x7 x8) (View.ld x1 r0_0) (View.ld x4 r0_0) (View.ld x5 r0_5) (View.ld x6 r0_7)
      = broadcastTo S256x1024 (rowMean (residual (attention x0 x1 x2 x3 x4 x5 x6 x7 x8) (shapeCast S256x1024 (View.ld x1 r0_0) shapeCasts_S1x256x1024_S256x1024) (shapeCast S256x1024 (View.ld x4 r0_0) shapeCasts_S1x256x1024_S256x1024)
        (shapeCast S1x1024 (View.ld x5 r0_5) shapeCasts_S1x1x1x1x1024_S1x1024) (View.ld x6 r0_7))) broadcasts_S256x1_S256x1024 := rfl
  rw [h, h2]
  rw [pay1_apply]
  simp only [residual_apply, attention_apply]
  rw [View.ld_unit_zero (S := S1x256x1024) (by decide), View.ld_unit_zero (S := S1x256x1024) (by decide), View.ld_unit_zero (S := S1x1x1x1x1024) (by decide), View.ld_unit_zero (S := S1024x1024) (by decide), View.ld_unit_zero (S := S1x1x1024) (by decide), View.ld_unit_zero (S := S1x1x1024) (by decide)]
  unfold k0_pay106 k0_pay107
  pointwise []

end Cert.Kernel7Ideal.Own
end
-- ==== Proof.CtxOHost.lean ====
/- The arrays the launch's blocks are cut from, and its blocks, in terms of the arguments. -/
module

public import proofs.«01_k».proof.Proof.CtxO
public import proofs.«01_k».proof.Proof.Host
public import Idealize.ShloMosaic.Lib.StableHlo.RunRead

@[expose] public section

set_option maxRecDepth 16384
noncomputable section

namespace Cert.Kernel7Ideal.Own
open Idealize.ShloMosaic Idealize.ShloMosaic.TcCoe
open Idealize.SL Idealize.SL.Sem
open Cert.Kernel7Ideal Cert.Kernel7Ideal.Gen Idealize.ShloMosaic.StableHlo

variable (m : (ℓ : Loc nD τ sig) → Buf (Elt Ideal) ℓ) (c : Dev nD)

/-! The arguments' contents. -/
abbrev a0 : FVec Ideal S32x256x1024 .f32 := m ((c : Thread nD τ).loc main_arg0)
abbrev a1 : FVec Ideal S32x256x1024 .f32 := m ((c : Thread nD τ).loc main_arg1)
abbrev a2 : FVec Ideal S32x256x1024 .f32 := m ((c : Thread nD τ).loc main_arg2)
abbrev a3 : FVec Ideal S32x256x1024 .f32 := m ((c : Thread nD τ).loc main_arg3)
abbrev a4 : FVec Ideal S32x256x1024 .f32 := m ((c : Thread nD τ).loc main_arg4)
abbrev a5 : FVec Ideal S1024 .f32 := m ((c : Thread nD τ).loc main_arg5)
abbrev a6 : FVec Ideal S1024x1024 .f32 := m ((c : Thread nD τ).loc main_arg6)
abbrev a7 : FVec Ideal S4x1024 .f32 := m ((c : Thread nD τ).loc main_arg7)
abbrev a8 : FVec Ideal S4x1024 .f32 := m ((c : Thread nD τ).loc main_arg8)

theorem v7_queries (b : Fin 32) (i : Fin 256) (n : Fin 1024) :
    (V m c main_v7 : FVec Ideal S32x256x4096 .bf16) (ix3 b i ⟨n.val, by omega⟩)
      = a0 m c (ix3 b i n) * Ideal.ofBits .f32 0x3E000000#32 * ((Softmax.lg : ℝ) : EReal) := by
  unfold_abbrev_sides
  after_reads_simp
  pointwise []
  after_reads_simp
  pointwise []
  exact (congrArg (Ideal.div _) KernelIdeal.Attn.log_read).trans (KernelIdeal.Attn.div_log_two _)

theorem v7_keys (b : Fin 32) (i : Fin 256) (n : Fin 1024) :
    (V m c main_v7 : FVec Ideal S32x256x4096 .bf16) (ix3 b i ⟨1024 + n.val, by omega⟩) = a1 m c (ix3 b i n) := by
  unfold_abbrev_sides
  after_reads_simp
  pointwise []
  after_reads_simp

theorem v7_values (b : Fin 32) (i : Fin 256) (n : Fin 1024) :
    (V m c main_v7 : FVec Ideal S32x256x4096 .bf16) (ix3 b i ⟨2048 + n.val, by omega⟩) = a2 m c (ix3 b i n) := by
  unfold_abbrev_sides
  after_reads_simp
  pointwise []
  after_reads_simp
  rw [dif_neg (by omega), dif_neg (by omega), dif_pos (by omega)]
  exact congrArg (fun z => a2 m c (ix3 b i z)) (Fin.ext (by simp only; omega))

theorem v7_gates (b : Fin 32) (i : Fin 256) (n : Fin 1024) :
    (V m c main_v7 : FVec Ideal S32x256x4096 .bf16) (ix3 b i ⟨3072 + n.val, by omega⟩) = a3 m c (ix3 b i n) := by
  unfold_abbrev_sides
  after_reads_simp
  pointwise []
  after_reads_simp
  rw [dif_neg (by omega), dif_neg (by omega), dif_neg (by omega)]
  exact congrArg (fun z => a3 m c (ix3 b i z)) (Fin.ext (by simp only; omega))

theorem v9_gate (n : Fin 1024) :
    (V m c main_v9 : FVec Ideal S4x3x40x1x1024 .f32) (ix5 1 2 32 0 n) = a5 m c (ix1 n) := by
  unfold_abbrev_sides
  after_reads_simp
  show pad S4x3x40x1x1024 ![1, 2, 32, 0, 0] ![2, 0, 7, 0, 0] ![0, 0, 0, 0, 0]
        (broadcastInDim S1x1x1x1x1024 ![4] bcast_S1024_S1x1x1x1x1024_4 (a5 m c)) (sitofp .f32 (constantI S_ 32 0#32))
        pads_S1x1x1x1x1024_S4x3x40x1x1024_120_200_3270_000_000 h_S_ _ = _
  pointwise []

theorem v12_apply (k n : Fin 1024) : (V m c main_v12 : FVec Ideal S1024x1024 .bf16) (ix2 k n) = a6 m c (ix2 k n) := by
  unfold_abbrev_sides
  after_reads_simp
  pointwise []

theorem v10_apply (n : Fin 1024) : (V m c main_v10 : FVec Ideal S4x1x1024 .f32) (ix3 1 0 n) = a7 m c (ix2 1 n) := by
  unfold_abbrev_sides
  after_reads_simp
  pointwise []

theorem v11_apply (n : Fin 1024) : (V m c main_v11 : FVec Ideal S4x1x1024 .f32) (ix3 1 0 n) = a8 m c (ix2 1 n) := by
  unfold_abbrev_sides
  after_reads_simp
  pointwise []

variable (t : Fin cfg0.N)

/-- The batch a grid step works on. -/
def batch (t : Fin cfg0.N) : Fin 32 := grid0.coords t 0

theorem index0 (t : Fin cfg0.N) : win0_0.index t = ![(batch t).val, 0, 0] := (by decide +kernel : ∀ t : Fin grid0.N, win0_0.index t = ![(batch t).val, 0, 0]) t
theorem index1 (t : Fin cfg0.N) : win0_1.index t = ![(batch t).val, 0, 3] := (by decide +kernel : ∀ t : Fin grid0.N, win0_1.index t = ![(batch t).val, 0, 3]) t
theorem index2 (t : Fin cfg0.N) : win0_2.index t = ![(batch t).val, 0, 1] := (by decide +kernel : ∀ t : Fin grid0.N, win0_2.index t = ![(batch t).val, 0, 1]) t
theorem index3 (t : Fin cfg0.N) : win0_3.index t = ![(batch t).val, 0, 2] := (by decide +kernel : ∀ t : Fin grid0.N, win0_3.index t = ![(batch t).val, 0, 2]) t
theorem index4 (t : Fin cfg0.N) : win0_4.index t = ![(batch t).val, 0, 0] := (by decide +kernel : ∀ t : Fin grid0.N, win0_4.index t = ![(batch t).val, 0, 0]) t
theorem index5 (t : Fin cfg0.N) : win0_5.index t = ![1, 2, 32, 0, 0] := (by decide +kernel : ∀ t : Fin grid0.N, win0_5.index t = ![1, 2, 32, 0, 0]) t
theorem index6 (t : Fin cfg0.N) : win0_6.index t = ![0, 0] := (by decide +kernel : ∀ t : Fin grid0.N, win0_6.index t = ![0, 0]) t
theorem index7 (t : Fin cfg0.N) : win0_7.index t = ![1, 0, 0] := (by decide +kernel : ∀ t : Fin grid0.N, win0_7.index t = ![1, 0, 0]) t
theorem index8 (t : Fin cfg0.N) : win0_8.index t = ![1, 0, 0] := (by decide +kernel : ∀ t : Fin grid0.N, win0_8.index t = ![1, 0, 0]) t
theorem index9 (t : Fin cfg0.N) : win0_9.index t = ![(batch t).val, 0, 0] := (by decide +kernel : ∀ t : Fin grid0.N, win0_9.index t = ![(batch t).val, 0, 0]) t

theorem block0 (i : Fin 256) (n : Fin 1024) : (iblk m c 0 t : FVec Ideal S1x256x1024 .bf16) (ix3 0 i n)
    = a0 m c (ix3 (batch t) i n) * Ideal.ofBits .f32 0x3E000000#32 * ((Softmax.lg : ℝ) : EReal) := by
  blk_simp [iblk]
  refine Eq.trans (congrArg (V m c main_v7) ?_) (v7_queries m c (batch t) i n)
  blk_ext [index0]

theorem block1 (i : Fin 256) (n : Fin 1024) : (iblk m c 1 t : FVec Ideal S1x256x1024 .bf16) (ix3 0 i n) = a3 m c (ix3 (batch t) i n) := by
  blk_simp [iblk]
  refine Eq.trans (congrArg (V m c main_v7) ?_) (v7_gates m c (batch t) i n)
  blk_ext [index1]

theorem block2 (i : Fin 256) (n : Fin 1024) : (iblk m c 2 t : FVec Ideal S1x256x1024 .bf16) (ix3 0 i n) = a1 m c (ix3 (batch t) i n) := by
  blk_simp [iblk]
  refine Eq.trans (congrArg (V m c main_v7) ?_) (v7_keys m c (batch t) i n)
  blk_ext [index2]

theorem block3 (i : Fin 256) (n : Fin 1024) : (iblk m c 3 t : FVec Ideal S1x256x1024 .bf16) (ix3 0 i n) = a2 m c (ix3 (batch t) i n) := by
  blk_simp [iblk]
  refine Eq.trans (congrArg (V m c main_v7) ?_) (v7_values m c (batch t) i n)
  blk_ext [index3]

theorem block4 (i : Fin 256) (n : Fin 1024) : (iblk m c 4 t : FVec Ideal S1x256x1024 .f32) (ix3 0 i n) = a4 m c (ix3 (batch t) i n) := by
  blk_simp [iblk]
  refine Eq.trans (congrArg (V m c main_arg4) ?_) (congrFun (V_main_arg4 m c) _)
  blk_ext [index4]

theorem block5 (n : Fin 1024) : (iblk m c 5 t : FVec Ideal S1x1x1x1x1024 .f32) (ix5 0 0 0 0 n) = a5 m c (ix1 n) := by
  blk_simp [iblk]
  refine Eq.trans (congrArg (V m c main_v9) ?_) (v9_gate m c n)
  blk_ext [index5]

theorem block6 (k n : Fin 1024) : (iblk m c 6 t : FVec Ideal S1024x1024 .bf16) (ix2 k n) = a6 m c (ix2 k n) := by
  blk_simp [iblk]
  refine Eq.trans (congrArg (V m c main_v12) ?_) (v12_apply m c k n)
  blk_ext [index6]

theorem block7 (n : Fin 1024) : (iblk m c 7 t : FVec Ideal S1x1x1024 .f32) (ix3 0 0 n) = a7 m c (ix2 1 n) := by
  blk_simp [iblk]
  refine Eq.trans (congrArg (V m c main_v10) ?_) (v10_apply m c n)
  blk_ext [index7]

theorem block8 (n : Fin 1024) : (iblk m c 8 t : FVec Ideal S1x1x1024 .f32) (ix3 0 0 n) = a8 m c (ix2 1 n) := by
  blk_simp [iblk]
  refine Eq.trans (congrArg (V m c main_v11) ?_) (v11_apply m c n)
  blk_ext [index8]

end Cert.Kernel7Ideal.Own
end
-- ==== Proof.CtxORef.lean ====
/- The reference of the context's own attention, read at an index. -/
module

public import proofs.«01_k».proof.Proof.Gen.Reference7Ideal.Read
public import Idealize.ShloMosaic.Lib.Pointwise
public import proofs.«01_k».proof.Proof.Norm

@[expose] public section

set_option maxRecDepth 16384
noncomputable section

namespace Cert.Reference7Ideal.Own
open Idealize.ShloMosaic Idealize.ShloMosaic.TcCoe Idealize.SL.Sem
open Cert.Reference7Ideal Cert.Reference7Ideal.Read

variable (x0 x1 x2 x3 x4 : FVec Ideal S32x256x1024 .f32) (x5 : FVec Ideal S1024 .f32) (x6 : FVec Ideal S1024x1024 .f32) (x7 x8 : FVec Ideal S4x1024 .f32)

/-- The scores of a query of a head. -/
def scores (b : Fin 32) (h : Fin 16) (i r : Fin 256) : EReal :=
  (∑ d : Fin 64, x0 (ix3 b i ⟨64 * h.val + d.val, by omega⟩) * x1 (ix3 b r ⟨64 * h.val + d.val, by omega⟩)) * Ideal.ofBits .f32 0x3E000000#32

/-- The largest of them. -/
def top (b : Fin 32) (h : Fin 16) (i : Fin 256) : EReal := Finset.univ.fold max ⊥ (scores x0 x1 b h i)

theorem scores_apply (b : Fin 32) (h : Fin 16) (i r : Fin 256) : val_main_v5 (F := Ideal) x0 x1 (ix4 b h i r) = scores x0 x1 b h i r := by
  unfold scores
  pointwise [val_main_v5, val_main_v4, val_main_v3, val_main_v1, val_main_v0, val_main_cst, dot_S32x256x16x64_S32x256x16x64_S32x16x256x256_3_3_1_1_02_02]
  simp only [mul_comm _ 64]

theorem neg_inf_word : Ideal.ofBits .f32 0xFF800000#32 = ⊥ := by
  simp [Ideal.ofBits, Ideal.ieee]

theorem max_apply (b : Fin 32) (h : Fin 16) (i : Fin 256) : val_main_v6 (F := Ideal) x0 x1 (ix3 b h i) = top x0 x1 b h i := by
  have e : scores x0 x1 b h i = fun r => val_main_v5 (F := Ideal) x0 x1 (ix4 b h i r) := funext fun r => (scores_apply x0 x1 b h i r).symm
  unfold top val_main_v6
  rw [e]
  generalize val_main_v5 (F := Ideal) x0 x1 = y
  show Host.reduce (max : EReal → EReal → EReal) y _ _ _ _ = _
  rw [Host.reduce_eq_fold_single (max : EReal → EReal → EReal) y _ Gen.reducesTo_S32x16x256x256_S32x16x256_d3 (by decide), val_main_cst_0_apply]
  rw [show FloatOps.ofBits (F := Ideal) .f32 0xFF800000#32 = (⊥ : EReal) from neg_inf_word]
  refine Finset.fold_congr fun n _ => congrArg y (funext fun a => Fin.ext ?_)
  match a with | ⟨0, _⟩ => rfl | ⟨1, _⟩ => rfl | ⟨2, _⟩ => rfl | ⟨3, _⟩ => rfl

theorem top_apply (b : Fin 32) (h : Fin 16) (i : Fin 256) : val_main_v8 (F := Ideal) x0 x1 (ix3 b h i) = top x0 x1 b h i := by
  rw [val_main_v8_apply, val_main_v7_apply, val_main_cst_1_apply, max_apply]
  show max (Ideal.ofBits .f32 0xFF800000#32) _ = _
  rw [neg_inf_word, max_eq_right bot_le]

theorem exp_apply (b : Fin 32) (h : Fin 16) (i r : Fin 256) :
    val_main_v12 (F := Ideal) x0 x1 (ix4 b h i r) = Ideal.exp (scores x0 x1 b h i r - top x0 x1 b h i) := by
  pointwise [val_main_v12, val_main_v11, val_main_v10, val_main_v9]
  rw [top_apply, scores_apply]

theorem den_apply (b : Fin 32) (h : Fin 16) (i : Fin 256) :
    val_main_v13 (F := Ideal) x0 x1 (ix3 b h i) = ∑ r, Ideal.exp (scores x0 x1 b h i r - top x0 x1 b h i) := by
  pointwise [val_main_v13, val_main_cst_2]
  simp only [exp_apply]

/-- The attention of one query in one head. -/
def attended (b : Fin 32) (i : Fin 256) (n : Fin 1024) : EReal :=
  ∑ r : Fin 256, x2 (ix3 b r n) * Ideal.div (Ideal.exp (scores x0 x1 b ⟨n.val / 64, by omega⟩ i r - top x0 x1 b ⟨n.val / 64, by omega⟩ i))
    (∑ r, Ideal.exp (scores x0 x1 b ⟨n.val / 64, by omega⟩ i r - top x0 x1 b ⟨n.val / 64, by omega⟩ i))

theorem prob_apply (b : Fin 32) (h : Fin 16) (i r : Fin 256) :
    val_main_v16 (F := Ideal) x0 x1 (ix4 b h i r)
      = Ideal.div (Ideal.exp (scores x0 x1 b h i r - top x0 x1 b h i)) (∑ r, Ideal.exp (scores x0 x1 b h i r - top x0 x1 b h i)) := by
  pointwise [val_main_v16, val_main_v15, val_main_v14]
  rw [exp_apply, den_apply]

theorem attended_apply (b : Fin 32) (i : Fin 256) (n : Fin 1024) : val_main_v19 (F := Ideal) x0 x1 x2 (ix3 b i n) = attended x0 x1 x2 b i n := by
  unfold attended
  pointwise [val_main_v19, val_main_v18, val_main_v17, val_main_v2, dot_S32x256x16x64_S32x16x256x256_S32x16x64x256_1_3_3_2_02_01]
  simp only [prob_apply]

theorem v21_apply (b : Fin 32) (i : Fin 256) (n : Fin 1024) :
    val_main_v21 (F := Ideal) x0 x1 x2 x3 (ix3 b i n) = attended x0 x1 x2 b i n * Softmax.silu (x3 (ix3 b i n)) := by
  pointwise [val_main_v21, val_main_v20, val_main_call0_v5, val_main_call0_v4, val_main_call0_v3, val_main_call0_v2, val_main_call0_v1, val_main_call0_v0, val_main_call0_cst, val_main_call0_cst_0]
  rw [Softmax.silu_eq, attended_apply]

/-- The row the normalization is applied to. -/
def residual (b : Fin 32) (i : Fin 256) (n : Fin 1024) : EReal :=
  Ideal.ofBits .f32 0x3FD744FD#32 * x4 (ix3 b i n) + x5 (ix1 n) * ∑ k : Fin 1024, attended x0 x1 x2 b i k * Softmax.silu (x3 (ix3 b i k)) * x6 (ix2 k n)

theorem v28_apply (b : Fin 32) (i : Fin 256) (n : Fin 1024) :
    val_main_v28 (F := Ideal) x0 x1 x2 x3 x4 x5 x6 (ix3 b i n) = residual x0 x1 x2 x3 x4 x5 x6 b i n := by
  unfold residual
  pointwise [val_main_v28, val_main_v27, val_main_v26, val_main_v25, val_main_v24, val_main_v23, val_main_v22, val_main_cst_3, dot_S32x256x1024_S1024x1024_S32x256x1024_2_0_01_1_n_n]
  simp only [v21_apply]

theorem v36_apply (b : Fin 32) (i : Fin 256) :
    val_main_v36 (F := Ideal) x0 x1 x2 x3 x4 x5 x6 (ix3 b i 0) = Softmax.mean (residual x0 x1 x2 x3 x4 x5 x6 b i) := by
  unfold Softmax.mean
  pointwise [val_main_v36, val_main_v35, val_main_v34, val_main_v33, val_main_cst_4, val_main_cst_5]
  simp only [v28_apply]

theorem v43_apply (b : Fin 32) (i : Fin 256) :
    val_main_v43 (F := Ideal) x0 x1 x2 x3 x4 x5 x6 (ix3 b i 0) = Softmax.mean fun k => (residual x0 x1 x2 x3 x4 x5 x6 b i k - Softmax.mean (residual x0 x1 x2 x3 x4 x5 x6 b i)) * (residual x0 x1 x2 x3 x4 x5 x6 b i k - Softmax.mean (residual x0 x1 x2 x3 x4 x5 x6 b i)) := by
  rw [Softmax.mean]
  pointwise [val_main_v43, val_main_v42, val_main_v41, val_main_v40, val_main_v39, val_main_v38, val_main_v37, val_main_cst_6, val_main_cst_7]
  simp only [v28_apply, v36_apply]

theorem v56_apply (b : Fin 32) (i : Fin 256) (n : Fin 1024) :
    val_main_v56 (F := Ideal) x0 x1 x2 x3 x4 x5 x6 x7 x8 (ix3 b i n) = Softmax.normed (residual x0 x1 x2 x3 x4 x5 x6 b i) (fun n => x7 (ix2 1 n)) (fun n => x8 (ix2 1 n)) n := by
  unfold Softmax.normed
  pointwise [val_main_v56, val_main_v55, val_main_v54, val_main_v53, val_main_v52, val_main_v51, val_main_v50, val_main_v49, val_main_v48, val_main_v47, val_main_v46, val_main_v45, val_main_v44, val_main_cst_8, val_main_v32, val_main_v31, val_main_v30, val_main_v29]
  rw [v28_apply, v36_apply, v43_apply]

end Cert.Reference7Ideal.Own
end
-- ==== Proof.Soft.lean ====
/- The mathematics of one query over 256 keys: softmax in base two and softmax in base e are the same weighted mean. Nothing here speaks of
   the programs. -/
module

public import proofs.«01_k».proof.Proof.Softmax

@[expose] public section

noncomputable section

namespace Cert.Softmax
open Idealize.ShloMosaic

/-- The fold of the maximum is a largest score. -/
theorem top_of (S : Fin 256 → EReal) (r : Fin 256) (h : ∀ j, S j ≤ S r) : Finset.univ.fold max ⊥ S = S r :=
  le_antisymm ((Finset.fold_max_le _).2 ⟨bot_le, fun j _ => h j⟩) ((Finset.le_fold_max _).2 (.inr ⟨r, Finset.mem_univ _, le_rfl⟩))

theorem base_two (t : Fin 256 → ℝ) (K S v : Fin 256 → EReal) (hK : ∀ r, K r = ((lg * t r : ℝ) : EReal)) (hS : ∀ r, S r = (t r : EReal)) :
    (∑ r, Ideal.exp2 (K r - Finset.univ.fold max ⊥ K) * v r) * Ideal.div 1 (∑ r, Ideal.exp2 (K r - Finset.univ.fold max ⊥ K))
      = ∑ r, v r * Ideal.div (Ideal.exp (S r - Finset.univ.fold max ⊥ S)) (∑ r, Ideal.exp (S r - Finset.univ.fold max ⊥ S)) := by
  obtain ⟨w, hw⟩ := Finite.exists_max t
  have e1 : Finset.univ.fold max ⊥ K = ((lg * t w : ℝ) : EReal) := by
    rw [top_of K w fun j => ?_, hK]
    rw [hK, hK]
    exact EReal.coe_le_coe_iff.2 (mul_le_mul_of_nonneg_left (hw j) lg_pos.le)
  have e2 : Finset.univ.fold max ⊥ S = (t w : EReal) := by
    rw [top_of S w fun j => ?_, hS]
    rw [hS, hS]
    exact EReal.coe_le_coe_iff.2 (hw j)
  have he2 (r : Fin 256) : Ideal.exp2 (K r - ((lg * t w : ℝ) : EReal)) = (Real.exp (t r - t w) : EReal) := by
    rw [hK, ← EReal.coe_sub, ← mul_sub, exp2_lg]
  have he (r : Fin 256) : Ideal.exp (S r - (t w : EReal)) = (Real.exp (t r - t w) : EReal) := by
    rw [hS, ← EReal.coe_sub]; rfl
  rw [e1, e2]
  simp only [he2, he]
  have hd : 0 < ∑ r, Real.exp (t r - t w) := Finset.sum_pos (fun r _ => Real.exp_pos _) ⟨w, Finset.mem_univ _⟩
  have hdiv (a : EReal) : Ideal.div a (∑ r, ((Real.exp (t r - t w) : ℝ) : EReal)) = a * (((∑ r, Real.exp (t r - t w))⁻¹ : ℝ) : EReal) := by
    rw [← coe_sum, Ideal.div, if_neg (by exact_mod_cast hd.ne'), EReal.coe_inv]
  simp only [hdiv]
  rw [one_mul, sum_mul_coe _ _ (inv_pos.2 hd).le]
  refine Finset.sum_congr rfl fun r _ => ?_
  rw [mul_comm (v r), mul_assoc, mul_assoc, mul_comm (v r)]

end Cert.Softmax
end
-- ==== Proof.CtxOAgree.lean ====
/- The claims of the context's own attention: its runs, and its result beside the reference's. -/
module

public import proofs.«01_k».proof.Defs
public import proofs.«01_k».proof.Proof.CtxOHost
public import proofs.«01_k».proof.Proof.CtxORef
public import proofs.«01_k».proof.Proof.Soft
public import proofs.«01_k».proof.Proof.Agree
public import proofs.«01_k».proof.Proof.Gen.Kernel7.Frame
public import proofs.«01_k».proof.Proof.Gen.Reference7Ideal.Run

@[expose] public section

set_option maxRecDepth 16384
noncomputable section

namespace Cert.Kernel7Ideal.Own
open Idealize.ShloMosaic Idealize.ShloMosaic.TcCoe
open Idealize.SL Idealize.SL.Sem
open Idealize.ShloMosaic.Pipeline (Dat)
open Cert.Kernel7Ideal Cert.Kernel7Ideal.Gen

variable (m : (ℓ : Loc nD τ sig) → Buf (Elt Ideal) ℓ) (c : Dev nD) (t : Fin cfg0.N)
variable (q k : S32x256x1024.Idx → ℝ) (hq : ∀ y, a0 m c y = (q y : EReal)) (hk : ∀ y, a1 m c y = (k y : EReal))
include hq hk

/-- A score of a grid step is the factor between the exponents times the reference's. -/
theorem dotAt_eq (h : Fin 16) (i r : Fin 256) : dotAt (iblk m c 0 t) (iblk m c 2 t) h i r
    = ((Softmax.lg * ((∑ d : Fin 64, k (ix3 (batch t) r ⟨64 * h.val + d.val, by omega⟩) * q (ix3 (batch t) i ⟨64 * h.val + d.val, by omega⟩)) * (1 / 8)) : ℝ) : EReal) := by
  unfold dotAt
  rw [← KernelIdeal.Attn.dot_scaled]
  refine Finset.sum_congr rfl fun d _ => ?_
  rw [mul_comm]
  refine congrArg₂ (· * ·) ((block2 m c t r _).trans (hk _)) ((block0 m c t i _).trans ?_)
  rw [hq]

theorem scores_eq (b : Fin 32) (h : Fin 16) (i r : Fin 256) : Reference7Ideal.Own.scores (a0 m c) (a1 m c) b h i r
    = (((∑ d : Fin 64, k (ix3 b r ⟨64 * h.val + d.val, by omega⟩) * q (ix3 b i ⟨64 * h.val + d.val, by omega⟩)) * (1 / 8) : ℝ) : EReal) := by
  unfold Reference7Ideal.Own.scores
  rw [← KernelIdeal.Attn.dot_plain]
  refine congrArg (· * _) (Finset.sum_congr rfl fun d _ => ?_)
  rw [mul_comm]
  exact congrArg₂ (· * ·) (hk _) (hq _)

/-- The attention of a grid step is the reference's. -/
theorem attended_eq (i : Fin 256) (n : Fin 1024) : attended (iblk m c 0 t) (iblk m c 2 t) (iblk m c 3 t) i n
    = Reference7Ideal.Own.attended (a0 m c) (a1 m c) (a2 m c) (batch t) i n := by
  have hv (r : Fin 256) : (iblk m c 3 t : FVec Ideal S1x256x1024 .bf16) (ix3 0 r n) = a2 m c (ix3 (batch t) r n) := block3 m c t r n
  refine Eq.trans ?_ (Softmax.base_two _ (fun r => dotAt (iblk m c 0 t) (iblk m c 2 t) ⟨n.val / 64, by omega⟩ i r)
    (fun r => Reference7Ideal.Own.scores (a0 m c) (a1 m c) (batch t) ⟨n.val / 64, by omega⟩ i r) (fun r => a2 m c (ix3 (batch t) r n))
    (fun r => dotAt_eq m c t q k hq hk _ i r) (fun r => scores_eq m c q k hq hk (batch t) _ i r))
  unfold attended
  exact congrArg (· * _) (Finset.sum_congr rfl fun r _ => congrArg (_ * ·) (hv r))

/-- What a grid step leaves in its block of the result, as the reference's result at the step's rows. -/
theorem step_apply (i : Fin 256) (n : Fin 1024) :
    (out0_9 (iblk m c 0 t) (iblk m c 1 t) (iblk m c 2 t) (iblk m c 3 t) (iblk m c 4 t) (iblk m c 5 t) (iblk m c 6 t) (iblk m c 7 t) (iblk m c 8 t) : FVec Ideal S1x256x1024 .f32) (ix3 0 i n)
      = Reference7Ideal.Read.val_main_v56 (F := Ideal) (a0 m c) (a1 m c) (a2 m c) (a3 m c) (a4 m c) (a5 m c) (a6 m c) (a7 m c) (a8 m c) (ix3 (batch t) i n) := by
  rw [out_apply, Reference7Ideal.Own.v56_apply]
  have h1 : (fun n => (iblk m c 7 t : FVec Ideal S1x1x1024 .f32) (ix3 0 0 n)) = fun n => a7 m c (ix2 1 n) := funext fun n => block7 m c t n
  have h2 : (fun n => (iblk m c 8 t : FVec Ideal S1x1x1024 .f32) (ix3 0 0 n)) = fun n => a8 m c (ix2 1 n) := funext fun n => block8 m c t n
  rw [h1, h2]
  refine congrArg (fun f => Softmax.normed f _ _ n) (funext fun n => ?_)
  unfold Reference7Ideal.Own.residual
  refine congrArg₂ (· + ·) (congrArg (_ * ·) (block4 m c t i n)) (congrArg₂ (· * ·) (block5 m c t n) ?_)
  refine Finset.sum_congr rfl fun l _ => ?_
  rw [attended_eq m c t q k hq hk i l]
  exact congrArg₂ (· * ·) (congrArg (fun y => _ * Softmax.silu y) (block1 m c t i l)) (block6 m c t l n)

/-- The result's array after the run. -/
theorem result_eq_reference : (dats m 0 c).arrAt 9 cfg0.N
    = Reference7Ideal.Read.val_main_v56 (F := Ideal) (a0 m c) (a1 m c) (a2 m c) (a3 m c) (a4 m c) (a5 m c) (a6 m c) (a7 m c) (a8 m c) := by
  refine (dats m 0 c).arrAt_eq_of_covers 9 _ (by decide +kernel) fun t hf y => ?_
  change S1x256x1024.Idx at y
  blk_simp
  rw [after0_9]
  obtain ⟨y0, y1, y2, rfl⟩ : ∃ (y0 : Fin 1) (y1 : Fin 256) (y2 : Fin 1024), y = ix3 y0 y1 y2 := ⟨y 0, y 1, y 2, funext fun a => by fin_cases a <;> rfl⟩
  obtain rfl : y0 = 0 := Subsingleton.elim _ _
  refine (step_apply m c t q k hq hk y1 y2).trans (congrArg _ ?_)
  blk_ext [index9]

end Cert.Kernel7Ideal.Own

namespace Cert.Proof
open Idealize.ShloMosaic Idealize.SL.Sem

/-- The side conditions the precondition states. -/
instance preFacts7 : Cert.Pre_finite_scores7.Facts where
  bcast_S_S32x256x1024 := by decide

theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_ideal7_pre : Cert.quiescent_Kernel7Ideal_pre_finite_scores7 := fun m ρ _ => Cert.Kernel7Ideal.Gen.frame m ρ

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem frame_reference7_pre : Cert.quiescent_Reference7Ideal_pre_finite_scores7 := fun m ρ _ => frame_reference7 m ρ trivial

theorem preserves7 : Cert.preserves_Kernel7_Kernel7Ideal := trivial

/-- Equal arguments give equal results. -/
theorem agree_args7 {x0 y0 x1 y1 x2 y2 x3 y3 x4 y4 : FVec Ideal Reference7Ideal.S32x256x1024 .f32} {x5 y5 : FVec Ideal Reference7Ideal.S1024 .f32} {x6 y6 : FVec Ideal Reference7Ideal.S1024x1024 .f32} {x7 y7 x8 y8 : FVec Ideal Reference7Ideal.S4x1024 .f32}
    (e0 : x0 = y0) (e1 : x1 = y1) (e2 : x2 = y2) (e3 : x3 = y3) (e4 : x4 = y4) (e5 : x5 = y5) (e6 : x6 = y6) (e7 : x7 = y7) (e8 : x8 = y8) :
    Cert.Reference7Ideal.Read.val_main_v56 (F := Ideal) x0 x1 x2 x3 x4 x5 x6 x7 x8 = Cert.Reference7Ideal.Read.val_main_v56 (F := Ideal) y0 y1 y2 y3 y4 y5 y6 y7 y8 := by
  subst e0 e1 e2 e3 e4 e5 e6 e7 e8
  rfl

theorem algebraic7 : Cert.algebraic_Kernel7Ideal_Reference7Ideal_pre_finite_scores7 := by
  intro m ρ m' ρ' hpre hagree
  refine ⟨fun c => Cert.Reference7Ideal.Read.val_main_v56 (F := Ideal) (Kernel7Ideal.Own.a0 m c) (Kernel7Ideal.Own.a1 m c) (Kernel7Ideal.Own.a2 m c) (Kernel7Ideal.Own.a3 m c) (Kernel7Ideal.Own.a4 m c)
    (Kernel7Ideal.Own.a5 m c) (Kernel7Ideal.Own.a6 m c) (Kernel7Ideal.Own.a7 m c) (Kernel7Ideal.Own.a8 m c), ?_, ?_⟩
  · refine (θ_run Cert.Kernel7Ideal.defs _ _).mono (fun r h c => ⟨(h c).1.trans ?_, (h c).2⟩) (Cert.Kernel7Ideal.Value.run_blocks (F := Ideal) m ρ)
    obtain ⟨h0, h1⟩ := hpre c
    obtain ⟨q, hq⟩ := real_of_finite _ _ (fun _ => rfl) h0
    obtain ⟨k, hk⟩ := real_of_finite _ _ (fun _ => rfl) h1
    exact Kernel7Ideal.Own.result_eq_reference m c q k hq hk
  · refine (θ_run Cert.Reference7Ideal.defs _ _).mono (fun r h c => ⟨(h c).1.trans ?_, (h c).2⟩) (Cert.Reference7Ideal.Value.run (F := Ideal) m' ρ')
    refine (Cert.Reference7Ideal.Read.val_main_v56_eq m' c).trans ?_
    obtain ⟨e0, e1, e2, e3, e4, e5, e6, e7, e8⟩ := hagree c
    exact agree_args7 e0 e1 e2 e3 e4 e5 e6 e7 e8

end Cert.Proof
end
-- ==== Proof.lean ====
module

public import proofs.«01_k».proof.Defs
public import proofs.«01_k».proof.Proof.Agree
public import proofs.«01_k».proof.Proof.ProjAgree
public import proofs.«01_k».proof.Proof.RopeAgree
public import proofs.«01_k».proof.Proof.CtxBAgree
public import proofs.«01_k».proof.Proof.CtxKVAgree
public import proofs.«01_k».proof.Proof.CtxAAgree
public import proofs.«01_k».proof.Proof.CtxOAgree

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, preFacts, preFacts7,
  frame_kernel, frame_ideal, frame_ideal_pre, frame_reference, frame_reference_pre, frame_kernel2, frame_ideal2, frame_reference2,
  frame_kernel3, frame_ideal3, frame_reference3,
  frame_kernel4, frame_ideal4, frame_reference4, frame_kernel5, frame_ideal5, frame_reference5, frame_kernel6, frame_ideal6, frame_reference6,
  frame_kernel7, frame_ideal7, frame_ideal7_pre, frame_reference7, frame_reference7_pre,
  preserves, algebraic, preserves2, algebraic2, preserves3, algebraic3,
  preserves4, algebraic4, preserves5, algebraic5, preserves6, algebraic6, preserves7, algebraic7⟩

end Cert.Proof

end
